-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 [hPre_routed : Cert.Pre_routed.Facts] (m : (ℓ : Loc Cert.Kernel4.nD Cert.Kernel4.τ Cert.Kernel4.sig) → Buf (Elt Bits) ℓ) : Prop :=
  ∀ c : Dev Cert.Kernel4.nD,
    (Cert.Pre_routed.fn (F := Bits) (m ((c.tc : Thread Cert.Kernel4.nD Cert.Kernel4.τ).loc Cert.Kernel4.main_arg0)) (m ((c.tc : Thread Cert.Kernel4.nD Cert.Kernel4.τ).loc Cert.Kernel4.main_arg1)) (m ((c.tc : Thread Cert.Kernel4.nD Cert.Kernel4.τ).loc Cert.Kernel4.main_arg2)) (m ((c.tc : Thread Cert.Kernel4.nD Cert.Kernel4.τ).loc Cert.Kernel4.main_arg3)) (m ((c.tc : Thread Cert.Kernel4.nD Cert.Kernel4.τ).loc Cert.Kernel4.main_arg4))) = (fun _ => 1#1)

def Pre_Kernel4Ideal [hPre_routed : Cert.Pre_routed.Facts] (m : (ℓ : Loc Cert.Kernel4Ideal.nD Cert.Kernel4Ideal.τ Cert.Kernel4Ideal.sig) → Buf (Elt Ideal) ℓ) : Prop :=
  ∀ c : Dev Cert.Kernel4Ideal.nD,
    (Cert.Pre_routed.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) = (fun _ => 1#1)

def Pre_Reference4Ideal [hPre_routed : Cert.Pre_routed.Facts] (m : (ℓ : Loc Cert.Reference4Ideal.nD Cert.Reference4Ideal.τ Cert.Reference4Ideal.sig) → Buf (Elt Ideal) ℓ) : Prop :=
  ∀ c : Dev Cert.Reference4Ideal.nD,
    (Cert.Pre_routed.fn (F := Ideal) (m ((c.tc : Thread Cert.Reference4Ideal.nD Cert.Reference4Ideal.τ).loc Cert.Reference4Ideal.main_arg0)) (m ((c.tc : Thread Cert.Reference4Ideal.nD Cert.Reference4Ideal.τ).loc Cert.Reference4Ideal.main_arg1)) (m ((c.tc : Thread Cert.Reference4Ideal.nD Cert.Reference4Ideal.τ).loc Cert.Reference4Ideal.main_arg2)) (m ((c.tc : Thread Cert.Reference4Ideal.nD Cert.Reference4Ideal.τ).loc Cert.Reference4Ideal.main_arg3)) (m ((c.tc : Thread Cert.Reference4Ideal.nD Cert.Reference4Ideal.τ).loc Cert.Reference4Ideal.main_arg4))) = (fun _ => 1#1)

def Pre_Kernel5 [hPre_routed_up : Cert.Pre_routed_up.Facts] (m : (ℓ : Loc Cert.Kernel5.nD Cert.Kernel5.τ Cert.Kernel5.sig) → Buf (Elt Bits) ℓ) : Prop :=
  ∀ c : Dev Cert.Kernel5.nD,
    (Cert.Pre_routed_up.fn (F := Bits) (m ((c.tc : Thread Cert.Kernel5.nD Cert.Kernel5.τ).loc Cert.Kernel5.main_arg0)) (m ((c.tc : Thread Cert.Kernel5.nD Cert.Kernel5.τ).loc Cert.Kernel5.main_arg1)) (m ((c.tc : Thread Cert.Kernel5.nD Cert.Kernel5.τ).loc Cert.Kernel5.main_arg2)) (m ((c.tc : Thread Cert.Kernel5.nD Cert.Kernel5.τ).loc Cert.Kernel5.main_arg3)) (m ((c.tc : Thread Cert.Kernel5.nD Cert.Kernel5.τ).loc Cert.Kernel5.main_arg4))) = (fun _ => 1#1)

def Pre_Kernel5Ideal [hPre_routed_up : Cert.Pre_routed_up.Facts] (m : (ℓ : Loc Cert.Kernel5Ideal.nD Cert.Kernel5Ideal.τ Cert.Kernel5Ideal.sig) → Buf (Elt Ideal) ℓ) : Prop :=
  ∀ c : Dev Cert.Kernel5Ideal.nD,
    (Cert.Pre_routed_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) = (fun _ => 1#1)

def Pre_Reference5Ideal [hPre_routed_up : Cert.Pre_routed_up.Facts] (m : (ℓ : Loc Cert.Reference5Ideal.nD Cert.Reference5Ideal.τ Cert.Reference5Ideal.sig) → Buf (Elt Ideal) ℓ) : Prop :=
  ∀ c : Dev Cert.Reference5Ideal.nD,
    (Cert.Pre_routed_up.fn (F := Ideal) (m ((c.tc : Thread Cert.Reference5Ideal.nD Cert.Reference5Ideal.τ).loc Cert.Reference5Ideal.main_arg0)) (m ((c.tc : Thread Cert.Reference5Ideal.nD Cert.Reference5Ideal.τ).loc Cert.Reference5Ideal.main_arg1)) (m ((c.tc : Thread Cert.Reference5Ideal.nD Cert.Reference5Ideal.τ).loc Cert.Reference5Ideal.main_arg2)) (m ((c.tc : Thread Cert.Reference5Ideal.nD Cert.Reference5Ideal.τ).loc Cert.Reference5Ideal.main_arg3)) (m ((c.tc : Thread Cert.Reference5Ideal.nD Cert.Reference5Ideal.τ).loc Cert.Reference5Ideal.main_arg4))) = (fun _ => 1#1)

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12)
      ∧ r.2.mem ((c.tc : Thread Cert.Kernel3.nD Cert.Kernel3.τ).loc Cert.Kernel3.main_arg13) = m ((c.tc : Thread Cert.Kernel3.nD Cert.Kernel3.τ).loc Cert.Kernel3.main_arg13))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
      ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12)
      ∧ r.2.mem ((c.tc : Thread Cert.Reference3Ideal.nD Cert.Reference3Ideal.τ).loc Cert.Reference3Ideal.main_arg13) = m ((c.tc : Thread Cert.Reference3Ideal.nD Cert.Reference3Ideal.τ).loc Cert.Reference3Ideal.main_arg13))
      ∧ r.2.sem = fun _ => 0)

def quiescent_Kernel4 [hKernel4 : Cert.Kernel4.Facts] [hPre_routed : Cert.Pre_routed.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] [hPre_routed : Cert.Pre_routed.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] [hPre_routed : Cert.Pre_routed.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] [hPre_routed_up : Cert.Pre_routed_up.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4))
      ∧ r.2.sem = fun _ => 0)

def quiescent_Kernel5Ideal [hKernel5Ideal : Cert.Kernel5Ideal.Facts] [hPre_routed_up : Cert.Pre_routed_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ r.2.sem = fun _ => 0)

def quiescent_Reference5Ideal [hReference5Ideal : Cert.Reference5Ideal.Facts] [hPre_routed_up : Cert.Pre_routed_up.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v52)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v52) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v89) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)) →
    ∃ (v0 : (c : Dev Cert.Kernel2Ideal.nD) → Buf (Elt Ideal) ((c.tc : Thread Cert.Kernel2Ideal.nD Cert.Kernel2Ideal.τ).loc Cert.Kernel2Ideal.main_v4)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v4) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v26) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)
      ∧ m' ((c.tc : Thread Cert.Reference3Ideal.nD Cert.Reference3Ideal.τ).loc Cert.Reference3Ideal.main_arg13) = m ((c.tc : Thread Cert.Kernel3Ideal.nD Cert.Kernel3Ideal.τ).loc Cert.Kernel3Ideal.main_arg13)) →
    ∃ (v0 : (c : Dev Cert.Kernel3Ideal.nD) → Buf (Elt Ideal) ((c.tc : Thread Cert.Kernel3Ideal.nD Cert.Kernel3Ideal.τ).loc Cert.Kernel3Ideal.main_v4_0)) (v1 : (c : Dev Cert.Kernel3Ideal.nD) → Buf (Elt Ideal) ((c.tc : Thread Cert.Kernel3Ideal.nD Cert.Kernel3Ideal.τ).loc Cert.Kernel3Ideal.main_v4_1)) (v2 : (c : Dev Cert.Kernel3Ideal.nD) → Buf (Elt Ideal) ((c.tc : Thread Cert.Kernel3Ideal.nD Cert.Kernel3Ideal.τ).loc Cert.Kernel3Ideal.main_v4_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v4_0) = v0 c
          ∧ r.2.mem ((c.tc : Thread Cert.Kernel3Ideal.nD Cert.Kernel3Ideal.τ).loc Cert.Kernel3Ideal.main_v4_1) = v1 c
          ∧ r.2.mem ((c.tc : Thread Cert.Kernel3Ideal.nD Cert.Kernel3Ideal.τ).loc Cert.Kernel3Ideal.main_v4_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12)
          ∧ r.2.mem ((c.tc : Thread Cert.Kernel3Ideal.nD Cert.Kernel3Ideal.τ).loc Cert.Kernel3Ideal.main_arg13) = m ((c.tc : Thread Cert.Kernel3Ideal.nD Cert.Kernel3Ideal.τ).loc Cert.Kernel3Ideal.main_arg13))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v72) = v0 c
          ∧ r.2.mem ((c.tc : Thread Cert.Reference3Ideal.nD Cert.Reference3Ideal.τ).loc Cert.Reference3Ideal.main_v73) = v1 c
          ∧ r.2.mem ((c.tc : Thread Cert.Reference3Ideal.nD Cert.Reference3Ideal.τ).loc Cert.Reference3Ideal.main_v71) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12)
          ∧ r.2.mem ((c.tc : Thread Cert.Reference3Ideal.nD Cert.Reference3Ideal.τ).loc Cert.Reference3Ideal.main_arg13) = m' ((c.tc : Thread Cert.Reference3Ideal.nD Cert.Reference3Ideal.τ).loc Cert.Reference3Ideal.main_arg13))

def preserves_Kernel4_Kernel4Ideal : Prop :=
  True

def algebraic_Kernel4Ideal_Reference4Ideal_on_rows_used [hKernel4Ideal : Cert.Kernel4Ideal.Facts] [hReference4Ideal : Cert.Reference4Ideal.Facts] [hPre_routed : Cert.Pre_routed.Facts] [hOn_rows_used : Cert.On_rows_used.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v13)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          (∀ i : (⟨2, ![73728, 2048]⟩ : Shape).Idx, (Cert.On_rows_used.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) i = 1#1 → r.2.mem ((c.tc : Thread Cert.Kernel4Ideal.nD Cert.Kernel4Ideal.τ).loc Cert.Kernel4Ideal.main_v13) i = v0 c i)
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          (∀ i : (⟨2, ![73728, 2048]⟩ : Shape).Idx, (Cert.On_rows_used.fn (F := Ideal) (m ((c.tc : Thread Cert.Kernel4Ideal.nD Cert.Kernel4Ideal.τ).loc Cert.Kernel4Ideal.main_arg0)) (m ((c.tc : Thread Cert.Kernel4Ideal.nD Cert.Kernel4Ideal.τ).loc Cert.Kernel4Ideal.main_arg1)) (m ((c.tc : Thread Cert.Kernel4Ideal.nD Cert.Kernel4Ideal.τ).loc Cert.Kernel4Ideal.main_arg2)) (m ((c.tc : Thread Cert.Kernel4Ideal.nD Cert.Kernel4Ideal.τ).loc Cert.Kernel4Ideal.main_arg3)) (m ((c.tc : Thread Cert.Kernel4Ideal.nD Cert.Kernel4Ideal.τ).loc Cert.Kernel4Ideal.main_arg4))) i = 1#1 → r.2.mem ((c.tc : Thread Cert.Reference4Ideal.nD Cert.Reference4Ideal.τ).loc Cert.Reference4Ideal.main_v20) i = v0 c i)
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal_on_rows_used_up [hKernel5Ideal : Cert.Kernel5Ideal.Facts] [hReference5Ideal : Cert.Reference5Ideal.Facts] [hPre_routed_up : Cert.Pre_routed_up.Facts] [hOn_rows_used_up : Cert.On_rows_used_up.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)) →
    ∃ (v0 : (c : Dev Cert.Kernel5Ideal.nD) → Buf (Elt Ideal) ((c.tc : Thread Cert.Kernel5Ideal.nD Cert.Kernel5Ideal.τ).loc Cert.Kernel5Ideal.main_v13)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          (∀ i : (⟨2, ![73728, 2048]⟩ : Shape).Idx, (Cert.On_rows_used_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) i = 1#1 → r.2.mem ((c.tc : Thread Cert.Kernel5Ideal.nD Cert.Kernel5Ideal.τ).loc Cert.Kernel5Ideal.main_v13) i = v0 c i)
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          (∀ i : (⟨2, ![73728, 2048]⟩ : Shape).Idx, (Cert.On_rows_used_up.fn (F := Ideal) (m ((c.tc : Thread Cert.Kernel5Ideal.nD Cert.Kernel5Ideal.τ).loc Cert.Kernel5Ideal.main_arg0)) (m ((c.tc : Thread Cert.Kernel5Ideal.nD Cert.Kernel5Ideal.τ).loc Cert.Kernel5Ideal.main_arg1)) (m ((c.tc : Thread Cert.Kernel5Ideal.nD Cert.Kernel5Ideal.τ).loc Cert.Kernel5Ideal.main_arg2)) (m ((c.tc : Thread Cert.Kernel5Ideal.nD Cert.Kernel5Ideal.τ).loc Cert.Kernel5Ideal.main_arg3)) (m ((c.tc : Thread Cert.Kernel5Ideal.nD Cert.Kernel5Ideal.τ).loc Cert.Kernel5Ideal.main_arg4))) i = 1#1 → r.2.mem ((c.tc : Thread Cert.Reference5Ideal.nD Cert.Reference5Ideal.τ).loc Cert.Reference5Ideal.main_v44) i = v0 c i)
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)) →
    ∃ (v0 : (c : Dev Cert.Kernel6Ideal.nD) → Buf (Elt Ideal) ((c.tc : Thread Cert.Kernel6Ideal.nD Cert.Kernel6Ideal.τ).loc Cert.Kernel6Ideal.main_v3)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v3) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v4) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v4)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v4) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v61) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hPre_finite : Cert.Pre_finite.Facts) (hPre_routed : Cert.Pre_routed.Facts) (hPre_routed_up : Cert.Pre_routed_up.Facts) (hOn_rows_used : Cert.On_rows_used.Facts) (hOn_rows_used_up : Cert.On_rows_used_up.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4) (hPre_routed := hPre_routed)
    ∧ quiescent_Kernel4Ideal (hKernel4Ideal := hKernel4Ideal) (hPre_routed := hPre_routed)
    ∧ quiescent_Reference4Ideal (hReference4Ideal := hReference4Ideal) (hPre_routed := hPre_routed)
    ∧ quiescent_Kernel5 (hKernel5 := hKernel5) (hPre_routed_up := hPre_routed_up)
    ∧ quiescent_Kernel5Ideal (hKernel5Ideal := hKernel5Ideal) (hPre_routed_up := hPre_routed_up)
    ∧ quiescent_Reference5Ideal (hReference5Ideal := hReference5Ideal) (hPre_routed_up := hPre_routed_up)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal_on_rows_used (hKernel4Ideal := hKernel4Ideal) (hReference4Ideal := hReference4Ideal) (hPre_routed := hPre_routed) (hOn_rows_used := hOn_rows_used)
    ∧ preserves_Kernel5_Kernel5Ideal
    ∧ algebraic_Kernel5Ideal_Reference5Ideal_on_rows_used_up (hKernel5Ideal := hKernel5Ideal) (hReference5Ideal := hReference5Ideal) (hPre_routed_up := hPre_routed_up) (hOn_rows_used_up := hOn_rows_used_up)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
-- ==== On_rows_used.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x2048 : Shape := ⟨2, ![32, 2048]⟩
abbrev S73728 : Shape := ⟨1, ![73728]⟩
abbrev S73728x1 : Shape := ⟨2, ![73728, 1]⟩
abbrev S_ : Shape := ⟨0, ![]⟩

class Facts : Prop where
  bcast_S73728_S73728x1_0 : S73728.BroadcastsInDim S73728x1 (![0] : Fin 1 → Fin S73728x1.rank)
  shapeCasts_S1_S_ : S1.ShapeCasts S_
  bcast_S_S73728x1 : S_.BroadcastsInDim S73728x1 (![] : Fin 0 → Fin S73728x1.rank)
  bcast_S73728x1_S73728x2048_0_1 : S73728x1.BroadcastsInDim S73728x2048 (![0, 1] : Fin 2 → Fin S73728x2048.rank)

variable [Facts]

def fn {F : FTy → Type} [FloatOps F] (main_arg0 : IVec S288 32) (main_arg1 : IVec S1 32) (main_arg2 : FVec F S73728x2048 .bf16) (main_arg3 : FVec F S32x2048x2048 .f32) (main_arg4 : FVec F S32x2048 .f32) : IVec S73728x2048 1 :=
  let main_v0 : IVec S73728 32 := iotaInDim S73728 32 0
  let main_v1 : IVec S73728x1 32 := broadcastInDim S73728x1 ![0] bcast_S73728_S73728x1_0 main_v0
  let main_v2 : IVec S_ 32 := shapeCast S_ main_arg1 shapeCasts_S1_S_
  let main_c : IVec S_ 32 := constantI S_ 32 256#32
  let main_v3 : IVec S_ 32 := muli main_v2 main_c
  let main_v4 : IVec S73728x1 32 := broadcastInDim S73728x1 ![] bcast_S_S73728x1 main_v3
  let main_v5 : IVec S73728x1 1 := cmpi .slt main_v1 main_v4
  let main_v6 : IVec S73728x2048 1 := broadcastInDim S73728x2048 ![0, 1] bcast_S73728x1_S73728x2048_0_1 main_v5
  main_v6
-- ==== On_rows_used_up.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x4096 : Shape := ⟨2, ![32, 4096]⟩
abbrev S73728 : Shape := ⟨1, ![73728]⟩
abbrev S73728x1 : Shape := ⟨2, ![73728, 1]⟩
abbrev S_ : Shape := ⟨0, ![]⟩
abbrev S73728x2048 : Shape := ⟨2, ![73728, 2048]⟩

class Facts : Prop where
  bcast_S73728_S73728x1_0 : S73728.BroadcastsInDim S73728x1 (![0] : Fin 1 → Fin S73728x1.rank)
  shapeCasts_S1_S_ : S1.ShapeCasts S_
  bcast_S_S73728x1 : S_.BroadcastsInDim S73728x1 (![] : Fin 0 → Fin S73728x1.rank)
  bcast_S73728x1_S73728x2048_0_1 : S73728x1.BroadcastsInDim S73728x2048 (![0, 1] : Fin 2 → Fin S73728x2048.rank)

variable [Facts]

def fn {F : FTy → Type} [FloatOps F] (main_arg0 : IVec S288 32) (main_arg1 : IVec S1 32) (main_arg2 : IVec S73728x1024 32) (main_arg3 : FVec F S32x2048x4096 .f32) (main_arg4 : FVec F S32x4096 .f32) : IVec S73728x2048 1 :=
  let main_v0 : IVec S73728 32 := iotaInDim S73728 32 0
  let main_v1 : IVec S73728x1 32 := broadcastInDim S73728x1 ![0] bcast_S73728_S73728x1_0 main_v0
  let main_v2 : IVec S_ 32 := shapeCast S_ main_arg1 shapeCasts_S1_S_
  let main_c : IVec S_ 32 := constantI S_ 32 256#32
  let main_v3 : IVec S_ 32 := muli main_v2 main_c
  let main_v4 : IVec S73728x1 32 := broadcastInDim S73728x1 ![] bcast_S_S73728x1 main_v3
  let main_v5 : IVec S73728x1 1 := cmpi .slt main_v1 main_v4
  let main_v6 : IVec S73728x2048 1 := broadcastInDim S73728x2048 ![0, 1] bcast_S73728x1_S73728x2048_0_1 main_v5
  main_v6
-- ==== Pre_finite.lean ====
abbrev S16384x9216 : Shape := ⟨2, ![16384, 9216]⟩
abbrev S16x513 : Shape := ⟨2, ![16, 513]⟩
abbrev S_ : Shape := ⟨0, ![]⟩

class Facts : Prop where
  bitsLt_bf16_f32 : FTy.bits .bf16 < FTy.bits .f32
  bcast_S_S16384x9216 : S_.BroadcastsInDim S16384x9216 (![] : Fin 0 → Fin S16384x9216.rank)
  reducesTo_S16384x9216_S_d0_1 : S16384x9216.ReducesTo [0, 1] S_
  h_S_ : 0 < S_.numel
  bcast_S_S16x513 : S_.BroadcastsInDim S16x513 (![] : Fin 0 → Fin S16x513.rank)
  reducesTo_S16x513_S_d0_1 : S16x513.ReducesTo [0, 1] S_

variable [Facts]

def fn {F : FTy → Type} [FloatOps F] (main_arg0 : FVec F S16384x9216 .bf16) (main_arg1 : FVec F S16x513 .f32) : IVec S_ 1 :=
  let main_v0 : FVec F S16384x9216 .f32 := (extf .f32 · bitsLt_bf16_f32) main_arg0
  let main_v1 : FVec F S16384x9216 .f32 := Host.absf main_v0
  let main_cst : FVec F S_ .f32 := constant S_ .f32 0x7F800000#32
  let main_v2 : FVec F S16384x9216 .f32 := broadcastInDim S16384x9216 ![] bcast_S_S16384x9216 main_cst
  let main_v3 : IVec S16384x9216 1 := cmpf .olt main_v1 main_v2
  let main_c : IVec S_ 1 := constantI S_ 1 1#1
  let main_v4 : IVec S_ 1 := (fun x v => Host.reduce IntOp.andi x v reducesTo_S16384x9216_S_d0_1 h_S_) main_v3 main_c
  let main_v5 : FVec F S16x513 .f32 := Host.absf main_arg1
  let main_cst_0 : FVec F S_ .f32 := constant S_ .f32 0x7F800000#32
  let main_v6 : FVec F S16x513 .f32 := broadcastInDim S16x513 ![] bcast_S_S16x513 main_cst_0
  let main_v7 : IVec S16x513 1 := cmpf .olt main_v5 main_v6
  let main_c_1 : IVec S_ 1 := constantI S_ 1 1#1
  let main_v8 : IVec S_ 1 := (fun x v => Host.reduce IntOp.andi x v reducesTo_S16x513_S_d0_1 h_S_) main_v7 main_c_1
  let main_v9 : IVec S_ 1 := andi main_v4 main_v8
  main_v9
-- ==== Pre_routed.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x2048 : Shape := ⟨2, ![32, 2048]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : FVec F S73728x2048 .bf16) (main_arg3 : FVec F S32x2048x2048 .f32) (main_arg4 : FVec F S32x2048 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 288#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Pre_routed_up.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x4096 : Shape := ⟨2, ![32, 4096]⟩
abbrev S_ : Shape := ⟨0, ![]⟩

class Facts : Prop where
  bcast_S_S288 : S_.BroadcastsInDim S288 (![] : Fin 0 → Fin S288.rank)
  reducesTo_S288_S_d0 : S288.ReducesTo [0] S_
  h_S_ : 0 < S_.numel
  bcast_S_S1 : S_.BroadcastsInDim S1 (![] : Fin 0 → Fin S1.rank)
  reducesTo_S1_S_d0 : S1.ReducesTo [0] S_

variable [Facts]

def fn {F : FTy → Type} [FloatOps F] (main_arg0 : IVec S288 32) (main_arg1 : IVec S1 32) (main_arg2 : IVec S73728x1024 32) (main_arg3 : FVec F S32x2048x4096 .f32) (main_arg4 : FVec F S32x4096 .f32) : IVec S_ 1 :=
  let main_c : IVec S_ 32 := constantI S_ 32 0#32
  let main_v0 : IVec S288 32 := broadcastInDim S288 ![] bcast_S_S288 main_c
  let main_v1 : IVec S288 1 := cmpi .sge main_arg0 main_v0
  let main_c_0 : IVec S_ 32 := constantI S_ 32 32#32
  let main_v2 : IVec S288 32 := broadcastInDim S288 ![] bcast_S_S288 main_c_0
  let main_v3 : IVec S288 1 := cmpi .slt main_arg0 main_v2
  let main_v4 : IVec S288 1 := andi main_v1 main_v3
  let main_c_1 : IVec S_ 1 := constantI S_ 1 1#1
  let main_v5 : IVec S_ 1 := (fun x v => Host.reduce IntOp.andi x v reducesTo_S288_S_d0 h_S_) main_v4 main_c_1
  let main_c_2 : IVec S_ 32 := constantI S_ 32 1#32
  let main_v6 : IVec S1 32 := broadcastInDim S1 ![] bcast_S_S1 main_c_2
  let main_v7 : IVec S1 1 := cmpi .sge main_arg1 main_v6
  let main_c_3 : IVec S_ 32 := constantI S_ 32 288#32
  let main_v8 : IVec S1 32 := broadcastInDim S1 ![] bcast_S_S1 main_c_3
  let main_v9 : IVec S1 1 := cmpi .sle main_arg1 main_v8
  let main_v10 : IVec S1 1 := andi main_v7 main_v9
  let main_c_4 : IVec S_ 1 := constantI S_ 1 1#1
  let main_v11 : IVec S_ 1 := (fun x v => Host.reduce IntOp.andi x v reducesTo_S1_S_d0 h_S_) main_v10 main_c_4
  let main_v12 : IVec S_ 1 := andi main_v5 main_v11
  main_v12
-- ==== Kernel.lean ====
abbrev S16384x9216 : Shape := ⟨2, ![16384, 9216]⟩
abbrev S16x513 : Shape := ⟨2, ![16, 513]⟩
abbrev S256 : Shape := ⟨1, ![256]⟩
abbrev S256x1 : Shape := ⟨2, ![256, 1]⟩
abbrev S768 : Shape := ⟨1, ![768]⟩
abbrev S1x768 : Shape := ⟨2, ![1, 768]⟩
abbrev S_ : Shape := ⟨0, ![]⟩
abbrev S256x768 : Shape := ⟨2, ![256, 768]⟩
abbrev S256x768x1 : Shape := ⟨3, ![256, 768, 1]⟩
abbrev S16x256x768 : Shape := ⟨3, ![16, 256, 768]⟩
abbrev S1x256x768 : Shape := ⟨3, ![1, 256, 768]⟩
abbrev S1x16x256x768 : Shape := ⟨4, ![1, 16, 256, 768]⟩
abbrev S3x16x256x768 : Shape := ⟨4, ![3, 16, 256, 768]⟩
abbrev S16384x1024 : Shape := ⟨2, ![16384, 1024]⟩
abbrev S256x128 : Shape := ⟨2, ![256, 128]⟩
abbrev S1x2x256x768 : Shape := ⟨4, ![1, 2, 256, 768]⟩
abbrev S768x128 : Shape := ⟨2, ![768, 128]⟩
abbrev S256x64 : Shape := ⟨2, ![256, 64]⟩
abbrev S768x64 : Shape := ⟨2, ![768, 64]⟩
abbrev S1x1x256x768 : Shape := ⟨4, ![1, 1, 256, 768]⟩

abbrev nBuf : Space → Nat
  | .hbm => 116
  | .vmem => 18
  | .smem => 0
  | _ => 0

abbrev bufTy : (tb : Table) → Fin (tcTables nBuf tb) → BufTy
  | .hbm, ⟨0, _⟩ => ⟨S16384x9216, .bf16⟩
  | .hbm, ⟨1, _⟩ => ⟨S16x513, .f32⟩
  | .hbm, ⟨2, _⟩ => ⟨S256, .i32⟩
  | .hbm, ⟨3, _⟩ => ⟨S256x1, .i32⟩
  | .hbm, ⟨4, _⟩ => ⟨S768, .i32⟩
  | .hbm, ⟨5, _⟩ => ⟨S1x768, .i32⟩
  | .hbm, ⟨6, _⟩ => ⟨S_, .i32⟩
  | .hbm, ⟨7, _⟩ => ⟨S256x1, .i32⟩
  | .hbm, ⟨8, _⟩ => ⟨S256x1, .i32⟩
  | .hbm, ⟨9, _⟩ => ⟨S256x768, .i32⟩
  | .hbm, ⟨10, _⟩ => ⟨S256x768, .i32⟩
  | .hbm, ⟨11, _⟩ => ⟨S256x768, .i32⟩
  | .hbm, ⟨12, _⟩ => ⟨S_, .i32⟩
  | .hbm, ⟨13, _⟩ => ⟨S_, .i32⟩
  | .hbm, ⟨14, _⟩ => ⟨S_, .i32⟩
  | .hbm, ⟨15, _⟩ => ⟨S256x768, .i32⟩
  | .hbm, ⟨16, _⟩ => ⟨S256x768, .i32⟩
  | .hbm, ⟨17, _⟩ => ⟨S_, .i32⟩
  | .hbm, ⟨18, _⟩ => ⟨S256x768, .i32⟩
  | .hbm, ⟨19, _⟩ => ⟨S256x768, .i32⟩
  | .hbm, ⟨20, _⟩ => ⟨S_, .i32⟩
  | .hbm, ⟨21, _⟩ => ⟨S256x768, .i32⟩
  | .hbm, ⟨22, _⟩ => ⟨S256x768, .i32⟩
  | .hbm, ⟨23, _⟩ => ⟨S_, .i32⟩
  | .hbm, ⟨24, _⟩ => ⟨S256x768, .i32⟩
  | .hbm, ⟨25, _⟩ => ⟨S256x768, .i1⟩
  | .hbm, ⟨26, _⟩ => ⟨S_, .i32⟩
  | .hbm, ⟨27, _⟩ => ⟨S256x768, .i32⟩
  | .hbm, ⟨28, _⟩ => ⟨S256x768, .i32⟩
  | .hbm, ⟨29, _⟩ => ⟨S256x768, .i32⟩
  | .hbm, ⟨30, _⟩ => ⟨S256x768x1, .i32⟩
  | .hbm, ⟨31, _⟩ => ⟨S16x256x768, .f32⟩
  | .hbm, ⟨32, _⟩ => ⟨S_, .i32⟩
  | .hbm, ⟨33, _⟩ => ⟨S_, .i32⟩
  | .hbm, ⟨34, _⟩ => ⟨S256x1, .i32⟩
  | .hbm, ⟨35, _⟩ => ⟨S256x1, .i32⟩
  | .hbm, ⟨36, _⟩ => ⟨S256x1, .i32⟩
  | .hbm, ⟨37, _⟩ => ⟨S_, .i32⟩
  | .hbm, ⟨38, _⟩ => ⟨S256x1, .i32⟩
  | .hbm, ⟨39, _⟩ => ⟨S256x1, .i1⟩
  | .hbm, ⟨40, _⟩ => ⟨S256x1, .i32⟩
  | .hbm, ⟨41, _⟩ => ⟨S256x1, .i32⟩
  | .hbm, ⟨42, _⟩ => ⟨S_, .i32⟩
  | .hbm, ⟨43, _⟩ => ⟨S256x1, .i32⟩
  | .hbm, ⟨44, _⟩ => ⟨S256x1, .i1⟩
  | .hbm, ⟨45, _⟩ => ⟨S256x1, .i1⟩
  | .hbm, ⟨46, _⟩ => ⟨S_, .i32⟩
  | .hbm, ⟨47, _⟩ => ⟨S256x1, .i32⟩
  | .hbm, ⟨48, _⟩ => ⟨S256x1, .i32⟩
  | .hbm, ⟨49, _⟩ => ⟨S256x1, .i32⟩
  | .hbm, ⟨50, _⟩ => ⟨S_, .i32⟩
  | .hbm, ⟨51, _⟩ => ⟨S_, .i32⟩
  | .hbm, ⟨52, _⟩ => ⟨S1x768, .i32⟩
  | .hbm, ⟨53, _⟩ => ⟨S1x768, .i32⟩
  | .hbm, ⟨54, _⟩ => ⟨S1x768, .i32⟩
  | .hbm, ⟨55, _⟩ => ⟨S_, .i32⟩
  | .hbm, ⟨56, _⟩ => ⟨S1x768, .i32⟩
  | .hbm, ⟨57, _⟩ => ⟨S1x768, .i1⟩
  | .hbm, ⟨58, _⟩ => ⟨S1x768, .i32⟩
  | .hbm, ⟨59, _⟩ => ⟨S1x768, .i32⟩
  | .hbm, ⟨60, _⟩ => ⟨S_, .i32⟩
  | .hbm, ⟨61, _⟩ => ⟨S1x768, .i32⟩
  | .hbm, ⟨62, _⟩ => ⟨S1x768, .i1⟩
  | .hbm, ⟨63, _⟩ => ⟨S1x768, .i1⟩
  | .hbm, ⟨64, _⟩ => ⟨S_, .i32⟩
  | .hbm, ⟨65, _⟩ => ⟨S1x768, .i32⟩
  | .hbm, ⟨66, _⟩ => ⟨S1x768, .i32⟩
  | .hbm, ⟨67, _⟩ => ⟨S1x768, .i32⟩
  | .hbm, ⟨68, _⟩ => ⟨S256x768, .i32⟩
  | .hbm, ⟨69, _⟩ => ⟨S256x768, .i32⟩
  | .hbm, ⟨70, _⟩ => ⟨S256x768, .i1⟩
  | .hbm, ⟨71, _⟩ => ⟨S_, .i32⟩
  | .hbm, ⟨72, _⟩ => ⟨S256x1, .i32⟩
  | .hbm, ⟨73, _⟩ => ⟨S256x1, .i32⟩
  | .hbm, ⟨74, _⟩ => ⟨S256x768, .i32⟩
  | .hbm, ⟨75, _⟩ => ⟨S256x768, .i32⟩
  | .hbm, ⟨76, _⟩ => ⟨S256x768, .i1⟩
  | .hbm, ⟨77, _⟩ => ⟨S256x768, .i1⟩
  | .hbm, ⟨78, _⟩ => ⟨S_, .i32⟩
  | .hbm, ⟨79, _⟩ => ⟨S1x768, .i32⟩
  | .hbm, ⟨80, _⟩ => ⟨S1x768, .i1⟩
  | .hbm, ⟨81, _⟩ => ⟨S256x768, .i1⟩
  | .hbm, ⟨82, _⟩ => ⟨S256x768, .i1⟩
  | .hbm, ⟨83, _⟩ => ⟨S1x256x768, .i1⟩
  | .hbm, ⟨84, _⟩ => ⟨S_, .f32⟩
  | .hbm, ⟨85, _⟩ => ⟨S_, .f32⟩
  | .hbm, ⟨86, _⟩ => ⟨S16x256x768, .i1⟩
  | .hbm, ⟨87, _⟩ => ⟨S16x256x768, .f32⟩
  | .hbm, ⟨88, _⟩ => ⟨S16x256x768, .f32⟩
  | .hbm, ⟨89, _⟩ => ⟨S_, .i32⟩
  | .hbm, ⟨90, _⟩ => ⟨S1x768, .i32⟩
  | .hbm, ⟨91, _⟩ => ⟨S1x768, .i1⟩
  | .hbm, ⟨92, _⟩ => ⟨S256x768, .i1⟩
  | .hbm, ⟨93, _⟩ => ⟨S256x768, .i1⟩
  | .hbm, ⟨94, _⟩ => ⟨S1x256x768, .i1⟩
  | .hbm, ⟨95, _⟩ => ⟨S_, .f32⟩
  | .hbm, ⟨96, _⟩ => ⟨S_, .f32⟩
  | .hbm, ⟨97, _⟩ => ⟨S16x256x768, .i1⟩
  | .hbm, ⟨98, _⟩ => ⟨S16x256x768, .f32⟩
  | .hbm, ⟨99, _⟩ => ⟨S16x256x768, .f32⟩
  | .hbm, ⟨100, _⟩ => ⟨S_, .i32⟩
  | .hbm, ⟨101, _⟩ => ⟨S1x768, .i32⟩
  | .hbm, ⟨102, _⟩ => ⟨S1x768, .i1⟩
  | .hbm, ⟨103, _⟩ => ⟨S256x768, .i1⟩
  | .hbm, ⟨104, _⟩ => ⟨S256x768, .i1⟩
  | .hbm, ⟨105, _⟩ => ⟨S1x256x768, .i1⟩
  | .hbm, ⟨106, _⟩ => ⟨S_, .f32⟩
  | .hbm, ⟨107, _⟩ => ⟨S_, .f32⟩
  | .hbm, ⟨108, _⟩ => ⟨S16x256x768, .i1⟩
  | .hbm, ⟨109, _⟩ => ⟨S16x256x768, .f32⟩
  | .hbm, ⟨110, _⟩ => ⟨S16x256x768, .f32⟩
  | .hbm, ⟨111, _⟩ => ⟨S1x16x256x768, .f32⟩
  | .hbm, ⟨112, _⟩ => ⟨S1x16x256x768, .f32⟩
  | .hbm, ⟨113, _⟩ => ⟨S1x16x256x768, .f32⟩
  | .hbm, ⟨114, _⟩ => ⟨S3x16x256x768, .f32⟩
  | .hbm, ⟨115, _⟩ => ⟨S16384x1024, .bf16⟩
  | .local _ .vmem, ⟨0, _⟩ => ⟨S256x128, .bf16⟩
  | .local _ .vmem, ⟨1, _⟩ => ⟨S256x128, .bf16⟩
  | .local _ .vmem, ⟨2, _⟩ => ⟨S256x128, .bf16⟩
  | .local _ .vmem, ⟨3, _⟩ => ⟨S256x128, .bf16⟩
  | .local _ .vmem, ⟨4, _⟩ => ⟨S256x128, .bf16⟩
  | .local _ .vmem, ⟨5, _⟩ => ⟨S256x128, .bf16⟩
  | .local _ .vmem, ⟨6, _⟩ => ⟨S256x128, .bf16⟩
  | .local _ .vmem, ⟨7, _⟩ => ⟨S256x128, .bf16⟩
  | .local _ .vmem, ⟨8, _⟩ => ⟨S256x128, .bf16⟩
  | .local _ .vmem, ⟨9, _⟩ => ⟨S256x128, .bf16⟩
  | .local _ .vmem, ⟨10, _⟩ => ⟨S256x128, .bf16⟩
  | .local _ .vmem, ⟨11, _⟩ => ⟨S256x128, .bf16⟩
  | .local _ .vmem, ⟨12, _⟩ => ⟨S256x128, .bf16⟩
  | .local _ .vmem, ⟨13, _⟩ => ⟨S256x128, .bf16⟩
  | .local _ .vmem, ⟨14, _⟩ => ⟨S1x2x256x768, .f32⟩
  | .local _ .vmem, ⟨15, _⟩ => ⟨S1x2x256x768, .f32⟩
  | .local _ .vmem, ⟨16, _⟩ => ⟨S256x128, .bf16⟩
  | .local _ .vmem, ⟨17, _⟩ => ⟨S256x128, .bf16⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_c : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_c_0 : Ref sig .tc := ⟨.hbm, 12, rfl⟩
abbrev main_c_1 : Ref sig .tc := ⟨.hbm, 13, rfl⟩
abbrev main_call0_v0 : Ref sig .tc := ⟨.hbm, 14, rfl⟩
abbrev main_call0_v1 : Ref sig .tc := ⟨.hbm, 15, rfl⟩
abbrev main_call0_v2 : Ref sig .tc := ⟨.hbm, 16, rfl⟩
abbrev main_call0_v3 : Ref sig .tc := ⟨.hbm, 17, rfl⟩
abbrev main_call0_v4 : Ref sig .tc := ⟨.hbm, 18, rfl⟩
abbrev main_v9 : Ref sig .tc := ⟨.hbm, 19, rfl⟩
abbrev main_c_2 : Ref sig .tc := ⟨.hbm, 20, rfl⟩
abbrev main_v10 : Ref sig .tc := ⟨.hbm, 21, rfl⟩
abbrev main_v11 : Ref sig .tc := ⟨.hbm, 22, rfl⟩
abbrev main_c_3 : Ref sig .tc := ⟨.hbm, 23, rfl⟩
abbrev main_v12 : Ref sig .tc := ⟨.hbm, 24, rfl⟩
abbrev main_v13 : Ref sig .tc := ⟨.hbm, 25, rfl⟩
abbrev main_c_4 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_c_5 : Ref sig .tc := ⟨.hbm, 32, rfl⟩
abbrev main_call1_v0 : Ref sig .tc := ⟨.hbm, 33, rfl⟩
abbrev main_call1_v1 : Ref sig .tc := ⟨.hbm, 34, rfl⟩
abbrev main_call1_v2 : Ref sig .tc := ⟨.hbm, 35, rfl⟩
abbrev main_call1_v3 : Ref sig .tc := ⟨.hbm, 36, rfl⟩
abbrev main_call1_v4 : Ref sig .tc := ⟨.hbm, 37, rfl⟩
abbrev main_call1_v5 : Ref sig .tc := ⟨.hbm, 38, rfl⟩
abbrev main_call1_v6 : Ref sig .tc := ⟨.hbm, 39, rfl⟩
abbrev main_call1_v7 : Ref sig .tc := ⟨.hbm, 40, rfl⟩
abbrev main_call1_v8 : Ref sig .tc := ⟨.hbm, 41, rfl⟩
abbrev main_call1_c : Ref sig .tc := ⟨.hbm, 42, rfl⟩
abbrev main_call1_v9 : Ref sig .tc := ⟨.hbm, 43, rfl⟩
abbrev main_call1_v10 : Ref sig .tc := ⟨.hbm, 44, rfl⟩
abbrev main_call1_v11 : Ref sig .tc := ⟨.hbm, 45, rfl⟩
abbrev main_call1_c_0 : Ref sig .tc := ⟨.hbm, 46, rfl⟩
abbrev main_call1_v12 : Ref sig .tc := ⟨.hbm, 47, rfl⟩
abbrev main_call1_v13 : Ref sig .tc := ⟨.hbm, 48, rfl⟩
abbrev main_v19 : Ref sig .tc := ⟨.hbm, 49, rfl⟩
abbrev main_c_6 : Ref sig .tc := ⟨.hbm, 50, rfl⟩
abbrev main_call2_v0 : Ref sig .tc := ⟨.hbm, 51, rfl⟩
abbrev main_call2_v1 : Ref sig .tc := ⟨.hbm, 52, rfl⟩
abbrev main_call2_v2 : Ref sig .tc := ⟨.hbm, 53, rfl⟩
abbrev main_call2_v3 : Ref sig .tc := ⟨.hbm, 54, rfl⟩
abbrev main_call2_v4 : Ref sig .tc := ⟨.hbm, 55, rfl⟩
abbrev main_call2_v5 : Ref sig .tc := ⟨.hbm, 56, rfl⟩
abbrev main_call2_v6 : Ref sig .tc := ⟨.hbm, 57, rfl⟩
abbrev main_call2_v7 : Ref sig .tc := ⟨.hbm, 58, rfl⟩
abbrev main_call2_v8 : Ref sig .tc := ⟨.hbm, 59, rfl⟩
abbrev main_call2_c : Ref sig .tc := ⟨.hbm, 60, rfl⟩
abbrev main_call2_v9 : Ref sig .tc := ⟨.hbm, 61, rfl⟩
abbrev main_call2_v10 : Ref sig .tc := ⟨.hbm, 62, rfl⟩
abbrev main_call2_v11 : Ref sig .tc := ⟨.hbm, 63, rfl⟩
abbrev main_call2_c_0 : Ref sig .tc := ⟨.hbm, 64, rfl⟩
abbrev main_call2_v12 : Ref sig .tc := ⟨.hbm, 65, rfl⟩
abbrev main_call2_v13 : Ref sig .tc := ⟨.hbm, 66, rfl⟩
abbrev main_v20 : Ref sig .tc := ⟨.hbm, 67, rfl⟩
abbrev main_v21 : Ref sig .tc := ⟨.hbm, 68, rfl⟩
abbrev main_v22 : Ref sig .tc := ⟨.hbm, 69, rfl⟩
abbrev main_v23 : Ref sig .tc := ⟨.hbm, 70, rfl⟩
abbrev main_c_7 : Ref sig .tc := ⟨.hbm, 71, rfl⟩
abbrev main_v24 : Ref sig .tc := ⟨.hbm, 72, rfl⟩
abbrev main_v25 : Ref sig .tc := ⟨.hbm, 73, rfl⟩
abbrev main_v26 : Ref sig .tc := ⟨.hbm, 74, rfl⟩
abbrev main_v27 : Ref sig .tc := ⟨.hbm, 75, rfl⟩
abbrev main_v28 : Ref sig .tc := ⟨.hbm, 76, rfl⟩
abbrev main_v29 : Ref sig .tc := ⟨.hbm, 77, rfl⟩
abbrev main_c_8 : Ref sig .tc := ⟨.hbm, 78, rfl⟩
abbrev main_v30 : Ref sig .tc := ⟨.hbm, 79, rfl⟩
abbrev main_v31 : Ref sig .tc := ⟨.hbm, 80, rfl⟩
abbrev main_v32 : Ref sig .tc := ⟨.hbm, 81, rfl⟩
abbrev main_v33 : Ref sig .tc := ⟨.hbm, 82, rfl⟩
abbrev main_v34 : Ref sig .tc := ⟨.hbm, 83, rfl⟩
abbrev main_cst : Ref sig .tc := ⟨.hbm, 84, rfl⟩
abbrev main_call3_v0 : Ref sig .tc := ⟨.hbm, 85, rfl⟩
abbrev main_call3_v1 : Ref sig .tc := ⟨.hbm, 86, rfl⟩
abbrev main_call3_v2 : Ref sig .tc := ⟨.hbm, 87, rfl⟩
abbrev main_v35 : Ref sig .tc := ⟨.hbm, 88, rfl⟩
abbrev main_c_9 : Ref sig .tc := ⟨.hbm, 89, rfl⟩
abbrev main_v36 : Ref sig .tc := ⟨.hbm, 90, rfl⟩
abbrev main_v37 : Ref sig .tc := ⟨.hbm, 91, rfl⟩
abbrev main_v38 : Ref sig .tc := ⟨.hbm, 92, rfl⟩
abbrev main_v39 : Ref sig .tc := ⟨.hbm, 93, rfl⟩
abbrev main_v40 : Ref sig .tc := ⟨.hbm, 94, rfl⟩
abbrev main_cst_10 : Ref sig .tc := ⟨.hbm, 95, rfl⟩
abbrev main_call4_v0 : Ref sig .tc := ⟨.hbm, 96, rfl⟩
abbrev main_call4_v1 : Ref sig .tc := ⟨.hbm, 97, rfl⟩
abbrev main_call4_v2 : Ref sig .tc := ⟨.hbm, 98, rfl⟩
abbrev main_v41 : Ref sig .tc := ⟨.hbm, 99, rfl⟩
abbrev main_c_11 : Ref sig .tc := ⟨.hbm, 100, rfl⟩
abbrev main_v42 : Ref sig .tc := ⟨.hbm, 101, rfl⟩
abbrev main_v43 : Ref sig .tc := ⟨.hbm, 102, rfl⟩
abbrev main_v44 : Ref sig .tc := ⟨.hbm, 103, rfl⟩
abbrev main_v45 : Ref sig .tc := ⟨.hbm, 104, rfl⟩
abbrev main_v46 : Ref sig .tc := ⟨.hbm, 105, rfl⟩
abbrev main_cst_12 : Ref sig .tc := ⟨.hbm, 106, rfl⟩
abbrev main_call5_v0 : Ref sig .tc := ⟨.hbm, 107, rfl⟩
abbrev main_call5_v1 : Ref sig .tc := ⟨.hbm, 108, rfl⟩
abbrev main_call5_v2 : Ref sig .tc := ⟨.hbm, 109, rfl⟩
abbrev main_v47 : Ref sig .tc := ⟨.hbm, 110, rfl⟩
abbrev main_v48 : Ref sig .tc := ⟨.hbm, 111, rfl⟩
abbrev main_v49 : Ref sig .tc := ⟨.hbm, 112, rfl⟩
abbrev main_v50 : Ref sig .tc := ⟨.hbm, 113, rfl⟩
abbrev main_v51 : Ref sig .tc := ⟨.hbm, 114, rfl⟩
abbrev main_v52 : Ref sig .tc := ⟨.hbm, 115, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨3, ![8, 4, 16], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c32_i32 : BitVec 32 := 32#32
  let v2 : BitVec 32 := Scalar.addi c32_i32 arg0
  let c0_i32 : BitVec 32 := 0#32
  ![v1.toNat, v2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c2_i32 : BitVec 32 := 2#32
  let v1 : BitVec 32 := Scalar.subi arg2 c2_i32
  let c0_i32 : BitVec 32 := 0#32
  let v2 : BitVec 32 := Scalar.maxsi v1 c0_i32
  let v3 : BitVec 32 := Scalar.addi v0 v2
  let c40_i32 : BitVec 32 := 40#32
  let v4 : BitVec 32 := Scalar.addi c40_i32 arg0
  let c0_i32_0 : BitVec 32 := 0#32
  ![v3.toNat, v4.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c40_i32 : BitVec 32 := 40#32
  let v4 : BitVec 32 := Scalar.addi c40_i32 arg0
  let c0_i32_0 : BitVec 32 := 0#32
  ![v3.toNat, v4.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c0_i32 : BitVec 32 := 0#32
  let v1 : BitVec 32 := Scalar.subi arg2 c0_i32
  let c0_i32_0 : BitVec 32 := 0#32
  let v2 : BitVec 32 := Scalar.maxsi v1 c0_i32_0
  let v3 : BitVec 32 := Scalar.addi v0 v2
  let c40_i32 : BitVec 32 := 40#32
  let v4 : BitVec 32 := Scalar.addi c40_i32 arg0
  let c0_i32_1 : BitVec 32 := 0#32
  ![v3.toNat, v4.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c2_i32 : BitVec 32 := 2#32
  let v1 : BitVec 32 := Scalar.subi arg2 c2_i32
  let c0_i32 : BitVec 32 := 0#32
  let v2 : BitVec 32 := Scalar.maxsi v1 c0_i32
  let v3 : BitVec 32 := Scalar.addi v0 v2
  let c48_i32 : BitVec 32 := 48#32
  let v4 : BitVec 32 := Scalar.addi c48_i32 arg0
  let c0_i32_0 : BitVec 32 := 0#32
  ![v3.toNat, v4.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c1_i32 : BitVec 32 := 1#32
  let v1 : BitVec 32 := Scalar.subi arg2 c1_i32
  let c0_i32 : BitVec 32 := 0#32
  let v2 : BitVec 32 := Scalar.maxsi v1 c0_i32
  let v3 : BitVec 32 := Scalar.addi v0 v2
  let c48_i32 : BitVec 32 := 48#32
  let v4 : BitVec 32 := Scalar.addi c48_i32 arg0
  let c0_i32_0 : BitVec 32 := 0#32
  ![v3.toNat, v4.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let c0_i32 : BitVec 32 := 0#32
  let v1 : BitVec 32 := Scalar.subi arg2 c0_i32
  let c0_i32_0 : BitVec 32 := 0#32
  let v2 : BitVec 32 := Scalar.maxsi v1 c0_i32_0
  let v3 : BitVec 32 := Scalar.addi v0 v2
  let c48_i32 : BitVec 32 := 48#32
  let v4 : BitVec 32 := Scalar.addi c48_i32 arg0
  let c0_i32_1 : BitVec 32 := 0#32
  ![v3.toNat, v4.toNat]

def cc0_transform_7 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.minsi arg2 c2_i32
  let c0_i32 : BitVec 32 := 0#32
  let c0_i32_0 : BitVec 32 := 0#32
  let c0_i32_1 : BitVec 32 := 0#32
  ![v0.toNat, arg0.toNat, c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c16_i32 : BitVec 32 := 16#32
  let v0 : BitVec 32 := Scalar.muli arg1 c16_i32
  let v1 : BitVec 32 := Scalar.addi v0 arg2
  let c0_i32 : BitVec 32 := 0#32
  ![v1.toNat, arg0.toNat]

abbrev stage0_0 : Fin 2 → Memref sig .tc .vmem S256x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S256x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

abbrev stage0_2 : Fin 2 → Memref sig .tc .vmem S256x128 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, true]

abbrev stage0_3 : Fin 2 → Memref sig .tc .vmem S256x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, true]

abbrev stage0_4 : Fin 2 → Memref sig .tc .vmem S256x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, true]

abbrev stage0_5 : Fin 2 → Memref sig .tc .vmem S256x128 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true, true]

abbrev stage0_6 : Fin 2 → Memref sig .tc .vmem S256x128 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true, true]

abbrev stage0_7 : Fin 2 → Memref sig .tc .vmem S1x2x256x768 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false, true]

abbrev stage0_8 : Fin 2 → Memref sig .tc .vmem S256x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true, true]
-- ==== ReferenceIdeal.lean ====
abbrev S16384x9216 : Shape := ⟨2, ![16384, 9216]⟩
abbrev S16x513 : Shape := ⟨2, ![16, 513]⟩
abbrev S16384x1024 : Shape := ⟨2, ![16384, 1024]⟩
abbrev S4x4096x16x64 : Shape := ⟨4, ![4, 4096, 16, 64]⟩
abbrev S_ : Shape := ⟨0, ![]⟩
abbrev S4x4608x16x64 : Shape := ⟨4, ![4, 4608, 16, 64]⟩
abbrev S4x64x64x16x64 : Shape := ⟨5, ![4, 64, 64, 16, 64]⟩
abbrev S64x4x64x16x64 : Shape := ⟨5, ![64, 4, 64, 16, 64]⟩
abbrev S64 : Shape := ⟨1, ![64]⟩
abbrev S64x1 : Shape := ⟨2, ![64, 1]⟩
abbrev S576 : Shape := ⟨1, ![576]⟩
abbrev S1x576 : Shape := ⟨2, ![1, 576]⟩
abbrev S64x576 : Shape := ⟨2, ![64, 576]⟩
abbrev S64x576x1 : Shape := ⟨3, ![64, 576, 1]⟩
abbrev S16x64x576 : Shape := ⟨3, ![16, 64, 576]⟩
abbrev S64x4 : Shape := ⟨2, ![64, 4]⟩
abbrev S64x4x576x16x64 : Shape := ⟨5, ![64, 4, 576, 16, 64]⟩
abbrev S64x4x16x64x576 : Shape := ⟨5, ![64, 4, 16, 64, 576]⟩
abbrev S1x16x64x576 : Shape := ⟨4, ![1, 16, 64, 576]⟩
abbrev S1x1x16x64x576 : Shape := ⟨5, ![1, 1, 16, 64, 576]⟩
abbrev S4x16x64x576 : Shape := ⟨4, ![4, 16, 64, 576]⟩
abbrev S64x4x16x64 : Shape := ⟨4, ![64, 4, 16, 64]⟩
abbrev S64x4x16x64x1 : Shape := ⟨5, ![64, 4, 16, 64, 1]⟩
abbrev S64x4x16x64x64 : Shape := ⟨5, ![64, 4, 16, 64, 64]⟩

abbrev nBuf : Space → Nat
  | .hbm => 129
  | .vmem => 0
  | .smem => 0
  | _ => 0

abbrev hbmTy0_0 (i : Nat) : BufTy := match i % 128 with
  | 0 => ⟨S16384x9216, .bf16⟩
  | 1 => ⟨S16x513, .f32⟩
  | 2 => ⟨S16384x9216, .f32⟩
  | 3 => ⟨S16384x1024, .f32⟩
  | 4 => ⟨S16384x1024, .f32⟩
  | 5 => ⟨S16384x1024, .f32⟩
  | 6 => ⟨S4x4096x16x64, .f32⟩
  | 7 => ⟨S4x4096x16x64, .f32⟩
  | 8 => ⟨S4x4096x16x64, .f32⟩
  | 9 => ⟨S_, .i32⟩
  | 10 => ⟨S_, .f32⟩
  | 11 => ⟨S4x4608x16x64, .f32⟩
  | 12 => ⟨S_, .i32⟩
  | 13 => ⟨S_, .f32⟩
  | 14 => ⟨S4x4608x16x64, .f32⟩
  | 15 => ⟨S4x64x64x16x64, .f32⟩
  | 16 => ⟨S64x4x64x16x64, .f32⟩
  | 17 => ⟨S64, .i32⟩
  | 18 => ⟨S64x1, .i32⟩
  | 19 => ⟨S_, .i32⟩
  | 20 => ⟨S64x1, .i32⟩
  | 21 => ⟨S64x1, .i32⟩
  | 22 => ⟨S576, .i32⟩
  | 23 => ⟨S1x576, .i32⟩
  | 24 => ⟨S64x576, .i32⟩
  | 25 => ⟨S64x576, .i32⟩
  | 26 => ⟨S64x576, .i32⟩
  | 27 => ⟨S_, .i32⟩
  | 28 => ⟨S_, .i32⟩
  | 29 => ⟨S_, .i32⟩
  | 30 => ⟨S64x576, .i32⟩
  | 31 => ⟨S64x576, .i32⟩
  | 32 => ⟨S_, .i32⟩
  | 33 => ⟨S64x576, .i32⟩
  | 34 => ⟨S64x576, .i32⟩
  | 35 => ⟨S_, .i32⟩
  | 36 => ⟨S64x576, .i32⟩
  | 37 => ⟨S64x576, .i32⟩
  | 38 => ⟨S_, .i32⟩
  | 39 => ⟨S64x576, .i32⟩
  | 40 => ⟨S64x576, .i1⟩
  | 41 => ⟨S_, .i32⟩
  | 42 => ⟨S64x576, .i32⟩
  | 43 => ⟨S64x576, .i32⟩
  | 44 => ⟨S64x576, .i32⟩
  | 45 => ⟨S64x576x1, .i32⟩
  | 46 => ⟨S16x64x576, .f32⟩
  | 47 => ⟨S64, .i32⟩
  | 48 => ⟨S_, .i32⟩
  | 49 => ⟨S64, .i32⟩
  | 50 => ⟨S64, .i32⟩
  | 51 => ⟨S_, .i32⟩
  | 52 => ⟨S64, .i32⟩
  | 53 => ⟨S64, .i1⟩
  | 54 => ⟨S_, .i32⟩
  | 55 => ⟨S64, .i32⟩
  | 56 => ⟨S64, .i32⟩
  | 57 => ⟨S64, .i32⟩
  | 58 => ⟨S_, .i32⟩
  | 59 => ⟨S64x1, .i32⟩
  | 60 => ⟨S64x1, .i32⟩
  | 61 => ⟨S_, .i32⟩
  | 62 => ⟨S64x1, .i32⟩
  | 63 => ⟨S_, .i32⟩
  | 64 => ⟨S64x1, .i32⟩
  | 65 => ⟨S64x4, .i32⟩
  | 66 => ⟨S64x4x576x16x64, .f32⟩
  | 67 => ⟨S_, .i32⟩
  | 68 => ⟨S64, .i32⟩
  | 69 => ⟨S64, .i1⟩
  | 70 => ⟨S_, .i32⟩
  | 71 => ⟨S64, .i32⟩
  | 72 => ⟨S64, .i32⟩
  | 73 => ⟨S64, .i32⟩
  | 74 => ⟨S_, .i32⟩
  | 75 => ⟨S64x1, .i32⟩
  | 76 => ⟨S64x1, .i32⟩
  | 77 => ⟨S_, .i32⟩
  | 78 => ⟨S64x1, .i32⟩
  | 79 => ⟨S_, .i32⟩
  | 80 => ⟨S64x1, .i32⟩
  | 81 => ⟨S64x4, .i32⟩
  | 82 => ⟨S64x4x576x16x64, .f32⟩
  | 83 => ⟨S64x4x16x64x576, .f32⟩
  | 84 => ⟨S_, .f32⟩
  | 85 => ⟨S64x4x16x64x576, .f32⟩
  | 86 => ⟨S64x4x16x64x576, .f32⟩
  | 87 => ⟨S1x16x64x576, .f32⟩
  | 88 => ⟨S1x1x16x64x576, .f32⟩
  | 89 => ⟨S64x4x16x64x576, .f32⟩
  | 90 => ⟨S64x4x16x64x576, .f32⟩
  | 91 => ⟨S_, .i32⟩
  | 92 => ⟨S64, .i32⟩
  | 93 => ⟨S64, .i32⟩
  | 94 => ⟨S576, .i32⟩
  | 95 => ⟨S1x576, .i32⟩
  | 96 => ⟨S64x1, .i32⟩
  | 97 => ⟨S64x576, .i32⟩
  | 98 => ⟨S64x576, .i32⟩
  | 99 => ⟨S64x576, .i32⟩
  | 100 => ⟨S_, .i32⟩
  | 101 => ⟨S64x576, .i32⟩
  | 102 => ⟨S64x576, .i1⟩
  | 103 => ⟨S_, .f32⟩
  | 104 => ⟨S_, .f32⟩
  | 105 => ⟨S64x4x16x64x576, .i1⟩
  | 106 => ⟨S4x16x64x576, .f32⟩
  | 107 => ⟨S64x4x16x64x576, .f32⟩
  | 108 => ⟨S64x4x16x64x576, .f32⟩
  | 109 => ⟨S_, .f32⟩
  | 110 => ⟨S64x4x16x64, .f32⟩
  | 111 => ⟨S_, .f32⟩
  | 112 => ⟨S64x4x16x64, .f32⟩
  | 113 => ⟨S64x4x16x64, .f32⟩
  | 114 => ⟨S64x4x16x64x1, .f32⟩
  | 115 => ⟨S64x4x16x64x576, .f32⟩
  | 116 => ⟨S64x4x16x64x576, .f32⟩
  | 117 => ⟨S64x4x16x64x576, .f32⟩
  | 118 => ⟨S_, .f32⟩
  | 119 => ⟨S64x4x16x64, .f32⟩
  | 120 => ⟨S64x4x16x64x1, .f32⟩
  | 121 => ⟨S64x4x16x64x576, .f32⟩
  | 122 => ⟨S64x4x16x64x576, .f32⟩
  | 123 => ⟨S64x4x16x64x64, .f32⟩
  | 124 => ⟨S64x4x64x16x64, .f32⟩
  | 125 => ⟨S4x64x64x16x64, .f32⟩
  | 126 => ⟨S4x4096x16x64, .f32⟩
  | 127 => ⟨S16384x1024, .f32⟩
  | _ => ⟨S16384x9216, .bf16⟩

abbrev hbmTy0_1 (i : Nat) : BufTy := match i % 128 with
  | 0 => ⟨S16384x1024, .bf16⟩
  | _ => ⟨S16384x9216, .bf16⟩

abbrev hbmTy (i : Nat) : BufTy := match i / 128 with
  | 0 => hbmTy0_0 i
  | 1 => hbmTy0_1 i
  | _ => ⟨S16384x9216, .bf16⟩

abbrev bufTy : (tb : Table) → Fin (tcTables nBuf tb) → BufTy
  | .hbm, ⟨i, _⟩ => hbmTy i
  | _, _ => ⟨S16384x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_c : Ref sig .tc := ⟨.hbm, 9, rfl⟩
abbrev main_call0_v0 : Ref sig .tc := ⟨.hbm, 10, rfl⟩
abbrev main_v7 : Ref sig .tc := ⟨.hbm, 11, rfl⟩
abbrev main_c_0 : Ref sig .tc := ⟨.hbm, 12, rfl⟩
abbrev main_call1_v0 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_c_1 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_2 : Ref sig .tc := ⟨.hbm, 27, rfl⟩
abbrev main_c_3 : Ref sig .tc := ⟨.hbm, 28, rfl⟩
abbrev main_call2_v0 : Ref sig .tc := ⟨.hbm, 29, rfl⟩
abbrev main_call2_v1 : Ref sig .tc := ⟨.hbm, 30, rfl⟩
abbrev main_call2_v2 : Ref sig .tc := ⟨.hbm, 31, rfl⟩
abbrev main_call2_v3 : Ref sig .tc := ⟨.hbm, 32, rfl⟩
abbrev main_call2_v4 : Ref sig .tc := ⟨.hbm, 33, rfl⟩
abbrev main_v20 : Ref sig .tc := ⟨.hbm, 34, rfl⟩
abbrev main_c_4 : Ref sig .tc := ⟨.hbm, 35, rfl⟩
abbrev main_v21 : Ref sig .tc := ⟨.hbm, 36, rfl⟩
abbrev main_v22 : Ref sig .tc := ⟨.hbm, 37, rfl⟩
abbrev main_c_5 : Ref sig .tc := ⟨.hbm, 38, rfl⟩
abbrev main_v23 : Ref sig .tc := ⟨.hbm, 39, rfl⟩
abbrev main_v24 : Ref sig .tc := ⟨.hbm, 40, rfl⟩
abbrev main_c_6 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_c_7 : Ref sig .tc := ⟨.hbm, 48, rfl⟩
abbrev main_v31 : Ref sig .tc := ⟨.hbm, 49, rfl⟩
abbrev main_v32 : Ref sig .tc := ⟨.hbm, 50, rfl⟩
abbrev main_c_8 : Ref sig .tc := ⟨.hbm, 51, rfl⟩
abbrev main_v33 : Ref sig .tc := ⟨.hbm, 52, rfl⟩
abbrev main_v34 : Ref sig .tc := ⟨.hbm, 53, rfl⟩
abbrev main_c_9 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_c_10 : Ref sig .tc := ⟨.hbm, 58, rfl⟩
abbrev main_v38 : Ref sig .tc := ⟨.hbm, 59, rfl⟩
abbrev main_v39 : Ref sig .tc := ⟨.hbm, 60, rfl⟩
abbrev main_c_11 : Ref sig .tc := ⟨.hbm, 61, rfl⟩
abbrev main_v40 : Ref sig .tc := ⟨.hbm, 62, rfl⟩
abbrev main_c_12 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_c_13 : Ref sig .tc := ⟨.hbm, 67, rfl⟩
abbrev main_v44 : Ref sig .tc := ⟨.hbm, 68, rfl⟩
abbrev main_v45 : Ref sig .tc := ⟨.hbm, 69, rfl⟩
abbrev main_c_14 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_c_15 : Ref sig .tc := ⟨.hbm, 74, rfl⟩
abbrev main_v49 : Ref sig .tc := ⟨.hbm, 75, rfl⟩
abbrev main_v50 : Ref sig .tc := ⟨.hbm, 76, rfl⟩
abbrev main_c_16 : Ref sig .tc := ⟨.hbm, 77, rfl⟩
abbrev main_v51 : Ref sig .tc := ⟨.hbm, 78, rfl⟩
abbrev main_c_17 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_cst : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_c_18 : Ref sig .tc := ⟨.hbm, 91, rfl⟩
abbrev main_v62 : Ref sig .tc := ⟨.hbm, 92, rfl⟩
abbrev main_v63 : Ref sig .tc := ⟨.hbm, 93, rfl⟩
abbrev main_v64 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_c_19 : Ref sig .tc := ⟨.hbm, 100, rfl⟩
abbrev main_v70 : Ref sig .tc := ⟨.hbm, 101, rfl⟩
abbrev main_v71 : Ref sig .tc := ⟨.hbm, 102, rfl⟩
abbrev main_cst_20 : Ref sig .tc := ⟨.hbm, 103, rfl⟩
abbrev main_call3_v0 : Ref sig .tc := ⟨.hbm, 104, rfl⟩
abbrev main_call3_v1 : Ref sig .tc := ⟨.hbm, 105, rfl⟩
abbrev main_call3_v2 : Ref sig .tc := ⟨.hbm, 106, rfl⟩
abbrev main_call3_v3 : Ref sig .tc := ⟨.hbm, 107, rfl⟩
abbrev main_v72 : Ref sig .tc := ⟨.hbm, 108, rfl⟩
abbrev main_cst_21 : Ref sig .tc := ⟨.hbm, 109, rfl⟩
abbrev main_v73 : Ref sig .tc := ⟨.hbm, 110, rfl⟩
abbrev main_cst_22 : Ref sig .tc := ⟨.hbm, 111, rfl⟩
abbrev main_v74 : Ref sig .tc := ⟨.hbm, 112, rfl⟩
abbrev main_v75 : Ref sig .tc := ⟨.hbm, 113, rfl⟩
abbrev main_v76 : Ref sig .tc := ⟨.hbm, 114, rfl⟩
abbrev main_v77 : Ref sig .tc := ⟨.hbm, 115, rfl⟩
abbrev main_v78 : Ref sig .tc := ⟨.hbm, 116, rfl⟩
abbrev main_v79 : Ref sig .tc := ⟨.hbm, 117, rfl⟩
abbrev main_cst_23 : Ref sig .tc := ⟨.hbm, 118, rfl⟩
abbrev main_v80 : Ref sig .tc := ⟨.hbm, 119, rfl⟩
abbrev main_v81 : Ref sig .tc := ⟨.hbm, 120, rfl⟩
abbrev main_v82 : Ref sig .tc := ⟨.hbm, 121, rfl⟩
abbrev main_v83 : Ref sig .tc := ⟨.hbm, 122, rfl⟩
abbrev main_v84 : Ref sig .tc := ⟨.hbm, 123, rfl⟩
abbrev main_v85 : Ref sig .tc := ⟨.hbm, 124, rfl⟩
abbrev main_v86 : Ref sig .tc := ⟨.hbm, 125, rfl⟩
abbrev main_v87 : Ref sig .tc := ⟨.hbm, 126, rfl⟩
abbrev main_v88 : Ref sig .tc := ⟨.hbm, 127, rfl⟩
abbrev main_v89 : Ref sig .tc := ⟨.hbm, 128, rfl⟩

abbrev nD : Nat := 1
abbrev τ : Topo := Topo.v7x

variable {F : FTy → Type} [FloatOps F]
-- ==== Kernel2.lean ====
abbrev S16384x2048 : Shape := ⟨2, ![16384, 2048]⟩
abbrev S1x2048 : Shape := ⟨2, ![1, 2048]⟩
abbrev S4x1x2048 : Shape := ⟨3, ![4, 1, 2048]⟩
abbrev S2048x9216 : Shape := ⟨2, ![2048, 9216]⟩
abbrev S2048x4096 : Shape := ⟨2, ![2048, 4096]⟩
abbrev S2048x5120 : Shape := ⟨2, ![2048, 5120]⟩
abbrev S16384x9216 : Shape := ⟨2, ![16384, 9216]⟩
abbrev S1024x2048 : Shape := ⟨2, ![1024, 2048]⟩
abbrev S1x1x2048 : Shape := ⟨3, ![1, 1, 2048]⟩
abbrev S2048x1024 : Shape := ⟨2, ![2048, 1024]⟩
abbrev S1024x1024 : Shape := ⟨2, ![1024, 1024]⟩
abbrev S1024 : Shape := ⟨1, ![1024]⟩
abbrev S1024x1 : Shape := ⟨2, ![1024, 1]⟩

abbrev nBuf : Space → Nat
  | .hbm => 10
  | .vmem => 12
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S2048x9216, .f32⟩
  | .hbm, ⟨5, _⟩ => ⟨S2048x4096, .f32⟩
  | .hbm, ⟨6, _⟩ => ⟨S2048x5120, .f32⟩
  | .hbm, ⟨7, _⟩ => ⟨S2048x9216, .f32⟩
  | .hbm, ⟨8, _⟩ => ⟨S2048x9216, .bf16⟩
  | .hbm, ⟨9, _⟩ => ⟨S16384x9216, .bf16⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1x1x2048, .f32⟩
  | .local _ .vmem, ⟨4, _⟩ => ⟨S1x1x2048, .f32⟩
  | .local _ .vmem, ⟨5, _⟩ => ⟨S1x1x2048, .f32⟩
  | .local _ .vmem, ⟨6, _⟩ => ⟨S1x1x2048, .f32⟩
  | .local _ .vmem, ⟨7, _⟩ => ⟨S2048x1024, .bf16⟩
  | .local _ .vmem, ⟨8, _⟩ => ⟨S2048x1024, .bf16⟩
  | .local _ .vmem, ⟨9, _⟩ => ⟨S1024x1024, .bf16⟩
  | .local _ .vmem, ⟨10, _⟩ => ⟨S1024x1024, .bf16⟩
  | .local _ .vmem, ⟨11, _⟩ => ⟨S1024x2048, .bf16⟩
  | _, _ => ⟨S16384x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![16, 9], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1x1x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S1x1x2048 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2048x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![false, true]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference2Ideal.lean ====
abbrev S16384x2048 : Shape := ⟨2, ![16384, 2048]⟩
abbrev S1x2048 : Shape := ⟨2, ![1, 2048]⟩
abbrev S4x1x2048 : Shape := ⟨3, ![4, 1, 2048]⟩
abbrev S2048x9216 : Shape := ⟨2, ![2048, 9216]⟩
abbrev S4x4096x2048 : Shape := ⟨3, ![4, 4096, 2048]⟩
abbrev S2048 : Shape := ⟨1, ![2048]⟩
abbrev S_ : Shape := ⟨0, ![]⟩
abbrev S4x4096 : Shape := ⟨2, ![4, 4096]⟩
abbrev S4x4096x1 : Shape := ⟨3, ![4, 4096, 1]⟩
abbrev S1x1x2048 : Shape := ⟨3, ![1, 1, 2048]⟩
abbrev S4x4096x9216 : Shape := ⟨3, ![4, 4096, 9216]⟩
abbrev S4x4096x4096 : Shape := ⟨3, ![4, 4096, 4096]⟩
abbrev S4x4096x5120 : Shape := ⟨3, ![4, 4096, 5120]⟩
abbrev S16384x9216 : Shape := ⟨2, ![16384, 9216]⟩

abbrev nBuf : Space → Nat
  | .hbm => 36
  | .vmem => 0
  | .smem => 0
  | _ => 0

abbrev bufTy : (tb : Table) → Fin (tcTables nBuf tb) → BufTy
  | .hbm, ⟨0, _⟩ => ⟨S16384x2048, .f32⟩
  | .hbm, ⟨1, _⟩ => ⟨S1x2048, .f32⟩
  | .hbm, ⟨2, _⟩ => ⟨S4x1x2048, .f32⟩
  | .hbm, ⟨3, _⟩ => ⟨S4x1x2048, .f32⟩
  | .hbm, ⟨4, _⟩ => ⟨S2048x9216, .f32⟩
  | .hbm, ⟨5, _⟩ => ⟨S4x4096x2048, .f32⟩
  | .hbm, ⟨6, _⟩ => ⟨S2048, .f32⟩
  | .hbm, ⟨7, _⟩ => ⟨S4x4096x2048, .f32⟩
  | .hbm, ⟨8, _⟩ => ⟨S_, .f32⟩
  | .hbm, ⟨9, _⟩ => ⟨S4x4096, .f32⟩
  | .hbm, ⟨10, _⟩ => ⟨S4x4096x1, .f32⟩
  | .hbm, ⟨11, _⟩ => ⟨S_, .f32⟩
  | .hbm, ⟨12, _⟩ => ⟨S4x4096x1, .f32⟩
  | .hbm, ⟨13, _⟩ => ⟨S4x4096x1, .f32⟩
  | .hbm, ⟨14, _⟩ => ⟨S_, .f32⟩
  | .hbm, ⟨15, _⟩ => ⟨S4x4096x1, .f32⟩
  | .hbm, ⟨16, _⟩ => ⟨S4x4096x1, .f32⟩
  | .hbm, ⟨17, _⟩ => ⟨S4x4096x1, .f32⟩
  | .hbm, ⟨18, _⟩ => ⟨S4x4096x2048, .f32⟩
  | .hbm, ⟨19, _⟩ => ⟨S4x4096x2048, .f32⟩
  | .hbm, ⟨20, _⟩ => ⟨S1x1x2048, .f32⟩
  | .hbm, ⟨21, _⟩ => ⟨S4x4096x2048, .f32⟩
  | .hbm, ⟨22, _⟩ => ⟨S4x4096x2048, .f32⟩
  | .hbm, ⟨23, _⟩ => ⟨S_, .f32⟩
  | .hbm, ⟨24, _⟩ => ⟨S4x1x2048, .f32⟩
  | .hbm, ⟨25, _⟩ => ⟨S4x1x2048, .f32⟩
  | .hbm, ⟨26, _⟩ => ⟨S4x4096x2048, .f32⟩
  | .hbm, ⟨27, _⟩ => ⟨S4x4096x2048, .f32⟩
  | .hbm, ⟨28, _⟩ => ⟨S4x4096x2048, .f32⟩
  | .hbm, ⟨29, _⟩ => ⟨S4x4096x2048, .f32⟩
  | .hbm, ⟨30, _⟩ => ⟨S4x4096x9216, .f32⟩
  | .hbm, ⟨31, _⟩ => ⟨S4x4096x4096, .f32⟩
  | .hbm, ⟨32, _⟩ => ⟨S4x4096x5120, .f32⟩
  | .hbm, ⟨33, _⟩ => ⟨S4x4096x9216, .f32⟩
  | .hbm, ⟨34, _⟩ => ⟨S16384x9216, .f32⟩
  | .hbm, ⟨35, _⟩ => ⟨S16384x9216, .bf16⟩
  | _, _ => ⟨S16384x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_cst : Ref sig .tc := ⟨.hbm, 8, rfl⟩
abbrev main_v3 : Ref sig .tc := ⟨.hbm, 9, rfl⟩
abbrev main_v4 : Ref sig .tc := ⟨.hbm, 10, rfl⟩
abbrev main_cst_0 : Ref sig .tc := ⟨.hbm, 11, rfl⟩
abbrev main_v5 : Ref sig .tc := ⟨.hbm, 12, rfl⟩
abbrev main_v6 : Ref sig .tc := ⟨.hbm, 13, rfl⟩
abbrev main_cst_1 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩

abbrev nD : Nat := 1
abbrev τ : Topo := Topo.v7x

variable {F : FTy → Type} [FloatOps F]
-- ==== Kernel3.lean ====
abbrev S16384x1024 : Shape := ⟨2, ![16384, 1024]⟩
abbrev S16384x9216 : Shape := ⟨2, ![16384, 9216]⟩
abbrev S16384x2048 : Shape := ⟨2, ![16384, 2048]⟩
abbrev S1024x2048 : Shape := ⟨2, ![1024, 2048]⟩
abbrev S2048x2048 : Shape := ⟨2, ![2048, 2048]⟩
abbrev S1x2048 : Shape := ⟨2, ![1, 2048]⟩
abbrev S4x1x2048 : Shape := ⟨3, ![4, 1, 2048]⟩
abbrev S2048x32 : Shape := ⟨2, ![2048, 32]⟩
abbrev S1x32 : Shape := ⟨2, ![1, 32]⟩
abbrev S16384x32 : Shape := ⟨2, ![16384, 32]⟩
abbrev S256x1024 : Shape := ⟨2, ![256, 1024]⟩
abbrev S256x2048 : Shape := ⟨2, ![256, 2048]⟩
abbrev S1x1x2048 : Shape := ⟨3, ![1, 1, 2048]⟩
abbrev S256x32 : Shape := ⟨2, ![256, 32]⟩
abbrev S256 : Shape := ⟨1, ![256]⟩
abbrev S256x1 : Shape := ⟨2, ![256, 1]⟩

abbrev nBuf : Space → Nat
  | .hbm => 21
  | .vmem => 29
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x9216, .bf16⟩
  | .hbm, ⟨3, _⟩ => ⟨S16384x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S1x2048, .f32⟩
  | .hbm, ⟨8, _⟩ => ⟨S4x1x2048, .f32⟩
  | .hbm, ⟨9, _⟩ => ⟨S1x2048, .f32⟩
  | .hbm, ⟨10, _⟩ => ⟨S4x1x2048, .f32⟩
  | .hbm, ⟨11, _⟩ => ⟨S4x1x2048, .f32⟩
  | .hbm, ⟨12, _⟩ => ⟨S2048x32, .f32⟩
  | .hbm, ⟨13, _⟩ => ⟨S1x32, .f32⟩
  | .hbm, ⟨14, _⟩ => ⟨S1024x2048, .bf16⟩
  | .hbm, ⟨15, _⟩ => ⟨S1024x2048, .bf16⟩
  | .hbm, ⟨16, _⟩ => ⟨S2048x2048, .bf16⟩
  | .hbm, ⟨17, _⟩ => ⟨S2048x32, .bf16⟩
  | .hbm, ⟨18, _⟩ => ⟨S16384x2048, .f32⟩
  | .hbm, ⟨19, _⟩ => ⟨S16384x2048, .bf16⟩
  | .hbm, ⟨20, _⟩ => ⟨S16384x32, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .bf16⟩
  | .local _ .vmem, ⟨11, _⟩ => ⟨S1024x2048, .bf16⟩
  | .local _ .vmem, ⟨12, _⟩ => ⟨S2048x2048, .bf16⟩
  | .local _ .vmem, ⟨13, _⟩ => ⟨S1x2048, .f32⟩
  | .local _ .vmem, ⟨14, _⟩ => ⟨S1x1x2048, .f32⟩
  | .local _ .vmem, ⟨15, _⟩ => ⟨S1x1x2048, .f32⟩
  | .local _ .vmem, ⟨16, _⟩ => ⟨S1x2048, .f32⟩
  | .local _ .vmem, ⟨17, _⟩ => ⟨S1x1x2048, .f32⟩
  | .local _ .vmem, ⟨18, _⟩ => ⟨S1x1x2048, .f32⟩
  | .local _ .vmem, ⟨19, _⟩ => ⟨S1x1x2048, .f32⟩
  | .local _ .vmem, ⟨20, _⟩ => ⟨S1x1x2048, .f32⟩
  | .local _ .vmem, ⟨21, _⟩ => ⟨S2048x32, .bf16⟩
  | .local _ .vmem, ⟨22, _⟩ => ⟨S1x32, .f32⟩
  | .local _ .vmem, ⟨23, _⟩ => ⟨S256x2048, .f32⟩
  | .local _ .vmem, ⟨24, _⟩ => ⟨S256x2048, .f32⟩
  | .local _ .vmem, ⟨25, _⟩ => ⟨S256x2048, .bf16⟩
  | .local _ .vmem, ⟨26, _⟩ => ⟨S256x2048, .bf16⟩
  | .local _ .vmem, ⟨27, _⟩ => ⟨S256x32, .f32⟩
  | .local _ .vmem, ⟨28, _⟩ => ⟨S256x32, .f32⟩
  | _, _ => ⟨S16384x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 29 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | _ => false

abbrev sig : RefSig :=
  ofTc nBuf bufTy 0 29 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4_0 : Ref sig .tc := ⟨.hbm, 18, rfl⟩
abbrev main_v4_1 : Ref sig .tc := ⟨.hbm, 19, rfl⟩
abbrev main_v4_2 : Ref sig .tc := ⟨.hbm, 20, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg9_1 : Ref sig .tc := ⟨.vmem, 15, rfl⟩
abbrev cc0_stg10_0 : Ref sig .tc := ⟨.vmem, 16, rfl⟩
abbrev cc0_stg11_0 : Ref sig .tc := ⟨.vmem, 17, rfl⟩
abbrev cc0_stg11_1 : Ref sig .tc := ⟨.vmem, 18, rfl⟩
abbrev cc0_stg12_0 : Ref sig .tc := ⟨.vmem, 19, rfl⟩
abbrev cc0_stg12_1 : Ref sig .tc := ⟨.vmem, 20, rfl⟩
abbrev cc0_stg13_0 : Ref sig .tc := ⟨.vmem, 21, rfl⟩
abbrev cc0_stg14_0 : Ref sig .tc := ⟨.vmem, 22, rfl⟩
abbrev cc0_stg15_0 : Ref sig .tc := ⟨.vmem, 23, rfl⟩
abbrev cc0_stg15_1 : Ref sig .tc := ⟨.vmem, 24, rfl⟩
abbrev cc0_stg16_0 : Ref sig .tc := ⟨.vmem, 25, rfl⟩
abbrev cc0_stg16_1 : Ref sig .tc := ⟨.vmem, 26, rfl⟩
abbrev cc0_stg17_0 : Ref sig .tc := ⟨.vmem, 27, rfl⟩
abbrev cc0_stg17_1 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem9_1 : DmaSem sig := 15
abbrev cc0_sem10_0 : DmaSem sig := 16
abbrev cc0_sem11_0 : DmaSem sig := 17
abbrev cc0_sem11_1 : DmaSem sig := 18
abbrev cc0_sem12_0 : DmaSem sig := 19
abbrev cc0_sem12_1 : DmaSem sig := 20
abbrev cc0_sem13_0 : DmaSem sig := 21
abbrev cc0_sem14_0 : DmaSem sig := 22
abbrev cc0_sem15_0 : DmaSem sig := 23
abbrev cc0_sem15_1 : DmaSem sig := 24
abbrev cc0_sem16_0 : DmaSem sig := 25
abbrev cc0_sem16_1 : DmaSem sig := 26
abbrev cc0_sem17_0 : DmaSem sig := 27
abbrev cc0_sem17_1 : DmaSem sig := 28

abbrev nD : Nat := 1
abbrev τ : Topo := Topo.v7x

variable {F : FTy → Type} [FloatOps F]

abbrev grid0 : Pipeline.Grid := ⟨1, ![64], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_12 (i : grid0.Coords) : Fin 3 → Nat :=
  let arg0 : BitVec 32 := BitVec.ofNat 32 (i 0).val
  let c256_i32 : BitVec 32 := 256#32
  let v0 : BitVec 32 := Scalar.muli arg0 c256_i32
  let c4096_i32 : BitVec 32 := 4096#32
  let v1 : BitVec 32 := Scalar.divsi v0 c4096_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c4096_i32 c0_i32_1
  let v8 : BitVec 32 := Scalar.extui v7
  let c0_i32_2 : BitVec 32 := 0#32
  let v9 : BitVec 1 := Scalar.cmpi .slt c4096_i32 c0_i32_2
  let v10 : BitVec 32 := Scalar.extui v9
  let v11 : BitVec 32 := Scalar.subi v8 v10
  let v12 : BitVec 1 := Scalar.cmpi .ne v6 v11
  let v13 : BitVec 32 := Scalar.remsi v0 c4096_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_13 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_14 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_15 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_16 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_17 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .bf16 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x2048 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x1x2048 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

abbrev stage0_10 : Fin 1 → Memref sig .tc .vmem S1x2048 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 2 → Memref sig .tc .vmem S1x1x2048 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true]

abbrev stage0_12 : Fin 2 → Memref sig .tc .vmem S1x1x2048 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

abbrev stage0_13 : Fin 1 → Memref sig .tc .vmem S2048x32 .bf16 := fun | 0 => Memref.whole cc0_stg13_0 | ⟨_ + 1, h⟩ => absurd h (Nat.not_lt.2 (Nat.le_add_left _ _))
abbrev sem0_13 : Fin 1 → DmaSem sig := fun | 0 => cc0_sem13_0 | ⟨_ + 1, h⟩ => absurd h (Nat.not_lt.2 (Nat.le_add_left _ _))
abbrev reads0_13 : Fin grid0.rank → Bool := ![false]

abbrev stage0_14 : Fin 1 → Memref sig .tc .vmem S1x32 .f32 := fun | 0 => Memref.whole cc0_stg14_0 | ⟨_ + 1, h⟩ => absurd h (Nat.not_lt.2 (Nat.le_add_left _ _))
abbrev sem0_14 : Fin 1 → DmaSem sig := fun | 0 => cc0_sem14_0 | ⟨_ + 1, h⟩ => absurd h (Nat.not_lt.2 (Nat.le_add_left _ _))
abbrev reads0_14 : Fin grid0.rank → Bool := ![false]

abbrev stage0_15 : Fin 2 → Memref sig .tc .vmem S256x2048 .f32 := fun | 0 => Memref.whole cc0_stg15_0 | 1 => Memref.whole cc0_stg15_1 | ⟨_ + 2, h⟩ => absurd h (Nat.not_lt.2 (Nat.le_add_left _ _))
abbrev sem0_15 : Fin 2 → DmaSem sig := fun | 0 => cc0_sem15_0 | 1 => cc0_sem15_1 | ⟨_ + 2, h⟩ => absurd h (Nat.not_lt.2 (Nat.le_add_left _ _))
abbrev reads0_15 : Fin grid0.rank → Bool := ![true]

abbrev stage0_16 : Fin 2 → Memref sig .tc .vmem S256x2048 .bf16 := fun | 0 => Memref.whole cc0_stg16_0 | 1 => Memref.whole cc0_stg16_1 | ⟨_ + 2, h⟩ => absurd h (Nat.not_lt.2 (Nat.le_add_left _ _))
abbrev sem0_16 : Fin 2 → DmaSem sig := fun | 0 => cc0_sem16_0 | 1 => cc0_sem16_1 | ⟨_ + 2, h⟩ => absurd h (Nat.not_lt.2 (Nat.le_add_left _ _))
abbrev reads0_16 : Fin grid0.rank → Bool := ![true]

abbrev stage0_17 : Fin 2 → Memref sig .tc .vmem S256x32 .f32 := fun | 0 => Memref.whole cc0_stg17_0 | 1 => Memref.whole cc0_stg17_1 | ⟨_ + 2, h⟩ => absurd h (Nat.not_lt.2 (Nat.le_add_left _ _))
abbrev sem0_17 : Fin 2 → DmaSem sig := fun | 0 => cc0_sem17_0 | 1 => cc0_sem17_1 | ⟨_ + 2, h⟩ => absurd h (Nat.not_lt.2 (Nat.le_add_left _ _))
abbrev reads0_17 : Fin grid0.rank → Bool := ![true]
-- ==== Reference3Ideal.lean ====
abbrev S16384x1024 : Shape := ⟨2, ![16384, 1024]⟩
abbrev S16384x9216 : Shape := ⟨2, ![16384, 9216]⟩
abbrev S16384x2048 : Shape := ⟨2, ![16384, 2048]⟩
abbrev S1024x2048 : Shape := ⟨2, ![1024, 2048]⟩
abbrev S2048x2048 : Shape := ⟨2, ![2048, 2048]⟩
abbrev S1x2048 : Shape := ⟨2, ![1, 2048]⟩
abbrev S4x1x2048 : Shape := ⟨3, ![4, 1, 2048]⟩
abbrev S2048x32 : Shape := ⟨2, ![2048, 32]⟩
abbrev S1x32 : Shape := ⟨2, ![1, 32]⟩
abbrev S4x4096x2048 : Shape := ⟨3, ![4, 4096, 2048]⟩
abbrev S4x4096x1024 : Shape := ⟨3, ![4, 4096, 1024]⟩
abbrev S_ : Shape := ⟨0, ![]⟩
abbrev S2048 : Shape := ⟨1, ![2048]⟩
abbrev S4x4096 : Shape := ⟨2, ![4, 4096]⟩
abbrev S4x4096x1 : Shape := ⟨3, ![4, 4096, 1]⟩
abbrev S1x1x2048 : Shape := ⟨3, ![1, 1, 2048]⟩
abbrev S16384x32 : Shape := ⟨2, ![16384, 32]⟩
abbrev S32 : Shape := ⟨1, ![32]⟩

abbrev nBuf : Space → Nat
  | .hbm => 99
  | .vmem => 0
  | .smem => 0
  | _ => 0

abbrev bufTy : (tb : Table) → Fin (tcTables nBuf tb) → BufTy
  | .hbm, ⟨0, _⟩ => ⟨S16384x1024, .bf16⟩
  | .hbm, ⟨1, _⟩ => ⟨S16384x1024, .bf16⟩
  | .hbm, ⟨2, _⟩ => ⟨S16384x9216, .bf16⟩
  | .hbm, ⟨3, _⟩ => ⟨S16384x2048, .f32⟩
  | .hbm, ⟨4, _⟩ => ⟨S1024x2048, .f32⟩
  | .hbm, ⟨5, _⟩ => ⟨S1024x2048, .f32⟩
  | .hbm, ⟨6, _⟩ => ⟨S2048x2048, .f32⟩
  | .hbm, ⟨7, _⟩ => ⟨S1x2048, .f32⟩
  | .hbm, ⟨8, _⟩ => ⟨S4x1x2048, .f32⟩
  | .hbm, ⟨9, _⟩ => ⟨S1x2048, .f32⟩
  | .hbm, ⟨10, _⟩ => ⟨S4x1x2048, .f32⟩
  | .hbm, ⟨11, _⟩ => ⟨S4x1x2048, .f32⟩
  | .hbm, ⟨12, _⟩ => ⟨S2048x32, .f32⟩
  | .hbm, ⟨13, _⟩ => ⟨S1x32, .f32⟩
  | .hbm, ⟨14, _⟩ => ⟨S16384x2048, .bf16⟩
  | .hbm, ⟨15, _⟩ => ⟨S4x4096x2048, .bf16⟩
  | .hbm, ⟨16, _⟩ => ⟨S16384x2048, .bf16⟩
  | .hbm, ⟨17, _⟩ => ⟨S4x4096x2048, .bf16⟩
  | .hbm, ⟨18, _⟩ => ⟨S4x4096x2048, .f32⟩
  | .hbm, ⟨19, _⟩ => ⟨S4x4096x2048, .f32⟩
  | .hbm, ⟨20, _⟩ => ⟨S4x4096x1024, .bf16⟩
  | .hbm, ⟨21, _⟩ => ⟨S4x4096x1024, .f32⟩
  | .hbm, ⟨22, _⟩ => ⟨S4x4096x2048, .f32⟩
  | .hbm, ⟨23, _⟩ => ⟨S4x4096x1024, .bf16⟩
  | .hbm, ⟨24, _⟩ => ⟨S4x4096x1024, .f32⟩
  | .hbm, ⟨25, _⟩ => ⟨S4x4096x2048, .f32⟩
  | .hbm, ⟨26, _⟩ => ⟨S4x4096x2048, .f32⟩
  | .hbm, ⟨27, _⟩ => ⟨S4x4096x2048, .f32⟩
  | .hbm, ⟨28, _⟩ => ⟨S_, .f32⟩
  | .hbm, ⟨29, _⟩ => ⟨S4x4096x2048, .f32⟩
  | .hbm, ⟨30, _⟩ => ⟨S4x4096x2048, .f32⟩
  | .hbm, ⟨31, _⟩ => ⟨S_, .f32⟩
  | .hbm, ⟨32, _⟩ => ⟨S4x4096x2048, .f32⟩
  | .hbm, ⟨33, _⟩ => ⟨S4x4096x2048, .f32⟩
  | .hbm, ⟨34, _⟩ => ⟨S4x4096x2048, .f32⟩
  | .hbm, ⟨35, _⟩ => ⟨S4x4096x2048, .f32⟩
  | .hbm, ⟨36, _⟩ => ⟨S4x4096x2048, .f32⟩
  | .hbm, ⟨37, _⟩ => ⟨S_, .f32⟩
  | .hbm, ⟨38, _⟩ => ⟨S4x4096x2048, .f32⟩
  | .hbm, ⟨39, _⟩ => ⟨S4x4096x2048, .f32⟩
  | .hbm, ⟨40, _⟩ => ⟨S_, .f32⟩
  | .hbm, ⟨41, _⟩ => ⟨S4x4096x2048, .f32⟩
  | .hbm, ⟨42, _⟩ => ⟨S4x4096x2048, .f32⟩
  | .hbm, ⟨43, _⟩ => ⟨S4x4096x2048, .f32⟩
  | .hbm, ⟨44, _⟩ => ⟨S4x4096x2048, .f32⟩
  | .hbm, ⟨45, _⟩ => ⟨S4x4096x2048, .f32⟩
  | .hbm, ⟨46, _⟩ => ⟨S4x4096x2048, .f32⟩
  | .hbm, ⟨47, _⟩ => ⟨S2048, .f32⟩
  | .hbm, ⟨48, _⟩ => ⟨S4x4096x2048, .f32⟩
  | .hbm, ⟨49, _⟩ => ⟨S_, .f32⟩
  | .hbm, ⟨50, _⟩ => ⟨S4x4096, .f32⟩
  | .hbm, ⟨51, _⟩ => ⟨S4x4096x1, .f32⟩
  | .hbm, ⟨52, _⟩ => ⟨S_, .f32⟩
  | .hbm, ⟨53, _⟩ => ⟨S4x4096x1, .f32⟩
  | .hbm, ⟨54, _⟩ => ⟨S4x4096x1, .f32⟩
  | .hbm, ⟨55, _⟩ => ⟨S_, .f32⟩
  | .hbm, ⟨56, _⟩ => ⟨S4x4096x1, .f32⟩
  | .hbm, ⟨57, _⟩ => ⟨S4x4096x1, .f32⟩
  | .hbm, ⟨58, _⟩ => ⟨S4x4096x1, .f32⟩
  | .hbm, ⟨59, _⟩ => ⟨S4x4096x2048, .f32⟩
  | .hbm, ⟨60, _⟩ => ⟨S4x4096x2048, .f32⟩
  | .hbm, ⟨61, _⟩ => ⟨S1x1x2048, .f32⟩
  | .hbm, ⟨62, _⟩ => ⟨S4x4096x2048, .f32⟩
  | .hbm, ⟨63, _⟩ => ⟨S4x4096x2048, .f32⟩
  | .hbm, ⟨64, _⟩ => ⟨S4x4096x2048, .f32⟩
  | .hbm, ⟨65, _⟩ => ⟨S4x4096x2048, .f32⟩
  | .hbm, ⟨66, _⟩ => ⟨S4x4096x2048, .f32⟩
  | .hbm, ⟨67, _⟩ => ⟨S2048, .f32⟩
  | .hbm, ⟨68, _⟩ => ⟨S4x4096x2048, .f32⟩
  | .hbm, ⟨69, _⟩ => ⟨S_, .f32⟩
  | .hbm, ⟨70, _⟩ => ⟨S4x4096, .f32⟩
  | .hbm, ⟨71, _⟩ => ⟨S4x4096x1, .f32⟩
  | .hbm, ⟨72, _⟩ => ⟨S_, .f32⟩
  | .hbm, ⟨73, _⟩ => ⟨S4x4096x1, .f32⟩
  | .hbm, ⟨74, _⟩ => ⟨S4x4096x1, .f32⟩
  | .hbm, ⟨75, _⟩ => ⟨S_, .f32⟩
  | .hbm, ⟨76, _⟩ => ⟨S4x4096x1, .f32⟩
  | .hbm, ⟨77, _⟩ => ⟨S4x4096x1, .f32⟩
  | .hbm, ⟨78, _⟩ => ⟨S4x4096x1, .f32⟩
  | .hbm, ⟨79, _⟩ => ⟨S4x4096x2048, .f32⟩
  | .hbm, ⟨80, _⟩ => ⟨S4x4096x2048, .f32⟩
  | .hbm, ⟨81, _⟩ => ⟨S1x1x2048, .f32⟩
  | .hbm, ⟨82, _⟩ => ⟨S4x4096x2048, .f32⟩
  | .hbm, ⟨83, _⟩ => ⟨S4x4096x2048, .f32⟩
  | .hbm, ⟨84, _⟩ => ⟨S_, .f32⟩
  | .hbm, ⟨85, _⟩ => ⟨S4x1x2048, .f32⟩
  | .hbm, ⟨86, _⟩ => ⟨S4x1x2048, .f32⟩
  | .hbm, ⟨87, _⟩ => ⟨S4x4096x2048, .f32⟩
  | .hbm, ⟨88, _⟩ => ⟨S4x4096x2048, .f32⟩
  | .hbm, ⟨89, _⟩ => ⟨S4x4096x2048, .f32⟩
  | .hbm, ⟨90, _⟩ => ⟨S4x4096x2048, .f32⟩
  | .hbm, ⟨91, _⟩ => ⟨S16384x2048, .f32⟩
  | .hbm, ⟨92, _⟩ => ⟨S16384x32, .f32⟩
  | .hbm, ⟨93, _⟩ => ⟨S32, .f32⟩
  | .hbm, ⟨94, _⟩ => ⟨S1x32, .f32⟩
  | .hbm, ⟨95, _⟩ => ⟨S16384x32, .f32⟩
  | .hbm, ⟨96, _⟩ => ⟨S16384x32, .f32⟩
  | .hbm, ⟨97, _⟩ => ⟨S16384x2048, .f32⟩
  | .hbm, ⟨98, _⟩ => ⟨S16384x2048, .bf16⟩
  | _, _ => ⟨S16384x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_cst : Ref sig .tc := ⟨.hbm, 28, rfl⟩
abbrev main_v14 : Ref sig .tc := ⟨.hbm, 29, rfl⟩
abbrev main_v15 : Ref sig .tc := ⟨.hbm, 30, rfl⟩
abbrev main_cst_0 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_cst_1 : Ref sig .tc := ⟨.hbm, 37, rfl⟩
abbrev main_v21 : Ref sig .tc := ⟨.hbm, 38, rfl⟩
abbrev main_v22 : Ref sig .tc := ⟨.hbm, 39, rfl⟩
abbrev main_cst_2 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_3 : Ref sig .tc := ⟨.hbm, 49, rfl⟩
abbrev main_v31 : Ref sig .tc := ⟨.hbm, 50, rfl⟩
abbrev main_v32 : Ref sig .tc := ⟨.hbm, 51, rfl⟩
abbrev main_cst_4 : Ref sig .tc := ⟨.hbm, 52, rfl⟩
abbrev main_v33 : Ref sig .tc := ⟨.hbm, 53, rfl⟩
abbrev main_v34 : Ref sig .tc := ⟨.hbm, 54, rfl⟩
abbrev main_cst_5 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_6 : Ref sig .tc := ⟨.hbm, 69, rfl⟩
abbrev main_v48 : Ref sig .tc := ⟨.hbm, 70, rfl⟩
abbrev main_v49 : Ref sig .tc := ⟨.hbm, 71, rfl⟩
abbrev main_cst_7 : Ref sig .tc := ⟨.hbm, 72, rfl⟩
abbrev main_v50 : Ref sig .tc := ⟨.hbm, 73, rfl⟩
abbrev main_v51 : Ref sig .tc := ⟨.hbm, 74, rfl⟩
abbrev main_cst_8 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_cst_9 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_v69 : Ref sig .tc := ⟨.hbm, 94, rfl⟩
abbrev main_v70 : Ref sig .tc := ⟨.hbm, 95, rfl⟩
abbrev main_v71 : Ref sig .tc := ⟨.hbm, 96, rfl⟩
abbrev main_v72 : Ref sig .tc := ⟨.hbm, 97, rfl⟩
abbrev main_v73 : Ref sig .tc := ⟨.hbm, 98, rfl⟩

abbrev nD : Nat := 1
abbrev τ : Topo := Topo.v7x

variable {F : FTy → Type} [FloatOps F]
-- ==== Kernel4.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x2048 : Shape := ⟨2, ![32, 2048]⟩
abbrev S_ : Shape := ⟨0, ![]⟩
abbrev S288x1 : Shape := ⟨2, ![288, 1]⟩
abbrev S32x1x2048 : Shape := ⟨3, ![32, 1, 2048]⟩
abbrev S256x2048 : Shape := ⟨2, ![256, 2048]⟩
abbrev S1x2048x512 : Shape := ⟨3, ![1, 2048, 512]⟩
abbrev S1x1x512 : Shape := ⟨3, ![1, 1, 512]⟩
abbrev S256x512 : Shape := ⟨2, ![256, 512]⟩
abbrev S2048x512 : Shape := ⟨2, ![2048, 512]⟩
abbrev S1x512 : Shape := ⟨2, ![1, 512]⟩

abbrev nBuf : Space → Nat
  | .hbm => 19
  | .vmem => 9
  | .smem => 3
  | _ => 0

abbrev bufTy : (tb : Table) → Fin (tcTables nBuf tb) → BufTy
  | .hbm, ⟨0, _⟩ => ⟨S73728x2048, .bf16⟩
  | .hbm, ⟨1, _⟩ => ⟨S32x2048x2048, .f32⟩
  | .hbm, ⟨2, _⟩ => ⟨S32x2048, .f32⟩
  | .hbm, ⟨3, _⟩ => ⟨S288, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S288, .i32⟩
  | .hbm, ⟨8, _⟩ => ⟨S288, .i32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S32x1x2048, .f32⟩
  | .hbm, ⟨18, _⟩ => ⟨S73728x2048, .f32⟩
  | .local _ .vmem, ⟨0, _⟩ => ⟨S256x2048, .bf16⟩
  | .local _ .vmem, ⟨1, _⟩ => ⟨S256x2048, .bf16⟩
  | .local _ .vmem, ⟨2, _⟩ => ⟨S1x2048x512, .f32⟩
  | .local _ .vmem, ⟨3, _⟩ => ⟨S1x2048x512, .f32⟩
  | .local _ .vmem, ⟨4, _⟩ => ⟨S1x1x512, .f32⟩
  | .local _ .vmem, ⟨5, _⟩ => ⟨S1x1x512, .f32⟩
  | .local _ .vmem, ⟨6, _⟩ => ⟨S256x512, .f32⟩
  | .local _ .vmem, ⟨7, _⟩ => ⟨S256x512, .f32⟩
  | .local _ .vmem, ⟨8, _⟩ => ⟨S2048x512, .bf16⟩
  | .local _ .smem, ⟨0, _⟩ => ⟨S288, .i32⟩
  | .local _ .smem, ⟨1, _⟩ => ⟨S1, .i32⟩
  | .local _ .smem, ⟨2, _⟩ => ⟨S288, .i32⟩
  | _, _ => ⟨S73728x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_v13 : Ref sig .tc := ⟨.hbm, 18, rfl⟩
abbrev main_arg0 : Ref sig .tc := ⟨.smem, 0, rfl⟩
abbrev main_arg1 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_scratch0 : Ref sig .tc := ⟨.vmem, 8, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 288], ![false, false]⟩

abbrev pre0 : Pipeline.Prefetch sig := ⟨3, ![main_arg0.idx, main_arg1.idx, main_v11.idx], fun | 0 => main_arg0.names | 1 => main_arg1.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v4 : BitVec 32 := Scalar.subi arg1 c1_i32
  let c0_i32_0 : BitVec 32 := 0#32
  let v5 : BitVec 32 := Scalar.maxsi v4 c0_i32_0
  let v6 : Index := Scalar.indexCast v5
  ![v6.toNat]
def k0_off3 (i : grid0.Coords) : Fin 1 → Nat :=
  let arg1 : BitVec 32 := BitVec.ofNat 32 (i 1).val
  let v9 : Index := Scalar.indexCast arg1
  ![v9.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_3 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S256x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S256x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference4Ideal.lean ====
abbrev S288 : Shape := ⟨1, ![288]⟩
abbrev S1 : Shape := ⟨1, ![1]⟩
abbrev S73728x2048 : Shape := ⟨2, ![73728, 2048]⟩
abbrev S32x2048x2048 : Shape := ⟨3, ![32, 2048, 2048]⟩
abbrev S32x2048 : Shape := ⟨2, ![32, 2048]⟩
abbrev S288x256x2048 : Shape := ⟨3, ![288, 256, 2048]⟩
abbrev S_ : Shape := ⟨0, ![]⟩
abbrev S288x1 : Shape := ⟨2, ![288, 1]⟩
abbrev S288x2048x2048 : Shape := ⟨3, ![288, 2048, 2048]⟩
abbrev S288x2048 : Shape := ⟨2, ![288, 2048]⟩
abbrev S288x1x2048 : Shape := ⟨3, ![288, 1, 2048]⟩

abbrev nBuf : Space → Nat
  | .hbm => 30
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x2048, .bf16⟩
  | .hbm, ⟨3, _⟩ => ⟨S32x2048x2048, .f32⟩
  | .hbm, ⟨4, _⟩ => ⟨S32x2048, .f32⟩
  | .hbm, ⟨5, _⟩ => ⟨S288x256x2048, .bf16⟩
  | .hbm, ⟨6, _⟩ => ⟨S288x256x2048, .f32⟩
  | .hbm, ⟨7, _⟩ => ⟨S_, .i32⟩
  | .hbm, ⟨8, _⟩ => ⟨S288, .i32⟩
  | .hbm, ⟨9, _⟩ => ⟨S288, .i1⟩
  | .hbm, ⟨10, _⟩ => ⟨S_, .i32⟩
  | .hbm, ⟨11, _⟩ => ⟨S288, .i32⟩
  | .hbm, ⟨12, _⟩ => ⟨S288, .i32⟩
  | .hbm, ⟨13, _⟩ => ⟨S288, .i32⟩
  | .hbm, ⟨14, _⟩ => ⟨S288x1, .i32⟩
  | .hbm, ⟨15, _⟩ => ⟨S288x2048x2048, .f32⟩
  | .hbm, ⟨16, _⟩ => ⟨S288x256x2048, .f32⟩
  | .hbm, ⟨17, _⟩ => ⟨S_, .i32⟩
  | .hbm, ⟨18, _⟩ => ⟨S288, .i32⟩
  | .hbm, ⟨19, _⟩ => ⟨S288, .i1⟩
  | .hbm, ⟨20, _⟩ => ⟨S_, .i32⟩
  | .hbm, ⟨21, _⟩ => ⟨S288, .i32⟩
  | .hbm, ⟨22, _⟩ => ⟨S288, .i32⟩
  | .hbm, ⟨23, _⟩ => ⟨S288, .i32⟩
  | .hbm, ⟨24, _⟩ => ⟨S288x1, .i32⟩
  | .hbm, ⟨25, _⟩ => ⟨S288x2048, .f32⟩
  | .hbm, ⟨26, _⟩ => ⟨S288x1x2048, .f32⟩
  | .hbm, ⟨27, _⟩ => ⟨S288x256x2048, .f32⟩
  | .hbm, ⟨28, _⟩ => ⟨S288x256x2048, .f32⟩
  | .hbm, ⟨29, _⟩ => ⟨S73728x2048, .f32⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_c : Ref sig .tc := ⟨.hbm, 7, rfl⟩
abbrev main_v2 : Ref sig .tc := ⟨.hbm, 8, rfl⟩
abbrev main_v3 : Ref sig .tc := ⟨.hbm, 9, rfl⟩
abbrev main_c_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_c_1 : Ref sig .tc := ⟨.hbm, 17, rfl⟩
abbrev main_v10 : Ref sig .tc := ⟨.hbm, 18, rfl⟩
abbrev main_v11 : Ref sig .tc := ⟨.hbm, 19, rfl⟩
abbrev main_c_2 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩

abbrev nD : Nat := 1
abbrev τ : Topo := Topo.v7x

variable {F : FTy → Type} [FloatOps F]
-- ==== Kernel5.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x4096 : Shape := ⟨2, ![32, 4096]⟩
abbrev S_ : Shape := ⟨0, ![]⟩
abbrev S288x1 : Shape := ⟨2, ![288, 1]⟩
abbrev S32x1x4096 : Shape := ⟨3, ![32, 1, 4096]⟩
abbrev S73728x2048 : Shape := ⟨2, ![73728, 2048]⟩
abbrev S256x1024 : Shape := ⟨2, ![256, 1024]⟩
abbrev S1x2048x512 : Shape := ⟨3, ![1, 2048, 512]⟩
abbrev S1x1x512 : Shape := ⟨3, ![1, 1, 512]⟩
abbrev S256x512 : Shape := ⟨2, ![256, 512]⟩
abbrev S2048x512 : Shape := ⟨2, ![2048, 512]⟩
abbrev S1024x512 : Shape := ⟨2, ![1024, 512]⟩
abbrev S1x512 : Shape := ⟨2, ![1, 512]⟩

abbrev nBuf : Space → Nat
  | .hbm => 19
  | .vmem => 14
  | .smem => 3
  | _ => 0

abbrev bufTy : (tb : Table) → Fin (tcTables nBuf tb) → BufTy
  | .hbm, ⟨0, _⟩ => ⟨S73728x1024, .i32⟩
  | .hbm, ⟨1, _⟩ => ⟨S32x2048x4096, .f32⟩
  | .hbm, ⟨2, _⟩ => ⟨S32x4096, .f32⟩
  | .hbm, ⟨3, _⟩ => ⟨S288, .i32⟩
  | .hbm, ⟨4, _⟩ => ⟨S_, .i32⟩
  | .hbm, ⟨5, _⟩ => ⟨S_, .i32⟩
  | .hbm, ⟨6, _⟩ => ⟨S_, .i32⟩
  | .hbm, ⟨7, _⟩ => ⟨S288, .i32⟩
  | .hbm, ⟨8, _⟩ => ⟨S288, .i32⟩
  | .hbm, ⟨9, _⟩ => ⟨S_, .i32⟩
  | .hbm, ⟨10, _⟩ => ⟨S288, .i32⟩
  | .hbm, ⟨11, _⟩ => ⟨S288, .i1⟩
  | .hbm, ⟨12, _⟩ => ⟨S_, .i32⟩
  | .hbm, ⟨13, _⟩ => ⟨S288, .i32⟩
  | .hbm, ⟨14, _⟩ => ⟨S288, .i32⟩
  | .hbm, ⟨15, _⟩ => ⟨S288, .i32⟩
  | .hbm, ⟨16, _⟩ => ⟨S288x1, .i32⟩
  | .hbm, ⟨17, _⟩ => ⟨S32x1x4096, .f32⟩
  | .hbm, ⟨18, _⟩ => ⟨S73728x2048, .bf16⟩
  | .local _ .vmem, ⟨0, _⟩ => ⟨S256x1024, .i32⟩
  | .local _ .vmem, ⟨1, _⟩ => ⟨S256x1024, .i32⟩
  | .local _ .vmem, ⟨2, _⟩ => ⟨S1x2048x512, .f32⟩
  | .local _ .vmem, ⟨3, _⟩ => ⟨S1x2048x512, .f32⟩
  | .local _ .vmem, ⟨4, _⟩ => ⟨S1x2048x512, .f32⟩
  | .local _ .vmem, ⟨5, _⟩ => ⟨S1x2048x512, .f32⟩
  | .local _ .vmem, ⟨6, _⟩ => ⟨S1x1x512, .f32⟩
  | .local _ .vmem, ⟨7, _⟩ => ⟨S1x1x512, .f32⟩
  | .local _ .vmem, ⟨8, _⟩ => ⟨S1x1x512, .f32⟩
  | .local _ .vmem, ⟨9, _⟩ => ⟨S1x1x512, .f32⟩
  | .local _ .vmem, ⟨10, _⟩ => ⟨S256x512, .bf16⟩
  | .local _ .vmem, ⟨11, _⟩ => ⟨S256x512, .bf16⟩
  | .local _ .vmem, ⟨12, _⟩ => ⟨S2048x512, .bf16⟩
  | .local _ .vmem, ⟨13, _⟩ => ⟨S2048x512, .bf16⟩
  | .local _ .smem, ⟨0, _⟩ => ⟨S288, .i32⟩
  | .local _ .smem, ⟨1, _⟩ => ⟨S1, .i32⟩
  | .local _ .smem, ⟨2, _⟩ => ⟨S288, .i32⟩
  | _, _ => ⟨S73728x1024, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg2 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_v1 : Ref sig .tc := ⟨.hbm, 4, rfl⟩
abbrev main_c : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_c_0 : Ref sig .tc := ⟨.hbm, 9, rfl⟩
abbrev main_v5 : Ref sig .tc := ⟨.hbm, 10, rfl⟩
abbrev main_v6 : Ref sig .tc := ⟨.hbm, 11, rfl⟩
abbrev main_c_1 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v12 : Ref sig .tc := ⟨.hbm, 17, rfl⟩
abbrev main_v13 : Ref sig .tc := ⟨.hbm, 18, rfl⟩
abbrev main_arg0 : Ref sig .tc := ⟨.smem, 0, rfl⟩
abbrev main_arg1 : Ref sig .tc := ⟨.smem, 1, rfl⟩
abbrev main_v11 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_scratch0 : Ref sig .tc := ⟨.vmem, 12, rfl⟩
abbrev cc0_scratch1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11

abbrev nD : Nat := 1
abbrev τ : Topo := Topo.v7x

variable {F : FTy → Type} [FloatOps F]

abbrev grid0 : Pipeline.Grid := ⟨2, ![4, 288], ![false, false]⟩

abbrev pre0 : Pipeline.Prefetch sig := ⟨3, ![main_arg0.idx, main_arg1.idx, main_v11.idx], fun | 0 => main_arg0.names | 1 => main_arg1.names | 2 => main_v11.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def k0_off2 (i : grid0.Coords) : Fin 1 → Nat :=
  let arg1 : BitVec 32 := BitVec.ofNat 32 (i 1).val
  let c1_i32 : BitVec 32 := 1#32
  let v4 : BitVec 32 := Scalar.subi arg1 c1_i32
  let c0_i32_0 : BitVec 32 := 0#32
  let v5 : BitVec 32 := Scalar.maxsi v4 c0_i32_0
  let v6 : Index := Scalar.indexCast v5
  ![v6.toNat]
def k0_off3 (i : grid0.Coords) : Fin 1 → Nat :=
  let arg1 : BitVec 32 := BitVec.ofNat 32 (i 1).val
  let v9 : Index := Scalar.indexCast arg1
  ![v9.toNat]
def k0_cond1 (i : grid0.Coords) (v0 : BitVec 32) : BitVec 1 :=
  let arg1 : BitVec 32 := BitVec.ofNat 32 (i 1).val
  let v1 : BitVec 1 := Scalar.cmpi .slt arg1 v0
  let v2 : BitVec 32 := Scalar.extui v1
  let c0_i32 : BitVec 32 := 0#32
  let v3 : BitVec 1 := Scalar.cmpi .ne v2 c0_i32
  v3

def cc0_transform_0 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  let c0_i32_0 : BitVec 32 := 0#32
  ![v2.toNat, c0_i32.toNat]

def cc0_transform_1 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_3 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c0_i32 : BitVec 32 := 0#32
  let c0_i32_0 : BitVec 32 := 0#32
  ![v1.toNat, c0_i32.toNat, arg0.toNat]

def cc0_transform_4 (k0_off1_inb : ∀ i : grid0.Coords, ∀ a, (k0_off1 i) a + S1.size a ≤ S288.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 2 (Rect.unit (s := S288) ![v0.toNat] S1.size (k0_off1_inb i)) numel1_S1
  let c4_i32 : BitVec 32 := 4#32
  let v2 : BitVec 32 := Scalar.addi c4_i32 arg0
  let c0_i32 : BitVec 32 := 0#32
  let c0_i32_0 : BitVec 32 := 0#32
  ![v1.toNat, c0_i32.toNat, v2.toNat]

def cc0_transform_5 (inb_S1_S1_0 : ∀ a, (![0] : Fin 1 → Nat) a + S1.size a ≤ S1.size a) (numel1_S1 : S1.numel = 1) (pf : pre0.Contents (Elt F)) (i : grid0.Coords) : Fin 2 → Nat :=
  let arg0 : BitVec 32 := BitVec.ofNat 32 (i 0).val
  let arg1 : BitVec 32 := BitVec.ofNat 32 (i 1).val
  let c0 : Index := 0#32
  let v0 : BitVec 32 := pf.at 1 (Rect.unit (s := S1) ![0] S1.size inb_S1_S1_0) numel1_S1
  let c1_i32 : BitVec 32 := 1#32
  let v1 : BitVec 32 := Scalar.subi v0 c1_i32
  let v2 : BitVec 32 := Scalar.minsi arg1 v1
  let c0_i32 : BitVec 32 := 0#32
  ![v2.toNat, arg0.toNat]

abbrev stage0_0 : Fin 2 → Memref sig .tc .vmem S256x1024 .i32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1x1x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S256x512 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]
-- ==== Reference5Ideal.lean ====
abbrev S288 : Shape := ⟨1, ![288]⟩
abbrev S1 : Shape := ⟨1, ![1]⟩
abbrev S73728x1024 : Shape := ⟨2, ![73728, 1024]⟩
abbrev S32x2048x4096 : Shape := ⟨3, ![32, 2048, 4096]⟩
abbrev S32x4096 : Shape := ⟨2, ![32, 4096]⟩
abbrev S_ : Shape := ⟨0, ![]⟩
abbrev S73728x2048 : Shape := ⟨2, ![73728, 2048]⟩
abbrev S288x256x2048 : Shape := ⟨3, ![288, 256, 2048]⟩
abbrev S288x1 : Shape := ⟨2, ![288, 1]⟩
abbrev S288x2048x4096 : Shape := ⟨3, ![288, 2048, 4096]⟩
abbrev S288x256x4096 : Shape := ⟨3, ![288, 256, 4096]⟩
abbrev S288x4096 : Shape := ⟨2, ![288, 4096]⟩
abbrev S288x1x4096 : Shape := ⟨3, ![288, 1, 4096]⟩

abbrev nBuf : Space → Nat
  | .hbm => 68
  | .vmem => 0
  | .smem => 0
  | _ => 0

abbrev bufTy : (tb : Table) → Fin (tcTables nBuf tb) → BufTy
  | .hbm, ⟨0, _⟩ => ⟨S288, .i32⟩
  | .hbm, ⟨1, _⟩ => ⟨S1, .i32⟩
  | .hbm, ⟨2, _⟩ => ⟨S73728x1024, .i32⟩
  | .hbm, ⟨3, _⟩ => ⟨S32x2048x4096, .f32⟩
  | .hbm, ⟨4, _⟩ => ⟨S32x4096, .f32⟩
  | .hbm, ⟨5, _⟩ => ⟨S_, .i32⟩
  | .hbm, ⟨6, _⟩ => ⟨S73728x1024, .i32⟩
  | .hbm, ⟨7, _⟩ => ⟨S73728x1024, .i32⟩
  | .hbm, ⟨8, _⟩ => ⟨S73728x1024, .f32⟩
  | .hbm, ⟨9, _⟩ => ⟨S_, .i32⟩
  | .hbm, ⟨10, _⟩ => ⟨S73728x1024, .i32⟩
  | .hbm, ⟨11, _⟩ => ⟨S73728x1024, .i32⟩
  | .hbm, ⟨12, _⟩ => ⟨S73728x1024, .f32⟩
  | .hbm, ⟨13, _⟩ => ⟨S73728x2048, .f32⟩
  | .hbm, ⟨14, _⟩ => ⟨S288x256x2048, .f32⟩
  | .hbm, ⟨15, _⟩ => ⟨S_, .i32⟩
  | .hbm, ⟨16, _⟩ => ⟨S288, .i32⟩
  | .hbm, ⟨17, _⟩ => ⟨S288, .i1⟩
  | .hbm, ⟨18, _⟩ => ⟨S_, .i32⟩
  | .hbm, ⟨19, _⟩ => ⟨S288, .i32⟩
  | .hbm, ⟨20, _⟩ => ⟨S288, .i32⟩
  | .hbm, ⟨21, _⟩ => ⟨S288, .i32⟩
  | .hbm, ⟨22, _⟩ => ⟨S288x1, .i32⟩
  | .hbm, ⟨23, _⟩ => ⟨S288x2048x4096, .f32⟩
  | .hbm, ⟨24, _⟩ => ⟨S288x256x4096, .f32⟩
  | .hbm, ⟨25, _⟩ => ⟨S_, .i32⟩
  | .hbm, ⟨26, _⟩ => ⟨S288, .i32⟩
  | .hbm, ⟨27, _⟩ => ⟨S288, .i1⟩
  | .hbm, ⟨28, _⟩ => ⟨S_, .i32⟩
  | .hbm, ⟨29, _⟩ => ⟨S288, .i32⟩
  | .hbm, ⟨30, _⟩ => ⟨S288, .i32⟩
  | .hbm, ⟨31, _⟩ => ⟨S288, .i32⟩
  | .hbm, ⟨32, _⟩ => ⟨S288x1, .i32⟩
  | .hbm, ⟨33, _⟩ => ⟨S288x4096, .f32⟩
  | .hbm, ⟨34, _⟩ => ⟨S288x1x4096, .f32⟩
  | .hbm, ⟨35, _⟩ => ⟨S288x256x4096, .f32⟩
  | .hbm, ⟨36, _⟩ => ⟨S288x256x4096, .f32⟩
  | .hbm, ⟨37, _⟩ => ⟨S288x256x2048, .f32⟩
  | .hbm, ⟨38, _⟩ => ⟨S288x256x2048, .f32⟩
  | .hbm, ⟨39, _⟩ => ⟨S_, .f32⟩
  | .hbm, ⟨40, _⟩ => ⟨S288x256x2048, .f32⟩
  | .hbm, ⟨41, _⟩ => ⟨S288x256x2048, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S288x256x2048, .f32⟩
  | .hbm, ⟨46, _⟩ => ⟨S288x256x2048, .f32⟩
  | .hbm, ⟨47, _⟩ => ⟨S_, .f32⟩
  | .hbm, ⟨48, _⟩ => ⟨S288x256x2048, .f32⟩
  | .hbm, ⟨49, _⟩ => ⟨S288x256x2048, .f32⟩
  | .hbm, ⟨50, _⟩ => ⟨S_, .f32⟩
  | .hbm, ⟨51, _⟩ => ⟨S288x256x2048, .f32⟩
  | .hbm, ⟨52, _⟩ => ⟨S288x256x2048, .f32⟩
  | .hbm, ⟨53, _⟩ => ⟨S288x256x2048, .f32⟩
  | .hbm, ⟨54, _⟩ => ⟨S288x256x2048, .f32⟩
  | .hbm, ⟨55, _⟩ => ⟨S_, .f32⟩
  | .hbm, ⟨56, _⟩ => ⟨S288x256x2048, .f32⟩
  | .hbm, ⟨57, _⟩ => ⟨S288x256x2048, .f32⟩
  | .hbm, ⟨58, _⟩ => ⟨S_, .f32⟩
  | .hbm, ⟨59, _⟩ => ⟨S288x256x2048, .f32⟩
  | .hbm, ⟨60, _⟩ => ⟨S288x256x2048, .f32⟩
  | .hbm, ⟨61, _⟩ => ⟨S288x256x2048, .f32⟩
  | .hbm, ⟨62, _⟩ => ⟨S_, .f32⟩
  | .hbm, ⟨63, _⟩ => ⟨S288x256x2048, .f32⟩
  | .hbm, ⟨64, _⟩ => ⟨S288x256x2048, .f32⟩
  | .hbm, ⟨65, _⟩ => ⟨S288x256x2048, .f32⟩
  | .hbm, ⟨66, _⟩ => ⟨S73728x2048, .f32⟩
  | .hbm, ⟨67, _⟩ => ⟨S73728x2048, .bf16⟩
  | _, _ => ⟨S288, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_c_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_c_1 : Ref sig .tc := ⟨.hbm, 15, rfl⟩
abbrev main_v8 : Ref sig .tc := ⟨.hbm, 16, rfl⟩
abbrev main_v9 : Ref sig .tc := ⟨.hbm, 17, rfl⟩
abbrev main_c_2 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_c_3 : Ref sig .tc := ⟨.hbm, 25, rfl⟩
abbrev main_v16 : Ref sig .tc := ⟨.hbm, 26, rfl⟩
abbrev main_v17 : Ref sig .tc := ⟨.hbm, 27, rfl⟩
abbrev main_c_4 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_cst : Ref sig .tc := ⟨.hbm, 39, rfl⟩
abbrev main_v28 : Ref sig .tc := ⟨.hbm, 40, rfl⟩
abbrev main_v29 : Ref sig .tc := ⟨.hbm, 41, rfl⟩
abbrev main_cst_5 : Ref sig .tc := ⟨.hbm, 42, rfl⟩
abbrev main_cst_6 : Ref sig .tc := ⟨.hbm, 43, rfl⟩
abbrev main_call0_v0 : Ref sig .tc := ⟨.hbm, 44, rfl⟩
abbrev main_call0_v1 : Ref sig .tc := ⟨.hbm, 45, rfl⟩
abbrev main_call0_v2 : Ref sig .tc := ⟨.hbm, 46, rfl⟩
abbrev main_call0_v3 : Ref sig .tc := ⟨.hbm, 47, rfl⟩
abbrev main_call0_v4 : Ref sig .tc := ⟨.hbm, 48, rfl⟩
abbrev main_v30 : Ref sig .tc := ⟨.hbm, 49, rfl⟩
abbrev main_cst_7 : Ref sig .tc := ⟨.hbm, 50, rfl⟩
abbrev main_v31 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_cst_8 : Ref sig .tc := ⟨.hbm, 55, rfl⟩
abbrev main_v35 : Ref sig .tc := ⟨.hbm, 56, rfl⟩
abbrev main_v36 : Ref sig .tc := ⟨.hbm, 57, rfl⟩
abbrev main_cst_9 : Ref sig .tc := ⟨.hbm, 58, rfl⟩
abbrev main_v37 : Ref sig .tc := ⟨.hbm, 59, rfl⟩
abbrev main_v38 : Ref sig .tc := ⟨.hbm, 60, rfl⟩
abbrev main_v39 : Ref sig .tc := ⟨.hbm, 61, rfl⟩
abbrev main_cst_10 : Ref sig .tc := ⟨.hbm, 62, rfl⟩
abbrev main_v40 : Ref sig .tc := ⟨.hbm, 63, rfl⟩
abbrev main_v41 : Ref sig .tc := ⟨.hbm, 64, rfl⟩
abbrev main_v42 : Ref sig .tc := ⟨.hbm, 65, rfl⟩
abbrev main_v43 : Ref sig .tc := ⟨.hbm, 66, rfl⟩
abbrev main_v44 : Ref sig .tc := ⟨.hbm, 67, rfl⟩

abbrev nD : Nat := 1
abbrev τ : Topo := Topo.v7x

variable {F : FTy → Type} [FloatOps F]
-- ==== Kernel6.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S8x2048 : Shape := ⟨2, ![8, 2048]⟩
abbrev S1x12288 : Shape := ⟨2, ![1, 12288]⟩
abbrev S8x12288 : Shape := ⟨2, ![8, 12288]⟩
abbrev S2048x1024 : Shape := ⟨2, ![2048, 1024]⟩
abbrev S1x1024 : Shape := ⟨2, ![1, 1024]⟩
abbrev S8x1024 : Shape := ⟨2, ![8, 1024]⟩
abbrev S4x12288 : Shape := ⟨2, ![4, 12288]⟩

abbrev nBuf : Space → Nat
  | .hbm => 9
  | .vmem => 7
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S_, .i32⟩
  | .hbm, ⟨4, _⟩ => ⟨S_, .f32⟩
  | .hbm, ⟨5, _⟩ => ⟨S8x2048, .f32⟩
  | .hbm, ⟨6, _⟩ => ⟨S1x12288, .f32⟩
  | .hbm, ⟨7, _⟩ => ⟨S8x12288, .f32⟩
  | .hbm, ⟨8, _⟩ => ⟨S4x12288, .f32⟩
  | .local _ .vmem, ⟨0, _⟩ => ⟨S8x2048, .f32⟩
  | .local _ .vmem, ⟨1, _⟩ => ⟨S2048x1024, .f32⟩
  | .local _ .vmem, ⟨2, _⟩ => ⟨S2048x1024, .f32⟩
  | .local _ .vmem, ⟨3, _⟩ => ⟨S1x1024, .f32⟩
  | .local _ .vmem, ⟨4, _⟩ => ⟨S1x1024, .f32⟩
  | .local _ .vmem, ⟨5, _⟩ => ⟨S8x1024, .f32⟩
  | .local _ .vmem, ⟨6, _⟩ => ⟨S8x1024, .f32⟩
  | _, _ => ⟨S4x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_c : Ref sig .tc := ⟨.hbm, 3, rfl⟩
abbrev main_call0_v0 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨1, ![12], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S8x2048 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S8x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference6Ideal.lean ====
abbrev S4x2048 : Shape := ⟨2, ![4, 2048]⟩
abbrev S2048x12288 : Shape := ⟨2, ![2048, 12288]⟩
abbrev S12288 : Shape := ⟨1, ![12288]⟩
abbrev S_ : Shape := ⟨0, ![]⟩
abbrev S4x12288 : Shape := ⟨2, ![4, 12288]⟩
abbrev S1x12288 : Shape := ⟨2, ![1, 12288]⟩

abbrev nBuf : Space → Nat
  | .hbm => 16
  | .vmem => 0
  | .smem => 0
  | _ => 0

abbrev bufTy : (tb : Table) → Fin (tcTables nBuf tb) → BufTy
  | .hbm, ⟨0, _⟩ => ⟨S4x2048, .f32⟩
  | .hbm, ⟨1, _⟩ => ⟨S2048x12288, .f32⟩
  | .hbm, ⟨2, _⟩ => ⟨S12288, .f32⟩
  | .hbm, ⟨3, _⟩ => ⟨S4x2048, .f32⟩
  | .hbm, ⟨4, _⟩ => ⟨S4x2048, .f32⟩
  | .hbm, ⟨5, _⟩ => ⟨S_, .f32⟩
  | .hbm, ⟨6, _⟩ => ⟨S4x2048, .f32⟩
  | .hbm, ⟨7, _⟩ => ⟨S4x2048, .f32⟩
  | .hbm, ⟨8, _⟩ => ⟨S_, .f32⟩
  | .hbm, ⟨9, _⟩ => ⟨S4x2048, .f32⟩
  | .hbm, ⟨10, _⟩ => ⟨S4x2048, .f32⟩
  | .hbm, ⟨11, _⟩ => ⟨S4x2048, .f32⟩
  | .hbm, ⟨12, _⟩ => ⟨S4x12288, .f32⟩
  | .hbm, ⟨13, _⟩ => ⟨S1x12288, .f32⟩
  | .hbm, ⟨14, _⟩ => ⟨S4x12288, .f32⟩
  | .hbm, ⟨15, _⟩ => ⟨S4x12288, .f32⟩
  | _, _ => ⟨S4x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_call0_v0 : Ref sig .tc := ⟨.hbm, 3, rfl⟩
abbrev main_call0_v1 : Ref sig .tc := ⟨.hbm, 4, rfl⟩
abbrev main_call0_cst : Ref sig .tc := ⟨.hbm, 5, rfl⟩
abbrev main_call0_v2 : Ref sig .tc := ⟨.hbm, 6, rfl⟩
abbrev main_call0_v3 : Ref sig .tc := ⟨.hbm, 7, rfl⟩
abbrev main_call0_cst_0 : Ref sig .tc := ⟨.hbm, 8, rfl⟩
abbrev main_call0_v4 : Ref sig .tc := ⟨.hbm, 9, rfl⟩
abbrev main_call0_v5 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩

abbrev nD : Nat := 1
abbrev τ : Topo := Topo.v7x

variable {F : FTy → Type} [FloatOps F]
-- ==== Kernel7.lean ====
abbrev S16384x9216 : Shape := ⟨2, ![16384, 9216]⟩
abbrev S31x1024 : Shape := ⟨2, ![31, 1024]⟩
abbrev S1024 : Shape := ⟨1, ![1024]⟩
abbrev S_ : Shape := ⟨0, ![]⟩
abbrev S32x1024 : Shape := ⟨2, ![32, 1024]⟩
abbrev S1x1024 : Shape := ⟨2, ![1, 1024]⟩
abbrev S16384x1024 : Shape := ⟨2, ![16384, 1024]⟩
abbrev S128x1024 : Shape := ⟨2, ![128, 1024]⟩
abbrev S160x1024 : Shape := ⟨2, ![160, 1024]⟩
abbrev S128x256 : Shape := ⟨2, ![128, 256]⟩
abbrev S1x256 : Shape := ⟨2, ![1, 256]⟩
abbrev S128 : Shape := ⟨1, ![128]⟩
abbrev S128x1 : Shape := ⟨2, ![128, 1]⟩

abbrev nBuf : Space → Nat
  | .hbm => 12
  | .vmem => 12
  | .smem => 0
  | _ => 0

abbrev bufTy : (tb : Table) → Fin (tcTables nBuf tb) → BufTy
  | .hbm, ⟨0, _⟩ => ⟨S16384x9216, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S_, .i32⟩
  | .hbm, ⟨6, _⟩ => ⟨S_, .f32⟩
  | .hbm, ⟨7, _⟩ => ⟨S32x1024, .f32⟩
  | .hbm, ⟨8, _⟩ => ⟨S1x1024, .f32⟩
  | .hbm, ⟨9, _⟩ => ⟨S1x1024, .f32⟩
  | .hbm, ⟨10, _⟩ => ⟨S1x1024, .f32⟩
  | .hbm, ⟨11, _⟩ => ⟨S16384x1024, .bf16⟩
  | .local _ .vmem, ⟨0, _⟩ => ⟨S128x1024, .bf16⟩
  | .local _ .vmem, ⟨1, _⟩ => ⟨S128x1024, .bf16⟩
  | .local _ .vmem, ⟨2, _⟩ => ⟨S128x1024, .bf16⟩
  | .local _ .vmem, ⟨3, _⟩ => ⟨S128x1024, .bf16⟩
  | .local _ .vmem, ⟨4, _⟩ => ⟨S32x1024, .f32⟩
  | .local _ .vmem, ⟨5, _⟩ => ⟨S1x1024, .f32⟩
  | .local _ .vmem, ⟨6, _⟩ => ⟨S1x1024, .f32⟩
  | .local _ .vmem, ⟨7, _⟩ => ⟨S1x1024, .f32⟩
  | .local _ .vmem, ⟨8, _⟩ => ⟨S128x1024, .bf16⟩
  | .local _ .vmem, ⟨9, _⟩ => ⟨S128x1024, .bf16⟩
  | .local _ .vmem, ⟨10, _⟩ => ⟨S160x1024, .f32⟩
  | .local _ .vmem, ⟨11, _⟩ => ⟨S128x1024, .f32⟩
  | _, _ => ⟨S16384x9216, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_c : Ref sig .tc := ⟨.hbm, 5, rfl⟩
abbrev main_call0_v0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg6_1 : Ref sig .tc := ⟨.vmem, 9, rfl⟩
abbrev cc0_scratch0 : Ref sig .tc := ⟨.vmem, 10, rfl⟩
abbrev cc0_scratch1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem6_1 : DmaSem sig := 9

abbrev nD : Nat := 1
abbrev τ : Topo := Topo.v7x

variable {F : FTy → Type} [FloatOps F]

abbrev grid0 : Pipeline.Grid := ⟨2, ![4, 32], ![false, false]⟩

def cc0_transform_0 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c7_i32 : BitVec 32 := 7#32
  let c0_i32 : BitVec 32 := 0#32
  ![v1.toNat, c7_i32.toNat]

def cc0_transform_1 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c8_i32 : BitVec 32 := 8#32
  let c0_i32 : BitVec 32 := 0#32
  ![v1.toNat, c8_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c32_i32 : BitVec 32 := 32#32
  let v0 : BitVec 32 := Scalar.muli arg0 c32_i32
  let v1 : BitVec 32 := Scalar.addi v0 arg1
  let c0_i32 : BitVec 32 := 0#32
  let c0_i32_0 : BitVec 32 := 0#32
  ![v1.toNat, c0_i32.toNat]

abbrev stage0_0 : Fin 2 → Memref sig .tc .vmem S128x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S128x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 1 → Memref sig .tc .vmem S32x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S1x1024 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 2 → Memref sig .tc .vmem S128x1024 .bf16 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S16384x9216 : Shape := ⟨2, ![16384, 9216]⟩
abbrev S31x1024 : Shape := ⟨2, ![31, 1024]⟩
abbrev S1024 : Shape := ⟨1, ![1024]⟩
abbrev S16384x1024 : Shape := ⟨2, ![16384, 1024]⟩
abbrev S4x4096x1024 : Shape := ⟨3, ![4, 4096, 1024]⟩
abbrev S_ : Shape := ⟨0, ![]⟩
abbrev S4x4126x1024 : Shape := ⟨3, ![4, 4126, 1024]⟩
abbrev S4096 : Shape := ⟨1, ![4096]⟩
abbrev S4096x1 : Shape := ⟨2, ![4096, 1]⟩
abbrev S31 : Shape := ⟨1, ![31]⟩
abbrev S1x31 : Shape := ⟨2, ![1, 31]⟩
abbrev S4096x31 : Shape := ⟨2, ![4096, 31]⟩
abbrev S4096x31x1 : Shape := ⟨3, ![4096, 31, 1]⟩
abbrev S4x4096x31x1024 : Shape := ⟨4, ![4, 4096, 31, 1024]⟩
abbrev S1x1x31x1024 : Shape := ⟨4, ![1, 1, 31, 1024]⟩
abbrev S1x1x1024 : Shape := ⟨3, ![1, 1, 1024]⟩
abbrev S4x4096 : Shape := ⟨2, ![4, 4096]⟩
abbrev S4x4096x1 : Shape := ⟨3, ![4, 4096, 1]⟩

abbrev nBuf : Space → Nat
  | .hbm => 87
  | .vmem => 0
  | .smem => 0
  | _ => 0

abbrev bufTy : (tb : Table) → Fin (tcTables nBuf tb) → BufTy
  | .hbm, ⟨0, _⟩ => ⟨S16384x9216, .bf16⟩
  | .hbm, ⟨1, _⟩ => ⟨S31x1024, .f32⟩
  | .hbm, ⟨2, _⟩ => ⟨S1024, .f32⟩
  | .hbm, ⟨3, _⟩ => ⟨S1024, .f32⟩
  | .hbm, ⟨4, _⟩ => ⟨S1024, .f32⟩
  | .hbm, ⟨5, _⟩ => ⟨S16384x1024, .bf16⟩
  | .hbm, ⟨6, _⟩ => ⟨S4x4096x1024, .bf16⟩
  | .hbm, ⟨7, _⟩ => ⟨S4x4096x1024, .f32⟩
  | .hbm, ⟨8, _⟩ => ⟨S16384x1024, .bf16⟩
  | .hbm, ⟨9, _⟩ => ⟨S4x4096x1024, .bf16⟩
  | .hbm, ⟨10, _⟩ => ⟨S4x4096x1024, .f32⟩
  | .hbm, ⟨11, _⟩ => ⟨S4x4096x1024, .f32⟩
  | .hbm, ⟨12, _⟩ => ⟨S4x4096x1024, .f32⟩
  | .hbm, ⟨13, _⟩ => ⟨S_, .f32⟩
  | .hbm, ⟨14, _⟩ => ⟨S4x4096x1024, .f32⟩
  | .hbm, ⟨15, _⟩ => ⟨S4x4096x1024, .f32⟩
  | .hbm, ⟨16, _⟩ => ⟨S_, .f32⟩
  | .hbm, ⟨17, _⟩ => ⟨S4x4096x1024, .f32⟩
  | .hbm, ⟨18, _⟩ => ⟨S4x4096x1024, .f32⟩
  | .hbm, ⟨19, _⟩ => ⟨S4x4096x1024, .f32⟩
  | .hbm, ⟨20, _⟩ => ⟨S_, .i32⟩
  | .hbm, ⟨21, _⟩ => ⟨S_, .f32⟩
  | .hbm, ⟨22, _⟩ => ⟨S4x4126x1024, .f32⟩
  | .hbm, ⟨23, _⟩ => ⟨S4096, .i32⟩
  | .hbm, ⟨24, _⟩ => ⟨S4096x1, .i32⟩
  | .hbm, ⟨25, _⟩ => ⟨S31, .i32⟩
  | .hbm, ⟨26, _⟩ => ⟨S1x31, .i32⟩
  | .hbm, ⟨27, _⟩ => ⟨S4096x31, .i32⟩
  | .hbm, ⟨28, _⟩ => ⟨S4096x31, .i32⟩
  | .hbm, ⟨29, _⟩ => ⟨S4096x31, .i32⟩
  | .hbm, ⟨30, _⟩ => ⟨S_, .i32⟩
  | .hbm, ⟨31, _⟩ => ⟨S4096x31, .i32⟩
  | .hbm, ⟨32, _⟩ => ⟨S4096x31, .i1⟩
  | .hbm, ⟨33, _⟩ => ⟨S_, .i32⟩
  | .hbm, ⟨34, _⟩ => ⟨S4096x31, .i32⟩
  | .hbm, ⟨35, _⟩ => ⟨S4096x31, .i32⟩
  | .hbm, ⟨36, _⟩ => ⟨S4096x31, .i32⟩
  | .hbm, ⟨37, _⟩ => ⟨S4096x31x1, .i32⟩
  | .hbm, ⟨38, _⟩ => ⟨S4x4096x31x1024, .f32⟩
  | .hbm, ⟨39, _⟩ => ⟨S1x1x31x1024, .f32⟩
  | .hbm, ⟨40, _⟩ => ⟨S4x4096x31x1024, .f32⟩
  | .hbm, ⟨41, _⟩ => ⟨S4x4096x31x1024, .f32⟩
  | .hbm, ⟨42, _⟩ => ⟨S_, .f32⟩
  | .hbm, ⟨43, _⟩ => ⟨S4x4096x1024, .f32⟩
  | .hbm, ⟨44, _⟩ => ⟨S1x1x1024, .f32⟩
  | .hbm, ⟨45, _⟩ => ⟨S4x4096x1024, .f32⟩
  | .hbm, ⟨46, _⟩ => ⟨S4x4096x1024, .f32⟩
  | .hbm, ⟨47, _⟩ => ⟨S_, .f32⟩
  | .hbm, ⟨48, _⟩ => ⟨S4x4096, .f32⟩
  | .hbm, ⟨49, _⟩ => ⟨S4x4096x1, .f32⟩
  | .hbm, ⟨50, _⟩ => ⟨S_, .f32⟩
  | .hbm, ⟨51, _⟩ => ⟨S4x4096x1, .f32⟩
  | .hbm, ⟨52, _⟩ => ⟨S4x4096x1, .f32⟩
  | .hbm, ⟨53, _⟩ => ⟨S4x4096x1024, .f32⟩
  | .hbm, ⟨54, _⟩ => ⟨S4x4096x1024, .f32⟩
  | .hbm, ⟨55, _⟩ => ⟨S4x4096x1024, .f32⟩
  | .hbm, ⟨56, _⟩ => ⟨S_, .f32⟩
  | .hbm, ⟨57, _⟩ => ⟨S4x4096, .f32⟩
  | .hbm, ⟨58, _⟩ => ⟨S4x4096x1, .f32⟩
  | .hbm, ⟨59, _⟩ => ⟨S_, .f32⟩
  | .hbm, ⟨60, _⟩ => ⟨S4x4096x1, .f32⟩
  | .hbm, ⟨61, _⟩ => ⟨S4x4096x1, .f32⟩
  | .hbm, ⟨62, _⟩ => ⟨S4x4096x1024, .f32⟩
  | .hbm, ⟨63, _⟩ => ⟨S4x4096x1024, .f32⟩
  | .hbm, ⟨64, _⟩ => ⟨S_, .f32⟩
  | .hbm, ⟨65, _⟩ => ⟨S4x4096x1, .f32⟩
  | .hbm, ⟨66, _⟩ => ⟨S4x4096x1, .f32⟩
  | .hbm, ⟨67, _⟩ => ⟨S4x4096x1, .f32⟩
  | .hbm, ⟨68, _⟩ => ⟨S4x4096x1024, .f32⟩
  | .hbm, ⟨69, _⟩ => ⟨S4x4096x1024, .f32⟩
  | .hbm, ⟨70, _⟩ => ⟨S1x1x1024, .f32⟩
  | .hbm, ⟨71, _⟩ => ⟨S4x4096x1024, .f32⟩
  | .hbm, ⟨72, _⟩ => ⟨S4x4096x1024, .f32⟩
  | .hbm, ⟨73, _⟩ => ⟨S1x1x1024, .f32⟩
  | .hbm, ⟨74, _⟩ => ⟨S4x4096x1024, .f32⟩
  | .hbm, ⟨75, _⟩ => ⟨S4x4096x1024, .f32⟩
  | .hbm, ⟨76, _⟩ => ⟨S4x4096x1024, .f32⟩
  | .hbm, ⟨77, _⟩ => ⟨S4x4096x1024, .f32⟩
  | .hbm, ⟨78, _⟩ => ⟨S_, .f32⟩
  | .hbm, ⟨79, _⟩ => ⟨S4x4096x1024, .f32⟩
  | .hbm, ⟨80, _⟩ => ⟨S4x4096x1024, .f32⟩
  | .hbm, ⟨81, _⟩ => ⟨S_, .f32⟩
  | .hbm, ⟨82, _⟩ => ⟨S4x4096x1024, .f32⟩
  | .hbm, ⟨83, _⟩ => ⟨S4x4096x1024, .f32⟩
  | .hbm, ⟨84, _⟩ => ⟨S4x4096x1024, .f32⟩
  | .hbm, ⟨85, _⟩ => ⟨S16384x1024, .f32⟩
  | .hbm, ⟨86, _⟩ => ⟨S16384x1024, .bf16⟩
  | _, _ => ⟨S16384x9216, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_cst : Ref sig .tc := ⟨.hbm, 13, rfl⟩
abbrev main_v8 : Ref sig .tc := ⟨.hbm, 14, rfl⟩
abbrev main_v9 : Ref sig .tc := ⟨.hbm, 15, rfl⟩
abbrev main_cst_0 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_c : Ref sig .tc := ⟨.hbm, 20, rfl⟩
abbrev main_call0_v0 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_c_1 : Ref sig .tc := ⟨.hbm, 30, rfl⟩
abbrev main_v21 : Ref sig .tc := ⟨.hbm, 31, rfl⟩
abbrev main_v22 : Ref sig .tc := ⟨.hbm, 32, rfl⟩
abbrev main_c_2 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_cst_3 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_cst_4 : Ref sig .tc := ⟨.hbm, 47, rfl⟩
abbrev main_v35 : Ref sig .tc := ⟨.hbm, 48, rfl⟩
abbrev main_v36 : Ref sig .tc := ⟨.hbm, 49, rfl⟩
abbrev main_cst_5 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_cst_6 : Ref sig .tc := ⟨.hbm, 56, rfl⟩
abbrev main_v42 : Ref sig .tc := ⟨.hbm, 57, rfl⟩
abbrev main_v43 : Ref sig .tc := ⟨.hbm, 58, rfl⟩
abbrev main_cst_7 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_cst_8 : Ref sig .tc := ⟨.hbm, 64, rfl⟩
abbrev main_v48 : Ref sig .tc := ⟨.hbm, 65, rfl⟩
abbrev main_v49 : Ref sig .tc := ⟨.hbm, 66, rfl⟩
abbrev main_v50 : Ref sig .tc := ⟨.hbm, 67, rfl⟩
abbrev main_v51 : Ref sig .tc := ⟨.hbm, 68, rfl⟩
abbrev main_v52 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_call1_v0 : Ref sig .tc := ⟨.hbm, 76, rfl⟩
abbrev main_call1_v1 : Ref sig .tc := ⟨.hbm, 77, rfl⟩
abbrev main_call1_cst : Ref sig .tc := ⟨.hbm, 78, rfl⟩
abbrev main_call1_v2 : Ref sig .tc := ⟨.hbm, 79, rfl⟩
abbrev main_call1_v3 : Ref sig .tc := ⟨.hbm, 80, rfl⟩
abbrev main_call1_cst_0 : Ref sig .tc := ⟨.hbm, 81, rfl⟩
abbrev main_call1_v4 : Ref sig .tc := ⟨.hbm, 82, rfl⟩
abbrev main_call1_v5 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩

abbrev nD : Nat := 1
abbrev τ : Topo := Topo.v7x

variable {F : FTy → Type} [FloatOps F]
-- ==== Proof.Finite.lean ====
/- The precondition read: every entry of the two arguments is a real number. -/
module

public import proofs.«01_k».proof.Pre_finite
public import Idealize.ShloMosaic.Lib.ReduceAll
public import Idealize.ShloMosaic.Lib.Pipeline.ValueKit
public import Idealize.ShloMosaic.Lib.Pointwise

@[expose] public section

set_option maxRecDepth 16384

noncomputable section

namespace Cert.Finite

open Idealize.ShloMosaic Idealize.ShloMosaic.TcCoe Idealize.SL.Sem Cert.Pre_finite

theorem facts : Cert.Pre_finite.Facts where
  bitsLt_bf16_f32 := by decide
  bcast_S_S16384x9216 := by decide
  reducesTo_S16384x9216_S_d0_1 := by decide
  h_S_ := by decide
  bcast_S_S16x513 := by decide
  reducesTo_S16x513_S_d0_1 := by decide

instance : Subsingleton S_.Idx := ⟨fun a b => funext fun x => x.elim0⟩

/-- A number whose absolute value lies below plus infinity is real. -/
theorem real_of_lt (x : EReal) (h : max x (-x) < ⊤) : ∃ r : ℝ, x = r := by
  induction x using EReal.rec with
  | bot => simp at h
  | coe r => exact ⟨r, rfl⟩
  | top => simp at h

theorem top_word : Ideal.ofBits FTy.f32 2139095040#32 = ⊤ := by
  simp [Ideal.ofBits, Ideal.ieee]

theorem below (x : EReal) (h : (FloatOps.cmpf (F := Ideal) (φ := .f32) CmpFPredicate.olt (max x (-x) : EReal)
    (Ideal.ofBits FTy.f32 2139095040#32)) = 1#1) : max x (-x) < ⊤ := by
  rw [top_word] at h
  by_contra hc
  have h' : BitVec.ofBool (decide (max x (-x) < ⊤)) = 1#1 := h
  rw [decide_eq_false hc] at h'
  exact absurd h' (by decide)

variable [Cert.Pre_finite.Facts]

theorem both (X : FVec Ideal S16384x9216 .bf16) (R : FVec Ideal S16x513 .f32)
    (h : Cert.Pre_finite.fn (F := Ideal) X R = fun _ => 1#1) :
    (∀ i, ∃ r : ℝ, X i = (r : EReal)) ∧ (∀ i, ∃ r : ℝ, R i = (r : EReal)) := by
  have h0 := congrFun h ix0
  unfold Cert.Pre_finite.fn at h0
  obtain ⟨hX, hR⟩ := IntOp.andi_eq_one.1 h0
  constructor
  · intro i
    have e := Host.reduce_andi_all _ _ _ _ _ hX i
    exact real_of_lt _ (below (X i) e)
  · intro i
    have e := Host.reduce_andi_all _ _ _ _ _ hR i
    exact real_of_lt _ (below (R i) e)

end Cert.Finite

end
-- ==== Proof.Softmax.lean ====
/- Softmax-weighted sums of extended reals: dividing the weighted sum by the total, over a long row
   most of whose scores are minus infinity, is weighting by the quotients over the short row of the rest. -/
module

public import Idealize.ShloMosaic.PureOps.Ideal

@[expose] public section

noncomputable section

namespace Cert.Softmax

open Idealize.ShloMosaic

variable {ι κ : Type} [Fintype ι] [Fintype κ]

/-- The largest score of a row. -/
def top (s : ι → EReal) : EReal := Finset.univ.fold max ⊥ s

/-- The weighted sum divided by the total weight. -/
def late (s w : ι → EReal) : EReal :=
  Ideal.div (∑ c, Ideal.exp (s c - top s) * w c) (∑ c, Ideal.exp (s c - top s))

/-- The sum of the values, each weighted by its quotient. -/
def early (s w : κ → EReal) : EReal :=
  ∑ k, w k * Ideal.div (Ideal.exp (s k - top s)) (∑ k, Ideal.exp (s k - top s))

theorem top_eq_sup (s : ι → EReal) : top s = Finset.univ.sup s := rfl

theorem le_top (s : ι → EReal) (i : ι) : s i ≤ top s := by
  rw [top_eq_sup]; exact Finset.le_sup (Finset.mem_univ i)

/-- A long row that is minus infinity off the image of a short one has the short one's largest score. -/
theorem top_eq (emb : κ → ι) (T : ι → EReal) (S : κ → EReal) (hS : ∀ k, T (emb k) = S k)
    (hoff : ∀ c, c ∉ Set.range emb → T c = ⊥) : top T = top S := by
  rw [top_eq_sup, top_eq_sup]
  apply le_antisymm
  · refine Finset.sup_le fun c _ => ?_
    by_cases h : c ∈ Set.range emb
    · obtain ⟨k, rfl⟩ := h
      rw [hS]; exact Finset.le_sup (Finset.mem_univ k)
    · rw [hoff c h]; exact bot_le
  · refine Finset.sup_le fun k _ => ?_
    rw [← hS]; exact Finset.le_sup (f := T) (Finset.mem_univ (emb k))

/-- The largest of finitely many scores, none plus infinity, is not plus infinity. -/
theorem top_ne_top (s : ι → EReal) (h : ∀ i, s i ≠ ⊤) : top s ≠ ⊤ := by
  rw [top_eq_sup]
  have : Finset.univ.sup s < (⊤ : EReal) :=
    (Finset.sup_lt_iff bot_lt_top).2 fun i _ => lt_top_iff_ne_top.2 (h i)
  exact this.ne

/-- The weight of a score against a real maximum is a real number that is not negative. -/
theorem exp_real (x : EReal) (m : ℝ) (h : x ≠ ⊤) : ∃ r : ℝ, 0 ≤ r ∧ Ideal.exp (x - (m : EReal)) = (r : EReal) := by
  induction x using EReal.rec with
  | bot => exact ⟨0, le_refl _, by rw [EReal.bot_sub]; rfl⟩
  | top => exact absurd rfl h
  | coe x => exact ⟨Real.exp (x - m), (Real.exp_pos _).le, by rw [← EReal.coe_sub]; rfl⟩

theorem exp_bot (m : ℝ) : Ideal.exp (⊥ - (m : EReal)) = 0 := by rw [EReal.bot_sub]; rfl

theorem coe_sum (f : ι → ℝ) : ∑ i, ((f i : ℝ) : EReal) = ((∑ i, f i : ℝ) : EReal) := by
  classical
  induction (Finset.univ : Finset ι) using Finset.induction_on with
  | empty => simp
  | insert a s ha ih => rw [Finset.sum_insert ha, Finset.sum_insert ha, ih, EReal.coe_add]

/-- A factor that is a real number, not negative, comes out of a finite sum. -/
theorem sum_mul_coe (f : ι → EReal) (r : ℝ) (hr : 0 ≤ r) : (∑ i, f i) * (r : EReal) = ∑ i, f i * (r : EReal) := by
  classical
  induction (Finset.univ : Finset ι) using Finset.induction_on with
  | empty => simp
  | insert a s ha ih =>
    rw [Finset.sum_insert ha, Finset.sum_insert ha,
      EReal.right_distrib_of_nonneg_of_ne_top (by exact_mod_cast hr) (EReal.coe_ne_top r), ih]

/-- Division by a real number that is not zero is multiplication by its inverse. -/
theorem div_real (x : EReal) (r : ℝ) (hr : r ≠ 0) : Ideal.div x (r : EReal) = x * ((r⁻¹ : ℝ) : EReal) := by
  unfold Ideal.div
  rw [if_neg (by exact_mod_cast hr), EReal.coe_inv]

/-- A sum over a long row that vanishes off the image of a short one is the short sum. -/
theorem sum_image (emb : κ → ι) (hinj : Function.Injective emb) (f : ι → EReal)
    (hoff : ∀ c, c ∉ Set.range emb → f c = 0) : ∑ c, f c = ∑ k, f (emb k) := by
  classical
  rw [← Finset.sum_image (s := Finset.univ) (g := emb) (f := f) (fun a _ b _ h => hinj h)]
  symm
  refine Finset.sum_subset (Finset.subset_univ _) fun c _ hc => hoff c ?_
  rintro ⟨k, rfl⟩
  exact hc (Finset.mem_image_of_mem _ (Finset.mem_univ k))

/-- The two orders of division agree. -/
theorem late_eq_early (emb : κ → ι) (hinj : Function.Injective emb) (T w : ι → EReal) (S v : κ → EReal)
    (hS : ∀ k, T (emb k) = S k) (hoff : ∀ c, c ∉ Set.range emb → T c = ⊥)
    (hw : ∀ k, S k ≠ ⊥ → w (emb k) = v k) (htop : ∀ k, S k ≠ ⊤) (k₀ : κ) (hk₀ : S k₀ ≠ ⊥) :
    late T w = early S v := by
  have hTS := top_eq emb T S hS hoff
  have hm : top S ≠ ⊥ := fun h => hk₀ (le_bot_iff.1 (h ▸ le_top S k₀))
  obtain ⟨m, hm⟩ : ∃ m : ℝ, top S = m := ⟨(top S).toReal, (EReal.coe_toReal (top_ne_top S htop) hm).symm⟩
  unfold late early
  rw [hTS, hm]
  rw [sum_image emb hinj _ fun c hc => by rw [hoff c hc, exp_bot, zero_mul],
    sum_image emb hinj _ fun c hc => by rw [hoff c hc, exp_bot]]
  simp only [hS]
  choose e he0 he using fun k => exp_real (S k) m (htop k)
  have hpos : 0 < e k₀ := by
    have h := he k₀
    obtain ⟨x, hx⟩ : ∃ x : ℝ, S k₀ = x := ⟨(S k₀).toReal, (EReal.coe_toReal (htop k₀) hk₀).symm⟩
    rw [hx, ← EReal.coe_sub] at h
    have h' : Real.exp (x - m) = e k₀ := by exact_mod_cast (show ((Real.exp (x - m) : ℝ) : EReal) = e k₀ from h)
    rw [← h']; exact Real.exp_pos _
  have hl : (0 : ℝ) < ∑ k, e k :=
    lt_of_lt_of_le hpos (Finset.single_le_sum (f := e) (fun k _ => he0 k) (Finset.mem_univ k₀))
  simp only [he, coe_sum]
  rw [div_real _ _ hl.ne', sum_mul_coe _ _ (inv_nonneg.2 hl.le)]
  refine Finset.sum_congr rfl fun k _ => ?_
  rw [div_real _ _ hl.ne']
  by_cases hb : S k = ⊥
  · have h0 : ((e k : ℝ) : EReal) = 0 := by rw [← he k, hb, exp_bot]
    rw [h0]; simp
  · rw [hw k hb, mul_comm (e k : EReal) (v k), mul_assoc]

end Cert.Softmax

end
-- ==== Proof.AttnWords.lean ====
/- Integer words both programs compute, as natural numbers, and the lookup of the relative position table. -/
module

public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem

/-- Floor division by 64 of a small natural. -/
theorem floor_chunk (i : Fin 768) :
    Scalar.select
      (IntOp.andi
        (IntOp.cmpi CmpIPredicate.ne
          (if BitVec.ofNat 32 i.val = 0 then (0 : BitVec 32) else if (BitVec.ofNat 32 i.val).msb = true then -1 else 1)
          (if 64#32 = 0 then (0 : BitVec 32) else if (64#32).msb = true then -1 else 1))
        (IntOp.cmpi CmpIPredicate.ne (IntOp.remsi ArithUnit.host (BitVec.ofNat 32 i.val) 64#32) 0#32))
      (IntOp.subi (IntOp.divsi ArithUnit.host (BitVec.ofNat 32 i.val) 64#32) 1#32)
      (IntOp.divsi ArithUnit.host (BitVec.ofNat 32 i.val) 64#32) = BitVec.ofNat 32 (i.val / 64) := by
  revert i
  decide +kernel

/-- The distance clipped to ±256 and shifted by 256, from the distance shifted by 256. -/
theorem clip_shift (d : Fin 1024) :
    IntOp.addi (IntOp.minsi (256#32) (IntOp.maxsi (4294967040#32) (IntOp.subi (BitVec.ofNat 32 d.val) 256#32))) 256#32
      = BitVec.ofNat 32 (min d.val 512) := by
  revert d
  decide +kernel

/-- A table row that is not negative is kept as it is. -/
theorem keep_row (d : Fin 513) :
    Scalar.select (IntOp.cmpi CmpIPredicate.slt (BitVec.ofNat 32 d.val) 0#32)
      (IntOp.addi (BitVec.ofNat 32 d.val) 513#32) (BitVec.ofNat 32 d.val) = BitVec.ofNat 32 d.val := by
  revert d
  decide +kernel

/-- A small natural word read as a signed integer. -/
theorem small_word (d : ℕ) (h : d < 2147483648) : (BitVec.ofNat 32 d).toInt.toNat = d := by
  rw [BitVec.toInt_eq_toNat_of_lt (by rw [BitVec.toNat_ofNat]; omega), BitVec.toNat_ofNat]
  omega

/-- The distance of two positions, shifted by 256. -/
theorem shift_dist (i x : ℕ) (hx : x ≤ 768 + i) :
    IntOp.subi (IntOp.addi (512#32) (BitVec.ofNat 32 i)) (BitVec.ofNat 32 x)
      = IntOp.subi (BitVec.ofNat 32 (768 + i - x)) 256#32 := by
  have h : 768 + i - x + x = 768 + i := by omega
  have h2 : BitVec.ofNat 32 (768 + i - x) + BitVec.ofNat 32 x = BitVec.ofNat 32 768 + BitVec.ofNat 32 i := by
    rw [← BitVec.ofNat_add, ← BitVec.ofNat_add, h]
  show 512#32 + BitVec.ofNat 32 i - BitVec.ofNat 32 x = BitVec.ofNat 32 (768 + i - x) - 256#32
  generalize BitVec.ofNat 32 (768 + i - x) = u at h2 ⊢
  generalize BitVec.ofNat 32 x = v at h2 ⊢
  generalize BitVec.ofNat 32 i = w at h2 ⊢
  bv_omega

/-- Comparison of two small naturals. -/
theorem sge_small (a b : ℕ) (ha : a < 2147483648) (hb : b < 2147483648) :
    IntOp.cmpi CmpIPredicate.sge (BitVec.ofNat 32 a) (BitVec.ofNat 32 b) = if b ≤ a then 1#1 else 0#1 := by
  have h : (BitVec.ofNat 32 b).sle (BitVec.ofNat 32 a) = decide (b ≤ a) := by
    rw [BitVec.sle_eq_decide, BitVec.toInt_eq_toNat_of_lt (by rw [BitVec.toNat_ofNat]; omega),
      BitVec.toInt_eq_toNat_of_lt (by rw [BitVec.toNat_ofNat]; omega), BitVec.toNat_ofNat, BitVec.toNat_ofNat]
    congr 1
    rw [Nat.mod_eq_of_lt (by omega), Nat.mod_eq_of_lt (by omega)]
    exact propext Int.ofNat_le
  show BitVec.ofBool ((BitVec.ofNat 32 b).sle (BitVec.ofNat 32 a)) = _
  rw [h]
  by_cases hab : b ≤ a <;> simp [hab]

theorem sle_small (a b : ℕ) (ha : a < 2147483648) (hb : b < 2147483648) :
    IntOp.cmpi CmpIPredicate.sle (BitVec.ofNat 32 a) (BitVec.ofNat 32 b) = if a ≤ b then 1#1 else 0#1 :=
  sge_small b a hb ha

/-- A pair of index axes naming one row of the table each, reading every head's entry there. -/
abbrev rowDims (A B : ℕ)
    (wf : GatherDims.WF ⟨2, ![16, 513]⟩ ⟨3, ![A, B, 1]⟩ ⟨3, ![16, A, B]⟩ [0] [1] [] [1] [] 2 ![16, 1]) :
    GatherDims ⟨2, ![16, 513]⟩ ⟨3, ![A, B, 1]⟩ ⟨3, ![16, A, B]⟩ where
  offsetDims := [0]
  collapsedSliceDims := [1]
  operandBatchingDims := []
  startIndicesBatchingDims := []
  startIndexMap := [1]
  indexVectorDim := 2
  sliceSizes := ![16, 1]
  wf := wf

/-- The table lookup at head `h` and pair `(a, b)`. -/
theorem lookup {α : Type} (A B : ℕ)
    (wf : GatherDims.WF ⟨2, ![16, 513]⟩ ⟨3, ![A, B, 1]⟩ ⟨3, ![16, A, B]⟩ [0] [1] [] [1] [] 2 ![16, 1])
    (R : (⟨2, ![16, 513]⟩ : Shape).Idx → α) (idx : IVec ⟨3, ![A, B, 1]⟩ 32) (h : Fin 16) (a : Fin A) (b : Fin B) (d : ℕ)
    (hd : d ≤ 512) (hidx : idx (ix3 a b 0) = BitVec.ofNat 32 d) :
    Host.gather (rowDims A B wf) R idx (ix3 h a b) = R (ix2 h ⟨d, by omega⟩) := by
  unfold Host.gather
  congr 1
  funext x
  refine Fin.ext ?_
  show (rowDims A B wf).start (ix3 h a b) idx x + (rowDims A B wf).batchCoord (ix3 h a b) x
    + (rowDims A B wf).offCoord (ix3 h a b) x = _
  rw [GatherDims.batchCoord_eq_zero _ _ _ List.not_mem_nil]
  obtain rfl | rfl : x = (0 : Fin 2) ∨ x = (1 : Fin 2) := by
    revert x
    decide
  · unfold GatherDims.start
    rw [dif_neg (show ¬ (0 : Fin 2) ∈ (rowDims A B wf).startIndexMap from by simp)]
    simp only [Nat.zero_add]
    unfold GatherDims.offCoord
    rw [dif_pos (show (0 : Fin 2) ∈ (rowDims A B wf).sKept from (GatherDims.mem_sKept _ _).mpr (by simp))]
    rfl
  · rw [GatherDims.offCoord_eq_zero _ _ _ (fun h => ((GatherDims.mem_sKept _ _).mp h).1 (List.mem_singleton.mpr rfl))]
    unfold GatherDims.start
    rw [dif_pos (show (1 : Fin 2) ∈ (rowDims A B wf).startIndexMap from List.mem_singleton.mpr rfl)]
    have hsi : (rowDims A B wf).siIdx (ix3 h a b) ⟨List.idxOf (1 : Fin 2) (rowDims A B wf).startIndexMap,
        List.idxOf_lt_length_iff.2 (List.mem_singleton.mpr rfl)⟩ = ix3 a b 0 := by
      funext y
      refine Fin.ext ?_
      match y with
      | ⟨0, _⟩ => rfl
      | ⟨1, _⟩ => rfl
      | ⟨2, _⟩ => rfl
    erw [hsi]
    rw [hidx, small_word d (by omega)]
    show min d 512 + 0 + 0 = d
    omega

/-- The pattern of minus infinity is the bottom of the extended reals. -/
theorem neg_inf : Ideal.ofBits FTy.f32 4286578688#32 = ⊥ := by
  simp [Ideal.ofBits, Ideal.ieee]

/-- The projected array at row `i` and column `j`, zero outside it. -/
def rd (X : (⟨2, ![16384, 9216]⟩ : Shape).Idx → EReal) (i j : ℕ) : EReal :=
  if h : i < 16384 ∧ j < 9216 then X (ix2 ⟨i, h.1⟩ ⟨j, h.2⟩) else 0

theorem rd_congr {X : (⟨2, ![16384, 9216]⟩ : Shape).Idx → EReal} {i i' j j' : ℕ} (hi : i = i') (hj : j = j') :
    rd X i j = rd X i' j' := by
  rw [hi, hj]

/-- The bias of head `h` at a distance shifted by 256, the distance clipped above. -/
def relBias (R : (⟨2, ![16, 513]⟩ : Shape).Idx → EReal) (h : Fin 16) (d : ℕ) : EReal := R (ix2 h ⟨min d 512, by omega⟩)

end Cert.Attn

end
-- ==== Proof.AttnBlock.lean ====
/- One grid point of the attention kernel: what its body stores, an entry at a time, as a softmax-weighted
   sum over the 768 keys of its window. -/
module

public import proofs.«01_k».proof.Proof.Gen.KernelIdeal.Value
public import proofs.«01_k».proof.Proof.Softmax
public import proofs.«01_k».proof.Proof.AttnWords
public import Idealize.ShloMosaic.Lib.Pipeline.ValueKit
public import Idealize.ShloMosaic.Lib.Pointwise

@[expose] public section

set_option maxRecDepth 16384

noncomputable section

namespace Cert.Attn

open Idealize.ShloMosaic Idealize.ShloMosaic.TcCoe Idealize.SL.Sem
open Cert.KernelIdeal Cert.KernelIdeal.Gen Cert.Softmax

/-- Row `x` of three stacked key (or value) blocks, column `u`. -/
def cat (k0 k1 k2 : Vec Ideal S256x128 .bf16) (x : Fin 768) (u : Fin 128) : EReal :=
  if h : x.val < 256 then k0 (ix2 ⟨x.val, h⟩ u)
  else if h' : x.val - 256 < 256 then k1 (ix2 ⟨x.val - 256, h'⟩ u)
  else k2 (ix2 ⟨x.val - 256 - 256, by omega⟩ u)

/-- The score of key `x` for query row `i` of the head `o` of the block's two: the scaled product and the bias. -/
def blockScore (q k0 k1 k2 : Vec Ideal S256x128 .bf16) (b : Vec Ideal S1x2x256x768 .f32) (o : Fin 2) (i : Fin 256)
    (x : Fin 768) : EReal :=
  (∑ u : Fin 64, q (ix2 i ⟨64 * o.val + u.val, by omega⟩) * cat k0 k1 k2 x ⟨64 * o.val + u.val, by omega⟩)
    * Ideal.ofBits FTy.f32 1040187392#32 + b (ix4 0 o i x)

/-- What the first head of the block leaves. -/
theorem head_first (q k0 k1 k2 v0 v1 v2 : Vec Ideal S256x128 .bf16) (b : Vec Ideal S1x2x256x768 .f32)
    (i : Fin 256) (j : Fin 64) :
    k0_pay4 q k0 k1 k2 v0 v1 v2 (View.ld b r0_1) (ix2 i j)
      = late (blockScore q k0 k1 k2 b 0 i) (fun x => cat v0 v1 v2 x ⟨j.val, by omega⟩) := by
  pointwise [k0_pay4, k0_pay2, k0_pay3, late, top, blockScore, cat]
  rw [neg_inf]

/-- What the block's body stores. -/
theorem block (q k0 k1 k2 v0 v1 v2 : Vec Ideal S256x128 .bf16) (b : Vec Ideal S1x2x256x768 .f32)
    (i : Fin 256) (j : Fin 128) :
    k0_pay1 (k0_pay3 v0 v1 v2) (k0_pay4 q k0 k1 k2 v0 v1 v2 (View.ld b r0_1)) (k0_pay5 q k0 k1 k2)
        (FloatOps.ofBits FTy.f32 1040187392#32) (View.ld b r0_2) (ix2 i j)
      = late (blockScore q k0 k1 k2 b ⟨j.val / 64, by omega⟩ i) (fun x => cat v0 v1 v2 x j) := by
  pointwise [k0_pay1]
  by_cases h : j.val < 64
  · rw [dif_pos h, head_first]
    have ho : (⟨j.val / 64, by omega⟩ : Fin 2) = 0 := Fin.ext (show j.val / 64 = 0 by omega)
    rw [ho]
  · rw [dif_neg h]
    have ho : (⟨j.val / 64, by omega⟩ : Fin 2) = 1 := Fin.ext (show j.val / 64 = 1 by omega)
    rw [ho]
    have hj : 64 + (j.val - 64) = j.val := by omega
    pointwise [k0_pay5, k0_pay2, k0_pay3, late, top, blockScore, cat]
    rw [neg_inf]
    simp only [hj]

end Cert.Attn

end
-- ==== Proof.AttnKernel.lean ====
/- The attention kernel's result array: every entry as a softmax-weighted sum over the 768 keys of its
   query tile's window, read off the projected array and the bias table. -/
module

public import proofs.«01_k».proof.Proof.AttnBlock

@[expose] public section

set_option maxRecDepth 16384

noncomputable section

namespace Cert.Attn

open Idealize.ShloMosaic Idealize.ShloMosaic.TcCoe Idealize.SL.Sem
open Idealize.ShloMosaic.Pipeline (Dat)
open Cert.KernelIdeal Cert.KernelIdeal.Gen Cert.Softmax

variable (m : (ℓ : Loc nD τ sig) → Buf (Elt Ideal) ℓ)

/-- The row of the projected array that key `x` of the window of row `n` sits in. -/
def keyRow (n x : ℕ) : ℕ := (n / 4096 * 16 + (n / 256 % 16 - (2 - x / 256))) * 256 + x % 256

/-- The score of key `x` of the window of row `n`, in the head of column `e`. -/
def kernelScore (X : S16384x9216.Idx → EReal) (B : S3x16x256x768.Idx → EReal) (n : Fin 16384) (e : Fin 1024)
    (x : Fin 768) : EReal :=
  (∑ u : Fin 64, rd X n.val (4096 + (e.val / 64 * 64 + u.val)) * rd X (keyRow n.val x.val) (5120 + (e.val / 64 * 64 + u.val)))
    * Ideal.ofBits FTy.f32 1040187392#32
    + B (ix4 ⟨min (n.val / 256 % 16) 2, by omega⟩ ⟨e.val / 64, by omega⟩ ⟨n.val % 256, by omega⟩ x)

/-- The kernel's result at one entry. -/
def kernelAttn (X : S16384x9216.Idx → EReal) (B : S3x16x256x768.Idx → EReal) (i : S16384x1024.Idx) : EReal :=
  late (kernelScore X B (i 0) (i 1)) (fun x => rd X (keyRow (i 0).val x.val) (6144 + (i 1).val))

/-- The block every window reads or writes at each grid point. -/
theorem idx : ∀ t : Fin cfg0.N, win0_0.index t = ![t.val / 16 % 4 * 16 + t.val % 16, 32 + t.val / 64]
    ∧ win0_1.index t = ![t.val / 16 % 4 * 16 + (t.val % 16 - 2), 40 + t.val / 64]
    ∧ win0_2.index t = ![t.val / 16 % 4 * 16 + (t.val % 16 - 1), 40 + t.val / 64]
    ∧ win0_3.index t = ![t.val / 16 % 4 * 16 + (t.val % 16), 40 + t.val / 64]
    ∧ win0_4.index t = ![t.val / 16 % 4 * 16 + (t.val % 16 - 2), 48 + t.val / 64]
    ∧ win0_5.index t = ![t.val / 16 % 4 * 16 + (t.val % 16 - 1), 48 + t.val / 64]
    ∧ win0_6.index t = ![t.val / 16 % 4 * 16 + (t.val % 16), 48 + t.val / 64]
    ∧ win0_7.index t = ![min (t.val % 16) 2, t.val / 64, 0, 0]
    ∧ win0_8.index t = ![t.val / 16 % 4 * 16 + t.val % 16, t.val / 64]
    ∧ t.val / 64 < 8 :=
  (by decide +kernel : ∀ t : Fin grid0.N, _)

/-- The query block of a point. -/
theorem read_0 (c : Dev nD) (t : Fin cfg0.N) (i : Fin 256) (u : Fin 128) :
    (show Vec Ideal S256x128 .bf16 from iblk m c 0 t) (ix2 i u)
      = rd (m ((c : Thread nD τ).loc main_arg0)) ((t.val / 16 % 4 * 16 + (t.val % 16 - 0)) * 256 + i.val) (4096 + t.val / 64 * 128 + u.val) := by
  have h := (idx t).2.2.2.2.2.2.2.2.2
  rw [rd, dif_pos (by omega)]
  blk_ext [iblk, V, idx t]

/-- The first key block of a point. -/
theorem read_1 (c : Dev nD) (t : Fin cfg0.N) (i : Fin 256) (u : Fin 128) :
    (show Vec Ideal S256x128 .bf16 from iblk m c 1 t) (ix2 i u)
      = rd (m ((c : Thread nD τ).loc main_arg0)) ((t.val / 16 % 4 * 16 + (t.val % 16 - 2)) * 256 + i.val) (5120 + t.val / 64 * 128 + u.val) := by
  have h := (idx t).2.2.2.2.2.2.2.2.2
  rw [rd, dif_pos (by omega)]
  blk_ext [iblk, V, idx t]

/-- The second key block of a point. -/
theorem read_2 (c : Dev nD) (t : Fin cfg0.N) (i : Fin 256) (u : Fin 128) :
    (show Vec Ideal S256x128 .bf16 from iblk m c 2 t) (ix2 i u)
      = rd (m ((c : Thread nD τ).loc main_arg0)) ((t.val / 16 % 4 * 16 + (t.val % 16 - 1)) * 256 + i.val) (5120 + t.val / 64 * 128 + u.val) := by
  have h := (idx t).2.2.2.2.2.2.2.2.2
  rw [rd, dif_pos (by omega)]
  blk_ext [iblk, V, idx t]

/-- The third key block of a point. -/
theorem read_3 (c : Dev nD) (t : Fin cfg0.N) (i : Fin 256) (u : Fin 128) :
    (show Vec Ideal S256x128 .bf16 from iblk m c 3 t) (ix2 i u)
      = rd (m ((c : Thread nD τ).loc main_arg0)) ((t.val / 16 % 4 * 16 + (t.val % 16 - 0)) * 256 + i.val) (5120 + t.val / 64 * 128 + u.val) := by
  have h := (idx t).2.2.2.2.2.2.2.2.2
  rw [rd, dif_pos (by omega)]
  blk_ext [iblk, V, idx t]

/-- The first value block of a point. -/
theorem read_4 (c : Dev nD) (t : Fin cfg0.N) (i : Fin 256) (u : Fin 128) :
    (show Vec Ideal S256x128 .bf16 from iblk m c 4 t) (ix2 i u)
      = rd (m ((c : Thread nD τ).loc main_arg0)) ((t.val / 16 % 4 * 16 + (t.val % 16 - 2)) * 256 + i.val) (6144 + t.val / 64 * 128 + u.val) := by
  have h := (idx t).2.2.2.2.2.2.2.2.2
  rw [rd, dif_pos (by omega)]
  blk_ext [iblk, V, idx t]

/-- The second value block of a point. -/
theorem read_5 (c : Dev nD) (t : Fin cfg0.N) (i : Fin 256) (u : Fin 128) :
    (show Vec Ideal S256x128 .bf16 from iblk m c 5 t) (ix2 i u)
      = rd (m ((c : Thread nD τ).loc main_arg0)) ((t.val / 16 % 4 * 16 + (t.val % 16 - 1)) * 256 + i.val) (6144 + t.val / 64 * 128 + u.val) := by
  have h := (idx t).2.2.2.2.2.2.2.2.2
  rw [rd, dif_pos (by omega)]
  blk_ext [iblk, V, idx t]

/-- The third value block of a point. -/
theorem read_6 (c : Dev nD) (t : Fin cfg0.N) (i : Fin 256) (u : Fin 128) :
    (show Vec Ideal S256x128 .bf16 from iblk m c 6 t) (ix2 i u)
      = rd (m ((c : Thread nD τ).loc main_arg0)) ((t.val / 16 % 4 * 16 + (t.val % 16 - 0)) * 256 + i.val) (6144 + t.val / 64 * 128 + u.val) := by
  have h := (idx t).2.2.2.2.2.2.2.2.2
  rw [rd, dif_pos (by omega)]
  blk_ext [iblk, V, idx t]

/-- The stacked key blocks of a point. -/
theorem read_k (c : Dev nD) (t : Fin cfg0.N) (x : Fin 768) (u : Fin 128) :
    cat (iblk m c 1 t) (iblk m c 2 t) (iblk m c 3 t) x u
      = rd (m ((c : Thread nD τ).loc main_arg0))
          ((t.val / 16 % 4 * 16 + (t.val % 16 - (2 - x.val / 256))) * 256 + x.val % 256) (5120 + t.val / 64 * 128 + u.val) := by
  have hx := x.isLt
  unfold cat
  split_ifs with h1 h2
  · exact (read_1 m c t _ u).trans (rd_congr (by show _ + x.val = _; omega) rfl)
  · exact (read_2 m c t _ u).trans (rd_congr (by show _ + (x.val - 256) = _; omega) rfl)
  · exact (read_3 m c t _ u).trans (rd_congr (by show _ + (x.val - 256 - 256) = _; omega) rfl)

/-- The stacked value blocks of a point. -/
theorem read_v (c : Dev nD) (t : Fin cfg0.N) (x : Fin 768) (u : Fin 128) :
    cat (iblk m c 4 t) (iblk m c 5 t) (iblk m c 6 t) x u
      = rd (m ((c : Thread nD τ).loc main_arg0))
          ((t.val / 16 % 4 * 16 + (t.val % 16 - (2 - x.val / 256))) * 256 + x.val % 256) (6144 + t.val / 64 * 128 + u.val) := by
  have hx := x.isLt
  unfold cat
  split_ifs with h1 h2
  · exact (read_4 m c t _ u).trans (rd_congr (by show _ + x.val = _; omega) rfl)
  · exact (read_5 m c t _ u).trans (rd_congr (by show _ + (x.val - 256) = _; omega) rfl)
  · exact (read_6 m c t _ u).trans (rd_congr (by show _ + (x.val - 256 - 256) = _; omega) rfl)

/-- The bias block of a point. -/
theorem read_b (c : Dev nD) (t : Fin cfg0.N) (o : Fin 2) (i : Fin 256) (x : Fin 768) (v : Fin 3) (h : Fin 16)
    (hv : v.val = min (t.val % 16) 2) (hh : h.val = t.val / 64 * 2 + o.val) :
    (show Vec Ideal S1x2x256x768 .f32 from iblk m c 7 t) (ix4 0 o i x) = V m c main_v51 (ix4 v h i x) := by
  blk_ext [iblk, idx t]

/-- What a point stores at an entry of its block is the result at that entry's place in the array. -/
theorem point (c : Dev nD) (t : Fin cfg0.N) (i : Fin 256) (j : Fin 128) (n : Fin 16384) (e : Fin 1024)
    (hn : n.val = (t.val / 16 % 4 * 16 + t.val % 16) * 256 + i.val) (he : e.val = t.val / 64 * 128 + j.val) :
    late (blockScore (iblk m c 0 t) (iblk m c 1 t) (iblk m c 2 t) (iblk m c 3 t) (iblk m c 7 t) ⟨j.val / 64, by omega⟩ i)
        (fun x => cat (iblk m c 4 t) (iblk m c 5 t) (iblk m c 6 t) x j)
      = kernelAttn (m ((c : Thread nD τ).loc main_arg0)) (V m c main_v51) (ix2 n e) := by
  have ht := (idx t).2.2.2.2.2.2.2.2.2
  unfold kernelAttn
  have hT : blockScore (iblk m c 0 t) (iblk m c 1 t) (iblk m c 2 t) (iblk m c 3 t) (iblk m c 7 t) ⟨j.val / 64, by omega⟩ i
      = kernelScore (m ((c : Thread nD τ).loc main_arg0)) (V m c main_v51) n e := by
    funext x
    have hx := x.isLt
    unfold blockScore kernelScore keyRow
    refine congrArg₂ (· + ·) (congrArg (· * _) (Finset.sum_congr rfl fun u _ => congrArg₂ (· * ·) ?_ ?_)) ?_
    · exact (read_0 m c t i _).trans (rd_congr (by omega) (by show _ + (64 * (j.val / 64) + u.val) = _; omega))
    · exact (read_k m c t x _).trans (rd_congr (by omega) (by show _ + (64 * (j.val / 64) + u.val) = _; omega))
    · refine (read_b m c t _ i x ⟨min (n.val / 256 % 16) 2, by omega⟩ ⟨e.val / 64, by omega⟩ ?_ ?_).trans ?_
      · show min (n.val / 256 % 16) 2 = _; congr 1; omega
      · show e.val / 64 = t.val / 64 * 2 + j.val / 64; omega
      · have hi : i = (⟨n.val % 256, by omega⟩ : Fin 256) := Fin.ext (show i.val = n.val % 256 by omega)
        rw [← hi]
  rw [hT]
  refine congrArg (late _) (funext fun x => ?_)
  have hx := x.isLt
  exact (read_v m c t x j).trans (rd_congr (by show _ = keyRow n.val x.val; unfold keyRow; omega) (by show _ = 6144 + e.val; omega))

/-- The result array after the run. -/
theorem final (c : Dev nD) : (dats m 0 c).arrAt 8 (cfgs 0).N
    = kernelAttn (m ((c : Thread nD τ).loc main_arg0)) (V m c main_v51) := by
  refine (dats m 0 c).arrAt_eq_of_covers 8 _ (by decide +kernel) fun t _ y => ?_
  blk_simp
  rw [after0_8]; frame_out
  idx_vars y
  refine (block _ _ _ _ _ _ _ _ _ _).trans ?_
  have ht := (idx t).2.2.2.2.2.2.2.2.2
  refine (point m c t y0 y1 ⟨(t.val / 16 % 4 * 16 + t.val % 16) * 256 + y0.val, by omega⟩
    ⟨t.val / 64 * 128 + y1.val, by omega⟩ rfl rfl).trans (congrArg _ ?_)
  blk_ext [(idx t).2.2.2.2.2.2.2.2.1]

end Cert.Attn

end
-- ==== Proof.AttnBiasTerm.lean ====
/- The bias table the attention kernel is given, as the composed operations that make it from the relative
   position table. -/
module

public import proofs.«01_k».proof.Proof.Gen.KernelIdeal.Value
public import Idealize.ShloMosaic.Lib.Pipeline.ValueKit
public import Idealize.ShloMosaic.Lib.Claim

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ)

/-- Query rows of a tile, down a column. -/
def rows : IVec S256x1 32 := broadcastInDim S256x1 ![0] bcast_S256_S256x1_0 (iotaInDim S256 32 0)

/-- Keys of a window, along a row. -/
def cols : IVec S1x768 32 := broadcastInDim S1x768 ![1] bcast_S768_S1x768_1 (iotaInDim S768 32 0)

/-- The chunk of each query row. -/
def rowChunk : IVec S256x1 32 :=
  select (andi (cmpi .ne (signi rows) (broadcastInDim S256x1 ![] bcast_S_S256x1 (signi (constantI S_ 32 64#32))))
      (cmpi .ne (Host.remsi rows (broadcastInDim S256x1 ![] bcast_S_S256x1 (constantI S_ 32 64#32)))
        (broadcastInDim S256x1 ![] bcast_S_S256x1 (constantI S_ 32 0#32))))
    (subi (Host.divsi rows (broadcastInDim S256x1 ![] bcast_S_S256x1 (constantI S_ 32 64#32)))
      (broadcastInDim S256x1 ![] bcast_S_S256x1 (constantI S_ 32 1#32)))
    (Host.divsi rows (broadcastInDim S256x1 ![] bcast_S_S256x1 (constantI S_ 32 64#32)))

/-- The chunk of each key. -/
def colChunk : IVec S1x768 32 :=
  select (andi (cmpi .ne (signi cols) (broadcastInDim S1x768 ![] bcast_S_S1x768 (signi (constantI S_ 32 64#32))))
      (cmpi .ne (Host.remsi cols (broadcastInDim S1x768 ![] bcast_S_S1x768 (constantI S_ 32 64#32)))
        (broadcastInDim S1x768 ![] bcast_S_S1x768 (constantI S_ 32 0#32))))
    (subi (Host.divsi cols (broadcastInDim S1x768 ![] bcast_S_S1x768 (constantI S_ 32 64#32)))
      (broadcastInDim S1x768 ![] bcast_S_S1x768 (constantI S_ 32 1#32)))
    (Host.divsi cols (broadcastInDim S1x768 ![] bcast_S_S1x768 (constantI S_ 32 64#32)))

/-- Whether a key's chunk is within the band of a query row's. -/
def band : IVec S256x768 1 :=
  andi (cmpi .sge (broadcastInDim S256x768 ![0, 1] bcast_S1x768_S256x768_0_1 colChunk)
      (broadcastInDim S256x768 ![0, 1] bcast_S256x1_S256x768_0_1 rowChunk))
    (cmpi .sle (broadcastInDim S256x768 ![0, 1] bcast_S1x768_S256x768_0_1 colChunk)
      (broadcastInDim S256x768 ![0, 1] bcast_S256x1_S256x768_0_1
        (addi rowChunk (broadcastInDim S256x1 ![] bcast_S_S256x1 (constantI S_ 32 8#32)))))

/-- The clipped distance from a key to a query row, shifted to start at zero. -/
def dist : IVec S256x768 32 :=
  addi (minsi (broadcastInDim S256x768 ![] bcast_S_S256x768 (constantI S_ 32 256#32))
      (maxsi (broadcastInDim S256x768 ![] bcast_S_S256x768 (constantI S_ 32 4294967040#32))
        (subi
          (broadcastInDim S256x768 ![0, 1] bcast_S256x1_S256x768_0_1
            (addi (broadcastInDim S256x1 ![] bcast_S_S256x1 (constantI S_ 32 512#32)) rows))
          (broadcastInDim S256x768 ![0, 1] bcast_S1x768_S256x768_0_1 cols))))
    (broadcastInDim S256x768 ![] bcast_S_S256x768 (constantI S_ 32 256#32))

/-- The row of the relative position table that each pair reads. -/
def pick : IVec S256x768 32 :=
  select (cmpi .slt dist (broadcastInDim S256x768 ![] bcast_S_S256x768 (constantI S_ 32 0#32)))
    (addi dist (broadcastInDim S256x768 ![] bcast_S_S256x768 (constantI S_ 32 513#32))) dist

/-- The relative position bias of every head and pair. -/
def table (R : FVec Ideal S16x513 .f32) : FVec Ideal S16x256x768 .f32 :=
  Host.gather gather_S16x513_S256x768x1_S16x256x768_0_1_n_n_1_2_161 R
    (broadcastInDim S256x768x1 ![0, 1] bcast_S256x768_S256x768x1_0_1 pick)

/-- The bias of one kind of tile: minus infinity off the band and before the key `w`. -/
def variantBias (R : FVec Ideal S16x513 .f32) (w : BitVec 32) : FVec Ideal S1x16x256x768 .f32 :=
  broadcastInDim S1x16x256x768 ![1, 2, 3] bcast_S16x256x768_S1x16x256x768_1_2_3
    (select
      (broadcastInDim S16x256x768 ![0, 1, 2] bcast_S1x256x768_S16x256x768_0_1_2
        (broadcastInDim S1x256x768 ![1, 2] bcast_S256x768_S1x256x768_1_2
          (andi band (broadcastInDim S256x768 ![0, 1] bcast_S1x768_S256x768_0_1
            (cmpi .sge cols (broadcastInDim S1x768 ![] bcast_S_S1x768 (constantI S_ 32 w)))))))
      (table R)
      (broadcastInDim S16x256x768 ![] bcast_S_S16x256x768 (constant S_ .f32 4286578688#32)))

theorem entry_stack (c : Dev nD) : (V m c main_v51 : FVec Ideal S3x16x256x768 .f32) = concatenate S3x16x256x768 0
    [⟨S1x16x256x768, (V m c main_v48 : FVec Ideal S1x16x256x768 .f32)⟩,
      ⟨S1x16x256x768, (V m c main_v49 : FVec Ideal S1x16x256x768 .f32)⟩,
      ⟨S1x16x256x768, (V m c main_v50 : FVec Ideal S1x16x256x768 .f32)⟩]
    concatenates_S1x16x256x768_S1x16x256x768_S1x16x256x768_S3x16x256x768_d0 := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.after_cons, StableHlo.after_nil]
  rfl

set_option maxHeartbeats 1600000 in
theorem entry_first (c : Dev nD) : (V m c main_v48 : FVec Ideal S1x16x256x768 .f32)
    = variantBias (m ((c : Thread nD τ).loc main_arg1)) 512#32 := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.after_cons, StableHlo.after_nil,
    StableHlo.TRef.binary, StableHlo.TRef.ternary, StableHlo.TRef.unary, StableHlo.TRef.toBuf, StableHlo.TRef.ofBuf, cast_eq]
  after_results_simp
  rfl

set_option maxHeartbeats 1600000 in
theorem entry_second (c : Dev nD) : (V m c main_v49 : FVec Ideal S1x16x256x768 .f32)
    = variantBias (m ((c : Thread nD τ).loc main_arg1)) 256#32 := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.after_cons, StableHlo.after_nil,
    StableHlo.TRef.binary, StableHlo.TRef.ternary, StableHlo.TRef.unary, StableHlo.TRef.toBuf, StableHlo.TRef.ofBuf, cast_eq]
  after_results_simp
  rfl

set_option maxHeartbeats 1600000 in
theorem entry_third (c : Dev nD) : (V m c main_v50 : FVec Ideal S1x16x256x768 .f32)
    = variantBias (m ((c : Thread nD τ).loc main_arg1)) 0#32 := by
  unfold V
  simp only [hostOps0, hostOps0_1, hostOps0_2, hostOps0_3, hostOps0_4, hostOps0_5, hostOps0_6, hostOps0_7, hostOps0_8,
    hostOps0_9, hostOps0_10, hostOps0_11, hostOps0_12, List.flatten_cons, List.flatten_nil, List.append_nil,
    List.cons_append, List.nil_append, StableHlo.after_cons, StableHlo.after_nil,
    StableHlo.TRef.binary, StableHlo.TRef.ternary, StableHlo.TRef.unary, StableHlo.TRef.toBuf, StableHlo.TRef.ofBuf, cast_eq]
  after_results_simp
  rfl

end Cert.Attn

end
-- ==== Proof.AttnBias.lean ====
/- The bias table the attention kernel is given, at an entry: the relative position bias of the pair inside the
   band and the sequence, minus infinity outside. -/
module

public import proofs.«01_k».proof.Proof.AttnBiasTerm
public import proofs.«01_k».proof.Proof.AttnWords
public import proofs.«01_k».proof.Proof.AttnBlock

@[expose] public section

set_option maxRecDepth 16384

noncomputable section

namespace Cert.Attn

open Idealize.ShloMosaic Idealize.ShloMosaic.TcCoe Idealize.SL.Sem
open Cert.KernelIdeal Cert.KernelIdeal.Gen

variable (m : (ℓ : Loc nD τ sig) → Buf (Elt Ideal) ℓ)

theorem rowChunk_at (i : Fin 256) : rowChunk (ix2 i 0) = BitVec.ofNat 32 (i.val / 64) := by
  pointwise [rowChunk, rows]
  exact floor_chunk ⟨i.val, by omega⟩

theorem colChunk_at (x : Fin 768) : colChunk (ix2 0 x) = BitVec.ofNat 32 (x.val / 64) := by
  pointwise [colChunk, cols]
  exact floor_chunk x

theorem band_at (i : Fin 256) (x : Fin 768) :
    band (ix2 i x) = if i.val / 64 ≤ x.val / 64 ∧ x.val / 64 ≤ i.val / 64 + 8 then 1#1 else 0#1 := by
  pointwise [band]
  rw [rowChunk_at, colChunk_at]
  have h : IntOp.addi (BitVec.ofNat 32 (i.val / 64)) 8#32 = BitVec.ofNat 32 (i.val / 64 + 8) :=
    (BitVec.ofNat_add _ _).symm
  rw [h, sge_small _ _ (by omega) (by omega), sle_small _ _ (by omega) (by omega)]
  by_cases h1 : i.val / 64 ≤ x.val / 64 <;> by_cases h2 : x.val / 64 ≤ i.val / 64 + 8 <;>
    simp only [h1, h2, and_self, and_true, true_and, and_false, false_and, if_true, if_false] <;> rfl

theorem dist_at (i : Fin 256) (x : Fin 768) : dist (ix2 i x) = BitVec.ofNat 32 (min (768 + i.val - x.val) 512) := by
  pointwise [dist, rows, cols]
  rw [shift_dist _ _ (by omega)]
  exact clip_shift ⟨768 + i.val - x.val, by omega⟩

theorem pick_at (i : Fin 256) (x : Fin 768) : pick (ix2 i x) = BitVec.ofNat 32 (min (768 + i.val - x.val) 512) := by
  pointwise [pick]
  rw [dist_at]
  exact keep_row ⟨min (768 + i.val - x.val) 512, by omega⟩

theorem table_at (R : FVec Ideal S16x513 .f32) (h : Fin 16) (i : Fin 256) (x : Fin 768) :
    table R (ix3 h i x) = relBias R h (768 + i.val - x.val) := by
  refine lookup 256 768 gather_S16x513_S256x768x1_S16x256x768_0_1_n_n_1_2_161_wf R _ h i x
    (min (768 + i.val - x.val) 512) (by omega) ?_
  pointwise
  exact pick_at i x

theorem variant_at (R : FVec Ideal S16x513 .f32) (w : ℕ) (hw : w ≤ 512) (h : Fin 16) (i : Fin 256) (x : Fin 768) :
    variantBias R (BitVec.ofNat 32 w) (ix4 0 h i x)
      = if (i.val / 64 ≤ x.val / 64 ∧ x.val / 64 ≤ i.val / 64 + 8) ∧ w ≤ x.val then
          relBias R h (768 + i.val - x.val) else ⊥ := by
  pointwise [variantBias, cols]
  rw [band_at, sge_small _ _ (by omega) (by omega), table_at, neg_inf]
  by_cases h1 : i.val / 64 ≤ x.val / 64 ∧ x.val / 64 ≤ i.val / 64 + 8 <;> by_cases h2 : w ≤ x.val <;>
    simp only [h1, h2, and_self, and_true, true_and, and_false, false_and, if_true, if_false] <;> rfl

/-- The kernel's bias table at an entry. -/
theorem bias_at (c : Dev nD) (v : Fin 3) (h : Fin 16) (i : Fin 256) (x : Fin 768) :
    (V m c main_v51 : FVec Ideal S3x16x256x768 .f32) (ix4 v h i x)
      = if (i.val / 64 ≤ x.val / 64 ∧ x.val / 64 ≤ i.val / 64 + 8) ∧ 512 - v.val * 256 ≤ x.val then
          relBias (m ((c : Thread nD τ).loc main_arg1)) h (768 + i.val - x.val) else ⊥ := by
  rw [entry_stack, entry_first, entry_second, entry_third]
  have h0 := variant_at (m ((c : Thread nD τ).loc main_arg1)) 512 (by omega) h i x
  have h1 := variant_at (m ((c : Thread nD τ).loc main_arg1)) 256 (by omega) h i x
  have h2 := variant_at (m ((c : Thread nD τ).loc main_arg1)) 0 (by omega) h i x
  fin_cases v
  · refine Eq.trans ?_ h0
    pointwise
  · refine Eq.trans ?_ h1
    pointwise
  · refine Eq.trans ?_ h2
    pointwise

end Cert.Attn

end
-- ==== Proof.RefBand.lean ====
/- The bands of keys and values the reference gathers for each chunk, and its table of relative position
   biases, at an entry. -/
module

public import proofs.«01_k».proof.Proof.Gen.ReferenceIdeal.Read
public import proofs.«01_k».proof.Proof.AttnWords

@[expose] public section

set_option maxRecDepth 16384

noncomputable section

namespace Cert.Band

open Idealize.ShloMosaic Idealize.ShloMosaic.TcCoe Idealize.SL.Sem
open Cert.ReferenceIdeal Cert.ReferenceIdeal.Read Cert.Attn

variable (X : FVec Ideal S16384x9216 .bf16) (R : FVec Ideal S16x513 .f32)

theorem pick_at (r : Fin 64) (k : Fin 576) :
    val_main_v27 (F := Ideal) (ix2 r k) = BitVec.ofNat 32 (min (768 + r.val - k.val) 512) := by
  have hd : val_main_v22 (F := Ideal) (ix2 r k) = BitVec.ofNat 32 (min (768 + r.val - k.val) 512) := by
    pointwise [val_main_v22, val_main_v21, val_main_v20, val_main_call2_v4, val_main_call2_v3, val_main_call2_v2,
      val_main_call2_v1, val_main_call2_v0, val_main_v19, val_main_v18, val_main_v17, val_main_v16, val_main_v15,
      val_main_v14, val_main_v13, val_main_v12, val_main_v11, val_main_c_1, val_main_c_2, val_main_c_3, val_main_c_4]
    rw [shift_dist _ _ (by omega)]
    exact clip_shift ⟨768 + r.val - k.val, by omega⟩
  pointwise [val_main_v27, val_main_v26, val_main_v25, val_main_v24, val_main_v23, val_main_c_5, val_main_c_6]
  rw [hd]
  exact keep_row ⟨min (768 + r.val - k.val) 512, by omega⟩

/-- The relative position bias of head `h` for row `r` of a chunk and key `k` of its band. -/
theorem table_at (h : Fin 16) (r : Fin 64) (k : Fin 576) :
    val_main_v29 (F := Ideal) R (ix3 h r k) = relBias R h (768 + r.val - k.val) := by
  refine lookup 64 576 Gen.gather_S16x513_S64x576x1_S16x64x576_0_1_n_n_1_2_161_wf R _ h r k
    (min (768 + r.val - k.val) 512) (by omega) ?_
  pointwise [val_main_v28]
  exact pick_at r k

theorem start_word (a : Fin 64) :
    Scalar.select (IntOp.cmpi CmpIPredicate.slt (IntOp.muli (BitVec.ofNat 32 a.val) 64#32) 0#32)
      (IntOp.addi (IntOp.muli (BitVec.ofNat 32 a.val) 64#32) 4608#32) (IntOp.muli (BitVec.ofNat 32 a.val) 64#32)
      = BitVec.ofNat 32 (a.val * 64) := by
  revert a
  decide +kernel

/-- Where the band of keys of a chunk starts. -/
theorem key_start (a : Fin 64) (j : Fin 4) :
    val_main_v42 (F := Ideal) (ix2 a j) = BitVec.ofNat 32 (if j = 1 then a.val * 64 else 0) := by
  fin_cases j <;> pointwise [val_main_v42, val_main_v41, val_main_v40, val_main_v39, val_main_v38, val_main_v37,
    val_main_v36, val_main_v35, val_main_v34, val_main_v33, val_main_v32, val_main_v31, val_main_v30, val_main_c_7,
    val_main_c_8, val_main_c_9, val_main_c_10, val_main_c_11, val_main_c_12]
  exact start_word a

/-- Where the band of values of a chunk starts. -/
theorem value_start (a : Fin 64) (j : Fin 4) :
    val_main_v53 (F := Ideal) (ix2 a j) = BitVec.ofNat 32 (if j = 1 then a.val * 64 else 0) := by
  fin_cases j <;> pointwise [val_main_v53, val_main_v52, val_main_v51, val_main_v50, val_main_v49, val_main_v48,
    val_main_v47, val_main_v46, val_main_v45, val_main_v44, val_main_v30, val_main_v31, val_main_v32, val_main_c_7,
    val_main_c_13, val_main_c_14, val_main_c_15, val_main_c_16, val_main_c_17, val_main_c_18]
  exact start_word a

theorem four : ∀ y : Fin 4, y = 0 ∨ y = 1 ∨ y = 2 ∨ y = 3 := by decide

/-- A gather of one band per chunk, read at an entry. -/
theorem gather_band (x : FVec Ideal S4x4608x16x64 .f32) (idx : IVec S64x4 32)
    (hidx : ∀ a j, idx (ix2 a j) = BitVec.ofNat 32 (if j = 1 then a.val * 64 else 0))
    (ch : Fin 64) (b : Fin 4) (k : Fin 576) (h : Fin 16) (d : Fin 64) :
    Host.gather gather_S4x4608x16x64_S64x4_S64x4x576x16x64_1234_n_n_n_0123_1_45761664 x idx (ix5 ch b k h d)
      = x (ix4 b ⟨ch.val * 64 + k.val, by omega⟩ h d) := by
  unfold Host.gather
  congr 1
  funext y
  refine Fin.ext ?_
  generalize hg : gather_S4x4608x16x64_S64x4_S64x4x576x16x64_1234_n_n_n_0123_1_45761664 = g
  show g.start (ix5 ch b k h d) idx y + g.batchCoord (ix5 ch b k h d) y + g.offCoord (ix5 ch b k h d) y = _
  subst hg
  rw [GatherDims.batchCoord_eq_zero _ _ _ List.not_mem_nil]
  have hm : y ∈ (gather_S4x4608x16x64_S64x4_S64x4x576x16x64_1234_n_n_n_0123_1_45761664).startIndexMap := by
    revert y
    decide
  unfold GatherDims.start
  rw [dif_pos hm]
  have hsi : (gather_S4x4608x16x64_S64x4_S64x4x576x16x64_1234_n_n_n_0123_1_45761664).siIdx (ix5 ch b k h d)
      ⟨List.idxOf y (gather_S4x4608x16x64_S64x4_S64x4x576x16x64_1234_n_n_n_0123_1_45761664).startIndexMap,
        List.idxOf_lt_length_iff.2 hm⟩ = ix2 ch y := by
    obtain rfl | rfl | rfl | rfl := four y
    all_goals
      funext z
      refine Fin.ext ?_
      match z with
      | ⟨0, _⟩ => rfl
      | ⟨1, _⟩ => rfl
  rw [hsi, hidx, small_word _ (by split_ifs <;> omega)]
  unfold GatherDims.offCoord
  rw [dif_pos (show y ∈ (gather_S4x4608x16x64_S64x4_S64x4x576x16x64_1234_n_n_n_0123_1_45761664).sKept from
    (GatherDims.mem_sKept _ _).mpr ⟨List.not_mem_nil, List.not_mem_nil⟩)]
  obtain rfl | rfl | rfl | rfl := four y
  · show min 0 _ + 0 + b.val = b.val
    omega
  · show min (ch.val * 64) (4608 - 576) + 0 + k.val = ch.val * 64 + k.val
    omega
  · show min 0 _ + 0 + h.val = h.val
    omega
  · show min 0 _ + 0 + d.val = d.val
    omega

/-- Half a thousand and twelve zero rows in front of every sequence, read at an entry. -/
theorem padded (x : FVec Ideal S4x4096x16x64 .f32) (z : FVec Ideal S_ .f32) (hz : ∀ i, z i = 0)
    (b : Fin 4) (t : Fin 4608) (h : Fin 16) (d : Fin 64) :
    pad S4x4608x16x64 ![0, 512, 0, 0] ![0, 0, 0, 0] ![0, 0, 0, 0] x z
        Gen.pads_S4x4096x16x64_S4x4608x16x64_000_51200_000_000 Gen.h_S_ (ix4 b t h d)
      = if ht : 512 ≤ t.val then x (ix4 b ⟨t.val - 512, by omega⟩ h d) else 0 := by
  unfold pad
  by_cases ht : 512 ≤ t.val
  · rw [dif_pos ht, dif_pos]
    · congr 1
      funext y
      refine Fin.ext ?_
      match y with
      | ⟨0, _⟩ => exact Nat.div_one _
      | ⟨1, _⟩ => exact Nat.div_one _
      | ⟨2, _⟩ => exact Nat.div_one _
      | ⟨3, _⟩ => exact Nat.div_one _
    · intro y
      match y with
      | ⟨0, _⟩ => exact ⟨Nat.zero_le _, Nat.mod_one _, by show (b.val - 0) / 1 < 4; omega⟩
      | ⟨1, _⟩ => exact ⟨ht, Nat.mod_one _, by show (t.val - 512) / 1 < 4096; omega⟩
      | ⟨2, _⟩ => exact ⟨Nat.zero_le _, Nat.mod_one _, by show (h.val - 0) / 1 < 16; omega⟩
      | ⟨3, _⟩ => exact ⟨Nat.zero_le _, Nat.mod_one _, by show (d.val - 0) / 1 < 64; omega⟩
  · rw [dif_neg ht, dif_neg]
    · exact hz _
    · intro hall
      exact ht (hall 1).1

theorem zero_word : (FloatOps.sitofp FTy.f32 0#32 : Ideal FTy.f32) = 0 := by
  show (((0#32 : BitVec 32).toInt : ℝ) : EReal) = 0
  simp

/-- Key `k` of a chunk's band, zero before the sequence starts. -/
theorem key_at (ch : Fin 64) (b : Fin 4) (k : Fin 576) (h : Fin 16) (d : Fin 64) :
    val_main_v43 (F := Ideal) X (ix5 ch b k h d) = if 512 ≤ ch.val * 64 + k.val then
      rd X (b.val * 4096 + (ch.val * 64 + k.val - 512)) (5120 + (h.val * 64 + d.val)) else 0 := by
  unfold val_main_v43
  rw [gather_band _ _ key_start]
  unfold val_main_v7
  rw [padded _ _ (fun i => by pointwise [val_main_call0_v0, val_main_c]; exact zero_word)]
  by_cases ht : 512 ≤ ch.val * 64 + k.val
  · rw [dif_pos ht, if_pos ht]
    pointwise [val_main_v5, val_main_v2, val_main_v0]
    unfold rd
    rw [dif_pos ⟨by omega, by omega⟩]
  · rw [dif_neg ht, if_neg ht]

/-- Value `k` of a chunk's band, zero before the sequence starts. -/
theorem value_at (ch : Fin 64) (b : Fin 4) (k : Fin 576) (h : Fin 16) (d : Fin 64) :
    val_main_v54 (F := Ideal) X (ix5 ch b k h d) = if 512 ≤ ch.val * 64 + k.val then
      rd X (b.val * 4096 + (ch.val * 64 + k.val - 512)) (6144 + (h.val * 64 + d.val)) else 0 := by
  unfold val_main_v54
  rw [gather_band _ _ value_start]
  unfold val_main_v8
  rw [padded _ _ (fun i => by pointwise [val_main_call1_v0, val_main_c_0]; exact zero_word)]
  by_cases ht : 512 ≤ ch.val * 64 + k.val
  · rw [dif_pos ht, if_pos ht]
    pointwise [val_main_v6, val_main_v3, val_main_v0]
    unfold rd
    rw [dif_pos ⟨by omega, by omega⟩]
  · rw [dif_neg ht, if_neg ht]

end Cert.Band

end
-- ==== Proof.RefAttn.lean ====
/- What the reference computes: every entry as a softmax-weighted sum over the 576 keys of its chunk's band. -/
module

public import proofs.«01_k».proof.Proof.RefBand
public import proofs.«01_k».proof.Proof.Softmax

@[expose] public section

set_option maxRecDepth 16384

noncomputable section

namespace Cert.Band

open Idealize.ShloMosaic Idealize.ShloMosaic.TcCoe Idealize.SL.Sem
open Cert.ReferenceIdeal Cert.ReferenceIdeal.Read Cert.Attn Cert.Softmax

variable (X : FVec Ideal S16384x9216 .bf16) (R : FVec Ideal S16x513 .f32)

theorem inside_word : ∀ y : Fin 4608, IntOp.cmpi CmpIPredicate.sge (IntOp.subi (BitVec.ofNat 32 y.val) 512#32) 0#32
    = if 512 ≤ y.val then 1#1 else 0#1 := by
  decide +kernel

/-- Whether key `k` of a chunk's band lies in the sequence. -/
theorem inside_at (ch : Fin 64) (b : Fin 4) (h : Fin 16) (r : Fin 64) (k : Fin 576) :
    val_main_call3_v1 (F := Ideal) (ix5 ch b h r k) = if 512 ≤ ch.val * 64 + k.val then 1#1 else 0#1 := by
  pointwise [val_main_call3_v1, val_main_v71, val_main_v70, val_main_v69, val_main_v68, val_main_v67, val_main_v66,
    val_main_v65, val_main_v64, val_main_v63, val_main_v62, val_main_v32, val_main_v31, val_main_v30, val_main_c_7, val_main_c_18, val_main_c_19]
  have e : IntOp.addi (IntOp.subi (IntOp.muli (BitVec.ofNat 32 ch.val) 64#32) 512#32) (BitVec.ofNat 32 k.val)
      = IntOp.subi (BitVec.ofNat 32 (ch.val * 64 + k.val)) 512#32 := by
    show BitVec.ofNat 32 ch.val * 64#32 - 512#32 + BitVec.ofNat 32 k.val = BitVec.ofNat 32 (ch.val * 64 + k.val) - 512#32
    rw [BitVec.ofNat_add, BitVec.ofNat_mul]
    generalize BitVec.ofNat 32 ch.val * BitVec.ofNat 32 64 = u
    generalize BitVec.ofNat 32 k.val = v
    bv_omega
  rw [e]
  exact inside_word ⟨ch.val * 64 + k.val, by omega⟩

/-- The score of key `k` of a chunk's band for its row `r` in head `h`. -/
theorem score_at (ch : Fin 64) (b : Fin 4) (h : Fin 16) (r : Fin 64) (k : Fin 576) :
    val_main_v72 (F := Ideal) X R (ix5 ch b h r k) = if 512 ≤ ch.val * 64 + k.val then
      (∑ u : Fin 64, rd X (b.val * 4096 + (ch.val * 64 + r.val)) (4096 + (h.val * 64 + u.val))
        * rd X (b.val * 4096 + (ch.val * 64 + k.val - 512)) (5120 + (h.val * 64 + u.val)))
        * Ideal.ofBits FTy.f32 1040187392#32 + relBias R h (768 + r.val - k.val) else ⊥ := by
  pointwise [val_main_v72, val_main_v61, val_main_v60, val_main_v59, val_main_v58, val_main_v57, val_main_v56,
    val_main_v55, val_main_call3_v3, val_main_call3_v2, val_main_call3_v0, val_main_cst, val_main_cst_20]
  rw [inside_at, table_at]
  by_cases ht : 512 ≤ ch.val * 64 + k.val
  · rw [if_pos ht, if_pos ht]
    refine Eq.trans (if_pos rfl) ?_
    refine congrArg (· * _ + _) (Finset.sum_congr rfl fun u _ => ?_)
    rw [key_at, if_pos ht]
    refine congrArg (· * _) ?_
    pointwise [val_main_v10, val_main_v9, val_main_v4, val_main_v1, val_main_v0]
    unfold rd
    rw [dif_pos ⟨by omega, by omega⟩]
    exact congrArg X (congrArg₂ ix2 (Fin.ext (add_assoc _ _ _)) rfl)
  · rw [if_neg ht, if_neg ht]
    exact neg_inf

theorem exp_at (ch : Fin 64) (b : Fin 4) (h : Fin 16) (r : Fin 64) (k : Fin 576) :
    val_main_v79 (F := Ideal) X R (ix5 ch b h r k)
      = Ideal.exp (val_main_v72 (F := Ideal) X R (ix5 ch b h r k) - val_main_v75 (F := Ideal) X R (ix4 ch b h r)) := by
  pointwise [val_main_v79, val_main_v78, val_main_v77, val_main_v76]

/-- The reference's row maximum, read at an entry. -/
theorem reduce_max (x : FVec Ideal S64x4x16x64x576 .f32) (z : FVec Ideal S_ .f32) (ch : Fin 64) (b : Fin 4) (h : Fin 16)
    (r : Fin 64) :
    Host.reduce FloatOps.maximumf x z Gen.reducesTo_S64x4x16x64x576_S64x4x16x64_d4 Gen.h_S_ (ix4 ch b h r)
      = Finset.univ.fold max (z (Shape.Idx.first Gen.h_S_)) (fun k : Fin 576 => x (ix5 ch b h r k)) := by
  pointwise

theorem max_at (ch : Fin 64) (b : Fin 4) (h : Fin 16) (r : Fin 64) :
    val_main_v75 (F := Ideal) X R (ix4 ch b h r)
      = top (fun k : Fin 576 => val_main_v72 (F := Ideal) X R (ix5 ch b h r k)) := by
  rw [val_main_v75_apply]
  unfold val_main_v73
  rw [reduce_max, val_main_cst_21_apply, val_main_v74_apply, val_main_cst_22_apply]
  refine Eq.trans (congrArg₂ max neg_inf ?_) (max_eq_right bot_le)
  unfold top
  rw [← neg_inf]
  rfl

theorem sum_at (ch : Fin 64) (b : Fin 4) (h : Fin 16) (r : Fin 64) :
    val_main_v80 (F := Ideal) X R (ix4 ch b h r)
      = ∑ k : Fin 576, val_main_v79 (F := Ideal) X R (ix5 ch b h r k) := by
  pointwise [val_main_v80]
  rw [val_main_cst_23_apply]
  refine Eq.trans (congrArg (· + _) (?_ : _ = (0 : EReal))) (zero_add _)
  simp [Ideal.ofBits, Ideal.ieee]

theorem prob_at (ch : Fin 64) (b : Fin 4) (h : Fin 16) (r : Fin 64) (k : Fin 576) :
    val_main_v83 (F := Ideal) X R (ix5 ch b h r k)
      = Ideal.div (val_main_v79 (F := Ideal) X R (ix5 ch b h r k)) (val_main_v80 (F := Ideal) X R (ix4 ch b h r)) := by
  pointwise [val_main_v83, val_main_v82, val_main_v81]

theorem sum_value_at (ch : Fin 64) (b : Fin 4) (h : Fin 16) (d r : Fin 64) :
    val_main_v84 (F := Ideal) X R (ix5 ch b h d r)
      = ∑ k : Fin 576, val_main_v54 (F := Ideal) X (ix5 ch b k h d) * val_main_v83 (F := Ideal) X R (ix5 ch b h r k) := by
  pointwise [val_main_v84]

/-- The score of key `k` of the band of row `n`, in the head of column `e`. -/
def bandScore (X : S16384x9216.Idx → EReal) (R : S16x513.Idx → EReal) (n : Fin 16384) (e : Fin 1024) (k : Fin 576) : EReal :=
  if 512 ≤ n.val / 64 % 64 * 64 + k.val then
    (∑ u : Fin 64, rd X n.val (4096 + (e.val / 64 * 64 + u.val))
      * rd X (n.val / 4096 * 4096 + (n.val / 64 % 64 * 64 + k.val - 512)) (5120 + (e.val / 64 * 64 + u.val)))
      * Ideal.ofBits FTy.f32 1040187392#32 + relBias R ⟨e.val / 64, by omega⟩ (768 + n.val % 64 - k.val) else ⊥

/-- The value of key `k` of the band of row `n` in column `e`. -/
def bandValue (X : S16384x9216.Idx → EReal) (n : Fin 16384) (e : Fin 1024) (k : Fin 576) : EReal :=
  if 512 ≤ n.val / 64 % 64 * 64 + k.val then
    rd X (n.val / 4096 * 4096 + (n.val / 64 % 64 * 64 + k.val - 512)) (6144 + e.val) else 0

/-- A chunk's weighted sums, read at an entry. -/
theorem chunk_at (ch : Fin 64) (b : Fin 4) (h : Fin 16) (d r : Fin 64) :
    val_main_v84 (F := Ideal) X R (ix5 ch b h d r)
      = early (fun k => val_main_v72 (F := Ideal) X R (ix5 ch b h r k)) (fun k => val_main_v54 (F := Ideal) X (ix5 ch b k h d)) := by
  rw [sum_value_at]
  unfold early
  refine Finset.sum_congr rfl fun k _ => ?_
  rw [prob_at, sum_at, exp_at, max_at]
  refine congrArg (_ * Ideal.div _ ·) (Finset.sum_congr rfl fun k _ => ?_)
  rw [exp_at, max_at]

theorem chunk_of (n : Fin 16384) (e : Fin 1024) :
    val_main_v89 (F := Ideal) X R (ix2 n e) = val_main_v84 (F := Ideal) X R (ix5 ⟨n.val / 64 % 64, by omega⟩
      ⟨n.val / 4096, by omega⟩ ⟨e.val / 64, by omega⟩ ⟨e.val % 64, by omega⟩ ⟨n.val % 64, by omega⟩) := by
  pointwise [val_main_v89, val_main_v88, val_main_v87, val_main_v86, val_main_v85]

theorem score_of (n : Fin 16384) (e : Fin 1024) (k : Fin 576) :
    val_main_v72 (F := Ideal) X R (ix5 ⟨n.val / 64 % 64, by omega⟩ ⟨n.val / 4096, by omega⟩
      ⟨e.val / 64, by omega⟩ ⟨n.val % 64, by omega⟩ k) = bandScore X R n e k := by
  rw [score_at]
  unfold bandScore
  have hr : n.val / 4096 * 4096 + (n.val / 64 % 64 * 64 + n.val % 64) = n.val := by omega
  simp only [hr]

theorem value_of (n : Fin 16384) (e : Fin 1024) (k : Fin 576) :
    val_main_v54 (F := Ideal) X (ix5 ⟨n.val / 64 % 64, by omega⟩ ⟨n.val / 4096, by omega⟩ k
      ⟨e.val / 64, by omega⟩ ⟨e.val % 64, by omega⟩) = bandValue X n e k := by
  rw [value_at]
  unfold bandValue
  have he : e.val / 64 * 64 + e.val % 64 = e.val := by omega
  simp only [he]

/-- The reference's result at an entry. -/
theorem result_at (n : Fin 16384) (e : Fin 1024) :
    val_main_v89 (F := Ideal) X R (ix2 n e) = early (bandScore X R n e) (bandValue X n e) := by
  rw [chunk_of, chunk_at]
  exact congrArg₂ early (funext fun k => score_of X R n e k) (funext fun k => value_of X n e k)

end Cert.Band

end
-- ==== Proof.AttnEq.lean ====
/- The attention kernel and the reference compute the same numbers, wherever the arguments are real. -/
module

public import proofs.«01_k».proof.Proof.AttnKernel
public import proofs.«01_k».proof.Proof.AttnBias
public import proofs.«01_k».proof.Proof.RefAttn

@[expose] public section

set_option maxRecDepth 16384

noncomputable section

namespace Cert.Attn

open Idealize.ShloMosaic Idealize.ShloMosaic.TcCoe Idealize.SL.Sem
open Cert.KernelIdeal Cert.KernelIdeal.Gen Cert.Softmax Cert.Band

variable (X : S16384x9216.Idx → EReal) (R : S16x513.Idx → EReal) (B : S3x16x256x768.Idx → EReal)

/-- Where key `k` of a row's band sits in its window. -/
def place (n : Fin 16384) (k : Fin 576) : Fin 768 := ⟨n.val % 256 / 64 * 64 + k.val, by omega⟩

theorem place_inj (n : Fin 16384) : Function.Injective (place n) := by
  intro a b h
  have := congrArg Fin.val h
  simp only [place] at this
  exact Fin.ext (by omega)

theorem off_place (n : Fin 16384) (x : Fin 768) (h : x ∉ Set.range (place n)) :
    ¬ (n.val % 256 / 64 ≤ x.val / 64 ∧ x.val / 64 ≤ n.val % 256 / 64 + 8) := by
  intro hb
  exact h ⟨⟨x.val - n.val % 256 / 64 * 64, by omega⟩, Fin.ext (by simp only [place]; omega)⟩

theorem rd_real (hX : ∀ i, ∃ r : ℝ, X i = r) (i j : ℕ) : ∃ r : ℝ, rd X i j = r := by
  unfold rd
  split_ifs
  · exact hX _
  · exact ⟨0, rfl⟩

theorem sum_real {ι : Type} (s : Finset ι) (f : ι → EReal) (hf : ∀ i, ∃ r : ℝ, f i = r) : ∃ r : ℝ, ∑ i ∈ s, f i = r := by
  choose g hg using hf
  refine ⟨∑ i ∈ s, g i, ?_⟩
  classical
  induction s using Finset.induction_on with
  | empty => simp
  | insert a s ha ih => rw [Finset.sum_insert ha, Finset.sum_insert ha, EReal.coe_add, ih, hg]

theorem scale_real : ∃ r : ℝ, Ideal.ofBits FTy.f32 1040187392#32 = r := by
  have h : Ideal.ofBits FTy.f32 1040187392#32 = ((1 / 8 : ℝ) : EReal) := by
    simp [Ideal.ofBits, Ideal.ieee]
    rw [← EReal.coe_mul]
    norm_num
  exact ⟨_, h⟩

/-- A score inside the sequence is real. -/
theorem score_real (hX : ∀ i, ∃ r : ℝ, X i = r) (hR : ∀ i, ∃ r : ℝ, R i = r) (n : Fin 16384) (e : Fin 1024) (k : Fin 576)
    (hk : 512 ≤ n.val / 64 % 64 * 64 + k.val) : ∃ r : ℝ, bandScore X R n e k = r := by
  unfold bandScore
  rw [if_pos hk]
  obtain ⟨a, ha⟩ := sum_real Finset.univ (fun u : Fin 64 => rd X n.val (4096 + (e.val / 64 * 64 + u.val))
      * rd X (n.val / 4096 * 4096 + (n.val / 64 % 64 * 64 + k.val - 512)) (5120 + (e.val / 64 * 64 + u.val))) (by
    intro u
    obtain ⟨p, hp⟩ := rd_real X hX n.val (4096 + (e.val / 64 * 64 + u.val))
    obtain ⟨q, hq⟩ := rd_real X hX (n.val / 4096 * 4096 + (n.val / 64 % 64 * 64 + k.val - 512)) (5120 + (e.val / 64 * 64 + u.val))
    exact ⟨p * q, by rw [hp, hq, EReal.coe_mul]⟩)
  obtain ⟨s, hs⟩ := scale_real
  obtain ⟨b, hb⟩ := hR (ix2 ⟨e.val / 64, by omega⟩ ⟨min (768 + n.val % 64 - k.val) 512, by omega⟩)
  refine ⟨a * s + b, ?_⟩
  unfold relBias
  rw [ha, hs, hb, EReal.coe_add, EReal.coe_mul]

/-- Key `k` of a row's band is the window's key at its place. -/
theorem place_row (n : Fin 16384) (k : Fin 576) (hk : 512 ≤ n.val / 64 % 64 * 64 + k.val) :
    keyRow n.val (place n k).val = n.val / 4096 * 4096 + (n.val / 64 % 64 * 64 + k.val - 512) := by
  simp only [keyRow, place]
  omega

theorem place_score (hB : ∀ v h i x, B (ix4 v h i x)
      = if (i.val / 64 ≤ x.val / 64 ∧ x.val / 64 ≤ i.val / 64 + 8) ∧ 512 - v.val * 256 ≤ x.val then
          relBias R h (768 + i.val - x.val) else ⊥) (n : Fin 16384) (e : Fin 1024) (k : Fin 576) :
    kernelScore X B n e (place n k) = bandScore X R n e k := by
  unfold kernelScore bandScore
  rw [hB]
  by_cases hk : 512 ≤ n.val / 64 % 64 * 64 + k.val
  · have hin : (n.val % 256 / 64 ≤ (place n k).val / 64 ∧ (place n k).val / 64 ≤ n.val % 256 / 64 + 8)
        ∧ 512 - min (n.val / 256 % 16) 2 * 256 ≤ (place n k).val := by
      simp only [place]
      omega
    have hd : 768 + n.val % 256 - (place n k).val = 768 + n.val % 64 - k.val := by
      simp only [place]
      omega
    rw [if_pos hk, if_pos hin, place_row n k hk]
    exact congrArg (_ + relBias R _ ·) hd
  · have hout : ¬ ((n.val % 256 / 64 ≤ (place n k).val / 64 ∧ (place n k).val / 64 ≤ n.val % 256 / 64 + 8)
        ∧ 512 - min (n.val / 256 % 16) 2 * 256 ≤ (place n k).val) := by
      simp only [place]
      omega
    rw [if_neg hk, if_neg hout, EReal.add_bot]

/-- The two programs' results at an entry. -/
theorem equal (hX : ∀ i, ∃ r : ℝ, X i = r) (hR : ∀ i, ∃ r : ℝ, R i = r)
    (hB : ∀ v h i x, B (ix4 v h i x)
      = if (i.val / 64 ≤ x.val / 64 ∧ x.val / 64 ≤ i.val / 64 + 8) ∧ 512 - v.val * 256 ≤ x.val then
          relBias R h (768 + i.val - x.val) else ⊥) (n : Fin 16384) (e : Fin 1024) :
    kernelAttn X B (ix2 n e) = early (bandScore X R n e) (bandValue X n e) := by
  have hreal : ∀ k, bandScore X R n e k ≠ ⊥ → 512 ≤ n.val / 64 % 64 * 64 + k.val := by
    intro k hk
    by_contra hc
    exact hk (by unfold bandScore; rw [if_neg hc])
  refine late_eq_early (place n) (place_inj n) _ _ _ _ (place_score X R B hB n e) ?_ ?_ ?_ ⟨512 + n.val % 64, by omega⟩ ?_
  · intro x hx
    show kernelScore X B n e x = ⊥
    unfold kernelScore
    rw [hB, if_neg (fun h => off_place n x hx h.1), EReal.add_bot]
  · intro k hk
    have hin := hreal k hk
    unfold bandValue
    rw [if_pos hin]
    exact rd_congr (place_row n k hin) rfl
  · intro k ht
    have hin := hreal k (by rw [ht]; exact top_ne_bot)
    obtain ⟨r, hr⟩ := score_real X R hX hR n e k hin
    rw [hr] at ht
    exact EReal.coe_ne_top r ht
  · obtain ⟨r, hr⟩ := score_real X R hX hR n e ⟨512 + n.val % 64, by omega⟩ (by show 512 ≤ _ + (512 + _); omega)
    rw [hr]
    exact EReal.coe_ne_bot r

end Cert.Attn

end
-- ==== Proof.Rms.lean ====
/- Division of a row by its root mean square, which the projection and the mixing both begin or end with. -/
module

public import Idealize.ShloMosaic.Lib.Pointwise

@[expose] public section

set_option maxRecDepth 16384

noncomputable section

namespace Cert.Norm

open Idealize.ShloMosaic

/-- A row divided by its root mean square (with the small constant inside the root). -/
def rms (x : Fin 2048 → EReal) (k : Fin 2048) : EReal :=
  x k * Ideal.rsqrt (Ideal.div (∑ u, x u * x u) (Ideal.ofBits FTy.f32 1157627904#32) + Ideal.ofBits FTy.f32 897988541#32)

end Cert.Norm

end
-- ==== Proof.InprojKernel.lean ====
/- The input projection's result array: every entry as the product of a normalised, modulated row and a column of
   the weights, the gate columns first. -/
module

public import proofs.«01_k».proof.Proof.Gen.Kernel2Ideal.Value
public import proofs.«01_k».proof.Proof.Rms
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Inproj

open Idealize.ShloMosaic Idealize.ShloMosaic.TcCoe Idealize.SL.Sem
open Idealize.ShloMosaic.Pipeline (Dat)
open Cert.Norm Cert.Kernel2Ideal Cert.Kernel2Ideal.Gen

/-- The normalised row, scaled and shifted by its sequence's modulation. -/
def modulated (X : S16384x2048.Idx → EReal) (G : S1x2048.Idx → EReal) (C H : S4x1x2048.Idx → EReal) (n : Fin 16384)
    (k : Fin 2048) : EReal :=
  rms (fun u => X (ix2 n u)) k * G (ix2 0 k) * (1 + C (ix3 ⟨n.val / 4096, by omega⟩ 0 k)) + H (ix3 ⟨n.val / 4096, by omega⟩ 0 k)

/-- The column of the weights that column `e` of the result is the product with. -/
def column (e : Fin 9216) : Fin 9216 := ⟨(e.val + 5120) % 9216, by omega⟩

/-- The projection at one entry. -/
def projected (X : S16384x2048.Idx → EReal) (G : S1x2048.Idx → EReal) (C H : S4x1x2048.Idx → EReal)
    (W : S2048x9216.Idx → EReal) (i : S16384x9216.Idx) : EReal :=
  ∑ k : Fin 2048, modulated X G C H (i 0) k * W (ix2 k (column (i 1)))

/-- What the first point of a row tile stores in the carried rows. -/
theorem store_rows (x : Vec Ideal S1024x2048 .f32) (g : Vec Ideal S1x2048 .f32) (sc sh : Vec Ideal S1x1x2048 .f32)
    (i : Fin 1024) (k : Fin 2048) :
    k0_pay1 x g sc sh (ix2 i k) = rms (fun u => x (ix2 i u)) k * g (ix2 0 k) * (1 + sc (ix3 0 0 k)) + sh (ix3 0 0 k) := by
  unfold rms
  pointwise [k0_pay1]

/-- What a point stores in its result block. -/
theorem store_block (h : Vec Ideal S1024x2048 .bf16) (w : Vec Ideal S2048x1024 .bf16) (i j : Fin 1024) :
    k0_pay2 h w (ix2 i j) = ∑ k, h (ix2 i k) * w (ix2 k j) := by
  pointwise [k0_pay2]

variable (m : (ℓ : Loc nD τ sig) → Buf (Elt Ideal) ℓ)

/-- The block every window reads or writes at each grid point. -/
theorem idx : ∀ t : Fin cfg0.N, win0_0.index t = ![t.val / 9, 0] ∧ win0_1.index t = ![0, 0]
    ∧ win0_2.index t = ![t.val / 36, 0, 0] ∧ win0_3.index t = ![t.val / 36, 0, 0] ∧ win0_4.index t = ![0, t.val % 9]
    ∧ win0_5.index t = ![t.val / 9, t.val % 9] ∧ t.val < 144 :=
  (by decide +kernel : ∀ t : Fin grid0.N, _)

theorem read_x (c : Dev nD) (t : Fin cfg0.N) (i : Fin 1024) (k : Fin 2048) (n : Fin 16384) (hn : n.val = t.val / 9 * 1024 + i.val) :
    (show Vec Ideal S1024x2048 .f32 from iblk m c 0 t) (ix2 i k) = m ((c : Thread nD τ).loc main_arg0) (ix2 n k) := by
  blk_ext [iblk, V, idx t]

theorem read_g (c : Dev nD) (t : Fin cfg0.N) (k : Fin 2048) :
    (show Vec Ideal S1x2048 .f32 from iblk m c 1 t) (ix2 0 k) = m ((c : Thread nD τ).loc main_arg1) (ix2 0 k) := by
  blk_ext [iblk, V, idx t]

theorem read_scale (c : Dev nD) (t : Fin cfg0.N) (k : Fin 2048) (b : Fin 4) (hb : b.val = t.val / 36) :
    (show Vec Ideal S1x1x2048 .f32 from iblk m c 2 t) (ix3 0 0 k) = m ((c : Thread nD τ).loc main_arg2) (ix3 b 0 k) := by
  blk_ext [iblk, V, idx t]

theorem read_shift (c : Dev nD) (t : Fin cfg0.N) (k : Fin 2048) (b : Fin 4) (hb : b.val = t.val / 36) :
    (show Vec Ideal S1x1x2048 .f32 from iblk m c 3 t) (ix3 0 0 k) = m ((c : Thread nD τ).loc main_arg3) (ix3 b 0 k) := by
  blk_ext [iblk, V, idx t]

theorem read_w (c : Dev nD) (t : Fin cfg0.N) (k : Fin 2048) (j : Fin 1024) (e : Fin 9216) (he : e.val = t.val % 9 * 1024 + j.val) :
    (show Vec Ideal S2048x1024 .bf16 from iblk m c 4 t) (ix2 k j) = V m c main_v3 (ix2 k e) := by
  blk_ext [iblk, idx t]

/-- The weights the kernel is given: the argument's columns, the last 4096 moved to the front. -/
theorem weights_at (c : Dev nD) (k : Fin 2048) (e : Fin 9216) :
    (V m c main_v3 : FVec Ideal S2048x9216 .bf16) (ix2 k e) = m ((c : Thread nD τ).loc main_arg4) (ix2 k (column e)) := by
  have h : (V m c main_v3 : FVec Ideal S2048x9216 .bf16) = truncf .bf16 (concatenate S2048x9216 1
      [⟨S2048x4096, extractStridedSlice S2048x4096 ![0, 5120] (show FVec Ideal S2048x9216 .f32 from m ((c : Thread nD τ).loc main_arg4)) slices_S2048x9216_S2048x4096_0_5120⟩,
       ⟨S2048x5120, extractStridedSlice S2048x5120 ![0, 0] (show FVec Ideal S2048x9216 .f32 from m ((c : Thread nD τ).loc main_arg4)) slices_S2048x9216_S2048x5120_0_0⟩]
      concatenates_S2048x4096_S2048x5120_S2048x9216_d1) bitsLt_bf16_f32 := by
    unfold V
    simp only [hostOps0, StableHlo.after_cons, StableHlo.after_nil, StableHlo.TRef.binary, StableHlo.TRef.unary,
      StableHlo.TRef.toBuf, StableHlo.TRef.ofBuf, cast_eq]
    after_results_simp
    rfl
  rw [h]
  pointwise
  split_ifs with h1
  all_goals
    refine congrArg (fun q => m ((c : Thread nD τ).loc main_arg4) (ix2 k q)) (Fin.ext ?_)
    simp only [column]
    omega

/-- The rows the first point of a row tile carries on. -/
theorem carried_first (c : Dev nD) (t : Fin cfg0.N) (h0 : t.val % 9 = 0) (i : Fin 1024) (k : Fin 2048) (n : Fin 16384)
    (hn : n.val = t.val / 9 * 1024 + i.val) : (outsAt0 m c t.val t.isLt).2 (ix2 i k)
      = modulated (m ((c : Thread nD τ).loc main_arg0)) (m ((c : Thread nD τ).loc main_arg1)) (m ((c : Thread nD τ).loc main_arg2))
          (m ((c : Thread nD τ).loc main_arg3)) n k := by
  have hb : n.val / 4096 = t.val / 36 := by omega
  rw [outsAt0_A m c t h0]
  frame_out
  refine (store_rows _ _ _ _ i k).trans ?_
  unfold modulated
  exact congrArg₂ (· + ·) (congrArg₂ (· * ·) (congrArg₂ (· * ·) (congrArg (fun q => rms q k) (funext fun u => read_x m c t i u n hn))
    (read_g m c t k)) (congrArg (1 + ·) (read_scale m c t k ⟨n.val / 4096, by omega⟩ hb)))
    (read_shift m c t k ⟨n.val / 4096, by omega⟩ hb)

/-- The carried rows after every point: the rows of the point's row tile, normalised and modulated. -/
theorem carried (c : Dev nD) : ∀ (t : ℕ) (ht : t < cfg0.N) (i : Fin 1024) (k : Fin 2048) (n : Fin 16384),
    n.val = t / 9 * 1024 + i.val → (outsAt0 m c t ht).2 (ix2 i k)
      = modulated (m ((c : Thread nD τ).loc main_arg0)) (m ((c : Thread nD τ).loc main_arg1)) (m ((c : Thread nD τ).loc main_arg2))
          (m ((c : Thread nD τ).loc main_arg3)) n k := by
  intro t
  induction t using Nat.strongRecOn with
  | ind t ih =>
    intro ht i k n hn
    by_cases h0 : t % 9 = 0
    · exact carried_first m c ⟨t, ht⟩ h0 i k n hn
    · rw [outsAt0_B m c ⟨t, ht⟩ h0]
      dsimp only [sout0_B_0]
      exact ih (t - 1) (by omega) (by omega) i k n (by omega)

/-- What every point leaves in the result's block. -/
theorem block (c : Dev nD) (t : Fin cfg0.N) (i j : Fin 1024) (n : Fin 16384) (e : Fin 9216)
    (hn : n.val = t.val / 9 * 1024 + i.val) (he : e.val = t.val % 9 * 1024 + j.val) :
    (outsAt0 m c t.val t.isLt).1 (ix2 i j)
      = projected (m ((c : Thread nD τ).loc main_arg0)) (m ((c : Thread nD τ).loc main_arg1)) (m ((c : Thread nD τ).loc main_arg2))
          (m ((c : Thread nD τ).loc main_arg3)) (m ((c : Thread nD τ).loc main_arg4)) (ix2 n e) := by
  have hw : ∀ k, (show Vec Ideal S2048x1024 .bf16 from iblk m c 4 t) (ix2 k j) = m ((c : Thread nD τ).loc main_arg4) (ix2 k (column e)) :=
    fun k => (read_w m c t k j e he).trans (weights_at m c k e)
  by_cases h0 : t.val % 9 = 0
  · have hr := fun k => carried_first m c t h0 i k n hn
    rw [outsAt0_A m c t h0] at hr ⊢
    frame_out at hr
    frame_out
    refine (store_block _ _ i j).trans ?_
    exact Finset.sum_congr rfl fun k _ => congrArg₂ (· * ·) (hr k) (hw k)
  · have hr := fun k => carried m c (t.val - 1) (by omega) i k n (by omega)
    rw [outsAt0_B m c t h0]
    frame_out
    simp only [read_unread_whole]
    refine (store_block _ _ i j).trans ?_
    exact Finset.sum_congr rfl fun k _ => congrArg₂ (· * ·) (hr k) (hw k)

/-- The result array after the last point. -/
theorem result (c : Dev nD) : ((dats m 0 c).arrAt 5 cfg0.N : FVec Ideal S16384x9216 .bf16)
    = projected (m ((c : Thread nD τ).loc main_arg0)) (m ((c : Thread nD τ).loc main_arg1)) (m ((c : Thread nD τ).loc main_arg2))
        (m ((c : Thread nD τ).loc main_arg3)) (m ((c : Thread nD τ).loc main_arg4)) := by
  refine (dats m 0 c).arrAt_eq_of_covers 5 _ (by decide +kernel) fun t _ y => ?_
  blk_simp
  rw [after0_5]
  idx_vars y
  have ht := (idx t).2.2.2.2.2.2
  refine (block m c t y0 y1 ⟨t.val / 9 * 1024 + y0.val, by omega⟩ ⟨t.val % 9 * 1024 + y1.val, by omega⟩ rfl rfl).trans
    (congrArg _ ?_)
  blk_ext [idx t]

end Cert.Inproj

end
-- ==== Proof.InprojRef.lean ====
/- The reference's projection, read at one entry. -/
module

public import proofs.«01_k».proof.Proof.InprojKernel
public import proofs.«01_k».proof.Proof.Gen.Reference2Ideal.Read

@[expose] public section

set_option maxRecDepth 16384

noncomputable section

namespace Cert.InprojRef

open Idealize.ShloMosaic Idealize.ShloMosaic.TcCoe Idealize.SL.Sem
open Cert.Reference2Ideal Cert.Reference2Ideal.Read

variable (X : FVec Ideal S16384x2048 .f32) (G : FVec Ideal S1x2048 .f32) (C H : FVec Ideal S4x1x2048 .f32)
  (W : FVec Ideal S2048x9216 .f32)

/-- The sum of a row's squares. -/
theorem squares_at (b : Fin 4) (s : Fin 4096) : val_main_v3 (F := Ideal) X (ix2 b s)
    = ∑ u : Fin 2048, X (ix2 ⟨b.val * 4096 + s.val, by omega⟩ u) * X (ix2 ⟨b.val * 4096 + s.val, by omega⟩ u) := by
  pointwise [val_main_v3, val_main_v2, val_main_v0, val_main_cst]

/-- A normalised, modulated row. -/
theorem row_at (b : Fin 4) (s : Fin 4096) (k : Fin 2048) : val_main_v20 (F := Ideal) X G C H (ix3 b s k)
    = Cert.Inproj.modulated X G C H ⟨b.val * 4096 + s.val, by omega⟩ k := by
  have h : (⟨(b.val * 4096 + s.val) / 4096, by omega⟩ : Fin 4) = b := Fin.ext (by simp only; omega)
  pointwise [val_main_v20, val_main_v19, val_main_v18, val_main_v17, val_main_v16, val_main_v15, val_main_cst_2, val_main_v14,
    val_main_v13, val_main_v12, val_main_v11, val_main_v10, val_main_v9, val_main_v8, val_main_v7, val_main_cst_1,
    val_main_v6, val_main_v5, val_main_cst_0, val_main_v4, val_main_v1, val_main_v0, squares_at]
  unfold Cert.Inproj.modulated Cert.Norm.rms
  rw [h]

/-- The reference's result at an entry. -/
theorem result_at (i : S16384x9216.Idx) : val_main_v26 (F := Ideal) X G C H W i = Cert.Inproj.projected X G C H W i := by
  idx_vars i
  pointwise [val_main_v26, val_main_v25, val_main_v24, val_main_v23, val_main_v22, val_main_v21, row_at]
  have h : (⟨i0.val / 4096 * 4096 + i0.val % 4096, by omega⟩ : Fin 16384) = i0 := Fin.ext (by simp only; omega)
  have hr (k) := congrArg (fun q => Cert.Inproj.modulated X G C H q k) h
  unfold Cert.Inproj.projected
  split_ifs with h1
  all_goals
    refine Finset.sum_congr rfl fun k _ => congrArg₂ (· * ·) (hr k) (congrArg (fun q => W (ix2 k q)) (Fin.ext ?_))
    simp only [Cert.Inproj.column, ix2]
    omega

end Cert.InprojRef

end
-- ==== Proof.MixRows.lean ====
/- The mixing's rows: what a row of its three results is, from the rows of its arguments, and what a point of the
   kernel stores. -/
module

public import proofs.«01_k».proof.Proof.Rms
public import proofs.«01_k».proof.Proof.Gen.Kernel3Ideal.Value
public import Idealize.ShloMosaic.Lib.Pipeline.ValueKit
public import Idealize.ShloMosaic.Lib.Pointwise

@[expose] public section

set_option maxRecDepth 16384

noncomputable section

namespace Cert.Mix

open Idealize.ShloMosaic Idealize.ShloMosaic.TcCoe Idealize.SL.Sem
open Cert.Norm Cert.Kernel3Ideal Cert.Kernel3Ideal.Gen

/-- The gated sum of the two branches' products, of one row. -/
def merged (a c : Fin 1024 → EReal) (p q : Fin 2048 → EReal) (WA WC : S1024x2048.Idx → EReal) (k : Fin 2048) : EReal :=
  Ideal.logistic (p k) * ∑ u, a u * WA (ix2 u k) + Ideal.logistic (q k) * ∑ u, c u * WC (ix2 u k)

/-- A row's product with the output weights. -/
def mixed (r : Fin 2048 → EReal) (WO : S2048x2048.Idx → EReal) (k : Fin 2048) : EReal := ∑ u, r u * WO (ix2 u k)

/-- The residual row: the gated, normalised branch added to it. -/
def residual (x y : Fin 2048 → EReal) (g : S1x2048.Idx → EReal) (g1 : Fin 2048 → EReal) (k : Fin 2048) : EReal :=
  x k + g1 k * (rms y k * g (ix2 0 k))

/-- The next part's input row: normalised, scaled, shifted. -/
def modulated (x : Fin 2048 → EReal) (g : S1x2048.Idx → EReal) (c h : Fin 2048 → EReal) (k : Fin 2048) : EReal :=
  rms x k * g (ix2 0 k) * (1 + c k) + h k

/-- The router's score of one expert. -/
def score (r : Fin 2048 → EReal) (WR : S2048x32.Idx → EReal) (B : S1x32.Idx → EReal) (e : Fin 32) : EReal :=
  (∑ u, r u * WR (ix2 u e)) + B (ix2 0 e)

/-- The gated sum of the branches' products, at a row of the arguments. -/
def mergedRow (A C : S16384x1024.Idx → EReal) (P : S16384x9216.Idx → EReal) (WA WC : S1024x2048.Idx → EReal)
    (n : Fin 16384) : Fin 2048 → EReal :=
  merged (fun u => A (ix2 n u)) (fun u => C (ix2 n u)) (fun u => P (ix2 n ⟨u.val, by omega⟩))
    (fun u => P (ix2 n ⟨2048 + u.val, by omega⟩)) WA WC

/-- A row of the first result. -/
def outRow (A C : S16384x1024.Idx → EReal) (P : S16384x9216.Idx → EReal) (X : S16384x2048.Idx → EReal)
    (WA WC : S1024x2048.Idx → EReal) (WO : S2048x2048.Idx → EReal) (G : S1x2048.Idx → EReal) (G1 : S4x1x2048.Idx → EReal)
    (n : Fin 16384) : Fin 2048 → EReal :=
  residual (fun u => X (ix2 n u)) (mixed (mergedRow A C P WA WC n) WO) G (fun u => G1 (ix3 ⟨n.val / 4096, by omega⟩ 0 u))

/-- A row of the second result, from the first. -/
def nextRow (x : Fin 16384 → Fin 2048 → EReal) (G : S1x2048.Idx → EReal) (S H : S4x1x2048.Idx → EReal) (n : Fin 16384) :
    Fin 2048 → EReal :=
  modulated (x n) G (fun u => S (ix3 ⟨n.val / 4096, by omega⟩ 0 u)) (fun u => H (ix3 ⟨n.val / 4096, by omega⟩ 0 u))

theorem branch_at (a : Vec Ideal S256x1024 .bf16) (WA : Vec Ideal S1024x2048 .bf16) (c : Vec Ideal S256x1024 .bf16)
    (WC : Vec Ideal S1024x2048 .bf16) (p q : Vec Ideal S256x2048 .bf16) (WO : Vec Ideal S2048x2048 .bf16) (i : Fin 256)
    (k : Fin 2048) : k0_pay3 a WA c WC p q WO (ix2 i k)
      = rms (mixed (merged (fun u => a (ix2 i u)) (fun u => c (ix2 i u)) (fun u => p (ix2 i u)) (fun u => q (ix2 i u)) WA WC) WO) k := by
  unfold rms mixed merged
  pointwise [k0_pay3]

theorem residual_at (x : Vec Ideal S256x2048 .f32) (g1 : Vec Ideal S1x1x2048 .f32) (z : FVec Ideal S256x2048 .f32)
    (g : Vec Ideal S1x2048 .f32) (i : Fin 256) (k : Fin 2048) :
    k0_pay4 x (k0_pay2 g1) z g (ix2 i k) = x (ix2 i k) + g1 (ix3 0 0 k) * (z (ix2 i k) * g (ix2 0 k)) := by
  pointwise [k0_pay4, k0_pay2]

theorem modulated_at (x : Vec Ideal S256x2048 .f32) (b : FVec Ideal S1x2048 .f32) (z : FVec Ideal S256x2048 .f32)
    (g gp : Vec Ideal S1x2048 .f32) (c h : Vec Ideal S1x1x2048 .f32) (i : Fin 256) (k : Fin 2048) :
    k0_pay5 x b z g gp c h (ix2 i k)
      = modulated (fun u => k0_pay4 x b z g (ix2 i u)) gp (fun u => c (ix3 0 0 u)) (fun u => h (ix3 0 0 u)) k := by
  unfold modulated rms
  generalize hr : k0_pay4 x b z g = r
  pointwise [k0_pay5, hr]

theorem rounded_at (x : Vec Ideal S256x2048 .f32) (b : FVec Ideal S1x2048 .f32) (z : FVec Ideal S256x2048 .f32)
    (g gp : Vec Ideal S1x2048 .f32) (c h : Vec Ideal S1x1x2048 .f32) (i : Fin 256) (k : Fin 2048) :
    k0_pay6 x b z g gp c h (ix2 i k) = k0_pay5 x b z g gp c h (ix2 i k) := by
  pointwise [k0_pay6]

theorem score_at (x : Vec Ideal S256x2048 .f32) (b : FVec Ideal S1x2048 .f32) (z : FVec Ideal S256x2048 .f32)
    (g gp : Vec Ideal S1x2048 .f32) (c h : Vec Ideal S1x1x2048 .f32) (WR : Vec Ideal S2048x32 .bf16) (B : Vec Ideal S1x32 .f32)
    (i : Fin 256) (e : Fin 32) :
    k0_pay1 (k0_pay7 x b z g gp c h WR) B (ix2 i e) = score (fun u => k0_pay5 x b z g gp c h (ix2 i u)) WR B e := by
  unfold score
  generalize hr : k0_pay5 x b z g gp c h = r
  pointwise [k0_pay1, k0_pay7, hr]

end Cert.Mix

end
-- ==== Proof.MixReads.lean ====
/- The mixing's three result arrays, row by row. -/
module

public import proofs.«01_k».proof.Proof.MixRows
public import Idealize.ShloMosaic.Lib.Pipeline.ReadBack

@[expose] public section

set_option maxRecDepth 16384

noncomputable section

namespace Cert.Mix

open Idealize.ShloMosaic Idealize.ShloMosaic.TcCoe Idealize.SL.Sem
open Idealize.ShloMosaic.Pipeline (Dat)
open Cert.Norm Cert.Kernel3Ideal Cert.Kernel3Ideal.Gen

variable (m : (ℓ : Loc nD τ sig) → Buf (Elt Ideal) ℓ)

/-- The block every window reads or writes at each grid point. -/
theorem idx : ∀ t : Fin cfg0.N, win0_0.index t = ![t.val, 0] ∧ win0_1.index t = ![t.val, 0] ∧ win0_2.index t = ![t.val, 0]
    ∧ win0_3.index t = ![t.val, 1] ∧ win0_4.index t = ![t.val, 0] ∧ win0_5.index t = ![0, 0] ∧ win0_6.index t = ![0, 0]
    ∧ win0_7.index t = ![0, 0] ∧ win0_8.index t = ![0, 0] ∧ win0_9.index t = ![t.val / 16, 0, 0] ∧ win0_10.index t = ![0, 0]
    ∧ win0_11.index t = ![t.val / 16, 0, 0] ∧ win0_12.index t = ![t.val / 16, 0, 0] ∧ win0_13.index t = ![0, 0]
    ∧ win0_14.index t = ![0, 0] ∧ win0_15.index t = ![t.val, 0] ∧ win0_16.index t = ![t.val, 0] ∧ win0_17.index t = ![t.val, 0]
    ∧ t.val < 64 :=
  (by decide +kernel : ∀ t : Fin grid0.N, _)

theorem read_0 (c : Dev nD) (t : Fin cfg0.N) (i : Fin 256) (k : Fin 1024) (n : Fin 16384) (hn : n.val = t.val * 256 + i.val) :
    (show Vec Ideal S256x1024 .bf16 from iblk m c 0 t) (ix2 i k) = m ((c : Thread nD τ).loc main_arg0) (ix2 n k) := by
  blk_ext [iblk, V, idx t]

theorem read_1 (c : Dev nD) (t : Fin cfg0.N) (i : Fin 256) (k : Fin 1024) (n : Fin 16384) (hn : n.val = t.val * 256 + i.val) :
    (show Vec Ideal S256x1024 .bf16 from iblk m c 1 t) (ix2 i k) = m ((c : Thread nD τ).loc main_arg1) (ix2 n k) := by
  blk_ext [iblk, V, idx t]

theorem read_4 (c : Dev nD) (t : Fin cfg0.N) (i : Fin 256) (k : Fin 2048) (n : Fin 16384) (hn : n.val = t.val * 256 + i.val) :
    (show Vec Ideal S256x2048 .f32 from iblk m c 4 t) (ix2 i k) = m ((c : Thread nD τ).loc main_arg3) (ix2 n k) := by
  blk_ext [iblk, V, idx t]

theorem read_2 (c : Dev nD) (t : Fin cfg0.N) (i : Fin 256) (k : Fin 2048) (n : Fin 16384) (hn : n.val = t.val * 256 + i.val) :
    (show Vec Ideal S256x2048 .bf16 from X0_2 m c t) (ix2 i k) = m ((c : Thread nD τ).loc main_arg2) (ix2 n ⟨k.val, by omega⟩) := by
  have h := moved0_2 t (ix2 i k)
  show X0_2 m c t (ix2 i k) = _
  unfold X0_2 Pipeline.Window.fill
  rw [dif_pos h]
  blk_ext [iblk, V, idx t]

theorem read_3 (c : Dev nD) (t : Fin cfg0.N) (i : Fin 256) (k : Fin 2048) (n : Fin 16384) (hn : n.val = t.val * 256 + i.val) :
    (show Vec Ideal S256x2048 .bf16 from X0_3 m c t) (ix2 i k) = m ((c : Thread nD τ).loc main_arg2) (ix2 n ⟨2048 + k.val, by omega⟩) := by
  have h := moved0_3 t (ix2 i k)
  show X0_3 m c t (ix2 i k) = _
  unfold X0_3 Pipeline.Window.fill
  rw [dif_pos h]
  blk_ext [iblk, V, idx t]

theorem read_9 (c : Dev nD) (t : Fin cfg0.N) (k : Fin 2048) (b : Fin 4) (hb : b.val = t.val / 16) :
    (show Vec Ideal S1x1x2048 .f32 from iblk m c 9 t) (ix3 0 0 k) = m ((c : Thread nD τ).loc main_arg8) (ix3 b 0 k) := by
  blk_ext [iblk, V, idx t]

theorem read_11 (c : Dev nD) (t : Fin cfg0.N) (k : Fin 2048) (b : Fin 4) (hb : b.val = t.val / 16) :
    (show Vec Ideal S1x1x2048 .f32 from iblk m c 11 t) (ix3 0 0 k) = m ((c : Thread nD τ).loc main_arg10) (ix3 b 0 k) := by
  blk_ext [iblk, V, idx t]

theorem read_12 (c : Dev nD) (t : Fin cfg0.N) (k : Fin 2048) (b : Fin 4) (hb : b.val = t.val / 16) :
    (show Vec Ideal S1x1x2048 .f32 from iblk m c 12 t) (ix3 0 0 k) = m ((c : Thread nD τ).loc main_arg11) (ix3 b 0 k) := by
  blk_ext [iblk, V, idx t]

theorem read_8 (c : Dev nD) (t : Fin cfg0.N) : (show Vec Ideal S1x2048 .f32 from iblk m c 8 t) = m ((c : Thread nD τ).loc main_arg7) := by
  funext j
  idx_vars j
  blk_ext [iblk, V, idx t]

theorem read_10 (c : Dev nD) (t : Fin cfg0.N) : (show Vec Ideal S1x2048 .f32 from iblk m c 10 t) = m ((c : Thread nD τ).loc main_arg9) := by
  funext j
  idx_vars j
  blk_ext [iblk, V, idx t]

theorem read_14 (c : Dev nD) (t : Fin cfg0.N) : (show Vec Ideal S1x32 .f32 from iblk m c 14 t) = m ((c : Thread nD τ).loc main_arg13) := by
  funext j
  idx_vars j
  blk_ext [iblk, V, idx t]

theorem weights_5 (c : Dev nD) : (V m c main_v0 : FVec Ideal S1024x2048 .bf16)
    = truncf .bf16 (show FVec Ideal S1024x2048 .f32 from m ((c : Thread nD τ).loc main_arg4)) bitsLt_bf16_f32 := by
  unfold V
  simp only [hostOps0, StableHlo.after_cons, StableHlo.after_nil, StableHlo.TRef.binary, StableHlo.TRef.unary,
    StableHlo.TRef.toBuf, StableHlo.TRef.ofBuf, cast_eq]
  after_results_simp

theorem read_5 (c : Dev nD) (t : Fin cfg0.N) : (show Vec Ideal S1024x2048 .bf16 from iblk m c 5 t) = m ((c : Thread nD τ).loc main_arg4) := by
  refine Eq.trans (b := (V m c main_v0 : FVec Ideal S1024x2048 .bf16)) ?_ ((weights_5 m c).trans rfl)
  funext j
  idx_vars j
  blk_ext [iblk, idx t]

theorem weights_6 (c : Dev nD) : (V m c main_v1 : FVec Ideal S1024x2048 .bf16)
    = truncf .bf16 (show FVec Ideal S1024x2048 .f32 from m ((c : Thread nD τ).loc main_arg5)) bitsLt_bf16_f32 := by
  unfold V
  simp only [hostOps0, StableHlo.after_cons, StableHlo.after_nil, StableHlo.TRef.binary, StableHlo.TRef.unary,
    StableHlo.TRef.toBuf, StableHlo.TRef.ofBuf, cast_eq]
  after_results_simp

theorem read_6 (c : Dev nD) (t : Fin cfg0.N) : (show Vec Ideal S1024x2048 .bf16 from iblk m c 6 t) = m ((c : Thread nD τ).loc main_arg5) := by
  refine Eq.trans (b := (V m c main_v1 : FVec Ideal S1024x2048 .bf16)) ?_ ((weights_6 m c).trans rfl)
  funext j
  idx_vars j
  blk_ext [iblk, idx t]

theorem weights_7 (c : Dev nD) : (V m c main_v2 : FVec Ideal S2048x2048 .bf16)
    = truncf .bf16 (show FVec Ideal S2048x2048 .f32 from m ((c : Thread nD τ).loc main_arg6)) bitsLt_bf16_f32 := by
  unfold V
  simp only [hostOps0, StableHlo.after_cons, StableHlo.after_nil, StableHlo.TRef.binary, StableHlo.TRef.unary,
    StableHlo.TRef.toBuf, StableHlo.TRef.ofBuf, cast_eq]
  after_results_simp

theorem read_7 (c : Dev nD) (t : Fin cfg0.N) : (show Vec Ideal S2048x2048 .bf16 from iblk m c 7 t) = m ((c : Thread nD τ).loc main_arg6) := by
  refine Eq.trans (b := (V m c main_v2 : FVec Ideal S2048x2048 .bf16)) ?_ ((weights_7 m c).trans rfl)
  funext j
  idx_vars j
  blk_ext [iblk, idx t]

theorem weights_13 (c : Dev nD) : (V m c main_v3 : FVec Ideal S2048x32 .bf16)
    = truncf .bf16 (show FVec Ideal S2048x32 .f32 from m ((c : Thread nD τ).loc main_arg12)) bitsLt_bf16_f32 := by
  unfold V
  simp only [hostOps0, StableHlo.after_cons, StableHlo.after_nil, StableHlo.TRef.binary, StableHlo.TRef.unary,
    StableHlo.TRef.toBuf, StableHlo.TRef.ofBuf, cast_eq]
  after_results_simp

theorem read_13 (c : Dev nD) (t : Fin cfg0.N) : (show Vec Ideal S2048x32 .bf16 from iblk m c 13 t) = m ((c : Thread nD τ).loc main_arg12) := by
  refine Eq.trans (b := (V m c main_v3 : FVec Ideal S2048x32 .bf16)) ?_ ((weights_13 m c).trans rfl)
  funext j
  idx_vars j
  blk_ext [iblk, idx t]

end Cert.Mix

end
-- ==== Proof.MixKernel.lean ====
/- The mixing's three result arrays, row by row. -/
module

public import proofs.«01_k».proof.Proof.MixReads

@[expose] public section

set_option maxRecDepth 16384

noncomputable section

namespace Cert.Mix

open Idealize.ShloMosaic Idealize.ShloMosaic.TcCoe Idealize.SL.Sem
open Idealize.ShloMosaic.Pipeline (Dat)
open Cert.Norm Cert.Kernel3Ideal Cert.Kernel3Ideal.Gen

variable (m : (ℓ : Loc nD τ sig) → Buf (Elt Ideal) ℓ)

/-- The first result's rows, from the launch's arguments. -/
def rows (c : Dev nD) : Fin 16384 → Fin 2048 → EReal :=
  outRow (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6))
    (m ((c : Thread nD τ).loc main_arg7)) (m ((c : Thread nD τ).loc main_arg8))

/-- The second result's rows, from the launch's arguments. -/
def nexts (c : Dev nD) : Fin 16384 → Fin 2048 → EReal :=
  nextRow (rows m c) (m ((c : Thread nD τ).loc main_arg9)) (m ((c : Thread nD τ).loc main_arg10)) (m ((c : Thread nD τ).loc main_arg11))

theorem point_rows (c : Dev nD) (t : Fin cfg0.N) (i : Fin 256) (k : Fin 2048) (n : Fin 16384) (hn : n.val = t.val * 256 + i.val) :
    k0_pay4 (F := Ideal) (iblk m c 4 t) (k0_pay2 (iblk m c 9 t))
      (k0_pay3 (iblk m c 0 t) (iblk m c 5 t) (iblk m c 1 t) (iblk m c 6 t) (X0_2 m c t) (X0_3 m c t) (iblk m c 7 t)) (iblk m c 8 t)
      (ix2 i k) = rows m c n k := by
  have hb : n.val / 4096 = t.val / 16 := by omega
  refine (residual_at _ _ _ _ i k).trans ?_
  rw [branch_at]
  unfold rows outRow residual mergedRow
  refine congrArg₂ (· + ·) (read_4 m c t i k n hn) (congrArg₂ (· * ·) (read_9 m c t k ⟨n.val / 4096, by omega⟩ hb)
    (congrArg₂ (· * ·) (congrArg (fun q => rms q k) ?_) (congrFun (read_8 m c t) (ix2 0 k))))
  have e (r : Fin 2048 → EReal) (s : Fin 2048 → EReal) (A B : S2048x2048.Idx → EReal) (h : r = s) (h' : A = B) :
      mixed r A = mixed s B := by rw [h, h']
  refine e _ _ _ _ ?_ (read_7 m c t)
  have e (a a' b b' : Fin 1024 → EReal) (p p' q q' : Fin 2048 → EReal) (A A' B B' : S1024x2048.Idx → EReal) (h : a = a')
      (h1 : b = b') (h2 : p = p') (h3 : q = q') (h4 : A = A') (h5 : B = B') : merged a b p q A B = merged a' b' p' q' A' B' := by
    rw [h, h1, h2, h3, h4, h5]
  exact e _ _ _ _ _ _ _ _ _ _ _ _ (funext fun u => read_0 m c t i u n hn) (funext fun u => read_1 m c t i u n hn)
    (funext fun u => read_2 m c t i u n hn) (funext fun u => read_3 m c t i u n hn) (read_5 m c t) (read_6 m c t)

theorem point_nexts (c : Dev nD) (t : Fin cfg0.N) (i : Fin 256) (k : Fin 2048) (n : Fin 16384) (hn : n.val = t.val * 256 + i.val) :
    k0_pay5 (F := Ideal) (iblk m c 4 t) (k0_pay2 (iblk m c 9 t))
      (k0_pay3 (iblk m c 0 t) (iblk m c 5 t) (iblk m c 1 t) (iblk m c 6 t) (X0_2 m c t) (X0_3 m c t) (iblk m c 7 t)) (iblk m c 8 t)
      (iblk m c 10 t) (iblk m c 11 t) (iblk m c 12 t) (ix2 i k) = nexts m c n k := by
  have hb : n.val / 4096 = t.val / 16 := by omega
  refine (modulated_at _ _ _ _ _ _ _ i k).trans ?_
  have e (x x' : Fin 2048 → EReal) (g g' : S1x2048.Idx → EReal) (a a' h h' : Fin 2048 → EReal) (e1 : x = x') (e2 : g = g')
      (e3 : a = a') (e4 : h = h') : modulated x g a h k = modulated x' g' a' h' k := by rw [e1, e2, e3, e4]
  exact e _ _ _ _ _ _ _ _ (funext fun u => point_rows m c t i u n hn) (read_10 m c t)
    (funext fun u => read_11 m c t u ⟨n.val / 4096, by omega⟩ hb) (funext fun u => read_12 m c t u ⟨n.val / 4096, by omega⟩ hb)

/-- The first result array after the last point. -/
theorem result_rows (c : Dev nD) : ((dats m 0 c).arrAt 15 cfg0.N : FVec Ideal S16384x2048 .f32)
    = fun i => rows m c (i 0) (i 1) := by
  refine (dats m 0 c).arrAt_eq_of_covers 15 _ (by decide +kernel) fun t _ y => ?_
  blk_simp
  rw [after0_15]
  unfold outsAt0
  frame_out
  idx_vars y
  have ht := (idx t).2.2.2.2.2.2.2.2.2.2.2.2.2.2.2.2.2.2
  refine (point_rows m c t y0 y1 ⟨t.val * 256 + y0.val, by omega⟩ rfl).trans ?_
  refine congrArg (fun j : S16384x2048.Idx => rows m c (j 0) (j 1)) (a₁ := ix2 ⟨t.val * 256 + y0.val, by omega⟩ y1) ?_
  blk_ext [idx t]

/-- The second result array after the last point. -/
theorem result_nexts (c : Dev nD) : ((dats m 0 c).arrAt 16 cfg0.N : FVec Ideal S16384x2048 .bf16)
    = fun i => nexts m c (i 0) (i 1) := by
  refine (dats m 0 c).arrAt_eq_of_covers 16 _ (by decide +kernel) fun t _ y => ?_
  blk_simp
  rw [after0_16]
  unfold outsAt0
  frame_out
  idx_vars y
  have ht := (idx t).2.2.2.2.2.2.2.2.2.2.2.2.2.2.2.2.2.2
  refine (rounded_at _ _ _ _ _ _ _ _ _).trans ((point_nexts m c t y0 y1 ⟨t.val * 256 + y0.val, by omega⟩ rfl).trans ?_)
  refine congrArg (fun j : S16384x2048.Idx => nexts m c (j 0) (j 1)) (a₁ := ix2 ⟨t.val * 256 + y0.val, by omega⟩ y1) ?_
  blk_ext [idx t]

/-- The third result array after the last point. -/
theorem result_scores (c : Dev nD) : ((dats m 0 c).arrAt 17 cfg0.N : FVec Ideal S16384x32 .f32)
    = fun i => score (nexts m c (i 0)) (m ((c : Thread nD τ).loc main_arg12)) (m ((c : Thread nD τ).loc main_arg13)) (i 1) := by
  refine (dats m 0 c).arrAt_eq_of_covers 17 _ (by decide +kernel) fun t _ y => ?_
  blk_simp
  rw [after0_17]
  unfold outsAt0
  frame_out
  idx_vars y
  have ht := (idx t).2.2.2.2.2.2.2.2.2.2.2.2.2.2.2.2.2.2
  have e (r s : Fin 2048 → EReal) (A A' : S2048x32.Idx → EReal) (B B' : S1x32.Idx → EReal) (h : r = s) (h1 : A = A')
      (h2 : B = B') : score r A B y1 = score s A' B' y1 := by rw [h, h1, h2]
  refine (score_at _ _ _ _ _ _ _ _ _ y0 y1).trans ((e _ _ _ _ _ _
    (funext fun u => point_nexts m c t y0 u ⟨t.val * 256 + y0.val, by omega⟩ rfl) (read_13 m c t) (read_14 m c t)).trans ?_)
  refine congrArg (fun j : S16384x32.Idx => score (nexts m c (j 0)) (m ((c : Thread nD τ).loc main_arg12)) (m ((c : Thread nD τ).loc main_arg13)) (j 1)) (a₁ := ix2 ⟨t.val * 256 + y0.val, by omega⟩ y1) ?_
  blk_ext [idx t]

end Cert.Mix

end
-- ==== Proof.MixRef.lean ====
/- The reference's mixing, read at one entry. -/
module

public import proofs.«01_k».proof.Proof.MixRows
public import proofs.«01_k».proof.Proof.Gen.Reference3Ideal.Read

@[expose] public section

set_option maxRecDepth 16384

noncomputable section

namespace Cert.MixRef

open Idealize.ShloMosaic Idealize.ShloMosaic.TcCoe Idealize.SL.Sem
open Cert.Norm Cert.Mix Cert.Reference3Ideal Cert.Reference3Ideal.Read

variable (A C : FVec Ideal S16384x1024 .bf16) (P : FVec Ideal S16384x9216 .bf16) (X : FVec Ideal S16384x2048 .f32)
  (WA WC : FVec Ideal S1024x2048 .f32) (WO : FVec Ideal S2048x2048 .f32) (G : FVec Ideal S1x2048 .f32)
  (G1 : FVec Ideal S4x1x2048 .f32) (GP : FVec Ideal S1x2048 .f32) (S H : FVec Ideal S4x1x2048 .f32)
  (WR : FVec Ideal S2048x32 .f32) (B : FVec Ideal S1x32 .f32)

/-- The row of the flat arrays that a sequence and a position stand for. -/
def flat (b : Fin 4) (s : Fin 4096) : Fin 16384 := ⟨b.val * 4096 + s.val, by omega⟩

/-- The gated sum of the branches. -/
theorem merged_at (b : Fin 4) (s : Fin 4096) (k : Fin 2048) : val_main_v26 (F := Ideal) A C P WA WC (ix3 b s k)
    = mergedRow A C P WA WC (flat b s) k := by
  unfold mergedRow merged flat Ideal.logistic
  pointwise [val_main_v26, val_main_v25, val_main_v24, val_main_v23, val_main_v22, val_main_v21, val_main_v20, val_main_v19, val_main_v18, val_main_v17, val_main_v16, val_main_v15, val_main_v14, val_main_v13, val_main_v12, val_main_v11, val_main_v10, val_main_v9, val_main_v8, val_main_v7, val_main_v6, val_main_v5, val_main_v4, val_main_v3, val_main_v2, val_main_v1, val_main_v0, val_main_cst, val_main_cst_0, val_main_cst_1, val_main_cst_2]

/-- The output product. -/
theorem mixed_at (b : Fin 4) (s : Fin 4096) (k : Fin 2048) : val_main_v27 (F := Ideal) A C P WA WC WO (ix3 b s k)
    = mixed (mergedRow A C P WA WC (flat b s)) WO k := by
  unfold mixed
  pointwise [val_main_v27, merged_at]

/-- The first result's rows. -/
theorem out_at (b : Fin 4) (s : Fin 4096) (k : Fin 2048) : val_main_v45 (F := Ideal) A C P X WA WC WO G G1 (ix3 b s k)
    = outRow A C P X WA WC WO G G1 (flat b s) k := by
  have h : (⟨(flat b s).val / 4096, by omega⟩ : Fin 4) = b := Fin.ext (by simp only [flat]; omega)
  unfold outRow Cert.Mix.residual rms
  rw [h]
  unfold flat
  pointwise [val_main_v45, val_main_v44, val_main_v43, val_main_v42, val_main_v41, val_main_v40, val_main_v39, val_main_v38, val_main_v37, val_main_v36, val_main_v35, val_main_v34, val_main_v33, val_main_v32, val_main_v31, val_main_v30, val_main_v29, val_main_v28, val_main_cst_3, val_main_cst_4, val_main_cst_5, mixed_at, flat]

/-- The second result's rows, before their rounding. -/
theorem next_at (b : Fin 4) (s : Fin 4096) (k : Fin 2048) :
    val_main_v65 (F := Ideal) A C P X WA WC WO G G1 GP S H (ix3 b s k)
      = nextRow (outRow A C P X WA WC WO G G1) GP S H (flat b s) k := by
  have h : (⟨(flat b s).val / 4096, by omega⟩ : Fin 4) = b := Fin.ext (by simp only [flat]; omega)
  unfold nextRow Cert.Mix.modulated rms
  rw [h]
  pointwise [val_main_v65, val_main_v64, val_main_v63, val_main_v62, val_main_v61, val_main_v60, val_main_v59, val_main_v58, val_main_v57, val_main_v56, val_main_v55, val_main_v54, val_main_v53, val_main_v52, val_main_v51, val_main_v50, val_main_v49, val_main_v48, val_main_v47, val_main_v46, val_main_cst_6, val_main_cst_7, val_main_cst_8, val_main_cst_9, out_at]

theorem flat_split (n : Fin 16384) (h : n.val / 4096 * 4096 + n.val % 4096 < 16384) :
    (⟨n.val / 4096 * 4096 + n.val % 4096, h⟩ : Fin 16384) = n := Fin.ext (by simp only; omega)

/-- The second result's rows, in the flat order. -/
theorem nexts_at (n : Fin 16384) (k : Fin 2048) :
    val_main_v66 (F := Ideal) A C P X WA WC WO G G1 GP S H (ix2 n k)
      = nextRow (outRow A C P X WA WC WO G G1) GP S H n k := by
  pointwise [val_main_v66, next_at]
  exact congrArg (fun q => nextRow (outRow A C P X WA WC WO G G1) GP S H q k) (flat_split n _)

/-- The first result. -/
theorem result_rows : val_main_v72 (F := Ideal) A C P X WA WC WO G G1
    = fun i => outRow A C P X WA WC WO G G1 (i 0) (i 1) := by
  funext i
  idx_vars i
  pointwise [val_main_v72, out_at]
  exact congrArg (fun q => outRow A C P X WA WC WO G G1 q i1) (flat_split i0 _)

/-- The second result. -/
theorem result_nexts : val_main_v73 (F := Ideal) A C P X WA WC WO G G1 GP S H
    = fun i => nextRow (outRow A C P X WA WC WO G G1) GP S H (i 0) (i 1) := by
  funext i
  idx_vars i
  pointwise [val_main_v73, nexts_at]

/-- The third result. -/
theorem result_scores : val_main_v71 (F := Ideal) A C P X WA WC WO G G1 GP S H WR B
    = fun i => score (nextRow (outRow A C P X WA WC WO G G1) GP S H (i 0)) WR B (i 1) := by
  funext i
  idx_vars i
  unfold score
  pointwise [val_main_v71, val_main_v70, val_main_v69, val_main_v68, val_main_v67, nexts_at]

end Cert.MixRef

end
-- ==== Proof.DownWords.lean ====
/- Small facts about the 32-bit words the down projection is steered by. -/
module

public import Idealize.ShloMosaic.Lib.WordCmp
public import Idealize.ShloMosaic.Lib.Pointwise

@[expose] public section

namespace Cert.Words

open Idealize.ShloMosaic Idealize.ShloMosaic.WordCmp

/-- A word that stands for a small number reads the same signed. -/
theorem toInt_small {v : BitVec 32} (h : v.toNat ≤ 1024) : v.toInt = (v.toNat : Int) :=
  toInt_eq_toNat_of_lt_half (by omega)

theorem toNat_small {k : Nat} (h : k ≤ 1024) : (BitVec.ofNat 32 k).toNat = k := toNat_ofNat_of_lt (by omega)

/-- A truth value widened and compared with zero is itself. -/
theorem widened (b : BitVec 1) : Scalar.cmpi .ne (Scalar.extui b) 0#32 = 1#1 ↔ b = 1#1 := by
  revert b; decide

/-- One less than a small positive word. -/
theorem pred_word {v : BitVec 32} (h1 : 1 ≤ v.toNat) (h2 : v.toNat ≤ 1024) : (v - 1#32).toNat = v.toNat - 1 := by
  rw [BitVec.toNat_sub]; simp only [BitVec.toNat_ofNat]; omega

/-- The smaller of a small number and one less than a word. -/
theorem min_word {k : Nat} {v : BitVec 32} (hk : k ≤ 1024) (h1 : 1 ≤ v.toNat) (h2 : v.toNat ≤ 1024) :
    (Scalar.minsi (BitVec.ofNat 32 k) (Scalar.subi v 1#32)).toNat = min k (v.toNat - 1) := by
  have e1 := pred_word h1 h2
  have e2 := toNat_small hk
  show (IntOp.minsi (BitVec.ofNat 32 k) (v - 1#32)).toNat = _
  unfold IntOp.minsi
  split_ifs with h <;> rw [BitVec.slt_iff_toInt_lt, toInt_small (by omega), toInt_small (by omega), e1, e2] at h
  · rw [e2]; omega
  · rw [e1]; omega

/-- One less than a small number, but not below nought. -/
theorem prev_word {k : Nat} (hk : k ≤ 1024) :
    (Scalar.maxsi (Scalar.subi (BitVec.ofNat 32 k) 1#32) 0#32).toNat = k - 1 := by
  show (IntOp.maxsi (BitVec.ofNat 32 k - 1#32) 0#32).toNat = _
  unfold IntOp.maxsi
  have e2 := toNat_small hk
  rcases Nat.eq_zero_or_pos k with rfl | hp
  · decide
  · have e1 := pred_word (v := BitVec.ofNat 32 k) (by omega) (by omega)
    rw [e2] at e1
    split_ifs with h
    · exact e1
    · rw [BitVec.slt_iff_toInt_lt, toInt_small (v := BitVec.ofNat 32 k - 1#32) (by omega), e1, show (0#32).toInt = 0 from rfl] at h
      show 0 = _
      omega

/-- A small number below a word. -/
theorem lt_word {k : Nat} {v : BitVec 32} (hk : k ≤ 1024) (h2 : v.toNat ≤ 1024) :
    Scalar.cmpi .slt (BitVec.ofNat 32 k) v = 1#1 ↔ k < v.toNat := by
  show IntOp.cmpi .slt (BitVec.ofNat 32 k) v = 1#1 ↔ _
  rw [cmpi_slt_eq, ofBool_decide_eq_one_iff, toInt_small h2, toInt_small (by rw [toNat_small hk]; exact hk), toNat_small hk]
  omega

/-- Whether a number is nought or two words differ. -/
theorem differs {k : Nat} (hk : k ≤ 1024) (a b : BitVec 32) :
    Scalar.ori (Scalar.cmpi .eq (BitVec.ofNat 32 k) 0#32) (Scalar.cmpi .ne a b) = 1#1 ↔ k = 0 ∨ a ≠ b := by
  show IntOp.ori (IntOp.cmpi .eq (BitVec.ofNat 32 k) 0#32) (IntOp.cmpi .ne a b) = 1#1 ↔ _
  rw [cmpi_eq_eq, cmpi_ne_eq, ori_ofBool, ofBool_eq_one_iff, Bool.or_eq_true, decide_eq_true_iff, decide_eq_true_iff]
  refine or_congr ⟨fun h => ?_, fun h => by rw [h]⟩ Iff.rfl
  have := congrArg BitVec.toNat h
  rw [toNat_small hk] at this
  simpa using this

end Cert.Words
-- ==== Proof.Routed.lean ====
/- What the routing precondition says: every expert is one of the thirty-two, and between one tile and all are in use. -/
module

public import proofs.«01_k».proof.Pre_routed
public import Idealize.ShloMosaic.Lib.ValueIdx
public import proofs.«01_k».proof.Proof.DownWords
public import proofs.«01_k».proof.Proof.Finite

@[expose] public section

noncomputable section

namespace Cert.Routed

open Idealize.ShloMosaic Idealize.ShloMosaic.TcCoe Idealize.SL.Sem Cert.Pre_routed Idealize.ShloMosaic.WordCmp

theorem facts : Cert.Pre_routed.Facts where
  bcast_S_S288 := by decide
  reducesTo_S288_S_d0 := by decide
  h_S_ := by decide
  bcast_S_S1 := by decide
  reducesTo_S1_S_d0 := by decide

instance : Subsingleton S_.Idx := ⟨fun a b => funext fun x => x.elim0⟩

/-- A word at least nought and below thirty-two, read signed. -/
theorem expert_word (v : BitVec 32) (h : IntOp.andi (IntOp.cmpi .sge v 0#32) (IntOp.cmpi .slt v 32#32) = 1#1) : v.toNat < 32 := by
  obtain ⟨h1, h2⟩ := IntOp.andi_eq_one.1 h
  rw [cmpi_sge_eq, ofBool_decide_eq_one_iff] at h1
  rw [cmpi_slt_eq, ofBool_decide_eq_one_iff] at h2
  have e0 : (0#32).toInt = 0 := by decide
  have e1 : (32#32).toInt = 32 := by decide
  rw [e0] at h1
  rw [e1] at h2
  have e := BitVec.toInt_eq_toNat_cond v
  have := v.isLt
  split_ifs at e <;> omega

/-- A word at least one and at most 288, read signed. -/
theorem count_word (v : BitVec 32) (h : IntOp.andi (IntOp.cmpi .sge v 1#32) (IntOp.cmpi .sle v 288#32) = 1#1) : 1 ≤ v.toNat ∧ v.toNat ≤ 288 := by
  obtain ⟨h1, h2⟩ := IntOp.andi_eq_one.1 h
  rw [cmpi_sge_eq, ofBool_decide_eq_one_iff] at h1
  rw [cmpi_sle_eq, ofBool_decide_eq_one_iff] at h2
  have e0 : (1#32).toInt = 1 := by decide
  have e1 : (288#32).toInt = 288 := by decide
  rw [e0] at h1
  rw [e1] at h2
  have e := BitVec.toInt_eq_toNat_cond v
  have := v.isLt
  split_ifs at e <;> omega

/-! ## Reading a table at a table -/

/-- The dimension numbers of `x[i]` for a flat table and a column of places. -/
theorem take_apply {α : Type} {N R : Nat} (hN : 0 < N)
    (wf : GatherDims.WF ⟨1, ![N]⟩ ⟨2, ![R, 1]⟩ ⟨1, ![R]⟩ [] [0] [] [0] [] 1 ![1])
    (x : (⟨1, ![N]⟩ : Shape).Idx → α) (idx : IVec ⟨2, ![R, 1]⟩ 32) (k : Fin R) :
    Host.gather (⟨[], [0], [], [], [0], 1, ![1], wf⟩ : GatherDims ⟨1, ![N]⟩ ⟨2, ![R, 1]⟩ ⟨1, ![R]⟩) x idx (ix1 k)
      = x (ix1 ⟨min (idx (ix2 k 0)).toInt.toNat (N - 1), by omega⟩) := by
  unfold Host.gather
  refine congrArg x (funext fun a => Fin.ext ?_)
  obtain rfl : a = 0 := Subsingleton.elim _ _
  let d : GatherDims ⟨1, ![N]⟩ ⟨2, ![R, 1]⟩ ⟨1, ![R]⟩ := ⟨[], [0], [], [], [0], 1, ![1], wf⟩
  show d.start (ix1 k) idx 0 + d.batchCoord (ix1 k) 0 + d.offCoord (ix1 k) 0 = _
  rw [d.batchCoord_eq_zero _ _ List.not_mem_nil, d.offCoord_eq_zero _ _ (fun h => ((GatherDims.mem_sKept _ _).mp h).1 (List.mem_singleton.mpr rfl))]
  unfold GatherDims.start
  rw [dif_pos (show (0 : Fin 1) ∈ d.startIndexMap from List.mem_singleton.mpr rfl)]
  have hk : d.siIdx (ix1 k) ⟨List.idxOf (0 : Fin 1) d.startIndexMap, List.idxOf_lt_length_iff.2 (List.mem_singleton.mpr rfl)⟩ = ix2 k 0 := by
    funext b; refine Fin.ext ?_
    match b with
    | ⟨0, _⟩ => rfl
    | ⟨1, _⟩ => rfl
  rw [hk]
  rfl

/-! ## The precondition -/

variable [Cert.Pre_routed.Facts] {F : FTy → Type} [FloatOps F]

theorem both (te : IVec S288 32) (nu : IVec S1 32) (x : FVec F S73728x2048 .bf16) (w : FVec F S32x2048x2048 .f32) (b : FVec F S32x2048 .f32)
    (h : Cert.Pre_routed.fn (F := F) te nu x w b = fun _ => 1#1) :
    (∀ i, (te i).toNat < 32) ∧ (∀ i, 1 ≤ (nu i).toNat ∧ (nu i).toNat ≤ 288) := by
  have h0 := congrFun h ix0
  unfold Cert.Pre_routed.fn at h0
  obtain ⟨hX, hR⟩ := IntOp.andi_eq_one.1 h0
  exact ⟨fun i => expert_word _ (Host.reduce_andi_all _ _ _ _ _ hX i), fun i => count_word _ (Host.reduce_andi_all _ _ _ _ _ hR i)⟩

end Cert.Routed

end
-- ==== Proof.DownSetup.lean ====
/- The down projection's launch: the buffers the pipeline finds, the tables it is steered by, its windows' blocks and the
   memrefs the body is handed. -/
module

public import proofs.«01_k».proof.Proof.Gen.Kernel4Ideal.Launch
public import proofs.«01_k».proof.Proof.Gen.Kernel4Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ)

/-- What each buffer holds once the host operations have run. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
/-- The program is its host operations, then the pipeline. -/
theorem main_runs (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The host operations write none of the arguments. -/
theorem V_arg (c : Dev nD) (b : Ref sig .tc) (hb : b ∈ [main_arg0, main_arg1, main_arg2, main_arg3, main_arg4]) :
    V m c b = m ((c : Thread nD τ).loc b) := by
  simp only [List.mem_cons, List.not_mem_nil, or_false] at hb
  obtain rfl | rfl | rfl | rfl | rfl := hb <;>
  exact StableHlo.after_of_forall_not_mem (b := Proc.devRef .tc _) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The three tables' contents. -/
def tbl : pre0.Contents (Elt F) := fun j => V m (0 : Dev nD) (pre0.ref j)

theorem V_tbl (c : Dev nD) (j : Fin 3) : V m c (pre0.ref j) = tbl m j := by
  obtain rfl : c = 0 := Subsingleton.elim _ _; rfl

/-- Every window's block lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body reads them. -/
abbrev te : Memref sig .tc .smem S288 .i32 := Memref.whole main_arg0
abbrev teW : te.IsWhole := Memref.isWhole_whole _
abbrev nu : Memref sig .tc .smem S1 .i32 := Memref.whole main_arg1
abbrev nuW : nu.IsWhole := Memref.isWhole_whole _
abbrev we : Memref sig .tc .smem S288 .i32 := Memref.whole main_v11
abbrev weW : we.IsWhole := Memref.isWhole_whole _

/-- A table's buffer, and half of it held at some contents. -/
abbrev TabBuf (c : Dev nD) {S : Shape} {e : EltTy} (M : Memref sig .tc .smem S e) : Type := Buf (Elt F) (M.view.loc (c : Thread nD τ))
abbrev tabHeld (c : Dev nD) {S : Shape} {e : EltTy} (M : Memref sig .tc .smem S e) (f : TabBuf (F := F) c M) : sProp 𝕄 :=
  M.view.loc (c : Thread nD τ) ↦{fullShare.right} f

/-- What the body holds of the tables, one by one. -/
theorem tables_eq (c : Dev nD) : (Pipeline.ΦT pre0 (tbl m) c : sProp 𝕄) = iprop(tabHeld c te (tbl m 0) ∗ tabHeld c nu (tbl m 1) ∗ tabHeld c we (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- A window's block at a point, as the pipeline finds the array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window holds its block at every point, whether it was fetched there or before. -/
theorem before_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)

/-- Each window's staging memref at a point. -/
abbrev ms_0 (hO : Ok m) (t : Fin (cfgM m hO).N) : Memref sig .tc .vmem S256x2048 .bf16 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x2048x512 .f32 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x1x512 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S256x512 .f32 := spec0_3.stage ((cfgM m hO).slots t 3)
abbrev hs_3 (hO : Ok m) (t : Fin (cfgM m hO).N) : (ms_3 m hO t).IsWhole := hstage0_3 (((cfgM m hO).slots t 3).cast nbuf0_3)
/-- The weights' buffer that outlives a point. -/
abbrev kept : Memref sig .tc .vmem S2048x512 .bf16 := Memref.whole cc0_scratch0
abbrev keptW : kept.IsWhole := Memref.isWhole_whole _

theorem scoped_eq (c : Dev nD) :
    (Pipeline.ΦA spec0 c : sProp 𝕄)
      = iprop(iprop((∃ d, owns (c : Thread nD τ) kept fullShare d)) ∗ (∃ r, prngReg c r)) := by
  unfold Pipeline.ΦA; rw [scopedRest0_eq]; simp only [kept, owns_whole]; try rfl

end Cert.Kernel4Ideal.Down

end
-- ==== Proof.DownRun.lean ====
/- One point of the down projection's grid. -/
module

public import proofs.«01_k».proof.Proof.DownSetup

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

/-- The word of a table at an offset. -/
abbrev wordAt (c : Dev nD) (x : TabBuf (F := F) c te) (off : Fin 1 → Nat) (h : ∀ a, off a + S1.size a ≤ S288.size a) : BitVec 32 :=
  x ((Rect.unit (s := S288) off S1.size h).emb (Shape.Idx.first (numel1_S1.symm ▸ Nat.one_pos)))

/-- The number of tiles in use. -/
abbrev count (c : Dev nD) (x : TabBuf (F := F) c nu) : BitVec 32 :=
  x ((Rect.unit (s := S1) ![0] S1.size inb_S1_S1_0).emb (Shape.Idx.first (numel1_S1.symm ▸ Nat.one_pos)))

/-- Whether a point's tile is in use. -/
abbrev used (i : grid0.Coords) (n : BitVec 32) : Prop := k0_cond1 i n = 1#1

/-- Whether a point takes up its expert's weights: it is a column's first, or its expert is not the point's before it. -/
abbrev fresh (i : grid0.Coords) (last this : BitVec 32) : Prop :=
  Scalar.cmpi .ne ((Scalar.extui (Scalar.ori (Scalar.cmpi .eq (BitVec.ofNat 32 (i 1).val) 0#32) (Scalar.cmpi .ne this last))) : BitVec 32) 0#32 = 1#1

/-- The weights a point multiplies by. -/
def weights (c : Dev nD) (i : grid0.Coords) (x1 : Vec F S1x2048x512 .f32) (xs : Vec F S2048x512 .bf16) (xt0 : TabBuf (F := F) c te) : Vec F S2048x512 .bf16 :=
  if fresh i (wordAt c xt0 (k0_off2 i) (k0_off2_inb i)) (wordAt c xt0 (k0_off3 i) (k0_off3_inb i)) then k0_pay1 x1 else xs

/-- A rectangle from the origin of a buffer's own extents is the whole buffer. -/
theorem emb_whole {s : Shape} {off : Fin s.rank → Nat} (h : ∀ a, off a = 0) (inb : ∀ a, off a + s.size a ≤ s.size a) (x : s.Idx) :
    (Rect.unit (s := s) off s.size inb).emb x = x := by
  funext a; apply Fin.ext
  show off a + 1 * (x a).val = (x a).val
  rw [h a]; omega

/-- A load of a whole buffer. -/
theorem load_whole {s : Shape} {e : EltTy} {M : Memref sig .tc .vmem s e} (hM : M.IsWhole) {off : Fin s.rank → Nat} (h : ∀ a, off a = 0)
    (inb : ∀ a, off a + s.size a ≤ s.size a) (X : s.Idx → Elt F e) :
    View.readAt (Elt F) M.view (Rect.unit (s := s) off s.size inb).toLoadRect (hM.unread X) = X :=
  funext fun x => (congrFun (hM.read_unread X) _).trans (congrArg X (emb_whole h inb x))

/-- A store over a whole buffer. -/
theorem store_whole {s : Shape} {e : EltTy} (v : View sig .tc .vmem s e) (f : v.ty.Contents (Elt F)) {off : Fin s.rank → Nat} (h : ∀ a, off a = 0)
    (inb : ∀ a, off a + s.size a ≤ s.size a) (w : s.Idx → Elt F e) :
    v.read (Elt F) (v.writes (Elt F) f [⟨Rect.unit (s := s) off s.size inb, w⟩]) = w :=
  funext fun x => (congrArg (v.read (Elt F) _) (emb_whole h inb x).symm).trans (View.read_writes_cons_emb v f (Rect.unit (s := s) off s.size inb) w [] x)

theorem zero2 : ∀ a : Fin 2, (![0, 0] : Fin 2 → Nat) a = 0 := by decide
theorem zero3 : ∀ a : Fin 3, (![0, 0, 0] : Fin 3 → Nat) a = 0 := by decide

set_option maxHeartbeats 1000000 in
/-- One point's body: it leaves the tile's product in the output's buffer and the weights it used in the kept buffer, or,
    where the tile is not in use, both as they were. -/
theorem run_point (c : Dev nD) (i : grid0.Coords) (arg5 : Memref sig .tc .vmem S256x2048 .bf16) (harg5 : arg5.IsWhole) (arg6 : Memref sig .tc .vmem S1x2048x512 .f32) (harg6 : arg6.IsWhole) (arg7 : Memref sig .tc .vmem S1x1x512 .f32) (harg7 : arg7.IsWhole) (arg8 : Memref sig .tc .vmem S256x512 .f32) (harg8 : arg8.IsWhole) (arg9 : Memref sig .tc .vmem S2048x512 .bf16) (harg9 : arg9.IsWhole)
    (x0 : Vec F S256x2048 .bf16) (x1 : Vec F S1x2048x512 .f32) (x2 : Vec F S1x1x512 .f32) (x3 : Vec F S256x512 .f32) (xs : Vec F S2048x512 .bf16) (xt0 : TabBuf (F := F) c te) (xt1 : TabBuf (F := F) c nu) (xt2 : TabBuf (F := F) c we)
    (y3 : Vec F S256x512 .f32) (ys : Vec F S2048x512 .bf16)
    (hy : used i (count c xt1) → ys = weights c i x1 xs xt0 ∧ y3 = k0_pay2 x0 ys x2)
    (hn : ¬used i (count c xt1) → ys = xs ∧ y3 = x3) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare xs ∗ tabHeld c te xt0 ∗ tabHeld c nu xt1 ∗ tabHeld c we xt2
            ∗ (iprop(owns (c : Thread nD τ) arg5 fullShare x0 ∗ owns (c : Thread nD τ) arg6 fullShare x1 ∗ owns (c : Thread nD τ) arg7 fullShare x2 ∗ owns (c : Thread nD τ) arg8 fullShare y3 ∗ owns (c : Thread nD τ) arg9 fullShare ys ∗ tabHeld c te xt0 ∗ tabHeld c nu xt1 ∗ tabHeld c we xt2) -∗ K ⟨⟩))
          ⊢ wp frame (wpE (defs₀ (F := F)) Variants.none c none) E (cc0_down i te teW nu nuW we weW arg5 harg5 arg6 harg6 arg7 harg7 arg8 harg8 arg9 harg9) K := by
    intro E K
    simp only [cc0_down_eq_skeleton]; unfold cc0_down_skel
    unfold owns
    iintro ⟨⟨%f0, %hf0, H0⟩, ⟨%f1, %hf1, H1⟩, ⟨%f2, %hf2, H2⟩, ⟨%f3, %hf3, H3⟩, ⟨%fs0, %hfs0, HS0⟩, HT0, HT1, HT2, Hk⟩
    obtain rfl := harg5.eq_unread hf0; obtain rfl := harg6.eq_unread hf1; obtain rfl := harg7.eq_unread hf2
    obtain rfl := harg8.eq_unread hf3; obtain rfl := harg9.eq_unread hfs0
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    have hv : (run_point.sl.v14 c i xt0 = 1#1) = fresh i (wordAt c xt0 (k0_off2 i) (k0_off2_inb i)) (wordAt c xt0 (k0_off3 i) (k0_off3_inb i)) := by
      unfold run_point.sl.v14; rfl
    have hw : weights c i x1 xs xt0 = if run_point.sl.v14 c i xt0 = 1#1 then k0_pay1 x1 else xs := by
      unfold weights; exact if_congr (iff_of_eq hv.symm) rfl rfl
    have hr : run_point.sl.r c xt1 = count c xt1 := rfl
    clear hv
    isplitl [H3]
    · iexists _; isplitr; swap; · iexact H3
      ipureintro
      rw [hr]
      by_cases hu : used i (count c xt1)
      · obtain ⟨rfl, rfl⟩ := hy hu
        rw [dif_pos hu]
        refine (store_whole _ _ zero2 _ _).trans ?_
        rw [load_whole harg5 zero2, load_whole harg7 zero3]
        refine congrArg (fun w => k0_pay2 x0 w x2) ?_
        rw [hw]
        unfold run_point.sl.v16
        by_cases hf : run_point.sl.v14 c i xt0 = 1#1
        · rw [dif_pos hf, if_pos hf, load_whole harg6 zero3]
          exact (funext fun x => congrArg (View.read (Elt F) arg9.view _) (emb_whole zero2 _ x)).trans (store_whole _ _ zero2 _ _)
        · rw [dif_neg hf, if_neg hf]
          exact load_whole harg9 zero2 _ _
      · obtain ⟨rfl, rfl⟩ := hn hu
        rw [dif_neg hu]; exact hf3
    isplitl [HS0]
    · iexists _; isplitr; swap; · iexact HS0
      ipureintro
      rw [hr]
      by_cases hu : used i (count c xt1)
      · obtain ⟨rfl, rfl⟩ := hy hu
        rw [dif_pos hu, hw]
        by_cases hf : run_point.sl.v14 c i xt0 = 1#1
        · rw [dif_pos hf, if_pos hf, load_whole harg6 zero3]
          exact store_whole _ _ zero2 _ _
        · rw [dif_neg hf, if_neg hf]; exact hfs0
      · obtain ⟨rfl, rfl⟩ := hn hu
        rw [dif_neg hu]; exact hfs0
    isplitl [HT0]; · iexact HT0
    isplitl [HT1]; · iexact HT1
    iexact HT2

end Cert.Kernel4Ideal.Down

end
-- ==== Proof.DownSteps.lean ====
/- How the down projection's windows and conditions move from one point of the grid to the next. -/
module

public import proofs.«01_k».proof.Proof.DownRun
public import proofs.«01_k».proof.Proof.DownWords
public import Idealize.ShloMosaic.Lib.Pipeline.TableIdle

@[expose] public section

set_option maxRecDepth 16384

noncomputable section

namespace Cert.Kernel4Ideal.Down

open Idealize.ShloMosaic Idealize.ShloMosaic.TcCoe Idealize.SL.Sem
open Idealize.ShloMosaic.Pipeline (Dat Cfg Window)
open Idealize.ShloMosaic.Rounds
open Cert.Kernel4Ideal.Gen Cert.Words

variable {F : FTy → Type} [FloatOps F]

variable (m : (ℓ : Loc nD τ sig) → Buf (Elt F) ℓ)

/-- The number of tiles in use, a tile's expert, and the expert whose weights stand ready at a tile. -/
def tiles : BitVec 32 := (V m 0 main_arg1 : S1.Idx → BitVec 32) (ix1 0)
def expert (k : Fin 288) : BitVec 32 := (V m 0 main_arg0 : S288.Idx → BitVec 32) (ix1 k)
def ready (k : Fin 288) : BitVec 32 := (V m 0 main_v11 : S288.Idx → BitVec 32) (ix1 k)

/-- The tables as the launch finds them: at least one tile in use, and the third table the first held at its last
    tile in use. -/
structure Steer : Prop where
  pos : 1 ≤ (tiles m).toNat
  le : (tiles m).toNat ≤ 288
  held : ∀ k : Fin 288, ready m k = expert m ⟨min k.val ((tiles m).toNat - 1), by have := k.isLt; omega⟩

variable (hO : Ok m)

theorem points {t : Nat} (h : t < (cfgM m hO).N) : t < 1152 := lt_of_lt_of_eq h (show (cfgM m hO).N = 1152 from N_0)

/-- A point's tile and column. -/
theorem coord_tile (t : Fin grid0.N) : (grid0.coords t 1).val = t.val % 288 :=
  (Pipeline.Grid.coords_val t 1 (by decide) rfl : (grid0.coords t 1).val = t.val / 1 % 288).trans (by rw [Nat.div_one])
theorem coord_col (t : Fin grid0.N) : (grid0.coords t 0).val = t.val / 288 := by
  have ht : t.val < 1152 := Nat.lt_of_lt_of_eq t.isLt N_0
  exact (Pipeline.Grid.coords_val t 0 (by decide) rfl : (grid0.coords t 0).val = t.val / 288 % 4).trans (by omega)

theorem tile_lt (t : Fin grid0.N) : t.val % 288 < 288 := by omega

/-- The words the body reads. -/
theorem count_eq : count (F := F) 0 (tbl m 1) = tiles m :=
  congrArg (V m 0 main_arg1 : S1.Idx → BitVec 32) (funext fun a => Fin.ext (by have := (ix1 (0 : Fin 1) a).isLt; fin_cases a; rfl))

theorem this_word (t : Fin grid0.N) : wordAt (F := F) 0 (tbl m 0) (k0_off3 (grid0.coords t)) (k0_off3_inb _) = expert m ⟨t.val % 288, tile_lt t⟩ := by
  refine congrArg (V m 0 main_arg0 : S288.Idx → BitVec 32) (funext fun a => Fin.ext ?_)
  fin_cases a
  show (BitVec.ofNat 32 (grid0.coords t 1).val).toNat + 1 * 0 = t.val % 288
  rw [coord_tile, toNat_small (by omega)]; omega

theorem last_word (t : Fin grid0.N) : wordAt (F := F) 0 (tbl m 0) (k0_off2 (grid0.coords t)) (k0_off2_inb _) = expert m ⟨t.val % 288 - 1, by omega⟩ := by
  refine congrArg (V m 0 main_arg0 : S288.Idx → BitVec 32) (funext fun a => Fin.ext ?_)
  fin_cases a
  show (Scalar.maxsi (Scalar.subi (BitVec.ofNat 32 (grid0.coords t 1).val) 1#32) 0#32).toNat + 1 * 0 = t.val % 288 - 1
  rw [coord_tile, prev_word (by omega)]; omega

/-- A point's tile is in use when it comes before the count. -/
theorem used_iff (hS : Steer m) (t : Fin grid0.N) : used (grid0.coords t) (tiles m) ↔ t.val % 288 < (tiles m).toNat := by
  have := hS.le
  refine (widened _).trans ?_
  rw [coord_tile]
  exact lt_word (by omega) (by omega)

/-- A point takes up its weights at a column's first tile or at a new expert. -/
theorem fresh_iff (t : Fin grid0.N) (a b : BitVec 32) : fresh (grid0.coords t) a b ↔ t.val % 288 = 0 ∨ b ≠ a := by
  refine (widened _).trans ?_
  rw [coord_tile]
  exact differs (by omega) _ _

/-! ## The blocks' indices -/

theorem index_0 (hS : Steer m) (t : Fin (cfgM m hO).N) : ((cfgM m hO).win 0).index t = ![min (t.val % 288) ((tiles m).toNat - 1), 0] := by
  have h1 := hS.pos; have h2 := hS.le
  show ![(Scalar.minsi (BitVec.ofNat 32 (grid0.coords t 1).val) (Scalar.subi (count (F := F) 0 (tbl m 1)) 1#32)).toNat, (0#32).toNat] = _
  rw [count_eq, coord_tile, min_word (by omega) h1 (by omega)]; rfl

theorem index_3 (hS : Steer m) (t : Fin (cfgM m hO).N) : ((cfgM m hO).win 3).index t = ![min (t.val % 288) ((tiles m).toNat - 1), t.val / 288] := by
  have h1 := hS.pos; have h2 := hS.le
  have ht := points m hO t.isLt
  show ![(Scalar.minsi (BitVec.ofNat 32 (grid0.coords t 1).val) (Scalar.subi (count (F := F) 0 (tbl m 1)) 1#32)).toNat, (BitVec.ofNat 32 (grid0.coords t 0).val).toNat] = _
  rw [count_eq, coord_tile, coord_col, min_word (by omega) h1 (by omega), toNat_small (by omega)]

/-- The expert whose weights stand ready at a point. -/
theorem ready_word (t : Fin grid0.N) : wordAt (F := F) 0 (tbl m 2) (k0_off1 (grid0.coords t)) (k0_off1_inb _) = ready m ⟨t.val % 288, tile_lt t⟩ := by
  refine congrArg (V m 0 main_v11 : S288.Idx → BitVec 32) (funext fun a => Fin.ext ?_)
  fin_cases a
  show (BitVec.ofNat 32 (grid0.coords t 1).val).toNat + 1 * 0 = t.val % 288
  rw [coord_tile, toNat_small (by omega)]; omega

theorem index_1 (t : Fin (cfgM m hO).N) : ((cfgM m hO).win 1).index t = ![(ready m ⟨t.val % 288, tile_lt t⟩).toNat, 0, t.val / 288] := by
  have ht := points m hO t.isLt
  show ![(wordAt (F := F) 0 (tbl m 2) (k0_off1 (grid0.coords t)) (k0_off1_inb _)).toNat, (0#32).toNat, (BitVec.ofNat 32 (grid0.coords t 0).val).toNat] = _
  rw [ready_word, coord_col, toNat_small (k := t.val / 288) (by omega)]; rfl

theorem index_2 (t : Fin (cfgM m hO).N) : ((cfgM m hO).win 2).index t = ![(ready m ⟨t.val % 288, tile_lt t⟩).toNat, 0, t.val / 288] := by
  have ht := points m hO t.isLt
  show ![(wordAt (F := F) 0 (tbl m 2) (k0_off1 (grid0.coords t)) (k0_off1_inb _)).toNat, (0#32).toNat, (BitVec.ofNat 32 (grid0.coords t 0).val).toNat] = _
  rw [ready_word, coord_col, toNat_small (k := t.val / 288) (by omega)]; rfl

/-! ## Where nothing moves -/

/-- At a tile past those in use, every block is the one before's. -/
theorem same_past (hS : Steer m) (t t' : Fin (cfgM m hO).N) (h' : t'.val + 1 = t.val) (h : (tiles m).toNat ≤ t.val % 288) (w : Fin 4) :
    ((cfgM m hO).win w).index t = ((cfgM m hO).win w).index t' := by
  have h1 := hS.pos; have h2 := hS.le
  have e1 : t.val / 288 = t'.val / 288 := by omega
  have e2 : t'.val % 288 = t.val % 288 - 1 := by omega
  have e3 : min (t.val % 288) ((tiles m).toNat - 1) = min (t'.val % 288) ((tiles m).toNat - 1) := by omega
  have e4 : ready m ⟨t.val % 288, by omega⟩ = ready m ⟨t'.val % 288, by omega⟩ := by
    rw [hS.held, hS.held]; exact congrArg (expert m) (Fin.ext e3)
  match w with
  | ⟨0, _⟩ => exact (index_0 m hO hS t).trans ((congrArg (fun k : Nat => (![k, 0] : Fin 2 → Nat)) e3).trans (index_0 m hO hS t').symm)
  | ⟨1, _⟩ => exact (index_1 m hO t).trans ((congrArg₂ (fun (v : BitVec 32) (k : Nat) => (![v.toNat, 0, k] : Fin 3 → Nat)) e4 e1).trans (index_1 m hO t').symm)
  | ⟨2, _⟩ => exact (index_2 m hO t).trans ((congrArg₂ (fun (v : BitVec 32) (k : Nat) => (![v.toNat, 0, k] : Fin 3 → Nat)) e4 e1).trans (index_2 m hO t').symm)
  | ⟨3, _⟩ => exact (index_3 m hO hS t).trans ((congrArg₂ (fun k l : Nat => (![k, l] : Fin 2 → Nat)) e3 e1).trans (index_3 m hO hS t').symm)

/-- At a tile in use whose expert is the tile before's, the weights' block is the one before's. -/
theorem same_expert (hS : Steer m) (t t' : Fin (cfgM m hO).N) (h' : t'.val + 1 = t.val) (h : t.val % 288 < (tiles m).toNat) (h0 : t.val % 288 ≠ 0)
    (he : expert m ⟨t.val % 288, by omega⟩ = expert m ⟨t.val % 288 - 1, by omega⟩) :
    ((cfgM m hO).win 1).index t = ((cfgM m hO).win 1).index t' := by
  have h1 := hS.pos; have h2 := hS.le
  have e1 : t.val / 288 = t'.val / 288 := by omega
  have e4 : ready m ⟨t.val % 288, by omega⟩ = ready m ⟨t'.val % 288, by omega⟩ := by
    rw [hS.held, hS.held]
    refine (congrArg (expert m) (Fin.ext ?_)).trans (he.trans (congrArg (expert m) (Fin.ext ?_)))
    · show min (t.val % 288) ((tiles m).toNat - 1) = t.val % 288
      omega
    · show t.val % 288 - 1 = min (t'.val % 288) ((tiles m).toNat - 1)
      omega
  exact (index_1 m hO t).trans ((congrArg₂ (fun (v : BitVec 32) (k : Nat) => (![v.toNat, 0, k] : Fin 3 → Nat)) e4 e1).trans (index_1 m hO t').symm)

end Cert.Kernel4Ideal.Down

end
-- ==== Proof.DownFrame.lean ====
/- The down projection's run: what each point leaves, and so what the launch leaves. -/
module

public import proofs.«01_k».proof.Proof.DownSteps

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights a point multiplies by: its block of them, converted. -/
def wts (hO : Ok m) (c : Dev nD) (t : Fin (cfgM m hO).N) : Vec F S2048x512 .bf16 := k0_pay1 (iblk m hO c 1 t : Vec F S1x2048x512 .f32)

/-- What a point leaves in the output's buffer: its tile's product. -/
def out (hO : Ok m) (c : Dev nD) (t : Fin (cfgM m hO).N) : Vec F S256x512 .f32 :=
  k0_pay2 (iblk m hO c 0 t : Vec F S256x2048 .bf16) (wts m hO c t) (iblk m hO c 2 t : Vec F S1x1x512 .f32)

/-- The kept buffer between points: anything before the first, then the last point's weights. -/
def keptAt (hO : Ok m) (c : Dev nD) (n : Nat) : sProp 𝕄 :=
  if h : 0 < n ∧ n - 1 < (cfgM m hO).N then owns (c : Thread nD τ) kept fullShare (wts m hO c ⟨n - 1, h.2⟩)
  else iprop(∃ d, owns (c : Thread nD τ) kept fullShare d)

/-- What holds point by point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => out m hO c t
  Φ n := iprop((keptAt m hO c n.val ∗ (∃ r, prngReg c r)) ∗ Pipeline.ΦT pre0 (tbl m) c)
  q _ := fullShare
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = out m hO c t := by dsimp only [dats]; try rfl

theorem found_0 (hO : Ok m) (c : Dev nD) (t : Fin (cfgM m hO).N) (d) : (dats m hO 0 c).before 0 t d = iblk m hO c 0 t :=
  before_0 m hO (dats m hO 0 c) (A_eq m hO c 0) (after_0 m hO c) t d
theorem found_1 (hO : Ok m) (c : Dev nD) (t : Fin (cfgM m hO).N) (d) : (dats m hO 0 c).before 1 t d = iblk m hO c 1 t :=
  before_1 m hO (dats m hO 0 c) (A_eq m hO c 1) (after_1 m hO c) t d
theorem found_2 (hO : Ok m) (c : Dev nD) (t : Fin (cfgM m hO).N) (d) : (dats m hO 0 c).before 2 t d = iblk m hO c 2 t :=
  before_2 m hO (dats m hO 0 c) (A_eq m hO c 2) (after_2 m hO c) t d

/-- Blocks of one index are one block. -/
theorem blk_same_0 (hO : Ok m) (c : Dev nD) (t t' : Fin (cfgM m hO).N) (h : ((cfgM m hO).win 0).index t = ((cfgM m hO).win 0).index t') :
    (iblk m hO c 0 t : Vec F S256x2048 .bf16) = iblk m hO c 0 t' :=
  (dats m hO 0 c).fetched_congr 0 h rfl (iblk m hO c 0 t)
theorem blk_same_1 (hO : Ok m) (c : Dev nD) (t t' : Fin (cfgM m hO).N) (h : ((cfgM m hO).win 1).index t = ((cfgM m hO).win 1).index t') :
    (iblk m hO c 1 t : Vec F S1x2048x512 .f32) = iblk m hO c 1 t' :=
  (dats m hO 0 c).fetched_congr 1 h rfl (iblk m hO c 1 t)
theorem blk_same_2 (hO : Ok m) (c : Dev nD) (t t' : Fin (cfgM m hO).N) (h : ((cfgM m hO).win 2).index t = ((cfgM m hO).win 2).index t') :
    (iblk m hO c 2 t : Vec F S1x1x512 .f32) = iblk m hO c 2 t' :=
  (dats m hO 0 c).fetched_congr 2 h rfl (iblk m hO c 2 t)

/-- Past the tiles in use, a point's weights and product are the point's before it. -/
theorem wts_past (hO : Ok m) (hS : Steer m) (c : Dev nD) (t t' : Fin (cfgM m hO).N) (h' : t'.val + 1 = t.val) (h : (tiles m).toNat ≤ t.val % 288) :
    wts m hO c t = wts m hO c t' := by
  unfold wts
  rw [blk_same_1 m hO c t t' (same_past m hO hS t t' h' h 1)]
theorem out_past (hO : Ok m) (hS : Steer m) (c : Dev nD) (t t' : Fin (cfgM m hO).N) (h' : t'.val + 1 = t.val) (h : (tiles m).toNat ≤ t.val % 288) :
    out m hO c t = out m hO c t' := by
  unfold out
  rw [wts_past m hO hS c t t' h' h, blk_same_0 m hO c t t' (same_past m hO hS t t' h' h 0), blk_same_2 m hO c t t' (same_past m hO hS t t' h' h 2)]

/-- The count of tiles as the schedule reads it. -/
theorem count_read : Pipeline.Prefetch.Contents.atD (tbl m) 1 ![0] = tiles m := by
  have h : ∀ a : Fin 1, (![0] : Fin 1 → Nat) a + 1 ≤ S1.size a := by decide
  refine (dif_pos h).trans ?_
  exact congrArg (V m 0 main_arg1 : S1.Idx → BitVec 32) (funext fun a => Fin.ext (by fin_cases a; rfl))

/-- The schedule's idle points are the printed ones. -/
theorem idle_of (a : (pcfg0 (F := F)).Adm) (w : Fin 4) (i : grid0.Coords) : (cfg0 a).idle w i = idle0 (F := F) a.1 w i := rfl

/-- The output's buffer is idle exactly past the tiles in use. -/
theorem idle_3 (hO : Ok m) (hS : Steer m) (t : Fin (cfgM m hO).N) :
    (cfgM m hO).idle 3 ((cfgM m hO).grid.coords t) = decide ((tiles m).toNat ≤ t.val % 288) := by
  have e1 : (cfgM m hO).idle 3 ((cfgM m hO).grid.coords t) = !(k0_cond1 (grid0.coords t) (tiles m) == 1#1) :=
    (idle_of (adm m hO) 3 _).trans (congrArg (fun v : BitVec 32 => !(k0_cond1 (grid0.coords t) v == 1#1)) (count_read m))
  rw [e1]
  have hu := used_iff m hS t
  by_cases h : t.val % 288 < (tiles m).toNat
  · rw [show k0_cond1 (grid0.coords t) (tiles m) = 1#1 from hu.mpr h]
    simp; omega
  · have h2 : ¬ (k0_cond1 (grid0.coords t) (tiles m) = 1#1) := fun h' => h (hu.mp h')
    rw [show (k0_cond1 (grid0.coords t) (tiles m) == 1#1) = false from beq_eq_false_iff_ne.mpr h2]
    simp; omega

/-- Past the tiles in use, the output's buffer has been stored into since it was last written back. -/
theorem stored (hO : Ok m) (hS : Steer m) : ∀ (n : Nat) (hn : n < (cfgM m hO).N), (tiles m).toNat ≤ n % 288 → (cfgM m hO).fresh 3 n = false := by
  intro n
  induction n with
  | zero => intro _ h; have := hS.pos; omega
  | succ n ih =>
    intro hn h
    rw [Cfg.fresh_succ _ 3 n (Nat.lt_of_succ_lt hn)]
    have hfl : ((cfgM m hO).win 3).flush ⟨n, Nat.lt_of_succ_lt hn⟩ = false := by
      unfold Window.flush
      rw [Bool.and_eq_false_iff]; right
      rw [Bool.or_eq_false_iff]
      refine ⟨decide_eq_false (Nat.ne_of_lt hn), decide_eq_false ?_⟩
      rintro ⟨h', hne⟩
      exact hne (same_past m hO hS ⟨n + 1, hn⟩ ⟨n, Nat.lt_of_succ_lt hn⟩ rfl h 3)
    rw [hfl, idle_3 m hO hS]
    by_cases h2 : (tiles m).toNat ≤ n % 288
    · rw [ih (by omega) h2]; simp
    · simp [h2]

/-- What the body finds in the output's buffer past the tiles in use. -/
theorem found_3 (hO : Ok m) (hS : Steer m) (c : Dev nD) (t : Fin (cfgM m hO).N) (h : (tiles m).toNat ≤ t.val % 288) (d) :
    (dats m hO 0 c).before 3 t d = out m hO c t := by
  have h1 := hS.pos
  have key := (dats m hO 0 c).before_out_traj 3 rfl (fun _ _ => rfl) (fun s hs hi _ => by
    rw [idle_3 m hO hS, decide_eq_true_iff] at hi
    rw [after_3, after_3]
    exact out_past m hO hS c s ⟨s.val - 1, by omega⟩ (by show s.val - 1 + 1 = s.val; omega) hi) t.val t rfl d
  rw [key, stored m hO hS t.val t.isLt h, if_neg Bool.false_ne_true, after_3]
  exact (out_past m hO hS c t ⟨t.val - 1, by omega⟩ (by show t.val - 1 + 1 = t.val; omega) h).symm

end Cert.Kernel4Ideal.Down
-- ==== Proof.DownLaunch.lean ====
/- The down projection's run: a point's body does what the schedule asks, and so the launch ends. -/
module

public import proofs.«01_k».proof.Proof.DownFrame

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- The body a point runs, on the buffers the schedule gives it. -/
abbrev bodyAt (hO : Ok m) (t : Fin (cfgM m hO).N) : Prog (TpuEff nD τ sig (Elt F) Λ₀ .tc) PUnit :=
  cc0_down (grid0.coords t) te teW nu nuW we weW (ms_0 m hO t) (hs_0 m hO t) (ms_1 m hO t) (hs_1 m hO t) (ms_2 m hO t) (hs_2 m hO t) (ms_3 m hO t) (hs_3 m hO t) kept keptW

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t)

/-- The invariant before a point: the kept buffer, the random-number register, the tables. -/
def inv (hO : Ok m) (c : Dev nD) (n : Nat) : sProp 𝕄 := iprop((keptAt m hO c n ∗ (∃ r, prngReg c r)) ∗ Pipeline.ΦT pre0 (tbl m) c)
theorem inv_eq (hO : Ok m) (c : Dev nD) (n : Fin ((cfgM m hO).N + 1)) : (dats m hO 0 c).Φ n = inv m hO c n.val := by dsimp only [dats]; try rfl
theorem inv_open (hO : Ok m) (c : Dev nD) (n : Nat) : inv m hO c n = iprop((keptAt m hO c n ∗ (∃ r, prngReg c r)) ∗ Pipeline.ΦT pre0 (tbl m) c) := by unfold inv; rfl
theorem inv_before (hO : Ok m) (c : Dev nD) (t : Fin (cfgM m hO).N) : (dats m hO 0 c).Φ t.castSucc = inv m hO c t.val := by rw [inv_eq, Fin.val_castSucc]
theorem inv_after (hO : Ok m) (c : Dev nD) (t : Fin (cfgM m hO).N) : (dats m hO 0 c).Φ t.succ = inv m hO c (t.val + 1) := by rw [inv_eq, Fin.val_succ]

/-- An input's buffer still holds its block. -/
theorem leaves_0 (hO : Ok m) (c : Dev nD) (t : Fin (cfgM m hO).N) : (dats m hO 0 c).leavesExact 0 t = owns (c : Thread nD τ) (ms_0 m hO t) fullShare (iblk m hO c 0 t) := by
  have hi : (cfgM m hO).idle 0 ((cfgM m hO).grid.coords t) = false := idle_of (adm m hO) 0 _
  unfold Dat.leavesExact
  rw [hi]
  dsimp only
  rw [after_0]
  rfl
theorem leaves_1 (hO : Ok m) (c : Dev nD) (t : Fin (cfgM m hO).N) : (dats m hO 0 c).leavesExact 1 t = owns (c : Thread nD τ) (ms_1 m hO t) fullShare (iblk m hO c 1 t) := by
  have hi : (cfgM m hO).idle 1 ((cfgM m hO).grid.coords t) = false := idle_of (adm m hO) 1 _
  unfold Dat.leavesExact
  rw [hi]
  dsimp only
  rw [after_1]
  rfl
theorem leaves_2 (hO : Ok m) (c : Dev nD) (t : Fin (cfgM m hO).N) : (dats m hO 0 c).leavesExact 2 t = owns (c : Thread nD τ) (ms_2 m hO t) fullShare (iblk m hO c 2 t) := by
  have hi : (cfgM m hO).idle 2 ((cfgM m hO).grid.coords t) = false := idle_of (adm m hO) 2 _
  unfold Dat.leavesExact
  rw [hi]
  dsimp only
  rw [after_2]
  rfl

/-- The product in the output's buffer is what the schedule asks for, whether or not the point stores. -/
theorem leaves_3 (hO : Ok m) (hS : Steer m) (c : Dev nD) (t : Fin (cfgM m hO).N) :
    (owns (c : Thread nD τ) (ms_3 m hO t) fullShare (out m hO c t) : sProp 𝕄) ⊢ (dats m hO 0 c).leavesExact 3 t := by
  have hi := idle_3 m hO hS t
  unfold Dat.leavesExact
  by_cases h : (tiles m).toNat ≤ t.val % 288
  · rw [hi, decide_eq_true h]
    cases hf : ((cfgM m hO).win 3).flush t
    · dsimp only
      have e : (owns (c : Thread nD τ) (ms_3 m hO t) fullShare (out m hO c t) : sProp 𝕄) = owns (c : Thread nD τ) (ms_3 m hO t) fullShare ((dats m hO 0 c).before 3 t (out m hO c t)) :=
        congrArg (owns (c : Thread nD τ) (ms_3 m hO t) fullShare) (found_3 m hO hS c t h _).symm
      rw [e]
      iintro H
      iexists (out m hO c t)
      iexact H
    · dsimp only
      rw [after_3]
      exact .rfl
  · rw [hi, decide_eq_false h]
    dsimp only
    rw [after_3]
    exact .rfl

/-- The kept buffer before a point that carries its weights over. -/
theorem kept_before (hO : Ok m) (c : Dev nD) (n : Nat) : (keptAt m hO c n : sProp 𝕄) ⊢ iprop(∃ d, ⌜∀ h : 0 < n ∧ n - 1 < (cfgM m hO).N, d = wts m hO c ⟨n - 1, h.2⟩⌝ ∗ owns (c : Thread nD τ) kept fullShare d) := by
  unfold keptAt
  split_ifs with h
  · iintro H
    iexists _
    isplitr; swap; · iexact H
    ipureintro; intro _; rfl
  · iintro ⟨%d, H⟩
    iexists d
    isplitr; swap; · iexact H
    ipureintro; intro h'; exact absurd h' h

theorem kept_after (hO : Ok m) (c : Dev nD) (t : Fin (cfgM m hO).N) : (keptAt m hO c (t.val + 1) : sProp 𝕄) = owns (c : Thread nD τ) kept fullShare (wts m hO c t) := by
  unfold keptAt
  rw [dif_pos ⟨Nat.succ_pos _, (by simpa using t.isLt)⟩]
  rfl

/-- The weights after a tile in use: taken up, or carried over from the tile before. -/
theorem taken (hO : Ok m) (hS : Steer m) (c : Dev nD) (t : Fin (cfgM m hO).N) (xs : Vec F S2048x512 .bf16)
    (hxs : ∀ h : 0 < t.val ∧ t.val - 1 < (cfgM m hO).N, xs = wts m hO c ⟨t.val - 1, h.2⟩) (h : t.val % 288 < (tiles m).toNat) :
    wts m hO c t = weights c (grid0.coords t) (iblk m hO c 1 t) xs (tbl m 0) := by
  obtain rfl : c = 0 := Subsingleton.elim _ _
  unfold weights
  rw [this_word m t, last_word m t]
  split_ifs with hf
  · rfl
  · rw [fresh_iff, not_or, not_not] at hf
    have h0 : 0 < t.val := by have := hf.1; omega
    rw [hxs ⟨h0, by have := t.isLt; omega⟩]
    unfold wts
    rw [blk_same_1 m hO 0 t ⟨t.val - 1, by have := t.isLt; omega⟩ (same_expert m hO hS t ⟨t.val - 1, by have := t.isLt; omega⟩ (by show t.val - 1 + 1 = t.val; omega) h hf.1 hf.2)]

set_option maxHeartbeats 1200000 in
/-- A point's body does what the schedule asks of it. -/
theorem sound_body (hO : Ok m) (hS : Steer m) (c : Dev nD) (t : Fin (cfgM m hO).N) :
    bodyPre m hO c t ⊢ wp frame (wpE (defs₀ (F := F)) Variants.none c none) Set.univ (bodyAt m hO t) (fun _ => bodyPost m hO c t) := by
  have hcnt : count (F := F) c (tbl m 1) = tiles m := by
    obtain rfl : c = 0 := Subsingleton.elim _ _
    exact count_eq m
  unfold bodyPre bodyPost bodyAt
  simp only [found_0, found_1, found_2]
  rw [show (dats m hO 0 c).owesAt () t.succ = (dats m hO 0 c).owesAt () t.castSucc from rfl,
    inv_before, inv_after, inv_open, inv_open, tables_eq, kept_after]
  rw [leaves_0, leaves_1, leaves_2]
  iintro ⟨⟨⟨HS0, Hg⟩, ⟨HT0, HT1, HT2⟩⟩, Ho, ⟨%d0, H0⟩, ⟨%d1, H1⟩, ⟨%d2, H2⟩, ⟨%d3, H3⟩⟩
  ihave HS := (kept_before m hO c t.val) $$ HS0
  icases HS with ⟨%xs, %hxs, HS0⟩
  iapply ((run_point c (grid0.coords t) _ _ _ _ _ _ _ _ _ _ (iblk m hO c 0 t) (iblk m hO c 1 t) (iblk m hO c 2 t) ((dats m hO 0 c).before 3 t d3) xs (tbl m 0) (tbl m 1) (tbl m 2)
    (out m hO c t) (wts m hO c t)
    (fun hu => by
      rw [hcnt, used_iff m hS] at hu
      exact ⟨taken m hO hS c t xs hxs hu, rfl⟩)
    (fun hu => by
      rw [hcnt, used_iff m hS] at hu
      have h1 := hS.pos
      have h0 : 0 < t.val := by omega
      refine ⟨?_, (found_3 m hO hS c t (by omega) d3).symm⟩
      rw [hxs ⟨h0, by have := t.isLt; omega⟩]
      exact wts_past m hO hS c t ⟨t.val - 1, by have := t.isLt; omega⟩ (by show t.val - 1 + 1 = t.val; omega) (by omega))) Set.univ _)
  isplitl [H0]; · iexact H0
  isplitl [H1]; · iexact H1
  isplitl [H2]; · iexact H2
  isplitl [H3]; · iexact H3
  isplitl [HS0]; · iexact HS0
  isplitl [HT0]; · iexact HT0
  isplitl [HT1]; · iexact HT1
  isplitl [HT2]; · iexact HT2
  iintro ⟨H0, H1, H2, H3, HS0, HT0, HT1, HT2⟩
  isplitl [HS0 Hg HT0 HT1 HT2]
  · isplitl [HS0 Hg]
    · isplitl [HS0]
      · iexact HS0
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  iapply (leaves_3 m hO hS c t)
  iexact H3

theorem row_body (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 2000000 in
theorem body_obligation (hO : Ok m) (hS : Steer m) (c : Dev nD) : BodyObligation (dats (F := F) m hO 0 c) (defs₀ (F := F)) Variants.none () Set.univ := fun t => by
  rw [bigSep_W0, bigSep_W0, row_body m hO]
  have h := sound_body m hO hS c t
  unfold bodyPre bodyPost at h
  exact h

/-! ## The launch -/

set_option backward.isDefEq.respectTransparency.types false in
/-- The launch ends, with every window's array at what its points left, the other buffers as they were, and the
    counters at nought. -/
theorem run_down (hO : Ok m) (hS : Steer m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track (Q' := _) pcfgs (fun _ => adm m hO) (dats m hO) (0 : Fin 1) launch0 defs₀ Variants.none m ρ main
    (hbody := fun c => (body_obligation m hO hS c).loose) (hshare := fun c => (dats m hO 0 c).share_full fun _ => rfl)
    (howed := fun _ _ => rfl) (V := V m) (hmain := main_runs m Variants.none) (hA := A_eq m hO) (hpf := V_tbl m)
    (hin := fun c => by
      show iprop(Pipeline.ΦA spec0 c ∗ Pipeline.ΦT pre0 (tbl m) c) ⊢ iprop((keptAt m hO c 0 ∗ (∃ r, prngReg c r)) ∗ Pipeline.ΦT pre0 (tbl m) c)
      rw [scoped_eq]
      unfold keptAt
      rw [dif_neg (fun h => absurd h.1 (Nat.lt_irrefl 0))])
    (hout := fun c => by
      show iprop((keptAt m hO c (cfgM m hO).N ∗ (∃ r, prngReg c r)) ∗ Pipeline.ΦT pre0 (tbl m) c) ⊢ Pipeline.ΦA spec0 c
      rw [scoped_eq]
      iintro ⟨⟨HS, Hg⟩, -⟩
      ihave HS := (kept_before m hO c _) $$ HS
      icases HS with ⟨%xs, -, HS⟩
      isplitl [HS]
      · iexists xs; iexact HS
      iexact Hg)

end Cert.Kernel4Ideal.Down

end
-- ==== Proof.DownTables.lean ====
/- The down projection's tables: what the host makes of the routing, and the two things the launch asks of it. -/
module

public import proofs.«01_k».proof.Proof.DownSteps
public import proofs.«01_k».proof.Proof.Routed

@[expose] public section

set_option maxRecDepth 16384

noncomputable section

namespace Cert.Kernel4Ideal.Down

open Idealize.ShloMosaic Idealize.ShloMosaic.TcCoe Idealize.ShloMosaic.Tactic Idealize.ShloMosaic.WordCmp
open Cert.Kernel4Ideal.Gen Cert.Words

variable {F : FTy → Type} [FloatOps F]

variable (m : (ℓ : Loc nD τ sig) → Buf (Elt F) ℓ)

/-- The routing's ranges, as the launch finds them. -/
structure Range : Prop where
  one : ∀ k, (expert m k).toNat < 32
  pos : 1 ≤ (tiles m).toNat
  le : (tiles m).toNat ≤ 288

/-- The place the host reads the first table at, for the third: the tile, or the last in use. -/
theorem place {k : Nat} {v : BitVec 32} (hk : k < 288) (h1 : 1 ≤ v.toNat) (h2 : v.toNat ≤ 288) (x : BitVec 32)
    (hx : x = IntOp.minsi (BitVec.ofNat 32 k) (v - 1#32)) :
    (Scalar.select (IntOp.cmpi .slt x 0#32) (x + 288#32) x).toInt.toNat = min k (v.toNat - 1) := by
  have e : x.toNat = min k (v.toNat - 1) := by rw [hx]; exact min_word (by omega) h1 (by omega)
  have e' : x.toInt = (x.toNat : Int) := toInt_small (by omega)
  have h0 : (0#32 : BitVec 32).toInt = 0 := by decide
  rw [cmpi_slt_eq, decide_eq_false (by rw [e', h0]; omega)]
  show x.toInt.toNat = _
  omega

/-- The places the host reads the first table at, from the count. -/
def places (n : IVec S1 32) : IVec S288 32 :=
  let x : IVec S288 32 := minsi (iotaInDim S288 32 0) (broadcastInDim S288 ![] bcast_S_S288 (subi (shapeCast S_ n shapeCasts_S1_S_) (constantI S_ 32 1#32)))
  select (cmpi .slt x (broadcastInDim S288 ![] bcast_S_S288 (constantI S_ 32 0#32))) (addi x (broadcastInDim S288 ![] bcast_S_S288 (constantI S_ 32 288#32))) x

set_option maxHeartbeats 800000 in
/-- The third table: the first, held at its last tile in use. -/
theorem ready_eq (hR : Range m) (k : Fin 288) : ready m k = expert m ⟨min k.val ((tiles m).toNat - 1), by have := k.isLt; omega⟩ := by
  have h1 := hR.pos
  have h2 := hR.le
  have hk := k.isLt
  have hn : tiles m = (m ((0 : Dev nD), Proc.tc.devRef main_arg1) : S1.Idx → BitVec 32) (ix1 0) := congrFun (V_arg m 0 main_arg1 (by simp)) _
  have ht : ∀ j : Fin 288, expert m j = (m ((0 : Dev nD), Proc.tc.devRef main_arg0) : S288.Idx → BitVec 32) (ix1 j) := fun j => congrFun (V_arg m 0 main_arg0 (by simp)) _
  have h : (V m 0 main_v11 : IVec S288 32) = Host.gather gather_S288_S288x1_S288_n_0_n_n_0_1_1 (m ((0 : Dev nD), Proc.tc.devRef main_arg0) : IVec S288 32)
      (broadcastInDim S288x1 ![0] bcast_S288_S288x1_0 (places (m ((0 : Dev nD), Proc.tc.devRef main_arg1)))) := by
    unfold V
    simp only [hostOps0, StableHlo.after_cons, StableHlo.after_nil]
    after_results_simp
    rfl
  unfold ready
  rw [h]
  refine (Cert.Routed.take_apply (N := 288) (R := 288) (by omega) _ _ _ k).trans ?_
  rw [ht]
  refine congrArg (fun j : Fin 288 => (m ((0 : Dev nD), Proc.tc.devRef main_arg0) : S288.Idx → BitVec 32) (ix1 j)) (Fin.ext ?_)
  have e := place (k := k.val) hk h1 h2 _ rfl
  have e2 : (broadcastInDim S288x1 ![0] bcast_S288_S288x1_0 (places (m ((0 : Dev nD), Proc.tc.devRef main_arg1))) : IVec S288x1 32) (ix2 k 0) =
      Scalar.select (IntOp.cmpi .slt (IntOp.minsi (BitVec.ofNat 32 k.val) (tiles m - 1#32)) 0#32) (IntOp.minsi (BitVec.ofNat 32 k.val) (tiles m - 1#32) + 288#32) (IntOp.minsi (BitVec.ofNat 32 k.val) (tiles m - 1#32)) := by
    rw [hn]
    pointwise [places]
    rfl
  show min _ (288 - 1) = min k.val ((tiles m).toNat - 1)
  rw [e2, e]
  omega

/-- The launch's schedule is the one the tables steer. -/
theorem steer (hR : Range m) : Steer m where
  pos := hR.pos
  le := hR.le
  held := ready_eq m hR

/-- Every block the tables name lies inside its array. -/
theorem inside (hR : Range m) : Ok m := by
  have h1 := hR.pos
  have h2 := hR.le
  have c0 : ∀ i : grid0.Coords, (i 0).val < 4 := fun i => (i 0).isLt
  have c1 : ∀ i : grid0.Coords, (i 1).val < 288 := fun i => (i 1).isLt
  have k0 : ∀ i : grid0.Coords, (BitVec.ofNat 32 (i 0).val).toNat = (i 0).val := fun i => toNat_small (by have := c0 i; omega)
  have k1 : ∀ i : grid0.Coords, (Scalar.minsi (BitVec.ofNat 32 (i 1).val) (Scalar.subi (count (F := F) 0 (tbl m 1)) 1#32)).toNat = min (i 1).val ((tiles m).toNat - 1) := fun i => by
    rw [count_eq, min_word (by have := c1 i; omega) h1 (by omega)]
  have k2 : ∀ i : grid0.Coords, (wordAt (F := F) 0 (tbl m 2) (k0_off1 i) (k0_off1_inb _)).toNat < 32 := fun i => by
    have e : wordAt (F := F) 0 (tbl m 2) (k0_off1 i) (k0_off1_inb _) = ready m ⟨(i 1).val, c1 i⟩ := by
      refine congrArg (V m 0 main_v11 : S288.Idx → BitVec 32) (funext fun a => Fin.ext ?_)
      fin_cases a
      show (BitVec.ofNat 32 (i 1).val).toNat + 1 * 0 = (i 1).val
      rw [toNat_small (by have := c1 i; omega)]; omega
    rw [e, ready_eq m hR]
    exact hR.one _
  have w0 : ∀ i, cc0_transform_0 inb_S1_S1_0 numel1_S1 (tbl m) i = ![min (i 1).val ((tiles m).toNat - 1), 0] := fun i => by
    show ![(Scalar.minsi (BitVec.ofNat 32 (i 1).val) (Scalar.subi (count (F := F) 0 (tbl m 1)) 1#32)).toNat, (0#32).toNat] = _
    rw [k1]; rfl
  have w3 : ∀ i, cc0_transform_3 inb_S1_S1_0 numel1_S1 (tbl m) i = ![min (i 1).val ((tiles m).toNat - 1), (i 0).val] := fun i => by
    show ![(Scalar.minsi (BitVec.ofNat 32 (i 1).val) (Scalar.subi (count (F := F) 0 (tbl m 1)) 1#32)).toNat, (BitVec.ofNat 32 (i 0).val).toNat] = _
    rw [k1, k0]
  have w1 : ∀ i, cc0_transform_1 k0_off1_inb numel1_S1 (tbl m) i = ![(wordAt (F := F) 0 (tbl m 2) (k0_off1 i) (k0_off1_inb _)).toNat, 0, (i 0).val] := fun i => by
    show ![(wordAt (F := F) 0 (tbl m 2) (k0_off1 i) (k0_off1_inb _)).toNat, (0#32).toNat, (BitVec.ofNat 32 (i 0).val).toNat] = _
    rw [k0]; rfl
  have w2 : ∀ i, cc0_transform_2 k0_off1_inb numel1_S1 (tbl m) i = ![(wordAt (F := F) 0 (tbl m 2) (k0_off1 i) (k0_off1_inb _)).toNat, 0, (i 0).val] := w1
  refine ⟨fun i => ⟨fun a => ?_, .inr (.inl (.inr ⟨by decide, rfl, .inl ⟨?_, ?_⟩⟩))⟩, fun i => ⟨fun a => ?_, .inl rfl⟩, fun i => ⟨fun a => ?_, .inl rfl⟩, fun i => ⟨fun a => ?_, .inl rfl⟩⟩
  · rw [w0]; have := c1 i
    match a with
    | ⟨0, _⟩ => show (min (i 1).val ((tiles m).toNat - 1) + 1) * 256 ≤ 73728; omega
    | ⟨1, _⟩ => show (0 + 1) * 2048 ≤ 2048; omega
  · show 2 ∣ cc0_transform_0 inb_S1_S1_0 numel1_S1 (tbl m) i 0 * 256
    omega
  · show 2 ∣ 256
    decide
  · rw [w1]; have := c0 i; have := k2 i
    match a with
    | ⟨0, _⟩ => show ((wordAt (F := F) 0 (tbl m 2) (k0_off1 i) (k0_off1_inb _)).toNat + 1) * 1 ≤ 32; omega
    | ⟨1, _⟩ => show (0 + 1) * 2048 ≤ 2048; omega
    | ⟨2, _⟩ => show ((i 0).val + 1) * 512 ≤ 2048; omega
  · rw [w2]; have := c0 i; have := k2 i
    match a with
    | ⟨0, _⟩ => show ((wordAt (F := F) 0 (tbl m 2) (k0_off1 i) (k0_off1_inb _)).toNat + 1) * 1 ≤ 32; omega
    | ⟨1, _⟩ => show (0 + 1) * 1 ≤ 1; omega
    | ⟨2, _⟩ => show ((i 0).val + 1) * 512 ≤ 2048; omega
  · rw [w3]; have := c1 i; have := c0 i
    match a with
    | ⟨0, _⟩ => show (min (i 1).val ((tiles m).toNat - 1) + 1) * 256 ≤ 73728; omega
    | ⟨1, _⟩ => show ((i 0).val + 1) * 512 ≤ 2048; omega

end Cert.Kernel4Ideal.Down

end
-- ==== Proof.DownEnd.lean ====
/- The down projection's end: its arguments unchanged, its counters at nought, its result what the points left. -/
module

public import proofs.«01_k».proof.Proof.DownLaunch
public import proofs.«01_k».proof.Proof.DownTables

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the routing is in range the launch ends, its result what the points left, its arguments unchanged, its
    counters at nought. -/
theorem run_end (hR : Range m) : θ_run defs (onTc (τ := τ) (main (F := F))) ⟨m, fun _ => 0, ρ⟩ (fun r => (∀ c : Dev nD,
      r.2.mem ((c.tc : Thread nD τ).loc main_v13) = (dats m (inside m hR) 0 c).arrAt 3 (cfgM m (inside m hR)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 3,
      ((h.1 c).2 main_arg0 (show main_arg0 ∈ Pipeline.restRefs sig spec0 from Pipeline.mem_restRefs_of main_arg0 (by decide) (by decide))).trans (V_arg m c main_arg0 (by simp)),
      ((h.1 c).2 main_arg1 (show main_arg1 ∈ Pipeline.restRefs sig spec0 from Pipeline.mem_restRefs_of main_arg1 (by decide) (by decide))).trans (V_arg m c main_arg1 (by simp)),
      ((h.1 c).1 0).trans (((dats m (inside m hR) 0 c).arrAt_in 0 rfl _).trans ((A_eq m (inside m hR) c 0).trans (V_arg m c main_arg2 (by simp)))),
      ((h.1 c).1 1).trans (((dats m (inside m hR) 0 c).arrAt_in 1 rfl _).trans ((A_eq m (inside m hR) c 1).trans (V_arg m c main_arg3 (by simp)))),
      ((h.1 c).2 main_arg4 (show main_arg4 ∈ Pipeline.restRefs sig spec0 from Pipeline.mem_restRefs_of main_arg4 (by decide) (by decide))).trans (V_arg m c main_arg4 (by simp))⟩, h.2⟩)
    (run_down m ρ (inside m hR) (steer m hR))

end Cert.Kernel4Ideal.Down

end
-- ==== Proof.DownRef.lean ====
/- The down projection's reference, entry by entry: a row times its tile's expert's weights, plus that expert's bias. -/
module

public import proofs.«01_k».proof.Proof.Gen.Reference4Ideal.Read
public import proofs.«01_k».proof.Proof.Routed

@[expose] public section

noncomputable section

namespace Cert.DownRef

open Idealize.ShloMosaic Idealize.ShloMosaic.TcCoe Idealize.ShloMosaic.WordCmp Cert.Words
open Cert.Reference4Ideal Cert.Reference4Ideal.Gen Cert.Reference4Ideal.Read

/-! ## Reading an array's slabs at a column of places -/

theorem slabs_apply {α : Type} {N R A B : Nat} (hN : 0 < N)
    (wf : GatherDims.WF ⟨3, ![N, A, B]⟩ ⟨2, ![R, 1]⟩ ⟨3, ![R, A, B]⟩ [1, 2] [0] [] [0] [] 1 ![1, A, B])
    (x : (⟨3, ![N, A, B]⟩ : Shape).Idx → α) (idx : IVec ⟨2, ![R, 1]⟩ 32) (k : Fin R) (a : Fin A) (b : Fin B) :
    Host.gather (⟨[1, 2], [0], [], [], [0], 1, ![1, A, B], wf⟩ : GatherDims ⟨3, ![N, A, B]⟩ ⟨2, ![R, 1]⟩ ⟨3, ![R, A, B]⟩) x idx (ix3 k a b)
      = x (ix3 ⟨min (idx (ix2 k 0)).toInt.toNat (N - 1), by omega⟩ a b) := by
  unfold Host.gather
  refine congrArg x (funext fun c => Fin.ext ?_)
  let d : GatherDims ⟨3, ![N, A, B]⟩ ⟨2, ![R, 1]⟩ ⟨3, ![R, A, B]⟩ := ⟨[1, 2], [0], [], [], [0], 1, ![1, A, B], wf⟩
  show d.start (ix3 k a b) idx c + d.batchCoord (ix3 k a b) c + d.offCoord (ix3 k a b) c = _
  rw [d.batchCoord_eq_zero _ _ List.not_mem_nil]
  have hc : c = 0 ∨ c = 1 ∨ c = 2 := by
    match c with
    | ⟨0, _⟩ => exact Or.inl rfl
    | ⟨1, _⟩ => exact Or.inr (Or.inl rfl)
    | ⟨2, _⟩ => exact Or.inr (Or.inr rfl)
  rcases hc with rfl | rfl | rfl
  · rw [d.offCoord_eq_zero _ _ (fun h => ((GatherDims.mem_sKept _ _).mp h).1 (List.mem_singleton.mpr rfl))]
    unfold GatherDims.start
    rw [dif_pos (show (0 : Fin 3) ∈ d.startIndexMap from List.mem_singleton.mpr rfl)]
    have hk : d.siIdx (ix3 k a b) ⟨List.idxOf (0 : Fin 3) d.startIndexMap, List.idxOf_lt_length_iff.2 (List.mem_singleton.mpr rfl)⟩ = ix2 k 0 := by
      funext b'; refine Fin.ext ?_
      match b' with
      | ⟨0, _⟩ => rfl
      | ⟨1, _⟩ => rfl
    rw [hk]
    rfl
  · unfold GatherDims.start GatherDims.offCoord
    rw [dif_neg (show (1 : Fin 3) ∉ ([0] : List (Fin 3)) from by decide), dif_pos ((GatherDims.mem_sKept d 1).mpr ⟨(by show (1 : Fin 3) ∉ ([0] : List (Fin 3)); decide), List.not_mem_nil⟩)]
    show 0 + 0 + a.val = a.val
    omega
  · unfold GatherDims.start GatherDims.offCoord
    rw [dif_neg (show (2 : Fin 3) ∉ ([0] : List (Fin 3)) from by decide), dif_pos ((GatherDims.mem_sKept d 2).mpr ⟨(by show (2 : Fin 3) ∉ ([0] : List (Fin 3)); decide), List.not_mem_nil⟩)]
    show 0 + 0 + b.val = b.val
    omega

theorem rows_apply {α : Type} {N R B : Nat} (hN : 0 < N)
    (wf : GatherDims.WF ⟨2, ![N, B]⟩ ⟨2, ![R, 1]⟩ ⟨2, ![R, B]⟩ [1] [0] [] [0] [] 1 ![1, B])
    (x : (⟨2, ![N, B]⟩ : Shape).Idx → α) (idx : IVec ⟨2, ![R, 1]⟩ 32) (k : Fin R) (b : Fin B) :
    Host.gather (⟨[1], [0], [], [], [0], 1, ![1, B], wf⟩ : GatherDims ⟨2, ![N, B]⟩ ⟨2, ![R, 1]⟩ ⟨2, ![R, B]⟩) x idx (ix2 k b)
      = x (ix2 ⟨min (idx (ix2 k 0)).toInt.toNat (N - 1), by omega⟩ b) := by
  unfold Host.gather
  refine congrArg x (funext fun c => Fin.ext ?_)
  let d : GatherDims ⟨2, ![N, B]⟩ ⟨2, ![R, 1]⟩ ⟨2, ![R, B]⟩ := ⟨[1], [0], [], [], [0], 1, ![1, B], wf⟩
  show d.start (ix2 k b) idx c + d.batchCoord (ix2 k b) c + d.offCoord (ix2 k b) c = _
  rw [d.batchCoord_eq_zero _ _ List.not_mem_nil]
  have hc : c = 0 ∨ c = 1 := by
    match c with
    | ⟨0, _⟩ => exact Or.inl rfl
    | ⟨1, _⟩ => exact Or.inr rfl
  rcases hc with rfl | rfl
  · rw [d.offCoord_eq_zero _ _ (fun h => ((GatherDims.mem_sKept _ _).mp h).1 (List.mem_singleton.mpr rfl))]
    unfold GatherDims.start
    rw [dif_pos (show (0 : Fin 2) ∈ d.startIndexMap from List.mem_singleton.mpr rfl)]
    have hk : d.siIdx (ix2 k b) ⟨List.idxOf (0 : Fin 2) d.startIndexMap, List.idxOf_lt_length_iff.2 (List.mem_singleton.mpr rfl)⟩ = ix2 k 0 := by
      funext b'; refine Fin.ext ?_
      match b' with
      | ⟨0, _⟩ => rfl
      | ⟨1, _⟩ => rfl
    rw [hk]
    rfl
  · unfold GatherDims.start GatherDims.offCoord
    rw [dif_neg (show (1 : Fin 2) ∉ ([0] : List (Fin 2)) from by decide), dif_pos ((GatherDims.mem_sKept d 1).mpr ⟨(by show (1 : Fin 2) ∉ ([0] : List (Fin 2)); decide), List.not_mem_nil⟩)]
    show 0 + 0 + b.val = b.val
    omega

/-! ## The reference -/

/-- The result's entry in row `r` and column `d`, for a table of experts. -/
def entry (te : IVec S288 32) (hte : ∀ i, (te i).toNat < 32) (x : FVec Ideal S73728x2048 .bf16) (w : FVec Ideal S32x2048x2048 .f32) (b : FVec Ideal S32x2048 .f32)
    (r : Fin 73728) (d : Fin 2048) : EReal :=
  (∑ k : Fin 2048, x (ix2 r k) * w (ix3 ⟨(te (ix1 ⟨r.val / 256, by omega⟩)).toNat, hte _⟩ k d)) + b (ix2 ⟨(te (ix1 ⟨r.val / 256, by omega⟩)).toNat, hte _⟩ d)

/-- An expert's number read as a place is itself. -/
theorem place {v : BitVec 32} (h : v.toNat < 32) : (Scalar.select (IntOp.cmpi .slt v 0#32) (IntOp.addi v 32#32) v).toInt.toNat = v.toNat := by
  have e' : v.toInt = (v.toNat : Int) := toInt_small (by omega)
  have h0 : (0#32 : BitVec 32).toInt = 0 := by decide
  rw [cmpi_slt_eq, decide_eq_false (by rw [e', h0]; omega)]
  show v.toInt.toNat = _
  omega

variable (te : IVec S288 32) (hte : ∀ i, (te i).toNat < 32) (x : FVec Ideal S73728x2048 .bf16) (w : FVec Ideal S32x2048x2048 .f32) (b : FVec Ideal S32x2048 .f32)

include hte in
theorem place7 (k : Fin 288) : (val_main_v7 (F := Ideal) te (ix2 k 0)).toInt.toNat = (te (ix1 k)).toNat := by
  rw [val_main_v7_apply, show idx_main_v7 (ix2 k 0) = ix1 k from funext fun a => Fin.ext (by match a with | ⟨0, _⟩ => rfl),
    val_main_v6_apply, val_main_v3_apply, val_main_v5_apply, val_main_v2_apply, val_main_v4_apply]
  exact place (hte _)

include hte in
theorem place15 (k : Fin 288) : (val_main_v15 (F := Ideal) te (ix2 k 0)).toInt.toNat = (te (ix1 k)).toNat := by
  rw [val_main_v15_apply, show idx_main_v15 (ix2 k 0) = ix1 k from funext fun a => Fin.ext (by match a with | ⟨0, _⟩ => rfl),
    val_main_v14_apply, val_main_v11_apply, val_main_v13_apply, val_main_v10_apply, val_main_v12_apply]
  exact place (hte _)

theorem weights_at (k : Fin 288) (p q : Fin 2048) : val_main_v8 (F := Ideal) te w (ix3 k p q) = w (ix3 ⟨(te (ix1 k)).toNat, hte _⟩ p q) := by
  unfold val_main_v8
  refine (slabs_apply (N := 32) (R := 288) (A := 2048) (B := 2048) (by omega) _ w _ k p q).trans ?_
  refine congrArg (fun e : Fin 32 => w (ix3 e p q)) (Fin.ext ?_)
  show min (val_main_v7 (F := Ideal) te (ix2 k 0)).toInt.toNat (32 - 1) = (te (ix1 k)).toNat
  rw [place7 te hte]; have := hte (ix1 k); omega

theorem bias_at (k : Fin 288) (q : Fin 2048) : val_main_v16 (F := Ideal) te b (ix2 k q) = b (ix2 ⟨(te (ix1 k)).toNat, hte _⟩ q) := by
  unfold val_main_v16
  refine (rows_apply (N := 32) (R := 288) (B := 2048) (by omega) _ b _ k q).trans ?_
  refine congrArg (fun e : Fin 32 => b (ix2 e q)) (Fin.ext ?_)
  show min (val_main_v15 (F := Ideal) te (ix2 k 0)).toInt.toNat (32 - 1) = (te (ix1 k)).toNat
  rw [place15 te hte]; have := hte (ix1 k); omega

theorem result_at (r : Fin 73728) (d : Fin 2048) : val_main_v20 (F := Ideal) te x w b (ix2 r d) = entry te hte x w b r d := by
  have hr := r.isLt
  have hd := d.isLt
  rw [val_main_v20_apply, show idx_main_v20 (ix2 r d) = ix3 ⟨r.val / 256, by omega⟩ ⟨r.val % 256, by omega⟩ d from funext fun a => Fin.ext (by
    match a with
    | ⟨0, _⟩ => show (r.val * 2048 + d.val) / 524288 = r.val / 256; omega
    | ⟨1, _⟩ => show (r.val * 2048 + d.val) / 2048 % 256 = r.val % 256; omega
    | ⟨2, _⟩ => show (r.val * 2048 + d.val) % 2048 = d.val; omega),
    val_main_v19_apply, val_main_v9_apply, val_main_v18_apply, val_main_v17_apply]
  refine congrArg₂ (fun p q : EReal => p + q) (Finset.sum_congr rfl fun k _ => ?_) ?_
  · refine congrArg₂ (fun p q : EReal => p * q) ?_ ?_
    · rw [val_main_v1_apply, val_main_v0_apply]
      refine congrArg x (funext fun a => Fin.ext ?_)
      have hk := k.isLt
      match a with
      | ⟨0, _⟩ => show ((r.val / 256 * 256 + r.val % 256) * 2048 + k.val) / 2048 = r.val; omega
      | ⟨1, _⟩ => show ((r.val / 256 * 256 + r.val % 256) * 2048 + k.val) % 2048 = k.val; omega
    · refine (congrArg (val_main_v8 (F := Ideal) te w) (funext fun a => Fin.ext ?_)).trans (weights_at te hte w ⟨r.val / 256, by omega⟩ k d)
      match a with
      | ⟨0, _⟩ => rfl
      | ⟨1, _⟩ => rfl
      | ⟨2, _⟩ => rfl
  · refine (congrArg (val_main_v16 (F := Ideal) te b) (funext fun a => Fin.ext ?_)).trans (bias_at te hte b ⟨r.val / 256, by omega⟩ d)
    match a with
    | ⟨0, _⟩ => rfl
    | ⟨1, _⟩ => rfl

end Cert.DownRef

end
-- ==== Proof.DownValue.lean ====
/- The down projection's blocks, entry by entry, and so its result on the rows of the tiles in use. -/
module

public import proofs.«01_k».proof.Proof.DownEnd
public import proofs.«01_k».proof.Proof.DownRef
public import Idealize.ShloMosaic.Lib.Pipeline.Covers
public import Idealize.ShloMosaic.Lib.Pipeline.ValueKit.Partial

@[expose] public section

set_option maxRecDepth 16384

noncomputable section

namespace Cert.Kernel4Ideal.Down

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel4Ideal.Gen

local notation "𝕄" => MT nD τ sig Unit (Elt Ideal) ℕ (UR sig nD τ) ℕ

variable (m : (ℓ : Loc nD τ sig) → Buf (Elt Ideal) ℓ)

/-- The weights a point converts, entry by entry. -/
theorem pay_weights (w : Vec Ideal S1x2048x512 .f32) (k : Fin 2048) (q : Fin 512) : k0_pay1 w (ix2 k q) = w (ix3 0 k q) := by
  pointwise [k0_pay1]

/-- What a point stores, entry by entry. -/
theorem pay_rows (x : Vec Ideal S256x2048 .bf16) (w : Vec Ideal S2048x512 .bf16) (b : Vec Ideal S1x1x512 .f32) (p : Fin 256) (q : Fin 512) :
    k0_pay2 x w b (ix2 p q) = (∑ k, x (ix2 p k) * w (ix2 k q)) + b (ix3 0 0 q) := by
  pointwise [k0_pay2]

theorem read_x (hO : Ok m) (hS : Steer m) (c : Dev nD) (t : Fin (cfgM m hO).N) (p : Fin 256) (k : Fin 2048) (n : Fin 73728)
    (hn : n.val = min (t.val % 288) ((tiles m).toNat - 1) * 256 + p.val) :
    (show Vec Ideal S256x2048 .bf16 from iblk m hO c 0 t) (ix2 p k) = (V m c main_arg2 : FVec Ideal S73728x2048 .bf16) (ix2 n k) := by
  have e := index_0 m hO hS t
  blk_ext [iblk, e]

theorem read_w (hO : Ok m) (c : Dev nD) (t : Fin (cfgM m hO).N) (k : Fin 2048) (q : Fin 512) (e : Fin 32) (d : Fin 2048)
    (he : e.val = (ready m ⟨t.val % 288, tile_lt t⟩).toNat) (hd : d.val = t.val / 288 * 512 + q.val) :
    (show Vec Ideal S1x2048x512 .f32 from iblk m hO c 1 t) (ix3 0 k q) = (V m c main_arg3 : FVec Ideal S32x2048x2048 .f32) (ix3 e k d) := by
  have i := index_1 m hO t
  blk_ext [iblk, i]

theorem read_b (hO : Ok m) (c : Dev nD) (t : Fin (cfgM m hO).N) (q : Fin 512) (e : Fin 32) (d : Fin 2048)
    (he : e.val = (ready m ⟨t.val % 288, tile_lt t⟩).toNat) (hd : d.val = t.val / 288 * 512 + q.val) :
    (show Vec Ideal S1x1x512 .f32 from iblk m hO c 2 t) (ix3 0 0 q) = (V m c main_v12 : FVec Ideal S32x1x2048 .f32) (ix3 e 0 d) := by
  have i := index_2 m hO t
  blk_ext [iblk, i]

/-- The biases as the launch is given them. -/
theorem biases (c : Dev nD) (e : Fin 32) (d : Fin 2048) :
    (V m c main_v12 : FVec Ideal S32x1x2048 .f32) (ix3 e 0 d) = m ((c : Thread nD τ).loc main_arg4) (ix2 e d) := by
  have h : (V m c main_v12 : FVec Ideal S32x1x2048 .f32) = shapeCast S32x1x2048 (show FVec Ideal S32x2048 .f32 from m ((c : Thread nD τ).loc main_arg4)) shapeCasts_S32x2048_S32x1x2048 := by
    unfold V
    simp only [hostOps0, StableHlo.after_cons, StableHlo.after_nil]
    after_results_simp
    rfl
  rw [h]
  pointwise

/-- What a point leaves in the output's buffer, in the result's terms: its tile's rows, or the last used tile's, each
    the reference's. -/
theorem point_entry (hR : Range m) (hte : ∀ i, ((m ((0 : Dev nD).tc.loc main_arg0) : IVec S288 32) i).toNat < 32)
    (t : Fin (cfgM m (inside m hR)).N) (p : Fin 256) (q : Fin 512) (r : Fin 73728) (d : Fin 2048)
    (hr : r.val = min (t.val % 288) ((tiles m).toNat - 1) * 256 + p.val) (hd : d.val = t.val / 288 * 512 + q.val) :
    out m (inside m hR) 0 t (ix2 p q)
      = DownRef.entry (m ((0 : Dev nD).tc.loc main_arg0)) hte (m ((0 : Dev nD).tc.loc main_arg2)) (m ((0 : Dev nD).tc.loc main_arg3))
          (m ((0 : Dev nD).tc.loc main_arg4)) r d := by
  have hp := p.isLt
  have hk : (⟨min (t.val % 288) ((tiles m).toNat - 1), by omega⟩ : Fin 288) = ⟨r.val / 256, by omega⟩ := Fin.ext (by show min (t.val % 288) ((tiles m).toNat - 1) = r.val / 256; omega)
  have he : ready m ⟨t.val % 288, tile_lt t⟩ = (m ((0 : Dev nD).tc.loc main_arg0) : IVec S288 32) (ix1 ⟨r.val / 256, by omega⟩) :=
    (ready_eq m hR _).trans ((congrArg (expert m) hk).trans (congrFun (V_arg m 0 main_arg0 (by simp)) _))
  have hv : ((m ((0 : Dev nD).tc.loc main_arg0) : IVec S288 32) (ix1 ⟨r.val / 256, by omega⟩)).toNat = (ready m ⟨t.val % 288, tile_lt t⟩).toNat := congrArg BitVec.toNat he.symm
  refine (pay_rows (iblk m (inside m hR) 0 0 t : Vec Ideal S256x2048 .bf16) (wts m (inside m hR) 0 t) (iblk m (inside m hR) 0 2 t : Vec Ideal S1x1x512 .f32) p q).trans ?_
  refine congrArg₂ (fun a b : EReal => a + b) (Finset.sum_congr rfl fun k _ => congrArg₂ (fun a b : EReal => a * b) ?_ ?_) ?_
  · exact (read_x m (inside m hR) (steer m hR) 0 t p k r hr).trans (congrFun (V_arg m 0 main_arg2 (by simp)) _)
  · exact (pay_weights (iblk m (inside m hR) 0 1 t : Vec Ideal S1x2048x512 .f32) k q).trans
      ((read_w m (inside m hR) 0 t k q ⟨_, hte (ix1 ⟨r.val / 256, by omega⟩)⟩ d hv hd).trans (congrFun (V_arg m 0 main_arg3 (by simp)) _))
  · exact (read_b m (inside m hR) 0 t q ⟨_, hte (ix1 ⟨r.val / 256, by omega⟩)⟩ d hv hd).trans (biases m 0 _ d)

/-- The result array after the last point, on the rows of the tiles in use. -/
theorem result (hR : Range m) (hte : ∀ i, ((m ((0 : Dev nD).tc.loc main_arg0) : IVec S288 32) i).toNat < 32)
    (r : Fin 73728) (d : Fin 2048) (hr : r.val < (tiles m).toNat * 256) :
    ((dats m (inside m hR) 0 0).arrAt 3 (cfgM m (inside m hR)).N : FVec Ideal S73728x2048 .f32) (ix2 r d)
      = DownRef.entry (m ((0 : Dev nD).tc.loc main_arg0)) hte (m ((0 : Dev nD).tc.loc main_arg2)) (m ((0 : Dev nD).tc.loc main_arg3))
          (m ((0 : Dev nD).tc.loc main_arg4)) r d := by
  have hle := hR.le
  have hd := d.isLt
  have hN : (cfgM m (inside m hR)).N = 1152 := N_0
  let t₀ : Fin (cfgM m (inside m hR)).N := ⟨d.val / 512 * 288 + r.val / 256, by rw [hN]; omega⟩
  obtain ⟨t, -, hf, hi⟩ := ((cfgM m (inside m hR)).win 3).exists_flush_same_index rfl t₀
  have hi0 : ((cfgM m (inside m hR)).win 3).index t = ![r.val / 256, d.val / 512] := by
    rw [hi, index_3 m (inside m hR) (steer m hR) t₀]
    have h1 : min (t₀.val % 288) ((tiles m).toNat - 1) = r.val / 256 := by
      show min ((d.val / 512 * 288 + r.val / 256) % 288) ((tiles m).toNat - 1) = r.val / 256
      omega
    have h2 : t₀.val / 288 = d.val / 512 := by
      show (d.val / 512 * 288 + r.val / 256) / 288 = d.val / 512
      omega
    rw [h1, h2]
  refine (dats m (inside m hR) 0 0).arrAt_forall_of_flushed 3
    (fun i v => v = (fun j : S73728x2048.Idx => DownRef.entry (m ((0 : Dev nD).tc.loc main_arg0)) hte (m ((0 : Dev nD).tc.loc main_arg2))
      (m ((0 : Dev nD).tc.loc main_arg3)) (m ((0 : Dev nD).tc.loc main_arg4)) (j 0) (j 1)) i) (fun t _ y => ?_) (cfgM m (inside m hR)).N t (ix2 r d) t.isLt hf ?_
  · have e := index_3 m (inside m hR) (steer m hR) t
    have ht := points m (inside m hR) t.isLt
    have hp := hR.pos
    blk_simp
    rw [after_3]
    revert y
    intro (y : S256x512.Idx)
    idx_vars y
    refine (point_entry m hR hte t y0 y1 ⟨min (t.val % 288) ((tiles m).toNat - 1) * 256 + y0.val, by omega⟩ ⟨t.val / 288 * 512 + y1.val, by omega⟩ rfl rfl).trans ?_
    refine congrArg (fun j : S73728x2048.Idx => DownRef.entry (m ((0 : Dev nD).tc.loc main_arg0)) hte (m ((0 : Dev nD).tc.loc main_arg2)) (m ((0 : Dev nD).tc.loc main_arg3))
      (m ((0 : Dev nD).tc.loc main_arg4)) (j 0) (j 1)) (a₁ := ix2 ⟨min (t.val % 288) ((tiles m).toNat - 1) * 256 + y0.val, by omega⟩ ⟨t.val / 288 * 512 + y1.val, by omega⟩) ?_
    blk_ext [e]
  · refine (((cfgM m (inside m hR)).win 3).emb_mem_blk_iff_cell (fun a => ?_) t (fun a => ((cfgM m (inside m hR)).win 3).xsize_eq_or_end rfl _ a) (ix2 r d)).mpr ?_
    · match a with
      | ⟨0, _⟩ => exact (by decide : 0 < 256)
      | ⟨1, _⟩ => exact (by decide : 0 < 512)
    · refine hi0.trans (funext fun a => ?_)
      match a with
      | ⟨0, _⟩ => rfl
      | ⟨1, _⟩ => rfl

end Cert.Kernel4Ideal.Down

end
-- ==== Proof.RowsUsed.lean ====
/- What the mask of rows says: a row it selects belongs to one of the tiles in use. -/
module

public import proofs.«01_k».proof.On_rows_used
public import Idealize.ShloMosaic.Lib.ValueIdx
public import proofs.«01_k».proof.Proof.DownWords
public import proofs.«01_k».proof.Proof.Finite

@[expose] public section

noncomputable section

namespace Cert.RowsUsed

open Idealize.ShloMosaic Idealize.ShloMosaic.TcCoe Idealize.SL.Sem Cert.On_rows_used Idealize.ShloMosaic.WordCmp Cert.Words

theorem facts : Cert.On_rows_used.Facts where
  bcast_S73728_S73728x1_0 := by decide
  shapeCasts_S1_S_ := by decide
  bcast_S_S73728x1 := by decide
  bcast_S73728x1_S73728x2048_0_1 := by decide

/-- A row's number compared with the rows of `n` tiles. -/
theorem row_word (n : BitVec 32) (hn : n.toNat ≤ 288) (r : Nat) (hr : r < 73728)
    (h : IntOp.cmpi .slt (BitVec.ofNat 32 r) (IntOp.muli n 256#32) = 1#1) : r < n.toNat * 256 := by
  rw [cmpi_slt_eq, ofBool_decide_eq_one_iff] at h
  have e : (IntOp.muli n 256#32).toNat = n.toNat * 256 := by
    show (n * 256#32).toNat = _
    rw [BitVec.toNat_mul]
    show n.toNat * 256 % 2 ^ 32 = _
    omega
  have e1 : (BitVec.ofNat 32 r).toNat = r := by
    rw [BitVec.toNat_ofNat]
    omega
  rw [BitVec.toInt_eq_toNat_of_lt (by omega : 2 * (BitVec.ofNat 32 r).toNat < 2 ^ 32), BitVec.toInt_eq_toNat_of_lt (by omega : 2 * (IntOp.muli n 256#32).toNat < 2 ^ 32)] at h
  omega

variable [Cert.On_rows_used.Facts] {F : FTy → Type} [FloatOps F]

/-- The mask, entry by entry. -/
theorem mask_apply (te : IVec S288 32) (nu : IVec S1 32) (x : FVec F S73728x2048 .bf16) (w : FVec F S32x2048x2048 .f32) (b : FVec F S32x2048 .f32)
    (r : Fin 73728) (d : Fin 2048) :
    Cert.On_rows_used.fn (F := F) te nu x w b (ix2 r d) = IntOp.cmpi .slt (BitVec.ofNat 32 r.val) (IntOp.muli (nu (ix1 0)) 256#32) := by
  unfold Cert.On_rows_used.fn
  refine congrArg (fun v => IntOp.cmpi .slt (BitVec.ofNat 32 r.val) (IntOp.muli v 256#32)) ?_
  pointwise

theorem row_lt (te : IVec S288 32) (nu : IVec S1 32) (x : FVec F S73728x2048 .bf16) (w : FVec F S32x2048x2048 .f32) (b : FVec F S32x2048 .f32)
    (hn : (nu (ix1 0)).toNat ≤ 288) (r : Fin 73728) (d : Fin 2048)
    (h : Cert.On_rows_used.fn (F := F) te nu x w b (ix2 r d) = 1#1) : r.val < (nu (ix1 0)).toNat * 256 :=
  row_word _ hn r.val r.isLt ((mask_apply te nu x w b r d).symm.trans h)

end Cert.RowsUsed

end
-- ==== Proof.DownClose.lean ====
/- The down projection's claims: both programs end, and on the rows in use the kernel's result is the reference's. -/
module

public import proofs.«01_k».proof.Defs
public import proofs.«01_k».proof.Proof.DownBitsEnd
public import proofs.«01_k».proof.Proof.DownValue
public import proofs.«01_k».proof.Proof.RowsUsed
public import proofs.«01_k».proof.Proof.Gen.Reference4Ideal.Run
public import proofs.«01_k».proof.Proof.Gen.Reference4Ideal.Read

@[expose] public section

set_option maxRecDepth 16384

noncomputable section

namespace Cert.DownClose

open Idealize.ShloMosaic Idealize.ShloMosaic.TcCoe Idealize.SL.Sem

attribute [local instance] Cert.Routed.facts Cert.RowsUsed.facts

/-- The precondition puts the routing in range, for the kernel as it runs. -/
theorem range_bits (m : (ℓ : Loc Cert.Kernel4.nD Cert.Kernel4.τ Cert.Kernel4.sig) → Buf (Elt Bits) ℓ) (h : Cert.Pre_Kernel4 m) :
    Cert.Kernel4.Down.Range m := by
  obtain ⟨h1, h2⟩ := Cert.Routed.both _ _ _ _ _ (h 0)
  have e : Cert.Kernel4.Down.tiles m = (m ((0 : Dev Cert.Kernel4.nD).tc.loc Cert.Kernel4.main_arg1) : Cert.Kernel4.S1.Idx → BitVec 32) (ix1 0) :=
    congrFun (Cert.Kernel4.Down.V_arg m 0 Cert.Kernel4.main_arg1 (by simp)) _
  exact ⟨fun k => (congrArg BitVec.toNat (congrFun (Cert.Kernel4.Down.V_arg m 0 Cert.Kernel4.main_arg0 (by simp)) (ix1 k))).trans_lt (h1 (ix1 k)),
    (h2 (ix1 0)).1.trans_eq (congrArg BitVec.toNat e).symm, (congrArg BitVec.toNat e).trans_le (h2 (ix1 0)).2⟩

/-- The precondition puts the routing in range, for the idealized kernel. -/
theorem range_ideal (m : (ℓ : Loc Cert.Kernel4Ideal.nD Cert.Kernel4Ideal.τ Cert.Kernel4Ideal.sig) → Buf (Elt Ideal) ℓ) (h : Cert.Pre_Kernel4Ideal m) :
    Cert.Kernel4Ideal.Down.Range m := by
  obtain ⟨h1, h2⟩ := Cert.Routed.both _ _ _ _ _ (h 0)
  have e : Cert.Kernel4Ideal.Down.tiles m = (m ((0 : Dev Cert.Kernel4Ideal.nD).tc.loc Cert.Kernel4Ideal.main_arg1) : Cert.Kernel4Ideal.S1.Idx → BitVec 32) (ix1 0) :=
    congrFun (Cert.Kernel4Ideal.Down.V_arg m 0 Cert.Kernel4Ideal.main_arg1 (by simp)) _
  exact ⟨fun k => (congrArg BitVec.toNat (congrFun (Cert.Kernel4Ideal.Down.V_arg m 0 Cert.Kernel4Ideal.main_arg0 (by simp)) (ix1 k))).trans_lt (h1 (ix1 k)),
    (h2 (ix1 0)).1.trans_eq (congrArg BitVec.toNat e).symm, (congrArg BitVec.toNat e).trans_le (h2 (ix1 0)).2⟩

/-- The kernel runs, ends and leaves its arguments unchanged. -/
theorem frame_kernel : Cert.quiescent_Kernel4 := fun m ρ h =>
  (θ_run _ _ _).mono (fun _ e => ⟨fun c => (e.1 c).2, e.2⟩) (Cert.Kernel4.Down.run_end m ρ (range_bits m h))

/-- So does the idealized kernel. -/
theorem frame_ideal : Cert.quiescent_Kernel4Ideal := fun m ρ h =>
  (θ_run _ _ _).mono (fun _ e => ⟨fun c => (e.1 c).2, e.2⟩) (Cert.Kernel4Ideal.Down.run_end m ρ (range_ideal m h))

/-- So does the reference. -/
theorem frame_reference : Cert.quiescent_Reference4Ideal := fun m ρ _ =>
  (θ_run _ _ _).mono (fun r h => ⟨fun c => (h c).2, sem_eq_zero_of_no_sems (by decide) r.2⟩) (Cert.Reference4Ideal.Value.run m ρ)

/-- On the rows of the tiles in use the kernel's down projection is the reference's. -/
theorem down : Cert.algebraic_Kernel4Ideal_Reference4Ideal_on_rows_used := by
  intro m ρ m' ρ' hpre hag
  refine ⟨fun c => Cert.Reference4Ideal.Read.val_main_v20 (F := Ideal)
      (m ((c.tc : Thread Cert.Kernel4Ideal.nD Cert.Kernel4Ideal.τ).loc Cert.Kernel4Ideal.main_arg0))
      (m ((c.tc : Thread Cert.Kernel4Ideal.nD Cert.Kernel4Ideal.τ).loc Cert.Kernel4Ideal.main_arg2))
      (m ((c.tc : Thread Cert.Kernel4Ideal.nD Cert.Kernel4Ideal.τ).loc Cert.Kernel4Ideal.main_arg3))
      (m ((c.tc : Thread Cert.Kernel4Ideal.nD Cert.Kernel4Ideal.τ).loc Cert.Kernel4Ideal.main_arg4)), ?_, ?_⟩
  · have hR := range_ideal m hpre
    refine (θ_run _ _ _).mono (fun _ h c => ⟨fun i hi => (congrFun (h.1 c).1 i).trans ?_, (h.1 c).2⟩) (Cert.Kernel4Ideal.Down.run_end m ρ hR)
    obtain rfl : c = 0 := Subsingleton.elim _ _
    obtain ⟨h1, h2⟩ := Cert.Routed.both _ _ _ _ _ (hpre 0)
    have e : Cert.Kernel4Ideal.Down.tiles m = (m ((0 : Dev Cert.Kernel4Ideal.nD).tc.loc Cert.Kernel4Ideal.main_arg1) : Cert.Kernel4Ideal.S1.Idx → BitVec 32) (ix1 0) :=
      congrFun (Cert.Kernel4Ideal.Down.V_arg m 0 Cert.Kernel4Ideal.main_arg1 (by simp)) _
    have hx : i = ix2 (i 0) (i 1) := by
      funext a
      match a with
      | ⟨0, _⟩ => rfl
      | ⟨1, _⟩ => rfl
    rw [hx] at hi ⊢
    have hr := Cert.RowsUsed.row_lt _ _ _ _ _ (h2 (ix1 0)).2 (i 0) (i 1) hi
    exact (Cert.Kernel4Ideal.Down.result m hR h1 (i 0) (i 1)
        (hr.trans_eq (congrArg (fun v : BitVec 32 => v.toNat * 256) e).symm)).trans
      (Cert.DownRef.result_at _ h1 _ _ _ (i 0) (i 1)).symm
  · refine (θ_run _ _ _).mono (fun _ h c => ⟨fun i _ => congrFun ((h c).1.trans ?_) i, (h c).2⟩) (Cert.Reference4Ideal.Value.run m' ρ')
    obtain ⟨h0, h1, h2, h3, h4⟩ := hag c
    rw [Cert.Reference4Ideal.Read.val_main_v20_eq, h0, h2, h3, h4]

end Cert.DownClose

end
-- ==== Proof.UpSetup.lean ====
/- The gated product's launch: the buffers the pipeline finds, the tables it is steered by, its windows' blocks and the
   memrefs the body is handed. -/
module

public import proofs.«01_k».proof.Proof.Gen.Kernel5Ideal.Launch
public import proofs.«01_k».proof.Proof.Gen.Kernel5Ideal.Skeleton
public import Idealize.ShloMosaic.Lib.Pipeline.FrameBody
public import Idealize.ShloMosaic.Lib.Ring
public import Idealize.ShloMosaic.Lib.Tactic
public import Idealize.ShloMosaic.Lib.WordCmp
public import Idealize.ShloMosaic.Lib.Claim

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ)

/-- What each buffer holds once the host operations have run. -/
abbrev V (c : Dev nD) (b : Ref sig .tc) : Buf (Elt F) ((c : Thread nD τ).loc b) := StableHlo.after hostOps0 (fun b => m (c, b)) b

theorem ops_fresh : (hostOps0 : List (HloOp τ sig (Elt F))).Forall fun op => op.fresh = ∅ := by
  simp only [List.Forall]; repeat' constructor

set_option maxHeartbeats 800000 in
/-- The program is its host operations, then the pipeline. -/
theorem main_runs (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub ops_fresh main_chain

/-- The host operations write none of the arguments. -/
theorem V_arg (c : Dev nD) (b : Ref sig .tc) (hb : b ∈ [main_arg0, main_arg1, main_arg2, main_arg3, main_arg4]) :
    V m c b = m ((c : Thread nD τ).loc b) := by
  simp only [List.mem_cons, List.not_mem_nil, or_false] at hb
  obtain rfl | rfl | rfl | rfl | rfl := hb <;>
  exact StableHlo.after_of_forall_not_mem (b := Proc.devRef .tc _) _ _ (List.forall_iff_forall_mem.mp (by
    simp only [hostOps0, List.Forall, StableHlo.nullary_writes, StableHlo.unary_writes, StableHlo.binary_writes, StableHlo.ternary_writes, StableHlo.reshape_writes, Finset.mem_singleton]
    repeat' apply And.intro
    all_goals exact StableHlo.devRef_ne_of_ne (by decide)))

/-- The three tables' contents. -/
def tbl : pre0.Contents (Elt F) := fun j => V m (0 : Dev nD) (pre0.ref j)

theorem V_tbl (c : Dev nD) (j : Fin 3) : V m c (pre0.ref j) = tbl m j := by
  obtain rfl : c = 0 := Subsingleton.elim _ _; rfl

/-- Every window's block lies inside its array. -/
abbrev Ok : Prop := ok0 (F := F) (tbl m)
abbrev adm (hO : Ok m) : (pcfg0 (F := F)).Adm := ⟨tbl m, hO⟩
abbrev cfgM (hO : Ok m) : Pipeline.Cfg sig Λ₀ := cfg0 (adm m hO)

/-- The tables as the body reads them. -/
abbrev te : Memref sig .tc .smem S288 .i32 := Memref.whole main_arg0
abbrev teW : te.IsWhole := Memref.isWhole_whole _
abbrev nu : Memref sig .tc .smem S1 .i32 := Memref.whole main_arg1
abbrev nuW : nu.IsWhole := Memref.isWhole_whole _
abbrev we : Memref sig .tc .smem S288 .i32 := Memref.whole main_v11
abbrev weW : we.IsWhole := Memref.isWhole_whole _

/-- A table's buffer, and half of it held at some contents. -/
abbrev TabBuf (c : Dev nD) {S : Shape} {e : EltTy} (M : Memref sig .tc .smem S e) : Type := Buf (Elt F) (M.view.loc (c : Thread nD τ))
abbrev tabHeld (c : Dev nD) {S : Shape} {e : EltTy} (M : Memref sig .tc .smem S e) (f : TabBuf (F := F) c M) : sProp 𝕄 :=
  M.view.loc (c : Thread nD τ) ↦{fullShare.right} f

/-- What the body holds of the tables, one by one. -/
theorem tables_eq (c : Dev nD) : (Pipeline.ΦT pre0 (tbl m) c : sProp 𝕄) = iprop(tabHeld c te (tbl m 0) ∗ tabHeld c nu (tbl m 1) ∗ tabHeld c we (tbl m 2)) := by
  unfold Pipeline.ΦT Pipeline.prefHeld
  rw [show (Finset.univ : Finset (Fin 3)) = insert (0 : Fin 3) (insert (1 : Fin 3) {(2 : Fin 3)}) from by decide,
    bigSep_insert (by decide), bigSep_insert (by decide), bigSep_singleton]
  rfl

/-- A window's block at a point, as the pipeline finds the array. -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- An input window holds its block at every point, whether it was fetched there or before. -/
theorem before_0 (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
theorem before_1 (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
theorem before_2 (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
theorem before_3 (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
theorem before_4 (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-- Each window's staging memref at a point. -/
abbrev ms_0 (hO : Ok m) (t : Fin (cfgM m hO).N) : Memref sig .tc .vmem S256x1024 .i32 := spec0_0.stage ((cfgM m hO).slots t 0)
abbrev hs_0 (hO : Ok m) (t : Fin (cfgM m hO).N) : (ms_0 m hO t).IsWhole := hstage0_0 (((cfgM m hO).slots t 0).cast nbuf0_0)
abbrev ms_1 (hO : Ok m) (t : Fin (cfgM m hO).N) : Memref sig .tc .vmem S1x2048x512 .f32 := spec0_1.stage ((cfgM m hO).slots t 1)
abbrev hs_1 (hO : Ok m) (t : Fin (cfgM m hO).N) : (ms_1 m hO t).IsWhole := hstage0_1 (((cfgM m hO).slots t 1).cast nbuf0_1)
abbrev ms_2 (hO : Ok m) (t : Fin (cfgM m hO).N) : Memref sig .tc .vmem S1x2048x512 .f32 := spec0_2.stage ((cfgM m hO).slots t 2)
abbrev hs_2 (hO : Ok m) (t : Fin (cfgM m hO).N) : (ms_2 m hO t).IsWhole := hstage0_2 (((cfgM m hO).slots t 2).cast nbuf0_2)
abbrev ms_3 (hO : Ok m) (t : Fin (cfgM m hO).N) : Memref sig .tc .vmem S1x1x512 .f32 := spec0_3.stage ((cfgM m hO).slots t 3)
abbrev hs_3 (hO : Ok m) (t : Fin (cfgM m hO).N) : (ms_3 m hO t).IsWhole := hstage0_3 (((cfgM m hO).slots t 3).cast nbuf0_3)
abbrev ms_4 (hO : Ok m) (t : Fin (cfgM m hO).N) : Memref sig .tc .vmem S1x1x512 .f32 := spec0_4.stage ((cfgM m hO).slots t 4)
abbrev hs_4 (hO : Ok m) (t : Fin (cfgM m hO).N) : (ms_4 m hO t).IsWhole := hstage0_4 (((cfgM m hO).slots t 4).cast nbuf0_4)
abbrev ms_5 (hO : Ok m) (t : Fin (cfgM m hO).N) : Memref sig .tc .vmem S256x512 .bf16 := spec0_5.stage ((cfgM m hO).slots t 5)
abbrev hs_5 (hO : Ok m) (t : Fin (cfgM m hO).N) : (ms_5 m hO t).IsWhole := hstage0_5 (((cfgM m hO).slots t 5).cast nbuf0_5)
/-- The two buffers of weights that outlive a point: the gate's and the other half's. -/
abbrev keptG : Memref sig .tc .vmem S2048x512 .bf16 := Memref.whole cc0_scratch0
abbrev keptGW : keptG.IsWhole := Memref.isWhole_whole _
abbrev keptU : Memref sig .tc .vmem S2048x512 .bf16 := Memref.whole cc0_scratch1
abbrev keptUW : keptU.IsWhole := Memref.isWhole_whole _

theorem scoped_eq (c : Dev nD) :
    (Pipeline.ΦA spec0 c : sProp 𝕄)
      = iprop(iprop((∃ d, owns (c : Thread nD τ) keptG fullShare d) ∗ (∃ d, owns (c : Thread nD τ) keptU fullShare d)) ∗ (∃ r, prngReg c r)) := by
  unfold Pipeline.ΦA; rw [scopedRest0_eq]; simp only [keptG, keptU, owns_whole]; try rfl

end Cert.Kernel5Ideal.Up

end
-- ==== Proof.UpRun.lean ====
/- One point of the gated product's grid. -/
module

public import proofs.«01_k».proof.Proof.UpSetup

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

/-- The word of a table at an offset. -/
abbrev wordAt (c : Dev nD) (x : TabBuf (F := F) c te) (off : Fin 1 → Nat) (h : ∀ a, off a + S1.size a ≤ S288.size a) : BitVec 32 :=
  x ((Rect.unit (s := S288) off S1.size h).emb (Shape.Idx.first (numel1_S1.symm ▸ Nat.one_pos)))

/-- The number of tiles in use. -/
abbrev count (c : Dev nD) (x : TabBuf (F := F) c nu) : BitVec 32 :=
  x ((Rect.unit (s := S1) ![0] S1.size inb_S1_S1_0).emb (Shape.Idx.first (numel1_S1.symm ▸ Nat.one_pos)))

/-- Whether a point's tile is in use. -/
abbrev used (i : grid0.Coords) (n : BitVec 32) : Prop := k0_cond1 i n = 1#1

/-- Whether a point takes up its expert's weights: it is a column's first, or its expert is not the point's before it. -/
abbrev fresh (i : grid0.Coords) (last this : BitVec 32) : Prop :=
  Scalar.cmpi .ne ((Scalar.extui (Scalar.ori (Scalar.cmpi .eq (BitVec.ofNat 32 (i 1).val) 0#32) (Scalar.cmpi .ne this last))) : BitVec 32) 0#32 = 1#1

/-- The gate's weights a point multiplies by, and the other half's. -/
def gateW (c : Dev nD) (i : grid0.Coords) (x1 : Vec F S1x2048x512 .f32) (xs : Vec F S2048x512 .bf16) (xt0 : TabBuf (F := F) c te) : Vec F S2048x512 .bf16 :=
  if fresh i (wordAt c xt0 (k0_off2 i) (k0_off2_inb i)) (wordAt c xt0 (k0_off3 i) (k0_off3_inb i)) then k0_pay2 x1 else xs
def upW (c : Dev nD) (i : grid0.Coords) (x2 : Vec F S1x2048x512 .f32) (xs : Vec F S2048x512 .bf16) (xt0 : TabBuf (F := F) c te) : Vec F S2048x512 .bf16 :=
  if fresh i (wordAt c xt0 (k0_off2 i) (k0_off2_inb i)) (wordAt c xt0 (k0_off3 i) (k0_off3_inb i)) then k0_pay3 x2 else xs

/-- The first and the last 1024 rows of the weights. -/
def lower (w : Vec F S2048x512 .bf16) : Vec F S1024x512 .bf16 :=
  fun x => w ((Rect.unit (s := S2048x512) ![0, 0] S1024x512.size inb_S2048x512_S1024x512_0_0).emb x)
def upper (w : Vec F S2048x512 .bf16) : Vec F S1024x512 .bf16 :=
  fun x => w ((Rect.unit (s := S2048x512) ![1024, 0] S1024x512.size inb_S2048x512_S1024x512_1024_0).emb x)

/-- A tile's result, from its rows, the two halves' weights and their biases. -/
def product (x0 : Vec F S256x1024 .i32) (g u : Vec F S2048x512 .bf16) (x3 x4 : Vec F S1x1x512 .f32) : Vec F S256x512 .bf16 :=
  k0_pay1 (k0_pay6 x0 (lower g) (upper g) x3) (k0_pay7 x0 (lower u) (upper u)) x4

/-- A rectangle from the origin of a buffer's own extents is the whole buffer. -/
theorem emb_whole {s : Shape} {off : Fin s.rank → Nat} (h : ∀ a, off a = 0) (inb : ∀ a, off a + s.size a ≤ s.size a) (x : s.Idx) :
    (Rect.unit (s := s) off s.size inb).emb x = x := by
  funext a; apply Fin.ext
  show off a + 1 * (x a).val = (x a).val
  rw [h a]; omega

/-- A load of a whole buffer. -/
theorem load_whole {s : Shape} {e : EltTy} {M : Memref sig .tc .vmem s e} (hM : M.IsWhole) {off : Fin s.rank → Nat} (h : ∀ a, off a = 0)
    (inb : ∀ a, off a + s.size a ≤ s.size a) (X : s.Idx → Elt F e) :
    View.readAt (Elt F) M.view (Rect.unit (s := s) off s.size inb).toLoadRect (hM.unread X) = X :=
  funext fun x => (congrFun (hM.read_unread X) _).trans (congrArg X (emb_whole h inb x))

/-- A store over a whole buffer. -/
theorem store_whole {s : Shape} {e : EltTy} (v : View sig .tc .vmem s e) (f : v.ty.Contents (Elt F)) {off : Fin s.rank → Nat} (h : ∀ a, off a = 0)
    (inb : ∀ a, off a + s.size a ≤ s.size a) (w : s.Idx → Elt F e) :
    v.read (Elt F) (v.writes (Elt F) f [⟨Rect.unit (s := s) off s.size inb, w⟩]) = w :=
  funext fun x => (congrArg (v.read (Elt F) _) (emb_whole h inb x).symm).trans (View.read_writes_cons_emb v f (Rect.unit (s := s) off s.size inb) w [] x)

/-- A load of part of a buffer. -/
theorem load_part {s : Shape} {e : EltTy} {M : Memref sig .tc .vmem s e} {f : M.view.ty.Contents (Elt F)} {X : s.Idx → Elt F e} (h : M.view.read (Elt F) f = X)
    {off size : Fin s.rank → Nat} (inb : ∀ a, off a + size a ≤ s.size a) :
    View.readAt (Elt F) M.view (Rect.unit (s := s) off size inb).toLoadRect f = fun x => X ((Rect.unit (s := s) off size inb).emb x) := by
  subst h; rfl

theorem zero2 : ∀ a : Fin 2, (![0, 0] : Fin 2 → Nat) a = 0 := by decide
theorem zero3 : ∀ a : Fin 3, (![0, 0, 0] : Fin 3 → Nat) a = 0 := by decide

set_option maxHeartbeats 4000000 in
/-- One point's body: it leaves the tile's result in the output's buffer and the weights it used in the kept buffers, or,
    where the tile is not in use, all three as they were. -/
theorem run_point (c : Dev nD) (i : grid0.Coords) (arg5 : Memref sig .tc .vmem S256x1024 .i32) (harg5 : arg5.IsWhole) (arg6 : Memref sig .tc .vmem S1x2048x512 .f32) (harg6 : arg6.IsWhole) (arg7 : Memref sig .tc .vmem S1x2048x512 .f32) (harg7 : arg7.IsWhole) (arg8 : Memref sig .tc .vmem S1x1x512 .f32) (harg8 : arg8.IsWhole) (arg9 : Memref sig .tc .vmem S1x1x512 .f32) (harg9 : arg9.IsWhole) (arg10 : Memref sig .tc .vmem S256x512 .bf16) (harg10 : arg10.IsWhole) (arg11 : Memref sig .tc .vmem S2048x512 .bf16) (harg11 : arg11.IsWhole) (arg12 : Memref sig .tc .vmem S2048x512 .bf16) (harg12 : arg12.IsWhole)
    (x0 : Vec F S256x1024 .i32) (x1 : Vec F S1x2048x512 .f32) (x2 : Vec F S1x2048x512 .f32) (x3 : Vec F S1x1x512 .f32) (x4 : Vec F S1x1x512 .f32) (x5 : Vec F S256x512 .bf16) (xg : Vec F S2048x512 .bf16) (xu : Vec F S2048x512 .bf16) (xt0 : TabBuf (F := F) c te) (xt1 : TabBuf (F := F) c nu) (xt2 : TabBuf (F := F) c we)
    (y5 : Vec F S256x512 .bf16) (yg yu : Vec F S2048x512 .bf16)
    (hy : used i (count c xt1) → yg = gateW c i x1 xg xt0 ∧ yu = upW c i x2 xu xt0 ∧ y5 = product x0 yg yu x3 x4)
    (hn : ¬used i (count c xt1) → yg = xg ∧ yu = xu ∧ y5 = x5) :
      ∀ (E : Set ℕ) (K : PUnit → sProp 𝕄),
        iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare x5 ∗ owns (c : Thread nD τ) arg11 fullShare xg ∗ owns (c : Thread nD τ) arg12 fullShare xu ∗ tabHeld c te xt0 ∗ tabHeld c nu xt1 ∗ tabHeld c we xt2
            ∗ (iprop(owns (c : Thread nD τ) arg5 fullShare x0 ∗ owns (c : Thread nD τ) arg6 fullShare x1 ∗ owns (c : Thread nD τ) arg7 fullShare x2 ∗ owns (c : Thread nD τ) arg8 fullShare x3 ∗ owns (c : Thread nD τ) arg9 fullShare x4 ∗ owns (c : Thread nD τ) arg10 fullShare y5 ∗ owns (c : Thread nD τ) arg11 fullShare yg ∗ owns (c : Thread nD τ) arg12 fullShare yu ∗ tabHeld c te xt0 ∗ tabHeld c nu xt1 ∗ tabHeld c we xt2) -∗ K ⟨⟩))
          ⊢ wp frame (wpE (defs₀ (F := F)) Variants.none c none) E (cc0_gate_up i te teW nu nuW we weW arg5 harg5 arg6 harg6 arg7 harg7 arg8 harg8 arg9 harg9 arg10 harg10 arg11 harg11 arg12 harg12) K := by
    intro E K
    simp only [cc0_gate_up_eq_skeleton]; unfold cc0_gate_up_skel
    simp only [k0_part1_eq_skeleton]; unfold k0_part1_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, HT0, HT1, HT2, Hk⟩
    obtain rfl := harg5.eq_unread hf0; obtain rfl := harg6.eq_unread hf1; obtain rfl := harg7.eq_unread hf2; obtain rfl := harg8.eq_unread hf3; obtain rfl := harg9.eq_unread hf4; obtain rfl := harg10.eq_unread hf5; obtain rfl := harg11.eq_unread hf6; obtain rfl := harg12.eq_unread hf7
    sl_exec
    sl_step
    iapply Hk
    isplitl [H0]
    · iexists _; isplitr; · ipureintro; exact harg5.read_unread _
      iexact H0
    isplitl [H1]
    · iexists _; isplitr; · ipureintro; exact harg6.read_unread _
      iexact H1
    isplitl [H2]
    · iexists _; isplitr; · ipureintro; exact harg7.read_unread _
      iexact H2
    isplitl [H3]
    · iexists _; isplitr; · ipureintro; exact harg8.read_unread _
      iexact H3
    isplitl [H4]
    · iexists _; isplitr; · ipureintro; exact harg9.read_unread _
      iexact H4
    have hv : (run_point.sl.v14 c i xt0 = 1#1) = fresh i (wordAt c xt0 (k0_off2 i) (k0_off2_inb i)) (wordAt c xt0 (k0_off3 i) (k0_off3_inb i)) := by
      unfold run_point.sl.v14; rfl
    have hg : gateW c i x1 xg xt0 = if run_point.sl.v14 c i xt0 = 1#1 then k0_pay2 x1 else xg := by
      unfold gateW; exact if_congr (iff_of_eq hv.symm) rfl rfl
    have hu' : upW c i x2 xu xt0 = if run_point.sl.v14 c i xt0 = 1#1 then k0_pay3 x2 else xu := by
      unfold upW; exact if_congr (iff_of_eq hv.symm) rfl rfl
    have hr : run_point.sl.r c xt1 = count c xt1 := rfl
    clear hv
    isplitl [H5]
    · iexists _; isplitr; swap; · iexact H5
      ipureintro
      rw [hr]
      by_cases hu : used i (count c xt1)
      · obtain ⟨rfl, rfl, rfl⟩ := hy hu
        rw [dif_pos hu]
        refine (store_whole _ _ zero2 _ _).trans ?_
        unfold run_point.sl.r_3 run_point.sl.r_4 product run_point.sl.v24 run_point.sl.v26 run_point.sl.v33 run_point.sl.v35
        rw [load_whole harg5 zero2, load_whole harg8 zero3, load_whole harg9 zero3, hg, hu']
        by_cases hf : run_point.sl.v14 c i xt0 = 1#1
        · rw [dif_pos hf, dif_pos hf, if_pos hf, if_pos hf, load_whole harg6 zero3, load_whole harg7 zero3]
          rw [load_part (store_whole arg11.view _ zero2 _ (k0_pay2 x1)), load_part (store_whole arg11.view _ zero2 _ (k0_pay2 x1)),
            load_part (store_whole arg12.view _ zero2 _ (k0_pay3 x2)), load_part (store_whole arg12.view _ zero2 _ (k0_pay3 x2))]
          rfl
        · rw [dif_neg hf, dif_neg hf, if_neg hf, if_neg hf]
          rw [load_part hf6, load_part hf6, load_part hf7, load_part hf7]
          rfl
      · obtain ⟨rfl, rfl, rfl⟩ := hn hu
        rw [dif_neg hu]; exact hf5
    isplitl [H6]
    · iexists _; isplitr; swap; · iexact H6
      ipureintro
      rw [hr]
      by_cases hu : used i (count c xt1)
      · obtain ⟨rfl, rfl, rfl⟩ := hy hu
        rw [dif_pos hu, hg]
        by_cases hf : run_point.sl.v14 c i xt0 = 1#1
        · rw [dif_pos hf, if_pos hf, load_whole harg6 zero3]
          exact store_whole _ _ zero2 _ _
        · rw [dif_neg hf, if_neg hf]; exact hf6
      · obtain ⟨rfl, rfl, rfl⟩ := hn hu
        rw [dif_neg hu]; exact hf6
    isplitl [H7]
    · iexists _; isplitr; swap; · iexact H7
      ipureintro
      rw [hr]
      by_cases hu : used i (count c xt1)
      · obtain ⟨rfl, rfl, rfl⟩ := hy hu
        rw [dif_pos hu, hu']
        by_cases hf : run_point.sl.v14 c i xt0 = 1#1
        · rw [dif_pos hf, if_pos hf, load_whole harg7 zero3]
          exact store_whole _ _ zero2 _ _
        · rw [dif_neg hf, if_neg hf]; exact hf7
      · obtain ⟨rfl, rfl, rfl⟩ := hn hu
        rw [dif_neg hu]; exact hf7
    isplitl [HT0]; · iexact HT0
    isplitl [HT1]; · iexact HT1
    iexact HT2

end Cert.Kernel5Ideal.Up

end
-- ==== Proof.UpSteps.lean ====
/- How the gated product's windows and conditions move from one point of the grid to the next. -/
module

public import proofs.«01_k».proof.Proof.UpRun
public import proofs.«01_k».proof.Proof.DownWords
public import Idealize.ShloMosaic.Lib.Pipeline.TableIdle

@[expose] public section

set_option maxRecDepth 16384

noncomputable section

namespace Cert.Kernel5Ideal.Up

open Idealize.ShloMosaic Idealize.ShloMosaic.TcCoe Idealize.SL.Sem
open Idealize.ShloMosaic.Pipeline (Dat Cfg Window)
open Idealize.ShloMosaic.Rounds
open Cert.Kernel5Ideal.Gen Cert.Words

variable {F : FTy → Type} [FloatOps F]

variable (m : (ℓ : Loc nD τ sig) → Buf (Elt F) ℓ)

/-- The number of tiles in use, a tile's expert, and the expert whose weights stand ready at a tile. -/
def tiles : BitVec 32 := (V m 0 main_arg1 : S1.Idx → BitVec 32) (ix1 0)
def expert (k : Fin 288) : BitVec 32 := (V m 0 main_arg0 : S288.Idx → BitVec 32) (ix1 k)
def ready (k : Fin 288) : BitVec 32 := (V m 0 main_v11 : S288.Idx → BitVec 32) (ix1 k)

/-- The tables as the launch finds them: at least one tile in use, and the third table the first held at its last
    tile in use. -/
structure Steer : Prop where
  pos : 1 ≤ (tiles m).toNat
  le : (tiles m).toNat ≤ 288
  held : ∀ k : Fin 288, ready m k = expert m ⟨min k.val ((tiles m).toNat - 1), by have := k.isLt; omega⟩

variable (hO : Ok m)

theorem points {t : Nat} (h : t < (cfgM m hO).N) : t < 1152 := lt_of_lt_of_eq h (show (cfgM m hO).N = 1152 from N_0)

/-- A point's tile and column. -/
theorem coord_tile (t : Fin grid0.N) : (grid0.coords t 1).val = t.val % 288 :=
  (Pipeline.Grid.coords_val t 1 (by decide) rfl : (grid0.coords t 1).val = t.val / 1 % 288).trans (by rw [Nat.div_one])
theorem coord_col (t : Fin grid0.N) : (grid0.coords t 0).val = t.val / 288 := by
  have ht : t.val < 1152 := Nat.lt_of_lt_of_eq t.isLt N_0
  exact (Pipeline.Grid.coords_val t 0 (by decide) rfl : (grid0.coords t 0).val = t.val / 288 % 4).trans (by omega)

theorem tile_lt (t : Fin grid0.N) : t.val % 288 < 288 := by omega

/-- The words the body reads. -/
theorem count_eq : count (F := F) 0 (tbl m 1) = tiles m :=
  congrArg (V m 0 main_arg1 : S1.Idx → BitVec 32) (funext fun a => Fin.ext (by have := (ix1 (0 : Fin 1) a).isLt; fin_cases a; rfl))

theorem this_word (t : Fin grid0.N) : wordAt (F := F) 0 (tbl m 0) (k0_off3 (grid0.coords t)) (k0_off3_inb _) = expert m ⟨t.val % 288, tile_lt t⟩ := by
  refine congrArg (V m 0 main_arg0 : S288.Idx → BitVec 32) (funext fun a => Fin.ext ?_)
  fin_cases a
  show (BitVec.ofNat 32 (grid0.coords t 1).val).toNat + 1 * 0 = t.val % 288
  rw [coord_tile, toNat_small (by omega)]; omega

theorem last_word (t : Fin grid0.N) : wordAt (F := F) 0 (tbl m 0) (k0_off2 (grid0.coords t)) (k0_off2_inb _) = expert m ⟨t.val % 288 - 1, by omega⟩ := by
  refine congrArg (V m 0 main_arg0 : S288.Idx → BitVec 32) (funext fun a => Fin.ext ?_)
  fin_cases a
  show (Scalar.maxsi (Scalar.subi (BitVec.ofNat 32 (grid0.coords t 1).val) 1#32) 0#32).toNat + 1 * 0 = t.val % 288 - 1
  rw [coord_tile, prev_word (by omega)]; omega

/-- A point's tile is in use when it comes before the count. -/
theorem used_iff (hS : Steer m) (t : Fin grid0.N) : used (grid0.coords t) (tiles m) ↔ t.val % 288 < (tiles m).toNat := by
  have := hS.le
  refine (widened _).trans ?_
  rw [coord_tile]
  exact lt_word (by omega) (by omega)

/-- A point takes up its weights at a column's first tile or at a new expert. -/
theorem fresh_iff (t : Fin grid0.N) (a b : BitVec 32) : fresh (grid0.coords t) a b ↔ t.val % 288 = 0 ∨ b ≠ a := by
  refine (widened _).trans ?_
  rw [coord_tile]
  exact differs (by omega) _ _

/-! ## The blocks' indices -/

theorem index_0 (hS : Steer m) (t : Fin (cfgM m hO).N) : ((cfgM m hO).win 0).index t = ![min (t.val % 288) ((tiles m).toNat - 1), 0] := by
  have h1 := hS.pos; have h2 := hS.le
  show ![(Scalar.minsi (BitVec.ofNat 32 (grid0.coords t 1).val) (Scalar.subi (count (F := F) 0 (tbl m 1)) 1#32)).toNat, (0#32).toNat] = _
  rw [count_eq, coord_tile, min_word (by omega) h1 (by omega)]; rfl

theorem index_5 (hS : Steer m) (t : Fin (cfgM m hO).N) : ((cfgM m hO).win 5).index t = ![min (t.val % 288) ((tiles m).toNat - 1), t.val / 288] := by
  have h1 := hS.pos; have h2 := hS.le
  have ht := points m hO t.isLt
  show ![(Scalar.minsi (BitVec.ofNat 32 (grid0.coords t 1).val) (Scalar.subi (count (F := F) 0 (tbl m 1)) 1#32)).toNat, (BitVec.ofNat 32 (grid0.coords t 0).val).toNat] = _
  rw [count_eq, coord_tile, coord_col, min_word (by omega) h1 (by omega), toNat_small (by omega)]

/-- The expert whose weights stand ready at a point. -/
theorem ready_word (t : Fin grid0.N) : wordAt (F := F) 0 (tbl m 2) (k0_off1 (grid0.coords t)) (k0_off1_inb _) = ready m ⟨t.val % 288, tile_lt t⟩ := by
  refine congrArg (V m 0 main_v11 : S288.Idx → BitVec 32) (funext fun a => Fin.ext ?_)
  fin_cases a
  show (BitVec.ofNat 32 (grid0.coords t 1).val).toNat + 1 * 0 = t.val % 288
  rw [coord_tile, toNat_small (by omega)]; omega

/-- The column of the other half's block. -/
theorem col_word {k : Nat} (hk : k < 4) : (Scalar.addi 4#32 (BitVec.ofNat 32 k)).toNat = 4 + k := by
  show (4#32 + BitVec.ofNat 32 k).toNat = 4 + k
  rw [BitVec.toNat_add, toNat_small (k := k) (by omega)]
  show (4 + k) % 2 ^ 32 = 4 + k
  omega

theorem index_1 (t : Fin (cfgM m hO).N) : ((cfgM m hO).win 1).index t = ![(ready m ⟨t.val % 288, tile_lt t⟩).toNat, 0, t.val / 288] := by
  have ht := points m hO t.isLt
  show ![(wordAt (F := F) 0 (tbl m 2) (k0_off1 (grid0.coords t)) (k0_off1_inb _)).toNat, (0#32).toNat, (BitVec.ofNat 32 (grid0.coords t 0).val).toNat] = _
  rw [ready_word, coord_col, toNat_small (k := t.val / 288) (by omega)]; rfl

theorem index_2 (t : Fin (cfgM m hO).N) : ((cfgM m hO).win 2).index t = ![(ready m ⟨t.val % 288, tile_lt t⟩).toNat, 0, 4 + t.val / 288] := by
  have ht := points m hO t.isLt
  show ![(wordAt (F := F) 0 (tbl m 2) (k0_off1 (grid0.coords t)) (k0_off1_inb _)).toNat, (0#32).toNat, (Scalar.addi 4#32 (BitVec.ofNat 32 (grid0.coords t 0).val)).toNat] = _
  rw [ready_word, coord_col, col_word (by omega)]; rfl

theorem index_3 (t : Fin (cfgM m hO).N) : ((cfgM m hO).win 3).index t = ![(ready m ⟨t.val % 288, tile_lt t⟩).toNat, 0, t.val / 288] := by
  have ht := points m hO t.isLt
  show ![(wordAt (F := F) 0 (tbl m 2) (k0_off1 (grid0.coords t)) (k0_off1_inb _)).toNat, (0#32).toNat, (BitVec.ofNat 32 (grid0.coords t 0).val).toNat] = _
  rw [ready_word, coord_col, toNat_small (k := t.val / 288) (by omega)]; rfl

theorem index_4 (t : Fin (cfgM m hO).N) : ((cfgM m hO).win 4).index t = ![(ready m ⟨t.val % 288, tile_lt t⟩).toNat, 0, 4 + t.val / 288] := by
  have ht := points m hO t.isLt
  show ![(wordAt (F := F) 0 (tbl m 2) (k0_off1 (grid0.coords t)) (k0_off1_inb _)).toNat, (0#32).toNat, (Scalar.addi 4#32 (BitVec.ofNat 32 (grid0.coords t 0).val)).toNat] = _
  rw [ready_word, coord_col, col_word (by omega)]; rfl

/-! ## Where nothing moves -/

/-- At a tile past those in use, every block is the one before's. -/
theorem same_past (hS : Steer m) (t t' : Fin (cfgM m hO).N) (h' : t'.val + 1 = t.val) (h : (tiles m).toNat ≤ t.val % 288) (w : Fin 6) :
    ((cfgM m hO).win w).index t = ((cfgM m hO).win w).index t' := by
  have h1 := hS.pos; have h2 := hS.le
  have e1 : t.val / 288 = t'.val / 288 := by omega
  have e2 : t'.val % 288 = t.val % 288 - 1 := by omega
  have e3 : min (t.val % 288) ((tiles m).toNat - 1) = min (t'.val % 288) ((tiles m).toNat - 1) := by omega
  have e4 : ready m ⟨t.val % 288, by omega⟩ = ready m ⟨t'.val % 288, by omega⟩ := by
    rw [hS.held, hS.held]; exact congrArg (expert m) (Fin.ext e3)
  match w with
  | ⟨0, _⟩ => exact (index_0 m hO hS t).trans ((congrArg (fun k : Nat => (![k, 0] : Fin 2 → Nat)) e3).trans (index_0 m hO hS t').symm)
  | ⟨1, _⟩ => exact (index_1 m hO t).trans ((congrArg₂ (fun (v : BitVec 32) (k : Nat) => (![v.toNat, 0, k] : Fin 3 → Nat)) e4 e1).trans (index_1 m hO t').symm)
  | ⟨2, _⟩ => exact (index_2 m hO t).trans ((congrArg₂ (fun (v : BitVec 32) (k : Nat) => (![v.toNat, 0, 4 + k] : Fin 3 → Nat)) e4 e1).trans (index_2 m hO t').symm)
  | ⟨3, _⟩ => exact (index_3 m hO t).trans ((congrArg₂ (fun (v : BitVec 32) (k : Nat) => (![v.toNat, 0, k] : Fin 3 → Nat)) e4 e1).trans (index_3 m hO t').symm)
  | ⟨4, _⟩ => exact (index_4 m hO t).trans ((congrArg₂ (fun (v : BitVec 32) (k : Nat) => (![v.toNat, 0, 4 + k] : Fin 3 → Nat)) e4 e1).trans (index_4 m hO t').symm)
  | ⟨5, _⟩ => exact (index_5 m hO hS t).trans ((congrArg₂ (fun k l : Nat => (![k, l] : Fin 2 → Nat)) e3 e1).trans (index_5 m hO hS t').symm)

/-- At a tile in use whose expert is the tile before's, the weights' block is the one before's. -/
theorem same_expert (hS : Steer m) (t t' : Fin (cfgM m hO).N) (h' : t'.val + 1 = t.val) (h : t.val % 288 < (tiles m).toNat) (h0 : t.val % 288 ≠ 0)
    (he : expert m ⟨t.val % 288, by omega⟩ = expert m ⟨t.val % 288 - 1, by omega⟩) :
    ((cfgM m hO).win 1).index t = ((cfgM m hO).win 1).index t' ∧ ((cfgM m hO).win 2).index t = ((cfgM m hO).win 2).index t' := by
  have h1 := hS.pos; have h2 := hS.le
  have e1 : t.val / 288 = t'.val / 288 := by omega
  have e4 : ready m ⟨t.val % 288, by omega⟩ = ready m ⟨t'.val % 288, by omega⟩ := by
    rw [hS.held, hS.held]
    refine (congrArg (expert m) (Fin.ext ?_)).trans (he.trans (congrArg (expert m) (Fin.ext ?_)))
    · show min (t.val % 288) ((tiles m).toNat - 1) = t.val % 288
      omega
    · show t.val % 288 - 1 = min (t'.val % 288) ((tiles m).toNat - 1)
      omega
  exact ⟨(index_1 m hO t).trans ((congrArg₂ (fun (v : BitVec 32) (k : Nat) => (![v.toNat, 0, k] : Fin 3 → Nat)) e4 e1).trans (index_1 m hO t').symm),
    (index_2 m hO t).trans ((congrArg₂ (fun (v : BitVec 32) (k : Nat) => (![v.toNat, 0, 4 + k] : Fin 3 → Nat)) e4 e1).trans (index_2 m hO t').symm)⟩

end Cert.Kernel5Ideal.Up

end
-- ==== Proof.UpFrame.lean ====
/- The gated product's run: what each point leaves, and so what the launch leaves. -/
module

public import proofs.«01_k».proof.Proof.UpSteps

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The weights a point multiplies by: its blocks of them, converted. -/
def wtsG (hO : Ok m) (c : Dev nD) (t : Fin (cfgM m hO).N) : Vec F S2048x512 .bf16 := k0_pay2 (iblk m hO c 1 t : Vec F S1x2048x512 .f32)
def wtsU (hO : Ok m) (c : Dev nD) (t : Fin (cfgM m hO).N) : Vec F S2048x512 .bf16 := k0_pay3 (iblk m hO c 2 t : Vec F S1x2048x512 .f32)

/-- What a point leaves in the output's buffer: its tile's result. -/
def out (hO : Ok m) (c : Dev nD) (t : Fin (cfgM m hO).N) : Vec F S256x512 .bf16 :=
  product (iblk m hO c 0 t : Vec F S256x1024 .i32) (wtsG m hO c t) (wtsU m hO c t) (iblk m hO c 3 t : Vec F S1x1x512 .f32) (iblk m hO c 4 t : Vec F S1x1x512 .f32)

/-- The kept buffers between points: anything before the first, then the last point's weights. -/
def keptAt (hO : Ok m) (c : Dev nD) (n : Nat) : sProp 𝕄 :=
  if h : 0 < n ∧ n - 1 < (cfgM m hO).N then iprop(owns (c : Thread nD τ) keptG fullShare (wtsG m hO c ⟨n - 1, h.2⟩) ∗ owns (c : Thread nD τ) keptU fullShare (wtsU m hO c ⟨n - 1, h.2⟩))
  else iprop((∃ d, owns (c : Thread nD τ) keptG fullShare d) ∗ (∃ d, owns (c : Thread nD τ) keptU fullShare d))

/-- What holds point by point. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => out m hO c t
  Φ n := iprop((keptAt m hO c n.val ∗ (∃ r, prngReg c r)) ∗ Pipeline.ΦT pre0 (tbl m) c)
  q w := Pipeline.shareOf spec0 w
  owed _ := 0

theorem A_eq (hO : Ok m) (c : Dev nD) (w : Fin (cfgM m hO).W) : (dats m hO 0 c).A w = V m c (Pipeline.arrRef spec0 w) := by
  dsimp only [dats]

theorem after_0 (hO : Ok m) (c : Dev nD) (t : Fin (cfgM m hO).N) : (dats m hO 0 c).after 0 t = iblk m hO c 0 t := by dsimp only [dats]; try rfl
theorem after_1 (hO : Ok m) (c : Dev nD) (t : Fin (cfgM m hO).N) : (dats m hO 0 c).after 1 t = iblk m hO c 1 t := by dsimp only [dats]; try rfl
theorem after_2 (hO : Ok m) (c : Dev nD) (t : Fin (cfgM m hO).N) : (dats m hO 0 c).after 2 t = iblk m hO c 2 t := by dsimp only [dats]; try rfl
theorem after_3 (hO : Ok m) (c : Dev nD) (t : Fin (cfgM m hO).N) : (dats m hO 0 c).after 3 t = iblk m hO c 3 t := by dsimp only [dats]; try rfl
theorem after_4 (hO : Ok m) (c : Dev nD) (t : Fin (cfgM m hO).N) : (dats m hO 0 c).after 4 t = iblk m hO c 4 t := by dsimp only [dats]; try rfl
theorem after_5 (hO : Ok m) (c : Dev nD) (t : Fin (cfgM m hO).N) : (dats m hO 0 c).after 5 t = out m hO c t := by dsimp only [dats]; try rfl

theorem found_0 (hO : Ok m) (c : Dev nD) (t : Fin (cfgM m hO).N) (d) : (dats m hO 0 c).before 0 t d = iblk m hO c 0 t :=
  before_0 m hO (dats m hO 0 c) (A_eq m hO c 0) (after_0 m hO c) t d
theorem found_1 (hO : Ok m) (c : Dev nD) (t : Fin (cfgM m hO).N) (d) : (dats m hO 0 c).before 1 t d = iblk m hO c 1 t :=
  before_1 m hO (dats m hO 0 c) (A_eq m hO c 1) (after_1 m hO c) t d
theorem found_2 (hO : Ok m) (c : Dev nD) (t : Fin (cfgM m hO).N) (d) : (dats m hO 0 c).before 2 t d = iblk m hO c 2 t :=
  before_2 m hO (dats m hO 0 c) (A_eq m hO c 2) (after_2 m hO c) t d
theorem found_3 (hO : Ok m) (c : Dev nD) (t : Fin (cfgM m hO).N) (d) : (dats m hO 0 c).before 3 t d = iblk m hO c 3 t :=
  before_3 m hO (dats m hO 0 c) (A_eq m hO c 3) (after_3 m hO c) t d
theorem found_4 (hO : Ok m) (c : Dev nD) (t : Fin (cfgM m hO).N) (d) : (dats m hO 0 c).before 4 t d = iblk m hO c 4 t :=
  before_4 m hO (dats m hO 0 c) (A_eq m hO c 4) (after_4 m hO c) t d

/-- Blocks of one index are one block. -/
theorem blk_same_0 (hO : Ok m) (c : Dev nD) (t t' : Fin (cfgM m hO).N) (h : ((cfgM m hO).win 0).index t = ((cfgM m hO).win 0).index t') :
    (iblk m hO c 0 t : Vec F S256x1024 .i32) = iblk m hO c 0 t' :=
  (dats m hO 0 c).fetched_congr 0 h rfl (iblk m hO c 0 t)
theorem blk_same_1 (hO : Ok m) (c : Dev nD) (t t' : Fin (cfgM m hO).N) (h : ((cfgM m hO).win 1).index t = ((cfgM m hO).win 1).index t') :
    (iblk m hO c 1 t : Vec F S1x2048x512 .f32) = iblk m hO c 1 t' :=
  (dats m hO 0 c).fetched_congr 1 h rfl (iblk m hO c 1 t)
theorem blk_same_2 (hO : Ok m) (c : Dev nD) (t t' : Fin (cfgM m hO).N) (h : ((cfgM m hO).win 2).index t = ((cfgM m hO).win 2).index t') :
    (iblk m hO c 2 t : Vec F S1x2048x512 .f32) = iblk m hO c 2 t' :=
  (dats m hO 0 c).fetched_congr 2 h rfl (iblk m hO c 2 t)
theorem blk_same_3 (hO : Ok m) (c : Dev nD) (t t' : Fin (cfgM m hO).N) (h : ((cfgM m hO).win 3).index t = ((cfgM m hO).win 3).index t') :
    (iblk m hO c 3 t : Vec F S1x1x512 .f32) = iblk m hO c 3 t' :=
  (dats m hO 0 c).fetched_congr 3 h rfl (iblk m hO c 3 t)
theorem blk_same_4 (hO : Ok m) (c : Dev nD) (t t' : Fin (cfgM m hO).N) (h : ((cfgM m hO).win 4).index t = ((cfgM m hO).win 4).index t') :
    (iblk m hO c 4 t : Vec F S1x1x512 .f32) = iblk m hO c 4 t' :=
  (dats m hO 0 c).fetched_congr 4 h rfl (iblk m hO c 4 t)

/-- Past the tiles in use, a point's weights and result are the point's before it. -/
theorem wtsG_past (hO : Ok m) (hS : Steer m) (c : Dev nD) (t t' : Fin (cfgM m hO).N) (h' : t'.val + 1 = t.val) (h : (tiles m).toNat ≤ t.val % 288) :
    wtsG m hO c t = wtsG m hO c t' := by
  unfold wtsG
  rw [blk_same_1 m hO c t t' (same_past m hO hS t t' h' h 1)]
theorem wtsU_past (hO : Ok m) (hS : Steer m) (c : Dev nD) (t t' : Fin (cfgM m hO).N) (h' : t'.val + 1 = t.val) (h : (tiles m).toNat ≤ t.val % 288) :
    wtsU m hO c t = wtsU m hO c t' := by
  unfold wtsU
  rw [blk_same_2 m hO c t t' (same_past m hO hS t t' h' h 2)]
theorem out_past (hO : Ok m) (hS : Steer m) (c : Dev nD) (t t' : Fin (cfgM m hO).N) (h' : t'.val + 1 = t.val) (h : (tiles m).toNat ≤ t.val % 288) :
    out m hO c t = out m hO c t' := by
  unfold out
  rw [wtsG_past m hO hS c t t' h' h, wtsU_past m hO hS c t t' h' h, blk_same_0 m hO c t t' (same_past m hO hS t t' h' h 0),
    blk_same_3 m hO c t t' (same_past m hO hS t t' h' h 3), blk_same_4 m hO c t t' (same_past m hO hS t t' h' h 4)]

/-- The count of tiles as the schedule reads it. -/
theorem count_read : Pipeline.Prefetch.Contents.atD (tbl m) 1 ![0] = tiles m := by
  have h : ∀ a : Fin 1, (![0] : Fin 1 → Nat) a + 1 ≤ S1.size a := by decide
  refine (dif_pos h).trans ?_
  exact congrArg (V m 0 main_arg1 : S1.Idx → BitVec 32) (funext fun a => Fin.ext (by fin_cases a; rfl))

/-- The schedule's idle points are the printed ones. -/
theorem idle_of (a : (pcfg0 (F := F)).Adm) (w : Fin 6) (i : grid0.Coords) : (cfg0 a).idle w i = idle0 (F := F) a.1 w i := rfl

/-- The output's buffer is idle exactly past the tiles in use. -/
theorem idle_5 (hO : Ok m) (hS : Steer m) (t : Fin (cfgM m hO).N) :
    (cfgM m hO).idle 5 ((cfgM m hO).grid.coords t) = decide ((tiles m).toNat ≤ t.val % 288) := by
  have e1 : (cfgM m hO).idle 5 ((cfgM m hO).grid.coords t) = !(k0_cond1 (grid0.coords t) (tiles m) == 1#1) :=
    (idle_of (adm m hO) 5 _).trans (congrArg (fun v : BitVec 32 => !(k0_cond1 (grid0.coords t) v == 1#1)) (count_read m))
  rw [e1]
  have hu := used_iff m hS t
  by_cases h : t.val % 288 < (tiles m).toNat
  · rw [show k0_cond1 (grid0.coords t) (tiles m) = 1#1 from hu.mpr h]
    simp; omega
  · have h2 : ¬ (k0_cond1 (grid0.coords t) (tiles m) = 1#1) := fun h' => h (hu.mp h')
    rw [show (k0_cond1 (grid0.coords t) (tiles m) == 1#1) = false from beq_eq_false_iff_ne.mpr h2]
    simp; omega

/-- Past the tiles in use, the output's buffer has been stored into since it was last written back. -/
theorem stored (hO : Ok m) (hS : Steer m) : ∀ (n : Nat) (hn : n < (cfgM m hO).N), (tiles m).toNat ≤ n % 288 → (cfgM m hO).fresh 5 n = false := by
  intro n
  induction n with
  | zero => intro _ h; have := hS.pos; omega
  | succ n ih =>
    intro hn h
    rw [Cfg.fresh_succ _ 5 n (Nat.lt_of_succ_lt hn)]
    have hfl : ((cfgM m hO).win 5).flush ⟨n, Nat.lt_of_succ_lt hn⟩ = false := by
      unfold Window.flush
      rw [Bool.and_eq_false_iff]; right
      rw [Bool.or_eq_false_iff]
      refine ⟨decide_eq_false (Nat.ne_of_lt hn), decide_eq_false ?_⟩
      rintro ⟨h', hne⟩
      exact hne (same_past m hO hS ⟨n + 1, hn⟩ ⟨n, Nat.lt_of_succ_lt hn⟩ rfl h 5)
    rw [hfl, idle_5 m hO hS]
    by_cases h2 : (tiles m).toNat ≤ n % 288
    · rw [ih (by omega) h2]; simp
    · simp [h2]

/-- What the body finds in the output's buffer past the tiles in use. -/
theorem found_5 (hO : Ok m) (hS : Steer m) (c : Dev nD) (t : Fin (cfgM m hO).N) (h : (tiles m).toNat ≤ t.val % 288) (d) :
    (dats m hO 0 c).before 5 t d = out m hO c t := by
  have h1 := hS.pos
  have key := (dats m hO 0 c).before_out_traj 5 rfl (fun _ _ => rfl) (fun s hs hi _ => by
    rw [idle_5 m hO hS, decide_eq_true_iff] at hi
    rw [after_5, after_5]
    exact out_past m hO hS c s ⟨s.val - 1, by omega⟩ (by show s.val - 1 + 1 = s.val; omega) hi) t.val t rfl d
  rw [key, stored m hO hS t.val t.isLt h, if_neg Bool.false_ne_true, after_5]
  exact (out_past m hO hS c t ⟨t.val - 1, by omega⟩ (by show t.val - 1 + 1 = t.val; omega) h).symm

end Cert.Kernel5Ideal.Up
-- ==== Proof.UpLaunch.lean ====
/- The gated product's run: a point's body does what the schedule asks, and so the launch ends. -/
module

public import proofs.«01_k».proof.Proof.UpFrame

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## One point -/

/-- The body a point runs, on the buffers the schedule gives it. -/
abbrev bodyAt (hO : Ok m) (t : Fin (cfgM m hO).N) : Prog (TpuEff nD τ sig (Elt F) Λ₀ .tc) PUnit :=
  cc0_gate_up (grid0.coords t) te teW nu nuW we weW (ms_0 m hO t) (hs_0 m hO t) (ms_1 m hO t) (hs_1 m hO t) (ms_2 m hO t) (hs_2 m hO t) (ms_3 m hO t) (hs_3 m hO t) (ms_4 m hO t) (hs_4 m hO t) (ms_5 m hO t) (hs_5 m hO t) keptG keptGW keptU keptUW

def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms_0 m hO t) fullShare ((dats m hO 0 c).before 0 t d))
    ∗ (∃ d, owns (c : Thread nD τ) (ms_1 m hO t) fullShare ((dats m hO 0 c).before 1 t d))
    ∗ (∃ d, owns (c : Thread nD τ) (ms_2 m hO t) fullShare ((dats m hO 0 c).before 2 t d))
    ∗ (∃ d, owns (c : Thread nD τ) (ms_3 m hO t) fullShare ((dats m hO 0 c).before 3 t d))
    ∗ (∃ d, owns (c : Thread nD τ) (ms_4 m hO t) fullShare ((dats m hO 0 c).before 4 t d))
    ∗ (∃ d, owns (c : Thread nD τ) (ms_5 m hO t) fullShare ((dats m hO 0 c).before 5 t d)))

def bodyPost (hO : Ok m) (c : Dev nD) (t : Fin (cfgM m hO).N) : sProp 𝕄 :=
  iprop((dats m hO 0 c).Φ t.succ ∗ (dats m hO 0 c).owesAt () t.succ
    ∗ (dats m hO 0 c).leavesExact 0 t
    ∗ (dats m hO 0 c).leavesExact 1 t
    ∗ (dats m hO 0 c).leavesExact 2 t
    ∗ (dats m hO 0 c).leavesExact 3 t
    ∗ (dats m hO 0 c).leavesExact 4 t
    ∗ (dats m hO 0 c).leavesExact 5 t)

/-- The invariant before a point: the kept buffer, the random-number register, the tables. -/
def inv (hO : Ok m) (c : Dev nD) (n : Nat) : sProp 𝕄 := iprop((keptAt m hO c n ∗ (∃ r, prngReg c r)) ∗ Pipeline.ΦT pre0 (tbl m) c)
theorem inv_eq (hO : Ok m) (c : Dev nD) (n : Fin ((cfgM m hO).N + 1)) : (dats m hO 0 c).Φ n = inv m hO c n.val := by dsimp only [dats]; try rfl
theorem inv_open (hO : Ok m) (c : Dev nD) (n : Nat) : inv m hO c n = iprop((keptAt m hO c n ∗ (∃ r, prngReg c r)) ∗ Pipeline.ΦT pre0 (tbl m) c) := by unfold inv; rfl
theorem inv_before (hO : Ok m) (c : Dev nD) (t : Fin (cfgM m hO).N) : (dats m hO 0 c).Φ t.castSucc = inv m hO c t.val := by rw [inv_eq, Fin.val_castSucc]
theorem inv_after (hO : Ok m) (c : Dev nD) (t : Fin (cfgM m hO).N) : (dats m hO 0 c).Φ t.succ = inv m hO c (t.val + 1) := by rw [inv_eq, Fin.val_succ]

/-- An input's buffer still holds its block. -/
theorem leaves_0 (hO : Ok m) (c : Dev nD) (t : Fin (cfgM m hO).N) : (dats m hO 0 c).leavesExact 0 t = owns (c : Thread nD τ) (ms_0 m hO t) fullShare (iblk m hO c 0 t) := by
  have hi : (cfgM m hO).idle 0 ((cfgM m hO).grid.coords t) = false := idle_of (adm m hO) 0 _
  unfold Dat.leavesExact
  rw [hi]
  dsimp only
  rw [after_0]
  rfl
theorem leaves_1 (hO : Ok m) (c : Dev nD) (t : Fin (cfgM m hO).N) : (dats m hO 0 c).leavesExact 1 t = owns (c : Thread nD τ) (ms_1 m hO t) fullShare (iblk m hO c 1 t) := by
  have hi : (cfgM m hO).idle 1 ((cfgM m hO).grid.coords t) = false := idle_of (adm m hO) 1 _
  unfold Dat.leavesExact
  rw [hi]
  dsimp only
  rw [after_1]
  rfl
theorem leaves_2 (hO : Ok m) (c : Dev nD) (t : Fin (cfgM m hO).N) : (dats m hO 0 c).leavesExact 2 t = owns (c : Thread nD τ) (ms_2 m hO t) fullShare (iblk m hO c 2 t) := by
  have hi : (cfgM m hO).idle 2 ((cfgM m hO).grid.coords t) = false := idle_of (adm m hO) 2 _
  unfold Dat.leavesExact
  rw [hi]
  dsimp only
  rw [after_2]
  rfl
theorem leaves_3 (hO : Ok m) (c : Dev nD) (t : Fin (cfgM m hO).N) : (dats m hO 0 c).leavesExact 3 t = owns (c : Thread nD τ) (ms_3 m hO t) fullShare (iblk m hO c 3 t) := by
  have hi : (cfgM m hO).idle 3 ((cfgM m hO).grid.coords t) = false := idle_of (adm m hO) 3 _
  unfold Dat.leavesExact
  rw [hi]
  dsimp only
  rw [after_3]
  rfl
theorem leaves_4 (hO : Ok m) (c : Dev nD) (t : Fin (cfgM m hO).N) : (dats m hO 0 c).leavesExact 4 t = owns (c : Thread nD τ) (ms_4 m hO t) fullShare (iblk m hO c 4 t) := by
  have hi : (cfgM m hO).idle 4 ((cfgM m hO).grid.coords t) = false := idle_of (adm m hO) 4 _
  unfold Dat.leavesExact
  rw [hi]
  dsimp only
  rw [after_4]
  rfl

set_option maxHeartbeats 2000000 in
/-- The result in the output's buffer is what the schedule asks for, whether or not the point stores. -/
theorem leaves_5 (hO : Ok m) (hS : Steer m) (c : Dev nD) (t : Fin (cfgM m hO).N) :
    (owns (c : Thread nD τ) (ms_5 m hO t) fullShare (out m hO c t) : sProp 𝕄) ⊢ (dats m hO 0 c).leavesExact 5 t := by
  have hi := idle_5 m hO hS t
  unfold Dat.leavesExact
  by_cases h : (tiles m).toNat ≤ t.val % 288
  · rw [hi, decide_eq_true h]
    cases hf : ((cfgM m hO).win 5).flush t
    · dsimp only
      have e : (owns (c : Thread nD τ) (ms_5 m hO t) fullShare (out m hO c t) : sProp 𝕄) = owns (c : Thread nD τ) (ms_5 m hO t) fullShare ((dats m hO 0 c).before 5 t (out m hO c t)) :=
        congrArg (owns (c : Thread nD τ) (ms_5 m hO t) fullShare) (found_5 m hO hS c t h _).symm
      rw [e]
      iintro H
      iexists (out m hO c t)
      iexact H
    · dsimp only
      rw [after_5]
      exact .rfl
  · rw [hi, decide_eq_false h]
    dsimp only
    rw [after_5]
    exact .rfl

/-- The kept buffers before a point that carries its weights over. -/
theorem kept_before (hO : Ok m) (c : Dev nD) (n : Nat) : (keptAt m hO c n : sProp 𝕄) ⊢ iprop(∃ d e, ⌜∀ h : 0 < n ∧ n - 1 < (cfgM m hO).N, d = wtsG m hO c ⟨n - 1, h.2⟩ ∧ e = wtsU m hO c ⟨n - 1, h.2⟩⌝ ∗ owns (c : Thread nD τ) keptG fullShare d ∗ owns (c : Thread nD τ) keptU fullShare e) := by
  unfold keptAt
  split_ifs with h
  · iintro ⟨HG, HU⟩
    iexists _; iexists _
    isplitr; swap
    · isplitl [HG]; · iexact HG
      iexact HU
    ipureintro; intro _; exact ⟨rfl, rfl⟩
  · iintro ⟨⟨%d, HG⟩, ⟨%e, HU⟩⟩
    iexists d; iexists e
    isplitr; swap
    · isplitl [HG]; · iexact HG
      iexact HU
    ipureintro; intro h'; exact absurd h' h

theorem kept_after (hO : Ok m) (c : Dev nD) (t : Fin (cfgM m hO).N) : (keptAt m hO c (t.val + 1) : sProp 𝕄) = iprop(owns (c : Thread nD τ) keptG fullShare (wtsG m hO c t) ∗ owns (c : Thread nD τ) keptU fullShare (wtsU m hO c t)) := by
  unfold keptAt
  rw [dif_pos ⟨Nat.succ_pos _, (by simpa using t.isLt)⟩]
  rfl

/-- The weights after a tile in use: taken up, or carried over from the tile before. -/
theorem taken (hO : Ok m) (hS : Steer m) (c : Dev nD) (t : Fin (cfgM m hO).N) (xg xu : Vec F S2048x512 .bf16)
    (hx : ∀ h : 0 < t.val ∧ t.val - 1 < (cfgM m hO).N, xg = wtsG m hO c ⟨t.val - 1, h.2⟩ ∧ xu = wtsU m hO c ⟨t.val - 1, h.2⟩) (h : t.val % 288 < (tiles m).toNat) :
    wtsG m hO c t = gateW c (grid0.coords t) (iblk m hO c 1 t) xg (tbl m 0) ∧ wtsU m hO c t = upW c (grid0.coords t) (iblk m hO c 2 t) xu (tbl m 0) := by
  obtain rfl : c = 0 := Subsingleton.elim _ _
  unfold gateW upW
  rw [this_word m t, last_word m t]
  split_ifs with hf
  · exact ⟨rfl, rfl⟩
  · rw [fresh_iff, not_or, not_not] at hf
    have h0 : 0 < t.val := by have := hf.1; omega
    have hs := same_expert m hO hS t ⟨t.val - 1, by have := t.isLt; omega⟩ (by show t.val - 1 + 1 = t.val; omega) h hf.1 hf.2
    have hp := hx ⟨h0, by have := t.isLt; omega⟩
    rw [hp.1, hp.2]
    unfold wtsG wtsU
    rw [blk_same_1 m hO 0 t ⟨t.val - 1, by have := t.isLt; omega⟩ hs.1, blk_same_2 m hO 0 t ⟨t.val - 1, by have := t.isLt; omega⟩ hs.2]
    exact ⟨rfl, rfl⟩

set_option maxHeartbeats 2000000 in
/-- A point's body does what the schedule asks of it. -/
theorem sound_body (hO : Ok m) (hS : Steer m) (c : Dev nD) (t : Fin (cfgM m hO).N) :
    bodyPre m hO c t ⊢ wp frame (wpE (defs₀ (F := F)) Variants.none c none) Set.univ (bodyAt m hO t) (fun _ => bodyPost m hO c t) := by
  have hcnt : count (F := F) c (tbl m 1) = tiles m := by
    obtain rfl : c = 0 := Subsingleton.elim _ _
    exact count_eq m
  unfold bodyPre bodyPost bodyAt
  simp only [found_0, found_1, found_2, found_3, found_4]
  rw [show (dats m hO 0 c).owesAt () t.succ = (dats m hO 0 c).owesAt () t.castSucc from rfl,
    inv_before, inv_after, inv_open, inv_open, tables_eq, kept_after]
  rw [leaves_0, leaves_1, leaves_2, leaves_3, leaves_4]
  iintro ⟨⟨⟨HS0, Hg⟩, ⟨HT0, HT1, HT2⟩⟩, Ho, ⟨%d0, H0⟩, ⟨%d1, H1⟩, ⟨%d2, H2⟩, ⟨%d3, H3⟩, ⟨%d4, H4⟩, ⟨%d5, H5⟩⟩
  ihave HS := (kept_before m hO c t.val) $$ HS0
  icases HS with ⟨%xg, %xu, %hx, HG, HU⟩
  iapply ((run_point c (grid0.coords t) _ _ _ _ _ _ _ _ _ _ _ _ _ _ _ _ (iblk m hO c 0 t) (iblk m hO c 1 t) (iblk m hO c 2 t) (iblk m hO c 3 t) (iblk m hO c 4 t) ((dats m hO 0 c).before 5 t d5) xg xu (tbl m 0) (tbl m 1) (tbl m 2)
    (out m hO c t) (wtsG m hO c t) (wtsU m hO c t)
    (fun hu => by
      rw [hcnt, used_iff m hS] at hu
      have hk := taken m hO hS c t xg xu hx hu
      exact ⟨hk.1, hk.2, rfl⟩)
    (fun hu => by
      rw [hcnt, used_iff m hS] at hu
      have h1 := hS.pos
      have h0 : 0 < t.val := by omega
      have hp := hx ⟨h0, by have := t.isLt; omega⟩
      refine ⟨?_, ?_, (found_5 m hO hS c t (by omega) d5).symm⟩
      · rw [hp.1]
        exact wtsG_past m hO hS c t ⟨t.val - 1, by have := t.isLt; omega⟩ (by show t.val - 1 + 1 = t.val; omega) (by omega)
      · rw [hp.2]
        exact wtsU_past m hO hS c t ⟨t.val - 1, by have := t.isLt; omega⟩ (by show t.val - 1 + 1 = t.val; omega) (by omega))) Set.univ _)
  isplitl [H0]; · iexact H0
  isplitl [H1]; · iexact H1
  isplitl [H2]; · iexact H2
  isplitl [H3]; · iexact H3
  isplitl [H4]; · iexact H4
  isplitl [H5]; · iexact H5
  isplitl [HG]; · iexact HG
  isplitl [HU]; · iexact HU
  isplitl [HT0]; · iexact HT0
  isplitl [HT1]; · iexact HT1
  isplitl [HT2]; · iexact HT2
  iintro ⟨H0, H1, H2, H3, H4, H5, HG, HU, HT0, HT1, HT2⟩
  isplitl [HG HU Hg HT0 HT1 HT2]
  · isplitl [HG HU Hg]
    · isplitl [HG HU]
      · isplitl [HG]; · iexact HG
        iexact HU
      iexact Hg
    isplitl [HT0]; · iexact HT0
    isplitl [HT1]; · iexact HT1
    iexact HT2
  isplitl [Ho]; · iexact Ho
  isplitl [H0]; · iexact H0
  isplitl [H1]; · iexact H1
  isplitl [H2]; · iexact H2
  isplitl [H3]; · iexact H3
  isplitl [H4]; · iexact H4
  iapply (leaves_5 m hO hS c t)
  iexact H5

theorem row_body (hO : Ok m) (t : Fin (cfgM m hO).N) :
    defs₀ (F := F) .tc (cfgM m hO).body ((cfgM m hO).bodyArgs t ((cfgM m hO).slots t)) = bodyAt m hO t := by
  unfold defs₀; rw [Defs.onTc_tc]

set_option maxHeartbeats 2000000 in
theorem body_obligation (hO : Ok m) (hS : Steer m) (c : Dev nD) : BodyObligation (dats (F := F) m hO 0 c) (defs₀ (F := F)) Variants.none () Set.univ := fun t => by
  rw [bigSep_W0, bigSep_W0, row_body m hO]
  have h := sound_body m hO hS c t
  unfold bodyPre bodyPost at h
  exact h

/-! ## The launch -/

set_option backward.isDefEq.respectTransparency.types false in
/-- The launch ends, with every window's array at what its points left, the other buffers as they were, and the
    counters at nought. -/
theorem run_up (hO : Ok m) (hS : Steer m) : θ_run defs (onTc (τ := τ) (main (F := F))) (s₀ m ρ) (fun r => Pipeline.FramePost (Pipeline.pin pcfgs fun _ => adm m hO) (dats m hO) 0 (V m) r ∧ r.2.sem = fun _ => 0) :=
  Pipeline.θ_run_frameP_track_shared (Q' := _) pcfgs (fun _ => adm m hO) (dats m hO) (0 : Fin 1) launch₀0 defs₀ Variants.none m ρ main
    (hbody := fun c => (body_obligation m hO hS c).loose) (hq := fun _ _ _ => rfl)
    (howed := fun _ _ => rfl) (V := V m) (hmain := main_runs m Variants.none) (hA := A_eq m hO) (hpf := V_tbl m)
    (hin := fun c => by
      show iprop(Pipeline.ΦA spec0 c ∗ Pipeline.ΦT pre0 (tbl m) c) ⊢ iprop((keptAt m hO c 0 ∗ (∃ r, prngReg c r)) ∗ Pipeline.ΦT pre0 (tbl m) c)
      rw [scoped_eq]
      unfold keptAt
      rw [dif_neg (fun h => absurd h.1 (Nat.lt_irrefl 0))])
    (hout := fun c => by
      show iprop((keptAt m hO c (cfgM m hO).N ∗ (∃ r, prngReg c r)) ∗ Pipeline.ΦT pre0 (tbl m) c) ⊢ Pipeline.ΦA spec0 c
      rw [scoped_eq]
      iintro ⟨⟨HS, Hg⟩, -⟩
      ihave HS := (kept_before m hO c _) $$ HS
      icases HS with ⟨%xg, %xu, -, HG, HU⟩
      isplitl [HG HU]
      · isplitl [HG]
        · iexists xg; iexact HG
        iexists xu; iexact HU
      iexact Hg)

end Cert.Kernel5Ideal.Up

end
-- ==== Proof.UpTables.lean ====
/- The gated product's tables: what the host makes of the routing, and the two things the launch asks of it. -/
module

public import proofs.«01_k».proof.Proof.UpSteps
public import proofs.«01_k».proof.Proof.Routed

@[expose] public section

set_option maxRecDepth 16384

noncomputable section

namespace Cert.Kernel5Ideal.Up

open Idealize.ShloMosaic Idealize.ShloMosaic.TcCoe Idealize.ShloMosaic.Tactic Idealize.ShloMosaic.WordCmp
open Cert.Kernel5Ideal.Gen Cert.Words

variable {F : FTy → Type} [FloatOps F]

variable (m : (ℓ : Loc nD τ sig) → Buf (Elt F) ℓ)

/-- The routing's ranges, as the launch finds them. -/
structure Range : Prop where
  one : ∀ k, (expert m k).toNat < 32
  pos : 1 ≤ (tiles m).toNat
  le : (tiles m).toNat ≤ 288

/-- The place the host reads the first table at, for the third: the tile, or the last in use. -/
theorem place {k : Nat} {v : BitVec 32} (hk : k < 288) (h1 : 1 ≤ v.toNat) (h2 : v.toNat ≤ 288) (x : BitVec 32)
    (hx : x = IntOp.minsi (BitVec.ofNat 32 k) (v - 1#32)) :
    (Scalar.select (IntOp.cmpi .slt x 0#32) (x + 288#32) x).toInt.toNat = min k (v.toNat - 1) := by
  have e : x.toNat = min k (v.toNat - 1) := by rw [hx]; exact min_word (by omega) h1 (by omega)
  have e' : x.toInt = (x.toNat : Int) := toInt_small (by omega)
  have h0 : (0#32 : BitVec 32).toInt = 0 := by decide
  rw [cmpi_slt_eq, decide_eq_false (by rw [e', h0]; omega)]
  show x.toInt.toNat = _
  omega

/-- The places the host reads the first table at, from the count. -/
def places (n : IVec S1 32) : IVec S288 32 :=
  let x : IVec S288 32 := minsi (iotaInDim S288 32 0) (broadcastInDim S288 ![] bcast_S_S288 (subi (shapeCast S_ n shapeCasts_S1_S_) (constantI S_ 32 1#32)))
  select (cmpi .slt x (broadcastInDim S288 ![] bcast_S_S288 (constantI S_ 32 0#32))) (addi x (broadcastInDim S288 ![] bcast_S_S288 (constantI S_ 32 288#32))) x

set_option maxHeartbeats 800000 in
/-- The third table: the first, held at its last tile in use. -/
theorem ready_eq (hR : Range m) (k : Fin 288) : ready m k = expert m ⟨min k.val ((tiles m).toNat - 1), by have := k.isLt; omega⟩ := by
  have h1 := hR.pos
  have h2 := hR.le
  have hk := k.isLt
  have hn : tiles m = (m ((0 : Dev nD), Proc.tc.devRef main_arg1) : S1.Idx → BitVec 32) (ix1 0) := congrFun (V_arg m 0 main_arg1 (by simp)) _
  have ht : ∀ j : Fin 288, expert m j = (m ((0 : Dev nD), Proc.tc.devRef main_arg0) : S288.Idx → BitVec 32) (ix1 j) := fun j => congrFun (V_arg m 0 main_arg0 (by simp)) _
  have h : (V m 0 main_v11 : IVec S288 32) = Host.gather gather_S288_S288x1_S288_n_0_n_n_0_1_1 (m ((0 : Dev nD), Proc.tc.devRef main_arg0) : IVec S288 32)
      (broadcastInDim S288x1 ![0] bcast_S288_S288x1_0 (places (m ((0 : Dev nD), Proc.tc.devRef main_arg1)))) := by
    unfold V
    simp only [hostOps0, StableHlo.after_cons, StableHlo.after_nil]
    after_results_simp
    rfl
  unfold ready
  rw [h]
  refine (Cert.Routed.take_apply (N := 288) (R := 288) (by omega) _ _ _ k).trans ?_
  rw [ht]
  refine congrArg (fun j : Fin 288 => (m ((0 : Dev nD), Proc.tc.devRef main_arg0) : S288.Idx → BitVec 32) (ix1 j)) (Fin.ext ?_)
  have e := place (k := k.val) hk h1 h2 _ rfl
  have e2 : (broadcastInDim S288x1 ![0] bcast_S288_S288x1_0 (places (m ((0 : Dev nD), Proc.tc.devRef main_arg1))) : IVec S288x1 32) (ix2 k 0) =
      Scalar.select (IntOp.cmpi .slt (IntOp.minsi (BitVec.ofNat 32 k.val) (tiles m - 1#32)) 0#32) (IntOp.minsi (BitVec.ofNat 32 k.val) (tiles m - 1#32) + 288#32) (IntOp.minsi (BitVec.ofNat 32 k.val) (tiles m - 1#32)) := by
    rw [hn]
    pointwise [places]
    rfl
  show min _ (288 - 1) = min k.val ((tiles m).toNat - 1)
  rw [e2, e]
  omega

/-- The launch's schedule is the one the tables steer. -/
theorem steer (hR : Range m) : Steer m where
  pos := hR.pos
  le := hR.le
  held := ready_eq m hR

/-- Every block the tables name lies inside its array. -/
theorem inside (hR : Range m) : Ok m := by
  have h1 := hR.pos
  have h2 := hR.le
  have c0 : ∀ i : grid0.Coords, (i 0).val < 4 := fun i => (i 0).isLt
  have c1 : ∀ i : grid0.Coords, (i 1).val < 288 := fun i => (i 1).isLt
  have k0 : ∀ i : grid0.Coords, (BitVec.ofNat 32 (i 0).val).toNat = (i 0).val := fun i => toNat_small (by have := c0 i; omega)
  have k1 : ∀ i : grid0.Coords, (Scalar.minsi (BitVec.ofNat 32 (i 1).val) (Scalar.subi (count (F := F) 0 (tbl m 1)) 1#32)).toNat = min (i 1).val ((tiles m).toNat - 1) := fun i => by
    rw [count_eq, min_word (by have := c1 i; omega) h1 (by omega)]
  have k2 : ∀ i : grid0.Coords, (wordAt (F := F) 0 (tbl m 2) (k0_off1 i) (k0_off1_inb _)).toNat < 32 := fun i => by
    have e : wordAt (F := F) 0 (tbl m 2) (k0_off1 i) (k0_off1_inb _) = ready m ⟨(i 1).val, c1 i⟩ := by
      refine congrArg (V m 0 main_v11 : S288.Idx → BitVec 32) (funext fun a => Fin.ext ?_)
      fin_cases a
      show (BitVec.ofNat 32 (i 1).val).toNat + 1 * 0 = (i 1).val
      rw [toNat_small (by have := c1 i; omega)]; omega
    rw [e, ready_eq m hR]
    exact hR.one _
  have w0 : ∀ i, cc0_transform_0 inb_S1_S1_0 numel1_S1 (tbl m) i = ![min (i 1).val ((tiles m).toNat - 1), 0] := fun i => by
    show ![(Scalar.minsi (BitVec.ofNat 32 (i 1).val) (Scalar.subi (count (F := F) 0 (tbl m 1)) 1#32)).toNat, (0#32).toNat] = _
    rw [k1]; rfl
  have w5 : ∀ i, cc0_transform_5 inb_S1_S1_0 numel1_S1 (tbl m) i = ![min (i 1).val ((tiles m).toNat - 1), (i 0).val] := fun i => by
    show ![(Scalar.minsi (BitVec.ofNat 32 (i 1).val) (Scalar.subi (count (F := F) 0 (tbl m 1)) 1#32)).toNat, (BitVec.ofNat 32 (i 0).val).toNat] = _
    rw [k1, k0]
  have w1 : ∀ i, cc0_transform_1 k0_off1_inb numel1_S1 (tbl m) i = ![(wordAt (F := F) 0 (tbl m 2) (k0_off1 i) (k0_off1_inb _)).toNat, 0, (i 0).val] := fun i => by
    show ![(wordAt (F := F) 0 (tbl m 2) (k0_off1 i) (k0_off1_inb _)).toNat, (0#32).toNat, (BitVec.ofNat 32 (i 0).val).toNat] = _
    rw [k0]; rfl
  have w2 : ∀ i, cc0_transform_2 k0_off1_inb numel1_S1 (tbl m) i = ![(wordAt (F := F) 0 (tbl m 2) (k0_off1 i) (k0_off1_inb _)).toNat, 0, 4 + (i 0).val] := fun i => by
    show ![(wordAt (F := F) 0 (tbl m 2) (k0_off1 i) (k0_off1_inb _)).toNat, (0#32).toNat, (Scalar.addi 4#32 (BitVec.ofNat 32 (i 0).val)).toNat] = _
    rw [col_word (c0 i)]; rfl
  have w3 : ∀ i, cc0_transform_3 k0_off1_inb numel1_S1 (tbl m) i = ![(wordAt (F := F) 0 (tbl m 2) (k0_off1 i) (k0_off1_inb _)).toNat, 0, (i 0).val] := fun i => by
    show ![(wordAt (F := F) 0 (tbl m 2) (k0_off1 i) (k0_off1_inb _)).toNat, (0#32).toNat, (BitVec.ofNat 32 (i 0).val).toNat] = _
    rw [k0]; rfl
  have w4 : ∀ i, cc0_transform_4 k0_off1_inb numel1_S1 (tbl m) i = ![(wordAt (F := F) 0 (tbl m 2) (k0_off1 i) (k0_off1_inb _)).toNat, 0, 4 + (i 0).val] := fun i => by
    show ![(wordAt (F := F) 0 (tbl m 2) (k0_off1 i) (k0_off1_inb _)).toNat, (0#32).toNat, (Scalar.addi 4#32 (BitVec.ofNat 32 (i 0).val)).toNat] = _
    rw [col_word (c0 i)]; rfl
  refine ⟨fun i => ⟨fun a => ?_, .inl rfl⟩, fun i => ⟨fun a => ?_, .inl rfl⟩, fun i => ⟨fun a => ?_, .inl rfl⟩, fun i => ⟨fun a => ?_, .inl rfl⟩, fun i => ⟨fun a => ?_, .inl rfl⟩, fun i => ⟨fun a => ?_, .inr (.inl (.inr ⟨by decide, rfl, .inl ⟨?_, ?_⟩⟩))⟩⟩
  · rw [w0]; have := c1 i
    match a with
    | ⟨0, _⟩ => show (min (i 1).val ((tiles m).toNat - 1) + 1) * 256 ≤ 73728; omega
    | ⟨1, _⟩ => show (0 + 1) * 1024 ≤ 1024; omega
  · rw [w1]; have := c0 i; have := k2 i
    match a with
    | ⟨0, _⟩ => show ((wordAt (F := F) 0 (tbl m 2) (k0_off1 i) (k0_off1_inb _)).toNat + 1) * 1 ≤ 32; omega
    | ⟨1, _⟩ => show (0 + 1) * 2048 ≤ 2048; omega
    | ⟨2, _⟩ => show ((i 0).val + 1) * 512 ≤ 4096; omega
  · rw [w2]; have := c0 i; have := k2 i
    match a with
    | ⟨0, _⟩ => show ((wordAt (F := F) 0 (tbl m 2) (k0_off1 i) (k0_off1_inb _)).toNat + 1) * 1 ≤ 32; omega
    | ⟨1, _⟩ => show (0 + 1) * 2048 ≤ 2048; omega
    | ⟨2, _⟩ => show (4 + (i 0).val + 1) * 512 ≤ 4096; omega
  · rw [w3]; have := c0 i; have := k2 i
    match a with
    | ⟨0, _⟩ => show ((wordAt (F := F) 0 (tbl m 2) (k0_off1 i) (k0_off1_inb _)).toNat + 1) * 1 ≤ 32; omega
    | ⟨1, _⟩ => show (0 + 1) * 1 ≤ 1; omega
    | ⟨2, _⟩ => show ((i 0).val + 1) * 512 ≤ 4096; omega
  · rw [w4]; have := c0 i; have := k2 i
    match a with
    | ⟨0, _⟩ => show ((wordAt (F := F) 0 (tbl m 2) (k0_off1 i) (k0_off1_inb _)).toNat + 1) * 1 ≤ 32; omega
    | ⟨1, _⟩ => show (0 + 1) * 1 ≤ 1; omega
    | ⟨2, _⟩ => show (4 + (i 0).val + 1) * 512 ≤ 4096; omega
  · rw [w5]; have := c1 i; have := c0 i
    match a with
    | ⟨0, _⟩ => show (min (i 1).val ((tiles m).toNat - 1) + 1) * 256 ≤ 73728; omega
    | ⟨1, _⟩ => show ((i 0).val + 1) * 512 ≤ 2048; omega
  · show 2 ∣ cc0_transform_5 inb_S1_S1_0 numel1_S1 (tbl m) i 0 * 256
    omega
  · show 2 ∣ 256
    decide

end Cert.Kernel5Ideal.Up

end
-- ==== Proof.UpEnd.lean ====
/- The gated product's end: its arguments unchanged, its counters at nought, its result what the points left. -/
module

public import proofs.«01_k».proof.Proof.UpLaunch
public import proofs.«01_k».proof.Proof.UpTables

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Where the routing is in range the launch ends, its result what the points left, its arguments unchanged, its
    counters at nought. -/
theorem run_end (hR : Range m) : θ_run defs (onTc (τ := τ) (main (F := F))) ⟨m, fun _ => 0, ρ⟩ (fun r => (∀ c : Dev nD,
      r.2.mem ((c.tc : Thread nD τ).loc main_v13) = (dats m (inside m hR) 0 c).arrAt 5 (cfgM m (inside m hR)).N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4))
      ∧ r.2.sem = fun _ => 0) :=
  (θ_run defs _ _).mono (fun _ h => ⟨fun c => ⟨(h.1 c).1 5,
      ((h.1 c).2 main_arg0 (show main_arg0 ∈ Pipeline.restRefs sig spec0 from Pipeline.mem_restRefs_of main_arg0 (by decide) (by decide))).trans (V_arg m c main_arg0 (by simp)),
      ((h.1 c).2 main_arg1 (show main_arg1 ∈ Pipeline.restRefs sig spec0 from Pipeline.mem_restRefs_of main_arg1 (by decide) (by decide))).trans (V_arg m c main_arg1 (by simp)),
      ((h.1 c).1 0).trans (((dats m (inside m hR) 0 c).arrAt_in 0 rfl _).trans ((A_eq m (inside m hR) c 0).trans (V_arg m c main_arg2 (by simp)))),
      ((h.1 c).1 1).trans (((dats m (inside m hR) 0 c).arrAt_in 1 rfl _).trans ((A_eq m (inside m hR) c 1).trans (V_arg m c main_arg3 (by simp)))),
      ((h.1 c).2 main_arg4 (show main_arg4 ∈ Pipeline.restRefs sig spec0 from Pipeline.mem_restRefs_of main_arg4 (by decide) (by decide))).trans (V_arg m c main_arg4 (by simp))⟩, h.2⟩)
    (run_up m ρ (inside m hR) (steer m hR))

end Cert.Kernel5Ideal.Up

end
-- ==== Proof.UpRef.lean ====
/- The gated product's reference, entry by entry: a row of two-byte numbers times its tile's expert's weights, plus that
   expert's bias, for the gate and the other half, and the gated activation of the two. -/
module

public import proofs.«01_k».proof.Proof.Gen.Reference5Ideal.Read
public import proofs.«01_k».proof.Proof.DownRef

@[expose] public section

noncomputable section

namespace Cert.UpRef

open Idealize.ShloMosaic Idealize.ShloMosaic.TcCoe Idealize.ShloMosaic.WordCmp Idealize.ShloMosaic.Tactic Cert.Words
open Cert.Reference5Ideal Cert.Reference5Ideal.Gen Cert.Reference5Ideal.Read

/-- The number of a word's low half, and of its high half. -/
def low (v : BitVec 32) : Ideal .f32 := FloatOps.ofBits .f32 (IntOp.shli .host v 16#32)
def high (v : BitVec 32) : Ideal .f32 := FloatOps.ofBits .f32 (IntOp.andi v 4294901760#32)

/-- A row's number: the first 1024 are the words' low halves, the last 1024 their high halves. -/
def row (x : IVec S73728x1024 32) (r : Fin 73728) (k : Fin 2048) : EReal :=
  if h : k.val < 1024 then low (x (ix2 r ⟨k.val, h⟩)) else high (x (ix2 r ⟨k.val - 1024, by omega⟩))

/-- The gated activation of a gate and its other half. -/
def act (g u : Ideal .f32) : Ideal .f32 :=
  FloatOps.mulf (FloatOps.addf (FloatOps.minimumf (FloatOps.ofBits .f32 0x40E00000#32) (FloatOps.maximumf (FloatOps.ofBits .f32 0xC0E00000#32) u)) (FloatOps.ofBits .f32 0x3F800000#32))
    (FloatOps.mulf (FloatOps.minimumf g (FloatOps.ofBits .f32 0x40E00000#32)) (FloatOps.logistic (FloatOps.mulf (FloatOps.ofBits .f32 0x3FD9DB23#32) (FloatOps.minimumf g (FloatOps.ofBits .f32 0x40E00000#32)))))

/-- A column of the product with its bias, for an expert. -/
def column (x : IVec S73728x1024 32) (w : FVec Ideal S32x2048x4096 .f32) (b : FVec Ideal S32x4096 .f32) (e : Fin 32) (r : Fin 73728) (d : Fin 4096) : EReal :=
  (∑ k : Fin 2048, row x r k * w (ix3 e k d)) + b (ix2 e d)

/-- The result's entry in row `r` and column `d`, for a table of experts. -/
def entry (te : IVec S288 32) (hte : ∀ i, (te i).toNat < 32) (x : IVec S73728x1024 32) (w : FVec Ideal S32x2048x4096 .f32) (b : FVec Ideal S32x4096 .f32)
    (r : Fin 73728) (d : Fin 2048) : EReal :=
  act (column x w b ⟨(te (ix1 ⟨r.val / 256, by omega⟩)).toNat, hte _⟩ r ⟨d.val, by omega⟩)
    (column x w b ⟨(te (ix1 ⟨r.val / 256, by omega⟩)).toNat, hte _⟩ r ⟨2048 + d.val, by omega⟩)

variable (te : IVec S288 32) (hte : ∀ i, (te i).toNat < 32) (x : IVec S73728x1024 32) (w : FVec Ideal S32x2048x4096 .f32) (b : FVec Ideal S32x4096 .f32)

include hte in
theorem place13 (k : Fin 288) : (val_main_v13 (F := Ideal) te (ix2 k 0)).toInt.toNat = (te (ix1 k)).toNat := by
  rw [val_main_v13_apply, show idx_main_v13 (ix2 k 0) = ix1 k from funext fun a => Fin.ext (by match a with | ⟨0, _⟩ => rfl),
    val_main_v12_apply, val_main_v9_apply, val_main_v11_apply, val_main_v8_apply, val_main_v10_apply]
  exact DownRef.place (hte _)

include hte in
theorem place21 (k : Fin 288) : (val_main_v21 (F := Ideal) te (ix2 k 0)).toInt.toNat = (te (ix1 k)).toNat := by
  rw [val_main_v21_apply, show idx_main_v21 (ix2 k 0) = ix1 k from funext fun a => Fin.ext (by match a with | ⟨0, _⟩ => rfl),
    val_main_v20_apply, val_main_v17_apply, val_main_v19_apply, val_main_v16_apply, val_main_v18_apply]
  exact DownRef.place (hte _)

theorem weights_at (k : Fin 288) (p : Fin 2048) (q : Fin 4096) : val_main_v14 (F := Ideal) te w (ix3 k p q) = w (ix3 ⟨(te (ix1 k)).toNat, hte _⟩ p q) := by
  unfold val_main_v14
  refine (DownRef.slabs_apply (N := 32) (R := 288) (A := 2048) (B := 4096) (by omega) _ w _ k p q).trans ?_
  refine congrArg (fun e : Fin 32 => w (ix3 e p q)) (Fin.ext ?_)
  show min (val_main_v13 (F := Ideal) te (ix2 k 0)).toInt.toNat (32 - 1) = (te (ix1 k)).toNat
  rw [place13 te hte]; have := hte (ix1 k); omega

theorem bias_at (k : Fin 288) (q : Fin 4096) : val_main_v22 (F := Ideal) te b (ix2 k q) = b (ix2 ⟨(te (ix1 k)).toNat, hte _⟩ q) := by
  unfold val_main_v22
  refine (DownRef.rows_apply (N := 32) (R := 288) (B := 4096) (by omega) _ b _ k q).trans ?_
  refine congrArg (fun e : Fin 32 => b (ix2 e q)) (Fin.ext ?_)
  show min (val_main_v21 (F := Ideal) te (ix2 k 0)).toInt.toNat (32 - 1) = (te (ix1 k)).toNat
  rw [place21 te hte]; have := hte (ix1 k); omega

/-- The words' numbers, side by side. -/
theorem rows_at (r : Fin 73728) (k : Fin 2048) : val_main_v6 (F := Ideal) x (ix2 r k) = row x r k := by
  unfold row low high
  pointwise [val_main_v6, val_main_v2, val_main_v1, val_main_v0, val_main_c, val_main_v5, val_main_v4, val_main_v3, val_main_c_0]

theorem column_at (r : Fin 73728) (d : Fin 4096) :
    val_main_v25 (F := Ideal) te x w b (ix3 ⟨r.val / 256, by omega⟩ ⟨r.val % 256, by omega⟩ d) = column x w b ⟨(te (ix1 ⟨r.val / 256, by omega⟩)).toNat, hte _⟩ r d := by
  have hr := r.isLt
  rw [val_main_v25_apply, val_main_v15_apply, val_main_v24_apply, val_main_v23_apply]
  refine congrArg₂ (fun p q : EReal => p + q) (Finset.sum_congr rfl fun k _ => ?_) ?_
  · refine congrArg₂ (fun p q : EReal => p * q) ?_ ?_
    · rw [val_main_v7_apply]
      refine Eq.trans (congrArg (val_main_v6 (F := Ideal) x) (funext fun a => Fin.ext ?_)) (rows_at x r k)
      have hk := k.isLt
      match a with
      | ⟨0, _⟩ => show ((r.val / 256 * 256 + r.val % 256) * 2048 + k.val) / 2048 = r.val; omega
      | ⟨1, _⟩ => show ((r.val / 256 * 256 + r.val % 256) * 2048 + k.val) % 2048 = k.val; omega
    · refine (congrArg (val_main_v14 (F := Ideal) te w) (funext fun a => Fin.ext ?_)).trans (weights_at te hte w ⟨r.val / 256, by omega⟩ k d)
      match a with
      | ⟨0, _⟩ => rfl
      | ⟨1, _⟩ => rfl
      | ⟨2, _⟩ => rfl
  · refine (congrArg (val_main_v22 (F := Ideal) te b) (funext fun a => Fin.ext ?_)).trans (bias_at te hte b ⟨r.val / 256, by omega⟩ d)
    match a with
    | ⟨0, _⟩ => rfl
    | ⟨1, _⟩ => rfl

/-- The reference spells the activation's sigmoid out. -/
theorem one_word : (FloatOps.ofBits .f32 0x3F800000#32 : Ideal .f32) = (1 : EReal) := by
  show Ideal.ofBits .f32 0x3F800000#32 = 1
  simp [Ideal.ofBits, Ideal.ieee, -EReal.coe_mul]; norm_num
theorem sigmoid (z : Ideal .f32) : FloatOps.hostDivf (FloatOps.ofBits .f32 0x3F800000#32) (FloatOps.addf (FloatOps.ofBits .f32 0x3F800000#32) (FloatOps.hostUnary .exp (FloatOps.hostNegf z))) = FloatOps.logistic z := by
  rw [one_word]; rfl

/-- The reference's activation, from its gate and its other half. -/
theorem act_at (i : S288x256x2048.Idx) : val_main_v42 (F := Ideal) te x w b i = act (val_main_v26 (F := Ideal) te x w b i) (val_main_v27 (F := Ideal) te x w b i) := by
  rw [val_main_v42_apply, val_main_v41_apply, val_main_v39_apply, val_main_v38_apply, val_main_v37_apply, val_main_v36_apply, val_main_v35_apply, val_main_v34_apply,
    val_main_v33_apply, val_main_v32_apply, val_main_v31_apply, val_main_v40_apply, val_main_v30_apply, val_main_v29_apply, val_main_v28_apply]
  refine congrArg₂ FloatOps.mulf rfl (congrArg₂ FloatOps.mulf rfl ?_)
  exact sigmoid _

theorem result_at (r : Fin 73728) (d : Fin 2048) : val_main_v44 (F := Ideal) te x w b (ix2 r d) = entry te hte x w b r d := by
  have hr := r.isLt
  have hd := d.isLt
  have h : val_main_v44 (F := Ideal) te x w b (ix2 r d) = val_main_v43 (F := Ideal) te x w b (ix2 r d) := rfl
  rw [h, val_main_v43_apply, show idx_main_v43 (ix2 r d) = ix3 ⟨r.val / 256, by omega⟩ ⟨r.val % 256, by omega⟩ d from funext fun a => Fin.ext (by
    match a with
    | ⟨0, _⟩ => show (r.val * 2048 + d.val) / 524288 = r.val / 256; omega
    | ⟨1, _⟩ => show (r.val * 2048 + d.val) / 2048 % 256 = r.val % 256; omega
    | ⟨2, _⟩ => show (r.val * 2048 + d.val) % 2048 = d.val; omega),
    act_at, val_main_v26_apply, val_main_v27_apply]
  refine congrArg₂ act ?_ ?_
  · refine (congrArg (val_main_v25 (F := Ideal) te x w b) (funext fun a => Fin.ext ?_)).trans (column_at te hte x w b r ⟨d.val, by omega⟩)
    match a with
    | ⟨0, _⟩ => rfl
    | ⟨1, _⟩ => rfl
    | ⟨2, _⟩ => rfl
  · refine (congrArg (val_main_v25 (F := Ideal) te x w b) (funext fun a => Fin.ext ?_)).trans (column_at te hte x w b r ⟨2048 + d.val, by omega⟩)
    match a with
    | ⟨0, _⟩ => rfl
    | ⟨1, _⟩ => rfl
    | ⟨2, _⟩ => rfl

end Cert.UpRef

end
-- ==== Proof.UpValue.lean ====
/- The gated product's blocks, entry by entry, and so its result on the rows of the tiles in use. -/
module

public import proofs.«01_k».proof.Proof.UpEnd
public import proofs.«01_k».proof.Proof.UpRef
public import Idealize.ShloMosaic.Lib.Pipeline.Covers
public import Idealize.ShloMosaic.Lib.KernelVsHost
public import Idealize.ShloMosaic.Lib.Pipeline.ValueKit.Partial

@[expose] public section

set_option maxRecDepth 16384

noncomputable section

namespace Cert.Kernel5Ideal.Up

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Cert.Kernel5Ideal.Gen

local notation "𝕄" => MT nD τ sig Unit (Elt Ideal) ℕ (UR sig nD τ) ℕ

variable (m : (ℓ : Loc nD τ sig) → Buf (Elt Ideal) ℓ)

/-- The weights a point converts, entry by entry. -/
theorem pay_gate_weights (w : Vec Ideal S1x2048x512 .f32) (k : Fin 2048) (q : Fin 512) : k0_pay2 w (ix2 k q) = w (ix3 0 k q) := by
  pointwise [k0_pay2]
theorem pay_up_weights (w : Vec Ideal S1x2048x512 .f32) (k : Fin 2048) (q : Fin 512) : k0_pay3 w (ix2 k q) = w (ix3 0 k q) := by
  pointwise [k0_pay3]

/-- The rows' numbers, out of their words. -/
theorem pay_low (x : Vec Ideal S256x1024 .i32) (p : Fin 256) (k : Fin 1024) : (k0_pay4 x : FVec Ideal S256x1024 .bf16) (ix2 p k) = UpRef.low (x (ix2 p k)) :=
  congrArg (fun v : BitVec 32 => (FloatOps.ofBits .f32 v : Ideal .f32)) (shli_unit .vector .host (x (ix2 p k)) 16#32)
theorem pay_high (x : Vec Ideal S256x1024 .i32) (p : Fin 256) (k : Fin 1024) : (k0_pay5 x : FVec Ideal S256x1024 .bf16) (ix2 p k) = UpRef.high (x (ix2 p k)) := rfl

/-- The halves of the weights. -/
theorem lower_at (w : Vec Ideal S2048x512 .bf16) (k : Fin 1024) (q : Fin 512) : lower w (ix2 k q) = w (ix2 ⟨k.val, by omega⟩ q) :=
  congrArg w (funext fun a => Fin.ext (by
    match a with
    | ⟨0, _⟩ => show 0 + 1 * k.val = k.val; omega
    | ⟨1, _⟩ => show 0 + 1 * q.val = q.val; omega))
theorem upper_at (w : Vec Ideal S2048x512 .bf16) (k : Fin 1024) (q : Fin 512) : upper w (ix2 k q) = w (ix2 ⟨1024 + k.val, by omega⟩ q) :=
  congrArg w (funext fun a => Fin.ext (by
    match a with
    | ⟨0, _⟩ => show 1024 + 1 * k.val = 1024 + k.val; omega
    | ⟨1, _⟩ => show 0 + 1 * q.val = q.val; omega))

/-- The two products, entry by entry. -/
theorem pay_gate (x : Vec Ideal S256x1024 .i32) (l h : Vec Ideal S1024x512 .bf16) (b : Vec Ideal S1x1x512 .f32) (p : Fin 256) (q : Fin 512) :
    k0_pay6 x l h b (ix2 p q) = ((∑ k, k0_pay4 x (ix2 p k) * l (ix2 k q)) + ∑ k, k0_pay5 x (ix2 p k) * h (ix2 k q)) + b (ix3 0 0 q) := by
  pointwise [k0_pay6]
theorem pay_up (x : Vec Ideal S256x1024 .i32) (l h : Vec Ideal S1024x512 .bf16) (p : Fin 256) (q : Fin 512) :
    k0_pay7 x l h (ix2 p q) = (∑ k, k0_pay4 x (ix2 p k) * l (ix2 k q)) + ∑ k, k0_pay5 x (ix2 p k) * h (ix2 k q) := by
  pointwise [k0_pay7]

/-- The activation, entry by entry. -/
theorem bias_row (b : Vec Ideal S1x1x512 .f32) (p : Fin 256) (q : Fin 512) :
    broadcastTo S256x512 (shapeCast S1x512 b shapeCasts_S1x1x512_S1x512) broadcasts_S1x512_S256x512 (ix2 p q) = b (ix3 0 0 q) := by
  pointwise
theorem pay_act (g u : FVec Ideal S256x512 .f32) (b : Vec Ideal S1x1x512 .f32) (p : Fin 256) (q : Fin 512) :
    k0_pay1 g u b (ix2 p q) = UpRef.act (g (ix2 p q)) (u (ix2 p q) + b (ix3 0 0 q)) :=
  (show k0_pay1 g u b (ix2 p q) = UpRef.act (g (ix2 p q)) (u (ix2 p q) + broadcastTo S256x512 (shapeCast S1x512 b shapeCasts_S1x1x512_S1x512) broadcasts_S1x512_S256x512 (ix2 p q)) from rfl).trans
    (congrArg (fun v : EReal => UpRef.act (g (ix2 p q)) (u (ix2 p q) + v)) (bias_row b p q))

/-- A sum over a row, its two halves apart. -/
theorem halves (f : Fin 2048 → EReal) : ∑ k, f k = (∑ k : Fin 1024, f ⟨k.val, by omega⟩) + ∑ k : Fin 1024, f ⟨1024 + k.val, by omega⟩ :=
  Fin.sum_univ_add (a := 1024) (b := 1024) f

theorem read_x (hO : Ok m) (hS : Steer m) (c : Dev nD) (t : Fin (cfgM m hO).N) (p : Fin 256) (k : Fin 1024) (n : Fin 73728)
    (hn : n.val = min (t.val % 288) ((tiles m).toNat - 1) * 256 + p.val) :
    (show Vec Ideal S256x1024 .i32 from iblk m hO c 0 t) (ix2 p k) = (V m c main_arg2 : IVec S73728x1024 32) (ix2 n k) := by
  have e := index_0 m hO hS t
  blk_ext [iblk, e]

theorem read_g (hO : Ok m) (c : Dev nD) (t : Fin (cfgM m hO).N) (k : Fin 2048) (q : Fin 512) (e : Fin 32) (d : Fin 4096)
    (he : e.val = (ready m ⟨t.val % 288, tile_lt t⟩).toNat) (hd : d.val = (t.val / 288 * 512 + q.val)) :
    (show Vec Ideal S1x2048x512 .f32 from iblk m hO c 1 t) (ix3 0 k q) = (V m c main_arg3 : FVec Ideal S32x2048x4096 .f32) (ix3 e k d) := by
  have i := index_1 m hO t
  blk_ext [iblk, i]

theorem read_u (hO : Ok m) (c : Dev nD) (t : Fin (cfgM m hO).N) (k : Fin 2048) (q : Fin 512) (e : Fin 32) (d : Fin 4096)
    (he : e.val = (ready m ⟨t.val % 288, tile_lt t⟩).toNat) (hd : d.val = 2048 + (t.val / 288 * 512 + q.val)) :
    (show Vec Ideal S1x2048x512 .f32 from iblk m hO c 2 t) (ix3 0 k q) = (V m c main_arg3 : FVec Ideal S32x2048x4096 .f32) (ix3 e k d) := by
  have i := index_2 m hO t
  blk_ext [iblk, i]

theorem read_bg (hO : Ok m) (c : Dev nD) (t : Fin (cfgM m hO).N) (q : Fin 512) (e : Fin 32) (d : Fin 4096)
    (he : e.val = (ready m ⟨t.val % 288, tile_lt t⟩).toNat) (hd : d.val = (t.val / 288 * 512 + q.val)) :
    (show Vec Ideal S1x1x512 .f32 from iblk m hO c 3 t) (ix3 0 0 q) = (V m c main_v12 : FVec Ideal S32x1x4096 .f32) (ix3 e 0 d) := by
  have i := index_3 m hO t
  blk_ext [iblk, i]

theorem read_bu (hO : Ok m) (c : Dev nD) (t : Fin (cfgM m hO).N) (q : Fin 512) (e : Fin 32) (d : Fin 4096)
    (he : e.val = (ready m ⟨t.val % 288, tile_lt t⟩).toNat) (hd : d.val = 2048 + (t.val / 288 * 512 + q.val)) :
    (show Vec Ideal S1x1x512 .f32 from iblk m hO c 4 t) (ix3 0 0 q) = (V m c main_v12 : FVec Ideal S32x1x4096 .f32) (ix3 e 0 d) := by
  have i := index_4 m hO t
  blk_ext [iblk, i]

/-- The biases as the launch is given them. -/
theorem biases (c : Dev nD) (e : Fin 32) (d : Fin 4096) :
    (V m c main_v12 : FVec Ideal S32x1x4096 .f32) (ix3 e 0 d) = m ((c : Thread nD τ).loc main_arg4) (ix2 e d) := by
  have h : (V m c main_v12 : FVec Ideal S32x1x4096 .f32) = shapeCast S32x1x4096 (show FVec Ideal S32x4096 .f32 from m ((c : Thread nD τ).loc main_arg4)) shapeCasts_S32x4096_S32x1x4096 := by
    unfold V
    simp only [hostOps0, StableHlo.after_cons, StableHlo.after_nil]
    after_results_simp
    rfl
  rw [h]
  pointwise

/-- A tile's rows times a half's weights: the reference's sum, halved. -/
theorem sum_entry (x : Vec Ideal S256x1024 .i32) (w : Vec Ideal S2048x512 .bf16) (X : IVec S73728x1024 32) (W : FVec Ideal S32x2048x4096 .f32)
    (p : Fin 256) (q : Fin 512) (r : Fin 73728) (e : Fin 32) (d : Fin 4096) (hx : ∀ k, x (ix2 p k) = X (ix2 r k)) (hw : ∀ k, w (ix2 k q) = W (ix3 e k d)) :
    (∑ k : Fin 1024, (k0_pay4 x (ix2 p k) : EReal) * lower w (ix2 k q)) + ∑ k : Fin 1024, (k0_pay5 x (ix2 p k) : EReal) * upper w (ix2 k q)
      = ∑ k : Fin 2048, UpRef.row X r k * W (ix3 e k d) := by
  rw [halves]
  refine congrArg₂ (fun a b : EReal => a + b) (Finset.sum_congr rfl fun k _ => congrArg₂ (fun a b : EReal => a * b) ?_ ?_) (Finset.sum_congr rfl fun k _ => congrArg₂ (fun a b : EReal => a * b) ?_ ?_)
  · rw [pay_low, hx]
    unfold UpRef.row
    rw [dif_pos k.isLt]
  · exact (lower_at w k q).trans (hw _)
  · rw [pay_high, hx]
    unfold UpRef.row
    rw [dif_neg (by show ¬ 1024 + k.val < 1024; omega)]
    refine congrArg (fun j : Fin 1024 => UpRef.high (X (ix2 r j))) (Fin.ext ?_)
    show k.val = 1024 + k.val - 1024
    omega
  · exact (upper_at w k q).trans (hw _)

/-- What a point leaves in the output's buffer, in the result's terms: its tile's rows, or the last used tile's, each
    the reference's. -/
theorem point_entry (hR : Range m) (hte : ∀ i, ((m ((0 : Dev nD).tc.loc main_arg0) : IVec S288 32) i).toNat < 32)
    (t : Fin (cfgM m (inside m hR)).N) (p : Fin 256) (q : Fin 512) (r : Fin 73728) (d : Fin 2048)
    (hr : r.val = min (t.val % 288) ((tiles m).toNat - 1) * 256 + p.val) (hd : d.val = t.val / 288 * 512 + q.val) :
    out m (inside m hR) 0 t (ix2 p q)
      = UpRef.entry (m ((0 : Dev nD).tc.loc main_arg0)) hte (m ((0 : Dev nD).tc.loc main_arg2)) (m ((0 : Dev nD).tc.loc main_arg3))
          (m ((0 : Dev nD).tc.loc main_arg4)) r d := by
  have hp := p.isLt
  have hk : (⟨min (t.val % 288) ((tiles m).toNat - 1), by omega⟩ : Fin 288) = ⟨r.val / 256, by omega⟩ := Fin.ext (by show min (t.val % 288) ((tiles m).toNat - 1) = r.val / 256; omega)
  have he : ready m ⟨t.val % 288, tile_lt t⟩ = (m ((0 : Dev nD).tc.loc main_arg0) : IVec S288 32) (ix1 ⟨r.val / 256, by omega⟩) :=
    (ready_eq m hR _).trans ((congrArg (expert m) hk).trans (congrFun (V_arg m 0 main_arg0 (by simp)) _))
  have hv : ((m ((0 : Dev nD).tc.loc main_arg0) : IVec S288 32) (ix1 ⟨r.val / 256, by omega⟩)).toNat = (ready m ⟨t.val % 288, tile_lt t⟩).toNat := congrArg BitVec.toNat he.symm
  have hd2 := d.isLt
  have hx : ∀ k : Fin 1024, (show Vec Ideal S256x1024 .i32 from iblk m (inside m hR) 0 0 t) (ix2 p k) = (m ((0 : Dev nD).tc.loc main_arg2) : IVec S73728x1024 32) (ix2 r k) := fun k =>
    (read_x m (inside m hR) (steer m hR) 0 t p k r hr).trans (congrFun (V_arg m 0 main_arg2 (by simp)) _)
  unfold out product
  refine (pay_act _ _ _ p q).trans ?_
  refine congrArg₂ UpRef.act ?_ ?_
  · refine (pay_gate _ _ _ _ p q).trans ?_
    refine congrArg₂ (fun a b : EReal => a + b) ?_ ?_
    · exact sum_entry _ _ (m ((0 : Dev nD).tc.loc main_arg2)) (m ((0 : Dev nD).tc.loc main_arg3)) p q r _ _ hx fun k =>
        (pay_gate_weights (iblk m (inside m hR) 0 1 t : Vec Ideal S1x2048x512 .f32) k q).trans
          ((read_g m (inside m hR) 0 t k q ⟨_, hte (ix1 ⟨r.val / 256, by omega⟩)⟩ ⟨d.val, by omega⟩ hv hd).trans (congrFun (V_arg m 0 main_arg3 (by simp)) _))
    · exact (read_bg m (inside m hR) 0 t q ⟨_, hte (ix1 ⟨r.val / 256, by omega⟩)⟩ ⟨d.val, by omega⟩ hv hd).trans (biases m 0 _ _)
  · refine congrArg₂ (fun a b : EReal => a + b) ((pay_up _ _ _ p q).trans ?_) ?_
    · exact sum_entry _ _ (m ((0 : Dev nD).tc.loc main_arg2)) (m ((0 : Dev nD).tc.loc main_arg3)) p q r _ _ hx fun k =>
        (pay_up_weights (iblk m (inside m hR) 0 2 t : Vec Ideal S1x2048x512 .f32) k q).trans
          ((read_u m (inside m hR) 0 t k q ⟨_, hte (ix1 ⟨r.val / 256, by omega⟩)⟩ ⟨2048 + d.val, by omega⟩ hv (congrArg (fun n : Nat => 2048 + n) hd)).trans (congrFun (V_arg m 0 main_arg3 (by simp)) _))
    · exact (read_bu m (inside m hR) 0 t q ⟨_, hte (ix1 ⟨r.val / 256, by omega⟩)⟩ ⟨2048 + d.val, by omega⟩ hv (congrArg (fun n : Nat => 2048 + n) hd)).trans (biases m 0 _ _)

/-- The result array after the last point, on the rows of the tiles in use. -/
theorem result (hR : Range m) (hte : ∀ i, ((m ((0 : Dev nD).tc.loc main_arg0) : IVec S288 32) i).toNat < 32)
    (r : Fin 73728) (d : Fin 2048) (hr : r.val < (tiles m).toNat * 256) :
    ((dats m (inside m hR) 0 0).arrAt 5 (cfgM m (inside m hR)).N : FVec Ideal S73728x2048 .bf16) (ix2 r d)
      = UpRef.entry (m ((0 : Dev nD).tc.loc main_arg0)) hte (m ((0 : Dev nD).tc.loc main_arg2)) (m ((0 : Dev nD).tc.loc main_arg3))
          (m ((0 : Dev nD).tc.loc main_arg4)) r d := by
  have hle := hR.le
  have hd := d.isLt
  have hN : (cfgM m (inside m hR)).N = 1152 := N_0
  let t₀ : Fin (cfgM m (inside m hR)).N := ⟨d.val / 512 * 288 + r.val / 256, by rw [hN]; omega⟩
  obtain ⟨t, -, hf, hi⟩ := ((cfgM m (inside m hR)).win 5).exists_flush_same_index rfl t₀
  have hi0 : ((cfgM m (inside m hR)).win 5).index t = ![r.val / 256, d.val / 512] := by
    rw [hi, index_5 m (inside m hR) (steer m hR) t₀]
    have h1 : min (t₀.val % 288) ((tiles m).toNat - 1) = r.val / 256 := by
      show min ((d.val / 512 * 288 + r.val / 256) % 288) ((tiles m).toNat - 1) = r.val / 256
      omega
    have h2 : t₀.val / 288 = d.val / 512 := by
      show (d.val / 512 * 288 + r.val / 256) / 288 = d.val / 512
      omega
    rw [h1, h2]
  refine (dats m (inside m hR) 0 0).arrAt_forall_of_flushed 5
    (fun i v => v = (fun j : S73728x2048.Idx => UpRef.entry (m ((0 : Dev nD).tc.loc main_arg0)) hte (m ((0 : Dev nD).tc.loc main_arg2))
      (m ((0 : Dev nD).tc.loc main_arg3)) (m ((0 : Dev nD).tc.loc main_arg4)) (j 0) (j 1)) i) (fun t _ y => ?_) (cfgM m (inside m hR)).N t (ix2 r d) t.isLt hf ?_
  · have e := index_5 m (inside m hR) (steer m hR) t
    have ht := points m (inside m hR) t.isLt
    have hp := hR.pos
    blk_simp
    rw [after_5]
    revert y
    intro (y : S256x512.Idx)
    idx_vars y
    refine (point_entry m hR hte t y0 y1 ⟨min (t.val % 288) ((tiles m).toNat - 1) * 256 + y0.val, by omega⟩ ⟨t.val / 288 * 512 + y1.val, by omega⟩ rfl rfl).trans ?_
    refine congrArg (fun j : S73728x2048.Idx => UpRef.entry (m ((0 : Dev nD).tc.loc main_arg0)) hte (m ((0 : Dev nD).tc.loc main_arg2)) (m ((0 : Dev nD).tc.loc main_arg3))
      (m ((0 : Dev nD).tc.loc main_arg4)) (j 0) (j 1)) (a₁ := ix2 ⟨min (t.val % 288) ((tiles m).toNat - 1) * 256 + y0.val, by omega⟩ ⟨t.val / 288 * 512 + y1.val, by omega⟩) ?_
    blk_ext [e]
  · refine (((cfgM m (inside m hR)).win 5).emb_mem_blk_iff_cell (fun a => ?_) t (fun a => ((cfgM m (inside m hR)).win 5).xsize_eq_or_end rfl _ a) (ix2 r d)).mpr ?_
    · match a with
      | ⟨0, _⟩ => exact (by decide : 0 < 256)
      | ⟨1, _⟩ => exact (by decide : 0 < 512)
    · refine hi0.trans (funext fun a => ?_)
      match a with
      | ⟨0, _⟩ => rfl
      | ⟨1, _⟩ => rfl

end Cert.Kernel5Ideal.Up

end
-- ==== Proof.RowsUsedUp.lean ====
/- What the gated product's mask of rows says: a row it selects belongs to one of the tiles in use. -/
module

public import proofs.«01_k».proof.On_rows_used_up
public import Idealize.ShloMosaic.Lib.ValueIdx
public import proofs.«01_k».proof.Proof.RowsUsed
public import proofs.«01_k».proof.Proof.Finite

@[expose] public section

noncomputable section

namespace Cert.RowsUsedUp

open Idealize.ShloMosaic Idealize.ShloMosaic.TcCoe Idealize.SL.Sem Cert.On_rows_used_up Idealize.ShloMosaic.WordCmp Cert.Words

theorem facts : Cert.On_rows_used_up.Facts where
  bcast_S73728_S73728x1_0 := by decide
  shapeCasts_S1_S_ := by decide
  bcast_S_S73728x1 := by decide
  bcast_S73728x1_S73728x2048_0_1 := by decide

variable [Cert.On_rows_used_up.Facts] {F : FTy → Type} [FloatOps F]

/-- The mask, entry by entry. -/
theorem mask_apply (te : IVec S288 32) (nu : IVec S1 32) (x : IVec S73728x1024 32) (w : FVec F S32x2048x4096 .f32) (b : FVec F S32x4096 .f32)
    (r : Fin 73728) (d : Fin 2048) :
    Cert.On_rows_used_up.fn (F := F) te nu x w b (ix2 r d) = IntOp.cmpi .slt (BitVec.ofNat 32 r.val) (IntOp.muli (nu (ix1 0)) 256#32) := by
  unfold Cert.On_rows_used_up.fn
  refine congrArg (fun v => IntOp.cmpi .slt (BitVec.ofNat 32 r.val) (IntOp.muli v 256#32)) ?_
  pointwise

theorem row_lt (te : IVec S288 32) (nu : IVec S1 32) (x : IVec S73728x1024 32) (w : FVec F S32x2048x4096 .f32) (b : FVec F S32x4096 .f32)
    (hn : (nu (ix1 0)).toNat ≤ 288) (r : Fin 73728) (d : Fin 2048)
    (h : Cert.On_rows_used_up.fn (F := F) te nu x w b (ix2 r d) = 1#1) : r.val < (nu (ix1 0)).toNat * 256 :=
  Cert.RowsUsed.row_word _ hn r.val r.isLt ((mask_apply te nu x w b r d).symm.trans h)

end Cert.RowsUsedUp

end
-- ==== Proof.RoutedUp.lean ====
/- What the gated product's routing precondition says: every expert is one of the thirty-two, and between one tile and all are in use. -/
module

public import proofs.«01_k».proof.Pre_routed_up
public import Idealize.ShloMosaic.Lib.ValueIdx
public import proofs.«01_k».proof.Proof.Routed
public import proofs.«01_k».proof.Proof.Finite

@[expose] public section

noncomputable section

namespace Cert.RoutedUp

open Idealize.ShloMosaic Idealize.ShloMosaic.TcCoe Idealize.SL.Sem Cert.Pre_routed_up Idealize.ShloMosaic.WordCmp

theorem facts : Cert.Pre_routed_up.Facts where
  bcast_S_S288 := by decide
  reducesTo_S288_S_d0 := by decide
  h_S_ := by decide
  bcast_S_S1 := by decide
  reducesTo_S1_S_d0 := by decide

instance : Subsingleton S_.Idx := ⟨fun a b => funext fun x => x.elim0⟩

/-! ## The precondition -/

variable [Cert.Pre_routed_up.Facts] {F : FTy → Type} [FloatOps F]

theorem both (te : IVec S288 32) (nu : IVec S1 32) (x : IVec S73728x1024 32) (w : FVec F S32x2048x4096 .f32) (b : FVec F S32x4096 .f32)
    (h : Cert.Pre_routed_up.fn (F := F) te nu x w b = fun _ => 1#1) :
    (∀ i, (te i).toNat < 32) ∧ (∀ i, 1 ≤ (nu i).toNat ∧ (nu i).toNat ≤ 288) := by
  have h0 := congrFun h ix0
  unfold Cert.Pre_routed_up.fn at h0
  obtain ⟨hX, hR⟩ := IntOp.andi_eq_one.1 h0
  exact ⟨fun i => Cert.Routed.expert_word _ (Host.reduce_andi_all _ _ _ _ _ hX i), fun i => Cert.Routed.count_word _ (Host.reduce_andi_all _ _ _ _ _ hR i)⟩

end Cert.RoutedUp

end
-- ==== Proof.UpClose.lean ====
/- The gated product's claims: both programs end, and on the rows in use the kernel's result is the reference's. -/
module

public import proofs.«01_k».proof.Defs
public import proofs.«01_k».proof.Proof.UpBitsEnd
public import proofs.«01_k».proof.Proof.UpValue
public import proofs.«01_k».proof.Proof.RowsUsedUp
public import proofs.«01_k».proof.Proof.RoutedUp
public import proofs.«01_k».proof.Proof.Gen.Reference5Ideal.Run
public import proofs.«01_k».proof.Proof.Gen.Reference5Ideal.Read

@[expose] public section

set_option maxRecDepth 16384

noncomputable section

namespace Cert.UpClose

open Idealize.ShloMosaic Idealize.ShloMosaic.TcCoe Idealize.SL.Sem

attribute [local instance] Cert.RoutedUp.facts Cert.RowsUsedUp.facts

/-- The precondition puts the routing in range, for the kernel as it runs. -/
theorem range_bits (m : (ℓ : Loc Cert.Kernel5.nD Cert.Kernel5.τ Cert.Kernel5.sig) → Buf (Elt Bits) ℓ) (h : Cert.Pre_Kernel5 m) :
    Cert.Kernel5.Up.Range m := by
  obtain ⟨h1, h2⟩ := Cert.RoutedUp.both _ _ _ _ _ (h 0)
  have e : Cert.Kernel5.Up.tiles m = (m ((0 : Dev Cert.Kernel5.nD).tc.loc Cert.Kernel5.main_arg1) : Cert.Kernel5.S1.Idx → BitVec 32) (ix1 0) :=
    congrFun (Cert.Kernel5.Up.V_arg m 0 Cert.Kernel5.main_arg1 (by simp)) _
  exact ⟨fun k => (congrArg BitVec.toNat (congrFun (Cert.Kernel5.Up.V_arg m 0 Cert.Kernel5.main_arg0 (by simp)) (ix1 k))).trans_lt (h1 (ix1 k)),
    (h2 (ix1 0)).1.trans_eq (congrArg BitVec.toNat e).symm, (congrArg BitVec.toNat e).trans_le (h2 (ix1 0)).2⟩

/-- The precondition puts the routing in range, for the idealized kernel. -/
theorem range_ideal (m : (ℓ : Loc Cert.Kernel5Ideal.nD Cert.Kernel5Ideal.τ Cert.Kernel5Ideal.sig) → Buf (Elt Ideal) ℓ) (h : Cert.Pre_Kernel5Ideal m) :
    Cert.Kernel5Ideal.Up.Range m := by
  obtain ⟨h1, h2⟩ := Cert.RoutedUp.both _ _ _ _ _ (h 0)
  have e : Cert.Kernel5Ideal.Up.tiles m = (m ((0 : Dev Cert.Kernel5Ideal.nD).tc.loc Cert.Kernel5Ideal.main_arg1) : Cert.Kernel5Ideal.S1.Idx → BitVec 32) (ix1 0) :=
    congrFun (Cert.Kernel5Ideal.Up.V_arg m 0 Cert.Kernel5Ideal.main_arg1 (by simp)) _
  exact ⟨fun k => (congrArg BitVec.toNat (congrFun (Cert.Kernel5Ideal.Up.V_arg m 0 Cert.Kernel5Ideal.main_arg0 (by simp)) (ix1 k))).trans_lt (h1 (ix1 k)),
    (h2 (ix1 0)).1.trans_eq (congrArg BitVec.toNat e).symm, (congrArg BitVec.toNat e).trans_le (h2 (ix1 0)).2⟩

/-- The kernel runs, ends and leaves its arguments unchanged. -/
theorem frame_kernel : Cert.quiescent_Kernel5 := fun m ρ h =>
  (θ_run _ _ _).mono (fun _ e => ⟨fun c => (e.1 c).2, e.2⟩) (Cert.Kernel5.Up.run_end m ρ (range_bits m h))

/-- So does the idealized kernel. -/
theorem frame_ideal : Cert.quiescent_Kernel5Ideal := fun m ρ h =>
  (θ_run _ _ _).mono (fun _ e => ⟨fun c => (e.1 c).2, e.2⟩) (Cert.Kernel5Ideal.Up.run_end m ρ (range_ideal m h))

/-- So does the reference. -/
theorem frame_reference : Cert.quiescent_Reference5Ideal := fun m ρ _ =>
  (θ_run _ _ _).mono (fun r h => ⟨fun c => (h c).2, sem_eq_zero_of_no_sems (by decide) r.2⟩) (Cert.Reference5Ideal.Value.run m ρ)

/-- On the rows of the tiles in use the kernel's gated product is the reference's. -/
theorem gate_up : Cert.algebraic_Kernel5Ideal_Reference5Ideal_on_rows_used_up := by
  intro m ρ m' ρ' hpre hag
  refine ⟨fun c => Cert.Reference5Ideal.Read.val_main_v44 (F := Ideal)
      (m ((c.tc : Thread Cert.Kernel5Ideal.nD Cert.Kernel5Ideal.τ).loc Cert.Kernel5Ideal.main_arg0))
      (m ((c.tc : Thread Cert.Kernel5Ideal.nD Cert.Kernel5Ideal.τ).loc Cert.Kernel5Ideal.main_arg2))
      (m ((c.tc : Thread Cert.Kernel5Ideal.nD Cert.Kernel5Ideal.τ).loc Cert.Kernel5Ideal.main_arg3))
      (m ((c.tc : Thread Cert.Kernel5Ideal.nD Cert.Kernel5Ideal.τ).loc Cert.Kernel5Ideal.main_arg4)), ?_, ?_⟩
  · have hR := range_ideal m hpre
    refine (θ_run _ _ _).mono (fun _ h c => ⟨fun i hi => (congrFun (h.1 c).1 i).trans ?_, (h.1 c).2⟩) (Cert.Kernel5Ideal.Up.run_end m ρ hR)
    obtain rfl : c = 0 := Subsingleton.elim _ _
    obtain ⟨h1, h2⟩ := Cert.RoutedUp.both _ _ _ _ _ (hpre 0)
    have e : Cert.Kernel5Ideal.Up.tiles m = (m ((0 : Dev Cert.Kernel5Ideal.nD).tc.loc Cert.Kernel5Ideal.main_arg1) : Cert.Kernel5Ideal.S1.Idx → BitVec 32) (ix1 0) :=
      congrFun (Cert.Kernel5Ideal.Up.V_arg m 0 Cert.Kernel5Ideal.main_arg1 (by simp)) _
    have hx : i = ix2 (i 0) (i 1) := by
      funext a
      match a with
      | ⟨0, _⟩ => rfl
      | ⟨1, _⟩ => rfl
    rw [hx] at hi ⊢
    have hr := Cert.RowsUsedUp.row_lt _ _ _ _ _ (h2 (ix1 0)).2 (i 0) (i 1) hi
    exact (Cert.Kernel5Ideal.Up.result m hR h1 (i 0) (i 1)
        (hr.trans_eq (congrArg (fun v : BitVec 32 => v.toNat * 256) e).symm)).trans
      (Cert.UpRef.result_at _ h1 _ _ _ (i 0) (i 1)).symm
  · refine (θ_run _ _ _).mono (fun _ h c => ⟨fun i _ => congrFun ((h c).1.trans ?_) i, (h c).2⟩) (Cert.Reference5Ideal.Value.run m' ρ')
    obtain ⟨h0, h1, h2, h3, h4⟩ := hag c
    rw [Cert.Reference5Ideal.Read.val_main_v44_eq, h0, h2, h3, h4]

end Cert.UpClose

end
-- ==== Proof.AdaKernel.lean ====
/- The modulation's result array, entry by entry, and the reference's. -/
module

public import proofs.«01_k».proof.Defs
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Ada

open Idealize.ShloMosaic Idealize.ShloMosaic.TcCoe Idealize.SL.Sem
open Idealize.ShloMosaic.Pipeline (Dat)
open Cert.Kernel6Ideal Cert.Kernel6Ideal.Gen

/-- A number times its sigmoid. -/
def silu (x : Ideal .f32) : EReal := x * (FloatOps.logistic x : Ideal .f32)

/-- The modulation at an entry. -/
def entry (X : FVec Ideal S4x2048 .f32) (W : FVec Ideal S2048x12288 .f32) (B : FVec Ideal S12288 .f32) (r : Fin 4) (e : Fin 12288) : EReal :=
  (∑ k : Fin 2048, silu (X (ix2 r k)) * W (ix2 k e)) + B (ix1 e)

/-- What a point stores, entry by entry. -/
theorem store (x : Vec Ideal S8x2048 .f32) (w : Vec Ideal S2048x1024 .f32) (b : Vec Ideal S1x1024 .f32) (i : Fin 8) (j : Fin 1024) :
    k0_pay1 x w b (ix2 i j) = (∑ k, silu (x (ix2 i k)) * w (ix2 k j)) + b (ix2 0 j) := by
  unfold silu
  pointwise [k0_pay1]

variable (m : (ℓ : Loc nD τ sig) → Buf (Elt Ideal) ℓ)

/-- The block every window reads or writes at each grid point. -/
theorem idx : ∀ t : Fin cfg0.N, win0_0.index t = ![0, 0] ∧ win0_1.index t = ![0, t.val] ∧ win0_2.index t = ![0, t.val]
    ∧ win0_3.index t = ![0, t.val] ∧ t.val < 12 :=
  (by decide +kernel : ∀ t : Fin grid0.N, _)

theorem read_x (c : Dev nD) (t : Fin cfg0.N) (i : Fin 8) (k : Fin 2048) :
    (show Vec Ideal S8x2048 .f32 from iblk m c 0 t) (ix2 i k) = (V m c main_v0 : FVec Ideal S8x2048 .f32) (ix2 i k) := by
  blk_ext [iblk, idx t]

theorem read_w (c : Dev nD) (t : Fin cfg0.N) (k : Fin 2048) (j : Fin 1024) (e : Fin 12288) (he : e.val = t.val * 1024 + j.val) :
    (show Vec Ideal S2048x1024 .f32 from iblk m c 1 t) (ix2 k j) = (V m c main_arg1 : FVec Ideal S2048x12288 .f32) (ix2 k e) := by
  blk_ext [iblk, idx t]

theorem read_b (c : Dev nD) (t : Fin cfg0.N) (j : Fin 1024) (e : Fin 12288) (he : e.val = t.val * 1024 + j.val) :
    (show Vec Ideal S1x1024 .f32 from iblk m c 2 t) (ix2 0 j) = (V m c main_v1 : FVec Ideal S1x12288 .f32) (ix2 0 e) := by
  blk_ext [iblk, idx t]

/-- The padded rows: the argument's four come first. -/
theorem rows_at (c : Dev nD) (r : Fin 4) (k : Fin 2048) :
    (V m c main_v0 : FVec Ideal S8x2048 .f32) (ix2 ⟨r.val, by omega⟩ k) = m ((c : Thread nD τ).loc main_arg0) (ix2 r k) := by
  have h : (V m c main_v0 : FVec Ideal S8x2048 .f32) = pad S8x2048 ![0, 0] ![4, 0] ![0, 0] (show FVec Ideal S4x2048 .f32 from m ((c : Thread nD τ).loc main_arg0))
      (sitofp .f32 (constantI S_ 32 0#32)) pads_S4x2048_S8x2048_040_000 h_S_ := by
    unfold V V0
    simp only [hostOps0, hostOps0_1, hostOps0_2, List.flatten_cons, List.flatten_nil, List.append_nil, List.cons_append, List.nil_append,
      StableHlo.after_cons, StableHlo.after_nil, StableHlo.TRef.binary, StableHlo.TRef.unary, StableHlo.TRef.toBuf, StableHlo.TRef.ofBuf, cast_eq]
    after_results_simp
  rw [h]
  pointwise

/-- The biases as the launch is given them. -/
theorem bias_at (c : Dev nD) (e : Fin 12288) :
    (V m c main_v1 : FVec Ideal S1x12288 .f32) (ix2 0 e) = m ((c : Thread nD τ).loc main_arg2) (ix1 e) := by
  have h : (V m c main_v1 : FVec Ideal S1x12288 .f32) = shapeCast S1x12288 (show FVec Ideal S12288 .f32 from m ((c : Thread nD τ).loc main_arg2)) shapeCasts_S12288_S1x12288 := by
    unfold V V0
    simp only [hostOps0, hostOps0_1, hostOps0_2, List.flatten_cons, List.flatten_nil, List.append_nil, List.cons_append, List.nil_append,
      StableHlo.after_cons, StableHlo.after_nil, StableHlo.TRef.binary, StableHlo.TRef.unary, StableHlo.TRef.toBuf, StableHlo.TRef.ofBuf, cast_eq]
    after_results_simp
    rfl
  rw [h]
  pointwise

/-- The modulation of the padded rows at an entry. -/
def padded (c : Dev nD) (r : Fin 8) (e : Fin 12288) : EReal :=
  (∑ k : Fin 2048, silu ((V m c main_v0 : FVec Ideal S8x2048 .f32) (ix2 r k)) * (V m c main_arg1 : FVec Ideal S2048x12288 .f32) (ix2 k e))
    + (V m c main_v1 : FVec Ideal S1x12288 .f32) (ix2 0 e)

/-- The result array after the last point, the padding included. -/
theorem array (c : Dev nD) : ((dats m 0 c).arrAt 3 cfg0.N : FVec Ideal S8x12288 .f32) = fun i : S8x12288.Idx => padded m c (i 0) (i 1) := by
  refine (dats m 0 c).arrAt_eq_of_covers 3 _ (by decide +kernel) fun t _ y => ?_
  blk_simp
  rw [after0_3]
  frame_out
  idx_vars y
  have ht := (idx t).2.2.2.2
  refine (store _ _ _ y0 y1).trans ?_
  refine Eq.trans ?_ (congrArg (fun i : S8x12288.Idx => padded m c (i 0) (i 1)) (a₁ := ix2 y0 ⟨t.val * 1024 + y1.val, by omega⟩) ?_)
  · exact congrArg₂ (fun a b : EReal => a + b) (Finset.sum_congr rfl fun k _ => congrArg₂ (fun a b : EReal => a * b)
      (congrArg silu (read_x m c t y0 k)) (read_w m c t k y1 _ rfl)) (read_b m c t y1 _ rfl)
  · blk_ext [idx t]

/-- The first four rows of the array are the modulation. -/
theorem sliced (c : Dev nD) : (extractStridedSlice S4x12288 ![0, 0] (show FVec Ideal S8x12288 .f32 from (dats m 0 c).arrAt 3 cfg0.N) slices_S8x12288_S4x12288_0_0 : FVec Ideal S4x12288 .f32)
    = fun i : S4x12288.Idx => entry (m ((c : Thread nD τ).loc main_arg0)) (m ((c : Thread nD τ).loc main_arg1)) (m ((c : Thread nD τ).loc main_arg2)) (i 0) (i 1) := by
  funext i
  rw [array m c]
  idx_vars i
  pointwise
  unfold padded entry
  rw [V_main_arg1]
  refine congrArg₂ (fun a b : EReal => a + b) (Finset.sum_congr rfl fun k _ => congrArg₂ (fun a b : EReal => a * b) (congrArg silu ?_) rfl) (bias_at m c _)
  exact rows_at m c i0 k

/-- The kernel's result, after the rows of the padding are cut off. -/
theorem after_tail (c : Dev nD) : Pipeline.afterTail₀ cfgs (dats m) 0 (V0 m) [hostOps1] c main_v3
    = fun i : S4x12288.Idx => entry (m ((c : Thread nD τ).loc main_arg0)) (m ((c : Thread nD τ).loc main_arg1)) (m ((c : Thread nD τ).loc main_arg2)) (i 0) (i 1) := by
  refine Eq.trans ?_ (sliced m c)
  unfold Pipeline.afterTail₀
  simp only [hostOps1, List.flatten_cons, List.flatten_nil, List.append_nil, List.cons_append, List.nil_append, StableHlo.after_cons, StableHlo.after_nil]
  after_results_simp
  exact congrArg (fun v : FVec Ideal S8x12288 .f32 => (extractStridedSlice S4x12288 ![0, 0] v slices_S8x12288_S4x12288_0_0 : FVec Ideal S4x12288 .f32))
    (Pipeline.withArrays_arr spec0 (by decide) c (V0 m c) (fun w => (dats m 0 c).arrAt w cfg0.N) 3)

end Cert.Ada

namespace Cert.AdaRef

open Idealize.ShloMosaic Idealize.ShloMosaic.TcCoe Idealize.SL.Sem
open Cert.Reference6Ideal Cert.Reference6Ideal.Read

/-- The word of one. -/
theorem one_word : (FloatOps.ofBits .f32 0x3F800000#32 : Ideal .f32) = (1 : EReal) := by
  show Ideal.ofBits .f32 0x3F800000#32 = 1
  simp [Ideal.ofBits, Ideal.ieee, -EReal.coe_mul]; norm_num

/-- The reference's activation. -/
theorem silu_at (X : FVec Ideal S4x2048 .f32) (i : S4x2048.Idx) : val_main_v0 (F := Ideal) X i = Cert.Ada.silu (X i) := by
  rw [val_main_v0_apply, val_main_call0_v5_apply, val_main_call0_v4_apply, val_main_call0_cst_0_apply, val_main_call0_v3_apply,
    val_main_call0_v2_apply, val_main_call0_cst_apply, val_main_call0_v1_apply, val_main_call0_v0_apply, one_word]
  rfl

/-- The reference's result at an entry. -/
theorem result_at (X : FVec Ideal S4x2048 .f32) (W : FVec Ideal S2048x12288 .f32) (B : FVec Ideal S12288 .f32) (i : S4x12288.Idx) :
    val_main_v4 (F := Ideal) X W B i = Cert.Ada.entry X W B (i 0) (i 1) := by
  idx_vars i
  pointwise [val_main_v4, val_main_v3, val_main_v2, val_main_v1]
  unfold Cert.Ada.entry
  exact congrArg₂ (fun a b : EReal => a + b) (Finset.sum_congr rfl fun k _ => congrArg₂ (fun a b : EReal => a * b) (silu_at X _) rfl) rfl

end Cert.AdaRef

namespace Cert.AdaClose

open Idealize.ShloMosaic Idealize.ShloMosaic.TcCoe Idealize.SL.Sem

/-- The modulation's reference runs and leaves its arguments unchanged. -/
theorem frame_reference : Cert.quiescent_Reference6Ideal := fun m ρ _ =>
  (θ_run _ _ _).mono (fun r h => ⟨fun c => (h c).2, sem_eq_zero_of_no_sems (by decide) r.2⟩)
    (Cert.Reference6Ideal.Value.run m ρ)

/-- The kernel's modulation is the reference's. -/
theorem modulation : Cert.algebraic_Kernel6Ideal_Reference6Ideal := by
  intro m ρ m' ρ' _ hag
  refine ⟨_, (θ_run _ _ _).mono (fun r h c => ⟨((h.1.1 c).2 Cert.Kernel6Ideal.main_v3 (Pipeline.mem_restRefs_of Cert.Kernel6Ideal.main_v3 (by decide) (by decide))).trans
      (Cert.Ada.after_tail m c), h.2.1 c⟩)
    (θ_run_and (Cert.Kernel6Ideal.Gen.run_main_quiescent m ρ) (Cert.Kernel6Ideal.Gen.frame m ρ)), ?_⟩
  refine (θ_run _ _ _).mono (fun _ h c => ⟨(h c).1.trans ?_, (h c).2⟩) (Cert.Reference6Ideal.Value.run m' ρ')
  obtain ⟨h0, h1, h2⟩ := hag c
  rw [Cert.Reference6Ideal.Read.val_main_v4_eq, h0, h1, h2]
  funext i
  exact Cert.AdaRef.result_at _ _ _ i

end Cert.AdaClose

end
-- ==== Proof.ConvRows.lean ====
/- The convolution branch's mathematics: the gated projection, the causal taps, the layer norm and the activation. -/
module

public import proofs.«01_k».proof.Proof.Gen.Kernel7Ideal.Value
public import Idealize.ShloMosaic.Lib.Pipeline.ValueKit
public import Idealize.ShloMosaic.Lib.Pipeline.ReadBack
public import Idealize.ShloMosaic.Lib.Pointwise

@[expose] public section

set_option maxRecDepth 16384

noncomputable section

namespace Cert.Conv

open Idealize.ShloMosaic Idealize.ShloMosaic.TcCoe Idealize.SL.Sem
open Cert.Kernel7Ideal Cert.Kernel7Ideal.Gen

/-- The gated projection at a row and a column. -/
def gated (P : S16384x9216.Idx → EReal) (n : Fin 16384) (k : Fin 1024) : EReal :=
  P (ix2 n ⟨7168 + k.val, by omega⟩) * Ideal.logistic (P (ix2 n ⟨8192 + k.val, by omega⟩))

/-- The entry that tap `j` of row `n` meets: zero before the sequence's first row. -/
def causal (P : S16384x9216.Idx → EReal) (n : Fin 16384) (j : Fin 31) (k : Fin 1024) : EReal :=
  if 30 ≤ n.val % 4096 + j.val then gated P ⟨n.val + j.val - 30, by omega⟩ k else 0

/-- The depthwise convolution with its bias. -/
def taps (P : S16384x9216.Idx → EReal) (W : S31x1024.Idx → EReal) (B : S1024.Idx → EReal) (n : Fin 16384) (k : Fin 1024) : EReal :=
  (∑ j : Fin 31, W (ix2 j k) * causal P n j k) + B (ix1 k)

/-- A row less its mean. -/
def centred (y : Fin 1024 → EReal) (k : Fin 1024) : EReal :=
  y k - Ideal.div (∑ u, y u) (Ideal.ofBits FTy.f32 0x44800000#32)

/-- A row's layer norm. -/
def normed (y : Fin 1024 → EReal) (g b : EReal) (k : Fin 1024) : EReal :=
  centred y k * Ideal.rsqrt (Ideal.div (∑ u, centred y u * centred y u) (Ideal.ofBits FTy.f32 0x44800000#32) + Ideal.ofBits FTy.f32 0x3727C5AC#32) * g + b

/-- A number times its sigmoid. -/
def swish (x : EReal) : EReal := x * Ideal.logistic x

/-- The branch at an entry. -/
def branch (P : S16384x9216.Idx → EReal) (W : S31x1024.Idx → EReal) (B G H : S1024.Idx → EReal) (n : Fin 16384) (k : Fin 1024) : EReal :=
  swish (normed (taps P W B n) (G (ix1 k)) (H (ix1 k)) k)

/-- A tile's convolution at a row and a column, from the carried rows. -/
def cell (W : S32x1024.Idx → EReal) (U : S160x1024.Idx → EReal) (B : S1x1024.Idx → EReal) (p : Fin 128) (q : Fin 1024) : EReal :=
  (∑ j ∈ Finset.range 31, W (ix2 ⟨j % 32, by omega⟩ q) * U (ix2 ⟨(2 + j + p.val) % 160, by omega⟩ q)) + B (ix2 0 q)

/-- A sum over the 31 taps, in the kernel's order. -/
theorem sum_taps (f : ℕ → EReal) : ∑ j ∈ Finset.range 31, f j = f 0 + f 1 + f 2 + f 3 + f 4 + f 5 + f 6 + f 7 + f 8 + f 9 + f 10 + f 11 + f 12 + f 13 + f 14 + f 15 + f 16 + f 17 + f 18 + f 19 + f 20 + f 21 + f 22 + f 23 + f 24 + f 25 + f 26 + f 27 + f 28 + f 29 + f 30 := by
  simp only [Finset.sum_range_succ, Finset.sum_range_zero, zero_add]

/-- What a point stores in its result block. -/
theorem store_block (y : Vec Ideal S128x1024 .f32) (g b : Vec Ideal S1x1024 .f32) (i : Fin 128) (k : Fin 1024) :
    k0_pay1 (k0_pay47 y g) b (ix2 i k) = swish (normed (fun u => y (ix2 i u)) (g (ix2 0 k)) (b (ix2 0 k)) k) := by
  unfold swish normed centred
  pointwise [k0_pay1, k0_pay47]

/-- What a point stores in the carried rows below the first 32. -/
theorem store_rows (x z : Vec Ideal S128x1024 .bf16) (i : Fin 128) (k : Fin 1024) :
    k0_pay4 x z (ix2 i k) = x (ix2 i k) * Ideal.logistic (z (ix2 i k)) := by
  pointwise [k0_pay4]

/-- What the first point of a sequence stores in the first 32 rows. -/
theorem store_zero (i : Fin 32) (k : Fin 1024) : (k0_pay2 : FVec Ideal S32x1024 .f32) (ix2 i k) = 0 := by
  pointwise [k0_pay2]

/-- What the other points store in the first 32 rows. -/
theorem store_halo (x : Vec Ideal S32x1024 .f32) (i : Fin 32) (k : Fin 1024) : k0_pay3 x (ix2 i k) = x (ix2 i k) := by
  pointwise [k0_pay3]

end Cert.Conv

end
-- ==== Proof.ConvCarried.lean ====
/- The rows the convolution carries from tile to tile. -/
module

public import proofs.«01_k».proof.Proof.ConvRows

@[expose] public section

set_option maxRecDepth 16384

noncomputable section

namespace Cert.Conv

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The block every window reads or writes at each grid point. -/
theorem idx : ∀ t : Fin cfg0.N, win0_0.index t = ![t.val, 7] ∧ win0_1.index t = ![t.val, 8]
    ∧ win0_2.index t = ![0, 0] ∧ win0_3.index t = ![0, 0] ∧ win0_4.index t = ![0, 0] ∧ win0_5.index t = ![0, 0]
    ∧ win0_6.index t = ![t.val, 0] ∧ t.val < 128 :=
  (by decide +kernel : ∀ t : Fin grid0.N, _)

theorem read_a (c : Dev nD) (t : Fin cfg0.N) (i : Fin 128) (k : Fin 1024) (n : Fin 16384) (hn : n.val = t.val * 128 + i.val) :
    (show Vec Ideal S128x1024 .bf16 from iblk m c 0 t) (ix2 i k) = m ((c : Thread nD τ).loc main_arg0) (ix2 n ⟨7168 + k.val, by omega⟩) := by
  blk_ext [iblk, V, idx t]

theorem read_z (c : Dev nD) (t : Fin cfg0.N) (i : Fin 128) (k : Fin 1024) (n : Fin 16384) (hn : n.val = t.val * 128 + i.val) :
    (show Vec Ideal S128x1024 .bf16 from iblk m c 1 t) (ix2 i k) = m ((c : Thread nD τ).loc main_arg0) (ix2 n ⟨8192 + k.val, by omega⟩) := by
  blk_ext [iblk, V, idx t]

/-- The entry in row `r` of the carried rows after tile `t`: 32 rows before the tile, then the tile's own. -/
def window (P : S16384x9216.Idx → EReal) (t : ℕ) (r : Fin 160) (k : Fin 1024) : EReal :=
  if t % 32 = 0 ∧ r.val < 32 then 0 else if h : t * 128 + r.val - 32 < 16384 then gated P ⟨t * 128 + r.val - 32, h⟩ k else 0

/-- The tile's own rows. -/
theorem rows_at (c : Dev nD) (t : Fin cfg0.N) (i : Fin 128) (k : Fin 1024) :
    k0_pay4 (show Vec Ideal S128x1024 .bf16 from iblk m c 0 t) (show Vec Ideal S128x1024 .bf16 from iblk m c 1 t) (ix2 i k)
      = window (m ((c : Thread nD τ).loc main_arg0)) t.val ⟨32 + i.val, by omega⟩ k := by
  have ht := (idx t).2.2.2.2.2.2.2
  unfold window
  rw [if_neg (by simp), dif_pos (by simp; omega), store_rows]
  unfold gated
  exact congrArg₂ (fun a b : EReal => a * Ideal.logistic b) (read_a m c t i k _ (by simp; omega)) (read_z m c t i k _ (by simp; omega))

/-- 128 rows stored below 32 rows read as one array. -/
theorem stacked (X : Vec Ideal S128x1024 .f32) (Z : Vec Ideal S32x1024 .f32) (G : S160x1024.Idx → EReal)
    (hX : ∀ (i : Fin 128) (k : Fin 1024), X (ix2 i k) = G (ix2 ⟨32 + i.val, by omega⟩ k))
    (hZ : ∀ (i : Fin 32) (k : Fin 1024), Z (ix2 i k) = G (ix2 ⟨i.val, by omega⟩ k)) :
    View.canon (Val := Elt Ideal) (s := S160x1024) (e := .f32)
      [⟨Rect.unit (s := S160x1024) ![32, 0] ![128, 1024] inb_S160x1024_S128x1024_32_0, X⟩,
        ⟨Rect.unit ![0, 0] ![32, 1024] inb_S160x1024_S32x1024_0_0, Z⟩] = G := by
  funext y
  refine View.canon_apply_of_pieces (Val := Elt Ideal) (e := .f32) G _ (View.PiecesOf.mem ?_) y (View.cover_of_tiledBy _ ![32, 1024] (by sl_kernel_rfl) y)
  refine ⟨fun x => ?_, fun x => ?_, trivial⟩
  · idx_vars x
    refine (hX x0 x1).trans (congrArg G ?_)
    blk_ext
  · idx_vars x
    refine (hZ x0 x1).trans (congrArg G ?_)
    blk_ext

theorem carried_first (c : Dev nD) (t : Fin cfg0.N) (h0 : t.val % 32 = 0) :
    (outsAt0 m c t.val t.isLt).2 = fun i : S160x1024.Idx => window (m ((c : Thread nD τ).loc main_arg0)) t.val (i 0) (i 1) := by
  rw [outsAt0_A m c t h0 (by omega)]
  frame_out
  refine stacked _ _ _ (fun i k => rows_at m c t i k) fun i k => (store_zero i k).trans ?_
  exact (if_pos ⟨h0, i.isLt⟩).symm

/-- The carried rows after every point. -/
theorem carried (c : Dev nD) : ∀ (t : ℕ) (ht : t < cfg0.N), (outsAt0 m c t ht).2
    = fun i : S160x1024.Idx => window (m ((c : Thread nD τ).loc main_arg0)) t (i 0) (i 1) := by
  intro t
  induction t using Nat.strongRecOn with
  | ind t ih =>
    intro ht
    by_cases h0 : t % 32 = 0
    · exact carried_first m c ⟨t, ht⟩ h0
    · rw [outsAt0_B m c ⟨t, ht⟩ h0 (by show 1 ≤ t % 32; omega)]
      frame_out
      simp only [read_unread_whole]
      refine stacked _ _ _ (fun i k => rows_at m c ⟨t, ht⟩ i k) fun i k => (store_halo _ i k).trans ?_
      rw [ih (t - 1) (by omega) (by omega)]
      have hN : t < 128 := (idx ⟨t, ht⟩).2.2.2.2.2.2.2
      pointwise
      unfold window
      rw [if_neg (by simp; omega), if_neg (by simp [h0]), dif_pos (by simp; omega), dif_pos (by simp; omega)]
      exact congrArg (fun n => gated _ n k) (Fin.ext (by simp; omega))

end Cert.Conv

end
-- ==== Proof.ConvFirst.lean ====
/- What a tile of the convolution leaves in its result block. -/
module

public import proofs.«01_k».proof.Proof.ConvRows

@[expose] public section

set_option maxRecDepth 16384

noncomputable section

namespace Cert.Conv

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

set_option maxHeartbeats 4000000 in
/-- The result block of a sequence's first tile. -/
theorem block_first (c : Dev nD) (t : Fin cfg0.N) (h0 : t.val % 32 = 0) (i : Fin 128) (k : Fin 1024) :
    (outsAt0 m c t.val t.isLt).1 (ix2 i k) = swish (normed (fun u => cell (iblk m c 2 t) (outsAt0 m c t.val t.isLt).2 (iblk m c 3 t) i u)
      ((show Vec Ideal S1x1024 .f32 from iblk m c 4 t) (ix2 0 k)) ((show Vec Ideal S1x1024 .f32 from iblk m c 5 t) (ix2 0 k)) k) := by
  rw [outsAt0_A m c t h0 (by omega)]
  frame_out
  simp only [View.readCov_eq_canon']
  generalize hU : View.canon (Val := Elt Ideal) (s := S160x1024) (e := .f32)
      [⟨Rect.unit (s := S160x1024) ![32, 0] ![128, 1024] inb_S160x1024_S128x1024_32_0, k0_pay4 (F := Ideal) (iblk m c 0 t) (iblk m c 1 t)⟩,
        ⟨Rect.unit ![0, 0] ![32, 1024] inb_S160x1024_S32x1024_0_0, k0_pay2 (F := Ideal)⟩] = U
  refine (store_block _ _ _ i k).trans ?_
  refine congrArg (fun y => swish (normed y _ _ k)) (funext fun u => ?_)
  refine (View.canon_apply_of_pieces (Val := Elt Ideal) (e := .f32) (fun y : S128x1024.Idx => cell (iblk m c 2 t) U (iblk m c 3 t) (y 0) (y 1)) _
    (View.PiecesOf.mem (Val := Elt Ideal) (e := .f32) (s := S128x1024) (G := fun y : S128x1024.Idx => cell (iblk m c 2 t) U (iblk m c 3 t) (y 0) (y 1)) ?_) _ ?_).trans ?_
  · refine ⟨fun x => ?_, fun x => ?_, fun x => ?_, fun x => ?_, trivial⟩
    · idx_vars x
      refine Eq.trans ?_ (congrArg (fun y : S128x1024.Idx => cell (iblk m c 2 t) U (iblk m c 3 t) (y 0) (y 1)) (a₁ := ix2 x0 ⟨768 + x1.val, by omega⟩) ?_)
      · pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
        refine Eq.trans ?_ (congrArg (fun a : EReal => a + _) (sum_taps _).symm)
        refine congrArg₂ (fun a b : EReal => a + b) ?_ ?_
        · refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_) ?_) ?_) ?_) ?_) ?_) ?_) ?_) ?_) ?_) ?_) ?_) ?_) ?_) ?_) ?_) ?_) ?_) ?_) ?_
          all_goals
            refine congrArg₂ (fun a b : EReal => a * b) ?_ (congrArg (fun r : S160x1024.Idx => U r) ?_)
            · rfl
            · refine congrArg₂ (fun (a : Fin 160) (b : Fin 1024) => ix2 a b) (Fin.ext ?_) ?_
              · dsimp only
                omega
              · rfl
        · rfl
      · blk_ext
    · idx_vars x
      refine Eq.trans ?_ (congrArg (fun y : S128x1024.Idx => cell (iblk m c 2 t) U (iblk m c 3 t) (y 0) (y 1)) (a₁ := ix2 x0 ⟨512 + x1.val, by omega⟩) ?_)
      · pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
        refine Eq.trans ?_ (congrArg (fun a : EReal => a + _) (sum_taps _).symm)
        refine congrArg₂ (fun a b : EReal => a + b) ?_ ?_
        · refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_) ?_) ?_) ?_) ?_) ?_) ?_) ?_) ?_) ?_) ?_) ?_) ?_) ?_) ?_) ?_) ?_) ?_) ?_) ?_
          all_goals
            refine congrArg₂ (fun a b : EReal => a * b) ?_ (congrArg (fun r : S160x1024.Idx => U r) ?_)
            · rfl
            · refine congrArg₂ (fun (a : Fin 160) (b : Fin 1024) => ix2 a b) (Fin.ext ?_) ?_
              · dsimp only
                omega
              · rfl
        · rfl
      · blk_ext
    · idx_vars x
      refine Eq.trans ?_ (congrArg (fun y : S128x1024.Idx => cell (iblk m c 2 t) U (iblk m c 3 t) (y 0) (y 1)) (a₁ := ix2 x0 ⟨256 + x1.val, by omega⟩) ?_)
      · pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
        refine Eq.trans ?_ (congrArg (fun a : EReal => a + _) (sum_taps _).symm)
        refine congrArg₂ (fun a b : EReal => a + b) ?_ ?_
        · refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_) ?_) ?_) ?_) ?_) ?_) ?_) ?_) ?_) ?_) ?_) ?_) ?_) ?_) ?_) ?_) ?_) ?_) ?_) ?_
          all_goals
            refine congrArg₂ (fun a b : EReal => a * b) ?_ (congrArg (fun r : S160x1024.Idx => U r) ?_)
            · rfl
            · refine congrArg₂ (fun (a : Fin 160) (b : Fin 1024) => ix2 a b) (Fin.ext ?_) ?_
              · dsimp only
                omega
              · rfl
        · rfl
      · blk_ext
    · idx_vars x
      refine Eq.trans ?_ (congrArg (fun y : S128x1024.Idx => cell (iblk m c 2 t) U (iblk m c 3 t) (y 0) (y 1)) (a₁ := ix2 x0 ⟨0 + x1.val, by omega⟩) ?_)
      · pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
        refine Eq.trans ?_ (congrArg (fun a : EReal => a + _) (sum_taps _).symm)
        refine congrArg₂ (fun a b : EReal => a + b) ?_ ?_
        · refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_) ?_) ?_) ?_) ?_) ?_) ?_) ?_) ?_) ?_) ?_) ?_) ?_) ?_) ?_) ?_) ?_) ?_) ?_) ?_
          all_goals
            refine congrArg₂ (fun a b : EReal => a * b) ?_ (congrArg (fun r : S160x1024.Idx => U r) ?_)
            · rfl
            · refine congrArg₂ (fun (a : Fin 160) (b : Fin 1024) => ix2 a b) (Fin.ext ?_) ?_
              · dsimp only
                omega
              · rfl
        · rfl
      · blk_ext
  · exact View.cover_of_tiledL _ ![128, 256] (by sl_kernel_rfl) _
  · exact congrArg (fun y : S128x1024.Idx => cell (iblk m c 2 t) U (iblk m c 3 t) (y 0) (y 1)) (a₂ := ix2 i u) (by pointwise)

end Cert.Conv

end
-- ==== Proof.ConvNext.lean ====
/- What a tile of the convolution leaves in its result block. -/
module

public import proofs.«01_k».proof.Proof.ConvRows

@[expose] public section

set_option maxRecDepth 16384

noncomputable section

namespace Cert.Conv

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

set_option maxHeartbeats 4000000 in
/-- The result block of every other tile. -/
theorem block_next (c : Dev nD) (t : Fin cfg0.N) (h0 : ¬t.val % 32 = 0) (i : Fin 128) (k : Fin 1024) :
    (outsAt0 m c t.val t.isLt).1 (ix2 i k) = swish (normed (fun u => cell (iblk m c 2 t) (outsAt0 m c t.val t.isLt).2 (iblk m c 3 t) i u)
      ((show Vec Ideal S1x1024 .f32 from iblk m c 4 t) (ix2 0 k)) ((show Vec Ideal S1x1024 .f32 from iblk m c 5 t) (ix2 0 k)) k) := by
  rw [outsAt0_B m c t h0 (by omega)]
  frame_out
  simp only [View.readCov_eq_canon', read_unread_whole]
  generalize hU : View.canon (Val := Elt Ideal) (s := S160x1024) (e := .f32)
      [⟨Rect.unit (s := S160x1024) ![32, 0] ![128, 1024] inb_S160x1024_S128x1024_32_0, k0_pay4 (F := Ideal) (iblk m c 0 t) (iblk m c 1 t)⟩,
        ⟨Rect.unit ![0, 0] ![32, 1024] inb_S160x1024_S32x1024_0_0, k0_pay3 (View.ld (outsAt0 m c (t.val - 1) (by omega)).2 (Rect.unit ![128, 0] ![32, 1024] inb_S160x1024_S32x1024_128_0))⟩] = U
  refine (store_block _ _ _ i k).trans ?_
  refine congrArg (fun y => swish (normed y _ _ k)) (funext fun u => ?_)
  refine (View.canon_apply_of_pieces (Val := Elt Ideal) (e := .f32) (fun y : S128x1024.Idx => cell (iblk m c 2 t) U (iblk m c 3 t) (y 0) (y 1)) _
    (View.PiecesOf.mem (Val := Elt Ideal) (e := .f32) (s := S128x1024) (G := fun y : S128x1024.Idx => cell (iblk m c 2 t) U (iblk m c 3 t) (y 0) (y 1)) ?_) _ ?_).trans ?_
  · refine ⟨fun x => ?_, fun x => ?_, fun x => ?_, fun x => ?_, trivial⟩
    · idx_vars x
      refine Eq.trans ?_ (congrArg (fun y : S128x1024.Idx => cell (iblk m c 2 t) U (iblk m c 3 t) (y 0) (y 1)) (a₁ := ix2 x0 ⟨768 + x1.val, by omega⟩) ?_)
      · pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
        refine Eq.trans ?_ (congrArg (fun a : EReal => a + _) (sum_taps _).symm)
        refine congrArg₂ (fun a b : EReal => a + b) ?_ ?_
        · refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_) ?_) ?_) ?_) ?_) ?_) ?_) ?_) ?_) ?_) ?_) ?_) ?_) ?_) ?_) ?_) ?_) ?_) ?_) ?_
          all_goals
            refine congrArg₂ (fun a b : EReal => a * b) ?_ (congrArg (fun r : S160x1024.Idx => U r) ?_)
            · rfl
            · refine congrArg₂ (fun (a : Fin 160) (b : Fin 1024) => ix2 a b) (Fin.ext ?_) ?_
              · dsimp only
                omega
              · rfl
        · rfl
      · blk_ext
    · idx_vars x
      refine Eq.trans ?_ (congrArg (fun y : S128x1024.Idx => cell (iblk m c 2 t) U (iblk m c 3 t) (y 0) (y 1)) (a₁ := ix2 x0 ⟨512 + x1.val, by omega⟩) ?_)
      · pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
        refine Eq.trans ?_ (congrArg (fun a : EReal => a + _) (sum_taps _).symm)
        refine congrArg₂ (fun a b : EReal => a + b) ?_ ?_
        · refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_) ?_) ?_) ?_) ?_) ?_) ?_) ?_) ?_) ?_) ?_) ?_) ?_) ?_) ?_) ?_) ?_) ?_) ?_) ?_
          all_goals
            refine congrArg₂ (fun a b : EReal => a * b) ?_ (congrArg (fun r : S160x1024.Idx => U r) ?_)
            · rfl
            · refine congrArg₂ (fun (a : Fin 160) (b : Fin 1024) => ix2 a b) (Fin.ext ?_) ?_
              · dsimp only
                omega
              · rfl
        · rfl
      · blk_ext
    · idx_vars x
      refine Eq.trans ?_ (congrArg (fun y : S128x1024.Idx => cell (iblk m c 2 t) U (iblk m c 3 t) (y 0) (y 1)) (a₁ := ix2 x0 ⟨256 + x1.val, by omega⟩) ?_)
      · pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
        refine Eq.trans ?_ (congrArg (fun a : EReal => a + _) (sum_taps _).symm)
        refine congrArg₂ (fun a b : EReal => a + b) ?_ ?_
        · refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_) ?_) ?_) ?_) ?_) ?_) ?_) ?_) ?_) ?_) ?_) ?_) ?_) ?_) ?_) ?_) ?_) ?_) ?_) ?_
          all_goals
            refine congrArg₂ (fun a b : EReal => a * b) ?_ (congrArg (fun r : S160x1024.Idx => U r) ?_)
            · rfl
            · refine congrArg₂ (fun (a : Fin 160) (b : Fin 1024) => ix2 a b) (Fin.ext ?_) ?_
              · dsimp only
                omega
              · rfl
        · rfl
      · blk_ext
    · idx_vars x
      refine Eq.trans ?_ (congrArg (fun y : S128x1024.Idx => cell (iblk m c 2 t) U (iblk m c 3 t) (y 0) (y 1)) (a₁ := ix2 x0 ⟨0 + x1.val, by omega⟩) ?_)
      · pointwise [k0_pay5, k0_pay6, k0_pay7, k0_pay8, k0_pay9, k0_pay10, k0_pay11, k0_pay12, k0_pay13, k0_pay14, k0_pay15, k0_pay16, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46]
        refine Eq.trans ?_ (congrArg (fun a : EReal => a + _) (sum_taps _).symm)
        refine congrArg₂ (fun a b : EReal => a + b) ?_ ?_
        · refine congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) (congrArg₂ (fun a b : EReal => a + b) ?_ ?_) ?_) ?_) ?_) ?_) ?_) ?_) ?_) ?_) ?_) ?_) ?_) ?_) ?_) ?_) ?_) ?_) ?_) ?_) ?_) ?_) ?_) ?_) ?_) ?_) ?_) ?_) ?_) ?_) ?_
          all_goals
            refine congrArg₂ (fun a b : EReal => a * b) ?_ (congrArg (fun r : S160x1024.Idx => U r) ?_)
            · rfl
            · refine congrArg₂ (fun (a : Fin 160) (b : Fin 1024) => ix2 a b) (Fin.ext ?_) ?_
              · dsimp only
                omega
              · rfl
        · rfl
      · blk_ext
  · exact View.cover_of_tiledL _ ![128, 256] (by sl_kernel_rfl) _
  · exact congrArg (fun y : S128x1024.Idx => cell (iblk m c 2 t) U (iblk m c 3 t) (y 0) (y 1)) (a₂ := ix2 i u) (by pointwise)

end Cert.Conv

end
-- ==== Proof.ConvKernel.lean ====
/- The convolution branch's result array, entry by entry. -/
module

public import proofs.«01_k».proof.Proof.ConvCarried
public import proofs.«01_k».proof.Proof.ConvFirst
public import proofs.«01_k».proof.Proof.ConvNext

@[expose] public section

set_option maxRecDepth 16384

noncomputable section

namespace Cert.Conv

open Idealize.ShloMosaic Idealize.ShloMosaic.TcCoe Idealize.SL.Sem
open Idealize.ShloMosaic.Pipeline (Dat)
open Cert.Kernel7Ideal Cert.Kernel7Ideal.Gen

variable (m : (ℓ : Loc nD τ sig) → Buf (Elt Ideal) ℓ)

/-- The taps as the launch is given them: the argument's 31 rows come first. -/
theorem taps_at (c : Dev nD) (j : Fin 31) (k : Fin 1024) :
    (V m c main_v0 : FVec Ideal S32x1024 .f32) (ix2 ⟨j.val, by omega⟩ k) = m ((c : Thread nD τ).loc main_arg1) (ix2 j k) := by
  have h : (V m c main_v0 : FVec Ideal S32x1024 .f32) = pad S32x1024 ![0, 0] ![1, 0] ![0, 0] (show FVec Ideal S31x1024 .f32 from m ((c : Thread nD τ).loc main_arg1))
      (sitofp .f32 (constantI S_ 32 0#32)) pads_S31x1024_S32x1024_010_000 h_S_ := by
    unfold V
    simp only [hostOps0, hostOps0_1, hostOps0_2, List.flatten_cons, List.flatten_nil, List.append_nil, List.cons_append, List.nil_append,
      StableHlo.after_cons, StableHlo.after_nil, StableHlo.TRef.binary, StableHlo.TRef.unary, StableHlo.TRef.toBuf, StableHlo.TRef.ofBuf, cast_eq]
    after_results_simp
  rw [h]
  pointwise

theorem bias_at (c : Dev nD) (k : Fin 1024) :
    (V m c main_v1 : FVec Ideal S1x1024 .f32) (ix2 0 k) = m ((c : Thread nD τ).loc main_arg2) (ix1 k) := by
  have h : (V m c main_v1 : FVec Ideal S1x1024 .f32) = shapeCast S1x1024 (show FVec Ideal S1024 .f32 from m ((c : Thread nD τ).loc main_arg2)) shapeCasts_S1024_S1x1024 := by
    unfold V
    simp only [hostOps0, hostOps0_1, hostOps0_2, List.flatten_cons, List.flatten_nil, List.append_nil, List.cons_append, List.nil_append,
      StableHlo.after_cons, StableHlo.after_nil, StableHlo.TRef.binary, StableHlo.TRef.unary, StableHlo.TRef.toBuf, StableHlo.TRef.ofBuf, cast_eq]
    after_results_simp
    rfl
  rw [h]
  pointwise

theorem gain_at (c : Dev nD) (k : Fin 1024) :
    (V m c main_v2 : FVec Ideal S1x1024 .f32) (ix2 0 k) = m ((c : Thread nD τ).loc main_arg3) (ix1 k) := by
  have h : (V m c main_v2 : FVec Ideal S1x1024 .f32) = shapeCast S1x1024 (show FVec Ideal S1024 .f32 from m ((c : Thread nD τ).loc main_arg3)) shapeCasts_S1024_S1x1024 := by
    unfold V
    simp only [hostOps0, hostOps0_1, hostOps0_2, List.flatten_cons, List.flatten_nil, List.append_nil, List.cons_append, List.nil_append,
      StableHlo.after_cons, StableHlo.after_nil, StableHlo.TRef.binary, StableHlo.TRef.unary, StableHlo.TRef.toBuf, StableHlo.TRef.ofBuf, cast_eq]
    after_results_simp
    rfl
  rw [h]
  pointwise

theorem shift_at (c : Dev nD) (k : Fin 1024) :
    (V m c main_v3 : FVec Ideal S1x1024 .f32) (ix2 0 k) = m ((c : Thread nD τ).loc main_arg4) (ix1 k) := by
  have h : (V m c main_v3 : FVec Ideal S1x1024 .f32) = shapeCast S1x1024 (show FVec Ideal S1024 .f32 from m ((c : Thread nD τ).loc main_arg4)) shapeCasts_S1024_S1x1024 := by
    unfold V
    simp only [hostOps0, hostOps0_1, hostOps0_2, List.flatten_cons, List.flatten_nil, List.append_nil, List.cons_append, List.nil_append,
      StableHlo.after_cons, StableHlo.after_nil, StableHlo.TRef.binary, StableHlo.TRef.unary, StableHlo.TRef.toBuf, StableHlo.TRef.ofBuf, cast_eq]
    after_results_simp
    rfl
  rw [h]
  pointwise

theorem read_w (c : Dev nD) (t : Fin cfg0.N) (j : Fin 32) (k : Fin 1024) :
    (show Vec Ideal S32x1024 .f32 from iblk m c 2 t) (ix2 j k) = (V m c main_v0 : FVec Ideal S32x1024 .f32) (ix2 j k) := by
  blk_ext [iblk, idx t]

theorem read_b (c : Dev nD) (t : Fin cfg0.N) (k : Fin 1024) :
    (show Vec Ideal S1x1024 .f32 from iblk m c 3 t) (ix2 0 k) = (V m c main_v1 : FVec Ideal S1x1024 .f32) (ix2 0 k) := by
  blk_ext [iblk, idx t]

theorem read_g (c : Dev nD) (t : Fin cfg0.N) (k : Fin 1024) :
    (show Vec Ideal S1x1024 .f32 from iblk m c 4 t) (ix2 0 k) = (V m c main_v2 : FVec Ideal S1x1024 .f32) (ix2 0 k) := by
  blk_ext [iblk, idx t]

theorem read_h (c : Dev nD) (t : Fin cfg0.N) (k : Fin 1024) :
    (show Vec Ideal S1x1024 .f32 from iblk m c 5 t) (ix2 0 k) = (V m c main_v3 : FVec Ideal S1x1024 .f32) (ix2 0 k) := by
  blk_ext [iblk, idx t]

/-- The carried rows that a row's taps meet. -/
theorem window_at (P : S16384x9216.Idx → EReal) (t : ℕ) (ht : t < 128) (p : Fin 128) (n : Fin 16384) (hn : n.val = t * 128 + p.val)
    (j : Fin 31) (r : Fin 160) (hr : r.val = 2 + j.val + p.val) (q : Fin 1024) : window P t r q = causal P n j q := by
  have hp := p.isLt
  have hj := j.isLt
  unfold window causal
  by_cases h : t % 32 = 0 ∧ r.val < 32
  · rw [if_pos h, if_neg (by omega)]
  · rw [if_neg h, if_pos (by omega), dif_pos (by omega)]
    exact congrArg (fun a => gated P a q) (Fin.ext (by show t * 128 + r.val - 32 = n.val + j.val - 30; omega))

/-- A tile's convolution is the sequence's. -/
theorem cell_at (c : Dev nD) (t : Fin cfg0.N) (p : Fin 128) (q : Fin 1024) (n : Fin 16384) (hn : n.val = t.val * 128 + p.val) :
    cell (iblk m c 2 t) (outsAt0 m c t.val t.isLt).2 (iblk m c 3 t) p q
      = taps (m ((c : Thread nD τ).loc main_arg0)) (m ((c : Thread nD τ).loc main_arg1)) (m ((c : Thread nD τ).loc main_arg2)) n q := by
  have ht := (idx t).2.2.2.2.2.2.2
  rw [carried m c t.val t.isLt]
  unfold cell taps
  rw [Finset.sum_range]
  refine congrArg₂ (fun a b : EReal => a + b) (Finset.sum_congr rfl fun j _ => congrArg₂ (fun a b : EReal => a * b) ?_ ?_)
    ((read_b m c t q).trans (bias_at m c q))
  · refine (read_w m c t _ q).trans (Eq.trans (congrArg (fun r : Fin 32 => (V m c main_v0 : FVec Ideal S32x1024 .f32) (ix2 r q)) (Fin.ext ?_)) (taps_at m c j q))
    show j.val % 32 = j.val
    omega
  · refine window_at _ t.val ht p n hn j _ ?_ q
    show (2 + j.val + p.val) % 160 = 2 + j.val + p.val
    omega

/-- What every point leaves in the result's block. -/
theorem block (c : Dev nD) (t : Fin cfg0.N) (i : Fin 128) (k : Fin 1024) (n : Fin 16384) (hn : n.val = t.val * 128 + i.val) :
    (outsAt0 m c t.val t.isLt).1 (ix2 i k)
      = branch (m ((c : Thread nD τ).loc main_arg0)) (m ((c : Thread nD τ).loc main_arg1)) (m ((c : Thread nD τ).loc main_arg2))
          (m ((c : Thread nD τ).loc main_arg3)) (m ((c : Thread nD τ).loc main_arg4)) n k := by
  refine Eq.trans (b := swish (normed (fun u => cell (iblk m c 2 t) (outsAt0 m c t.val t.isLt).2 (iblk m c 3 t) i u)
      ((show Vec Ideal S1x1024 .f32 from iblk m c 4 t) (ix2 0 k)) ((show Vec Ideal S1x1024 .f32 from iblk m c 5 t) (ix2 0 k)) k)) ?_ ?_
  · by_cases h0 : t.val % 32 = 0
    · exact block_first m c t h0 i k
    · exact block_next m c t h0 i k
  · unfold branch
    rw [show (fun u => cell (iblk m c 2 t) (outsAt0 m c t.val t.isLt).2 (iblk m c 3 t) i u) = _ from funext fun u => cell_at m c t i u n hn,
      (read_g m c t k).trans (gain_at m c k), (read_h m c t k).trans (shift_at m c k)]

/-- The result array after the last point. -/
theorem result (c : Dev nD) : ((dats m 0 c).arrAt 6 cfg0.N : FVec Ideal S16384x1024 .bf16)
    = fun i : S16384x1024.Idx => branch (m ((c : Thread nD τ).loc main_arg0)) (m ((c : Thread nD τ).loc main_arg1)) (m ((c : Thread nD τ).loc main_arg2))
        (m ((c : Thread nD τ).loc main_arg3)) (m ((c : Thread nD τ).loc main_arg4)) (i 0) (i 1) := by
  refine (dats m 0 c).arrAt_eq_of_covers 6 _ (by decide +kernel) fun t _ y => ?_
  blk_simp
  rw [after0_6]
  idx_vars y
  have ht := (idx t).2.2.2.2.2.2.2
  refine (block m c t y0 y1 ⟨t.val * 128 + y0.val, by omega⟩ rfl).trans
    (congrArg (fun i : S16384x1024.Idx => branch _ _ _ _ _ (i 0) (i 1)) (a₁ := ix2 ⟨t.val * 128 + y0.val, by omega⟩ y1) ?_)
  blk_ext [idx t]

end Cert.Conv

end
-- ==== Proof.ConvRef.lean ====
/- The convolution branch's reference, entry by entry. -/
module

public import proofs.«01_k».proof.Proof.ConvRows
public import proofs.«01_k».proof.Proof.AttnWords
public import proofs.«01_k».proof.Proof.Gen.Reference7Ideal
public import proofs.«01_k».proof.Proof.Gen.Reference7Ideal.Read

@[expose] public section

set_option maxRecDepth 16384

noncomputable section

namespace Cert.ConvRef

open Idealize.ShloMosaic Idealize.ShloMosaic.TcCoe Idealize.SL.Sem
open Cert.Reference7Ideal Cert.Reference7Ideal.Read Cert.Conv

variable (P : FVec Ideal S16384x9216 .bf16) (W : FVec Ideal S31x1024 .f32) (B G H : FVec Ideal S1024 .f32)

/-- The gated projection. -/
theorem gated_at (b : Fin 4) (s : Fin 4096) (k : Fin 1024) : val_main_v12 (F := Ideal) P (ix3 b s k)
    = gated P ⟨b.val * 4096 + s.val, by omega⟩ k := by
  unfold gated Ideal.logistic
  pointwise [val_main_v12, val_main_v11, val_main_v10, val_main_v9, val_main_v8, val_main_v7, val_main_v6, val_main_v5, val_main_v4,
    val_main_v3, val_main_v2, val_main_v1, val_main_v0, val_main_cst, val_main_cst_0]

/-- Thirty zero rows stand before each sequence. -/
theorem padded_at (b : Fin 4) (s : Fin 4126) (k : Fin 1024) : val_main_v13 (F := Ideal) P (ix3 b s k)
    = if h : 30 ≤ s.val then val_main_v12 (F := Ideal) P (ix3 b ⟨s.val - 30, by omega⟩ k) else 0 := by
  have hs := s.isLt
  pointwise [val_main_v13, val_main_call0_v0, val_main_c]
  by_cases h : 30 ≤ s.val
  · rw [dif_pos ⟨h, by omega⟩, dif_pos h]
  · rw [dif_neg (fun q => h q.1), dif_neg h]
    show ((((0#32 : BitVec 32).toInt : ℤ) : ℝ) : EReal) = 0
    simp

/-- A tap's row of the padded sequence is not negative, and is kept as it is. -/
theorem kept (s j : ℕ) (hs : s < 4096) (hj : j < 31) :
    Scalar.select (IntOp.cmpi CmpIPredicate.slt (IntOp.addi (BitVec.ofNat 32 s) (BitVec.ofNat 32 j)) 0#32)
      (IntOp.addi (IntOp.addi (BitVec.ofNat 32 s) (BitVec.ofNat 32 j)) 4126#32)
      (IntOp.addi (BitVec.ofNat 32 s) (BitVec.ofNat 32 j)) = BitVec.ofNat 32 (s + j) := by
  have hadd : IntOp.addi (BitVec.ofNat 32 s) (BitVec.ofNat 32 j) = BitVec.ofNat 32 (s + j) := (BitVec.ofNat_add s j).symm
  rw [hadd]
  have hslt : IntOp.cmpi CmpIPredicate.slt (BitVec.ofNat 32 (s + j)) 0#32 = 0#1 := by
    show BitVec.ofBool ((BitVec.ofNat 32 (s + j)).slt 0#32) = 0#1
    rw [BitVec.slt_eq_decide, BitVec.toInt_eq_toNat_of_lt (by rw [BitVec.toNat_ofNat]; omega), decide_eq_false (by rw [BitVec.toInt_zero]; omega)]
    rfl
  rw [hslt]
  rfl

/-- The row of the padded sequence that a tap reads. -/
theorem index_at (s : Fin 4096) (j : Fin 31) : val_main_v26 (F := Ideal) (ix3 s j 0) = BitVec.ofNat 32 (s.val + j.val) := by
  pointwise [val_main_v26, val_main_v25, val_main_v24, val_main_v23, val_main_v22, val_main_v21, val_main_v20, val_main_v19, val_main_v18,
    val_main_v17, val_main_v16, val_main_v15, val_main_v14, val_main_c_1, val_main_c_2]
  exact kept s.val j.val s.isLt j.isLt

/-- A pair of index axes naming one row of every sequence each, with all its columns. -/
theorem rows_lookup (wf : GatherDims.WF ⟨3, ![4, 4126, 1024]⟩ ⟨3, ![4096, 31, 1]⟩ ⟨4, ![4, 4096, 31, 1024]⟩ [0, 3] [1] [] [1] [] 2 ![4, 1, 1024])
    (R : (⟨3, ![4, 4126, 1024]⟩ : Shape).Idx → EReal) (idx : IVec ⟨3, ![4096, 31, 1]⟩ 32) (b : Fin 4) (s : Fin 4096) (j : Fin 31) (k : Fin 1024)
    (d : ℕ) (hd : d < 4126) (hidx : idx (ix3 s j 0) = BitVec.ofNat 32 d) :
    Host.gather (⟨[0, 3], [1], [], [], [1], 2, ![4, 1, 1024], wf⟩ : GatherDims ⟨3, ![4, 4126, 1024]⟩ ⟨3, ![4096, 31, 1]⟩ ⟨4, ![4, 4096, 31, 1024]⟩)
      R idx (ix4 b s j k) = R (ix3 b ⟨d, hd⟩ k) := by
  unfold Host.gather
  refine congrArg R (funext fun c => Fin.ext ?_)
  let g : GatherDims ⟨3, ![4, 4126, 1024]⟩ ⟨3, ![4096, 31, 1]⟩ ⟨4, ![4, 4096, 31, 1024]⟩ := ⟨[0, 3], [1], [], [], [1], 2, ![4, 1, 1024], wf⟩
  show g.start (ix4 b s j k) idx c + g.batchCoord (ix4 b s j k) c + g.offCoord (ix4 b s j k) c = _
  rw [g.batchCoord_eq_zero _ _ List.not_mem_nil]
  have hc : c = 0 ∨ c = 1 ∨ c = 2 := by
    match c with
    | ⟨0, _⟩ => exact Or.inl rfl
    | ⟨1, _⟩ => exact Or.inr (Or.inl rfl)
    | ⟨2, _⟩ => exact Or.inr (Or.inr rfl)
  rcases hc with rfl | rfl | rfl
  · unfold GatherDims.start GatherDims.offCoord
    rw [dif_neg (show (0 : Fin 3) ∉ ([1] : List (Fin 3)) from by decide), dif_pos ((GatherDims.mem_sKept g 0).mpr ⟨(by show (0 : Fin 3) ∉ ([1] : List (Fin 3)); decide), List.not_mem_nil⟩)]
    show 0 + 0 + b.val = b.val
    omega
  · rw [g.offCoord_eq_zero _ _ (fun h => ((GatherDims.mem_sKept _ _).mp h).1 (List.mem_singleton.mpr rfl))]
    unfold GatherDims.start
    rw [dif_pos (show (1 : Fin 3) ∈ g.startIndexMap from List.mem_singleton.mpr rfl)]
    have hk : g.siIdx (ix4 b s j k) ⟨List.idxOf (1 : Fin 3) g.startIndexMap, List.idxOf_lt_length_iff.2 (List.mem_singleton.mpr rfl)⟩ = ix3 s j 0 := by
      funext y
      refine Fin.ext ?_
      match y with
      | ⟨0, _⟩ => rfl
      | ⟨1, _⟩ => rfl
      | ⟨2, _⟩ => rfl
    rw [hk, hidx, Cert.Attn.small_word d (by omega)]
    show min d 4125 + 0 + 0 = d
    omega
  · unfold GatherDims.start GatherDims.offCoord
    rw [dif_neg (show (2 : Fin 3) ∉ ([1] : List (Fin 3)) from by decide), dif_pos ((GatherDims.mem_sKept g 2).mpr ⟨(by show (2 : Fin 3) ∉ ([1] : List (Fin 3)); decide), List.not_mem_nil⟩)]
    show 0 + 0 + k.val = k.val
    omega

/-- The rows a tap reads. -/
theorem gathered_at (b : Fin 4) (s : Fin 4096) (j : Fin 31) (k : Fin 1024) : val_main_v27 (F := Ideal) P (ix4 b s j k)
    = val_main_v13 (F := Ideal) P (ix3 b ⟨s.val + j.val, by omega⟩ k) :=
  rows_lookup Cert.Reference7Ideal.Gen.gather_S4x4126x1024_S4096x31x1_S4x4096x31x1024_03_1_n_n_1_2_411024_wf _ _ b s j k (s.val + j.val) (by omega) (index_at s j)

/-- The entry that a tap meets. -/
theorem causal_at (b : Fin 4) (s : Fin 4096) (j : Fin 31) (k : Fin 1024) : val_main_v27 (F := Ideal) P (ix4 b s j k)
    = causal P ⟨b.val * 4096 + s.val, by omega⟩ j k := by
  have hs := s.isLt
  have hm : (b.val * 4096 + s.val) % 4096 = s.val := by omega
  rw [gathered_at, padded_at]
  unfold causal
  by_cases h : 30 ≤ s.val + j.val
  · rw [dif_pos h, if_pos (by show 30 ≤ (b.val * 4096 + s.val) % 4096 + j.val; omega), gated_at]
    exact congrArg (fun n => gated P n k) (Fin.ext (by show b.val * 4096 + (s.val + j.val - 30) = b.val * 4096 + s.val + j.val - 30; omega))
  · rw [dif_neg h, if_neg (by show ¬30 ≤ (b.val * 4096 + s.val) % 4096 + j.val; omega)]

/-- The convolution with its bias. -/
theorem taps_at (b : Fin 4) (s : Fin 4096) (k : Fin 1024) : val_main_v34 (F := Ideal) P W B (ix3 b s k)
    = taps P W B ⟨b.val * 4096 + s.val, by omega⟩ k := by
  pointwise [val_main_v34, val_main_v33, val_main_v32, val_main_v31, val_main_v30, val_main_v29, val_main_v28, val_main_cst_3, causal_at]
  unfold taps
  refine congrArg (fun a : EReal => a + _) (Finset.sum_congr rfl fun j _ => ?_)
  exact mul_comm _ _

/-- A row's entries less their mean, as the variance takes them. -/
theorem spread_at (b : Fin 4) (s : Fin 4096) (k : Fin 1024) : val_main_v40 (F := Ideal) P W B (ix3 b s k)
    = centred (taps P W B ⟨b.val * 4096 + s.val, by omega⟩) k := by
  unfold centred
  pointwise [val_main_v40, val_main_v39, val_main_v38, val_main_v37, val_main_v36, val_main_v35, val_main_cst_4, val_main_cst_5, taps_at]

/-- A row's entries less their mean. -/
theorem centred_at (b : Fin 4) (s : Fin 4096) (k : Fin 1024) : val_main_v47 (F := Ideal) P W B (ix3 b s k)
    = centred (taps P W B ⟨b.val * 4096 + s.val, by omega⟩) k := by
  unfold centred
  pointwise [val_main_v47, val_main_v46, val_main_v38, val_main_v37, val_main_v36, val_main_v35, val_main_cst_4, val_main_cst_5, taps_at]

/-- The layer norm. -/
theorem normed_at (b : Fin 4) (s : Fin 4096) (k : Fin 1024) : val_main_v58 (F := Ideal) P W B G H (ix3 b s k)
    = normed (taps P W B ⟨b.val * 4096 + s.val, by omega⟩) (G (ix1 k)) (H (ix1 k)) k := by
  unfold normed
  pointwise [val_main_v58, val_main_v57, val_main_v56, val_main_v55, val_main_v54, val_main_v53, val_main_v52, val_main_v51, val_main_v50,
    val_main_v49, val_main_v48, val_main_cst_8, val_main_v45, val_main_v44, val_main_cst_7, val_main_v43, val_main_v42, val_main_cst_6,
    val_main_v41, spread_at, centred_at]

/-- The activation. -/
theorem swish_at (b : Fin 4) (s : Fin 4096) (k : Fin 1024) : val_main_v59 (F := Ideal) P W B G H (ix3 b s k)
    = branch P W B G H ⟨b.val * 4096 + s.val, by omega⟩ k := by
  unfold branch swish Ideal.logistic
  pointwise [val_main_v59, val_main_call1_v5, val_main_call1_v4, val_main_call1_v3, val_main_call1_v2, val_main_call1_v1, val_main_call1_v0,
    val_main_call1_cst, val_main_call1_cst_0, normed_at]

/-- The reference's result at an entry. -/
theorem result_at (i : S16384x1024.Idx) : val_main_v61 (F := Ideal) P W B G H i = branch P W B G H (i 0) (i 1) := by
  idx_vars i
  pointwise [val_main_v61, val_main_v60, swish_at]
  have h : (⟨i0.val / 4096 * 4096 + i0.val % 4096, by omega⟩ : Fin 16384) = i0 := Fin.ext (by simp only; omega)
  exact congrArg (fun q => branch P W B G H q i1) h

end Cert.ConvRef

end
-- ==== Proof.ConvClose.lean ====
/- The convolution branch's frame of the reference, and the equality of its two results. -/
module

public import proofs.«01_k».proof.Defs
public import proofs.«01_k».proof.Proof.Gen.Reference7Ideal.Run
public import proofs.«01_k».proof.Proof.ConvKernel
public import proofs.«01_k».proof.Proof.ConvRef

@[expose] public section

set_option maxRecDepth 16384

noncomputable section

namespace Cert.ConvClose

open Idealize.ShloMosaic Idealize.ShloMosaic.TcCoe Idealize.SL.Sem

/-- The convolution's reference runs and leaves its arguments unchanged. -/
theorem frame_reference : Cert.quiescent_Reference7Ideal := fun m ρ _ =>
  (θ_run _ _ _).mono (fun r h => ⟨fun c => (h c).2, sem_eq_zero_of_no_sems (by decide) r.2⟩)
    (Cert.Reference7Ideal.Value.run m ρ)

/-- The kernel's convolution branch is the reference's. -/
theorem convolution : Cert.algebraic_Kernel7Ideal_Reference7Ideal := by
  intro m ρ m' ρ' _ hag
  refine ⟨_, (θ_run _ _ _).mono (fun _ h c => ⟨(h c).1.trans (Cert.Conv.result m c), (h c).2⟩)
    (Cert.Kernel7Ideal.Value.run_blocks m ρ), ?_⟩
  refine (θ_run _ _ _).mono (fun _ h c => ⟨(h c).1.trans ?_, (h c).2⟩) (Cert.Reference7Ideal.Value.run m' ρ')
  obtain ⟨h0, h1, h2, h3, h4⟩ := hag c
  rw [Cert.Reference7Ideal.Read.val_main_v61_eq, h0, h1, h2, h3, h4]
  funext i
  exact Cert.ConvRef.result_at _ _ _ _ _ i

end Cert.ConvClose

end
-- ==== Proof.lean ====
/- The claims about the calls, assembled: the frames of their programs, and the equality of each kernel's
   and its reference's results. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.Kernel2Ideal.Value
public import proofs.«01_k».proof.Proof.Gen.Reference2Ideal.Run
public import proofs.«01_k».proof.Proof.Gen.Reference2Ideal.Read
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel5
public import proofs.«01_k».proof.Proof.Gen.Kernel5.Skeleton
public import proofs.«01_k».proof.Proof.Gen.Kernel5.Launch
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Reference5Ideal
public import proofs.«01_k».proof.Proof.Gen.Reference5Ideal.Run
public import proofs.«01_k».proof.Proof.Gen.Reference5Ideal.Read
public import proofs.«01_k».proof.Proof.Gen.Pre_routed_up
public import proofs.«01_k».proof.Proof.Gen.On_rows_used_up
public import proofs.«01_k».proof.Proof.Gen.Kernel4
public import proofs.«01_k».proof.Proof.Gen.Kernel4.Skeleton
public import proofs.«01_k».proof.Proof.Gen.Kernel4.Launch
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Reference4Ideal
public import proofs.«01_k».proof.Proof.Gen.Reference4Ideal.Run
public import proofs.«01_k».proof.Proof.Gen.Reference4Ideal.Read
public import proofs.«01_k».proof.Proof.Gen.Pre_routed
public import proofs.«01_k».proof.Proof.Gen.On_rows_used
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Reference3Ideal
public import proofs.«01_k».proof.Proof.Gen.Kernel3Ideal.Value
public import proofs.«01_k».proof.Proof.Gen.Reference3Ideal.Run
public import proofs.«01_k».proof.Proof.Gen.Reference3Ideal.Read
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Reference7Ideal
public import proofs.«01_k».proof.Proof.Gen.Kernel7Ideal.Value
public import proofs.«01_k».proof.Proof.Gen.Reference7Ideal.Run
public import proofs.«01_k».proof.Proof.Gen.Reference7Ideal.Read
public import proofs.«01_k».proof.Proof.Finite
public import proofs.«01_k».proof.Proof.AttnEq
public import proofs.«01_k».proof.Proof.InprojRef
public import proofs.«01_k».proof.Proof.MixKernel
public import proofs.«01_k».proof.Proof.MixRef
public import Idealize.ShloMosaic.Adequacy
public import Idealize.ShloMosaic.Init
public import proofs.«01_k».proof.Proof.DownClose
public import proofs.«01_k».proof.Proof.UpClose
public import proofs.«01_k».proof.Proof.AdaKernel
public import proofs.«01_k».proof.Proof.ConvClose

@[expose] public section

noncomputable section

namespace Cert.Proof

open Idealize.ShloMosaic Idealize.ShloMosaic.TcCoe Idealize.SL.Sem

attribute [local instance] Cert.Finite.facts

/-- The reference runs and leaves its arguments unchanged. -/
theorem frame_reference : Cert.quiescent_ReferenceIdeal := fun m ρ _ =>
  (θ_run _ _ _).mono (fun r h => ⟨fun c => (h c).2, sem_eq_zero_of_no_sems (by decide) r.2⟩)
    (Cert.ReferenceIdeal.Value.run m ρ)

/-- The kernel's attention is the reference's. -/
theorem attention : Cert.algebraic_KernelIdeal_ReferenceIdeal_pre_finite := by
  intro m ρ m' ρ' hpre hag
  refine ⟨fun c => Cert.ReferenceIdeal.Read.val_main_v89 (F := Ideal)
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1)), ?_, ?_⟩
  · refine (θ_run _ _ _).mono (fun _ h c => ⟨(h c).1.trans ?_, (h c).2⟩) (Cert.KernelIdeal.Value.run_blocks m ρ)
    obtain ⟨hX, hR⟩ := Cert.Finite.both _ _ (hpre c)
    refine (Cert.Attn.final m c).trans ?_
    funext i
    have hi : i = ix2 (i 0) (i 1) := by
      funext a
      match a with
      | ⟨0, _⟩ => rfl
      | ⟨1, _⟩ => rfl
    rw [hi]
    exact (Cert.Attn.equal _ _ _ hX hR (Cert.Attn.bias_at m c) (i 0) (i 1)).trans
      (Cert.Band.result_at _ _ (i 0) (i 1)).symm
  · refine (θ_run _ _ _).mono (fun _ h c => ⟨(h c).1.trans ?_, (h c).2⟩) (Cert.ReferenceIdeal.Value.run m' ρ')
    rw [Cert.ReferenceIdeal.Read.val_main_v89_eq, (hag c).1, (hag c).2]

/-- The projection's reference runs and leaves its arguments unchanged. -/
theorem frame_reference2 : Cert.quiescent_Reference2Ideal := fun m ρ _ =>
  (θ_run _ _ _).mono (fun r h => ⟨fun c => (h c).2, sem_eq_zero_of_no_sems (by decide) r.2⟩)
    (Cert.Reference2Ideal.Value.run m ρ)

/-- The kernel's projection is the reference's. -/
theorem projection : Cert.algebraic_Kernel2Ideal_Reference2Ideal := by
  intro m ρ m' ρ' _ hag
  refine ⟨_, (θ_run _ _ _).mono (fun _ h c => ⟨(h c).1.trans (Cert.Inproj.result m c), (h c).2⟩)
    (Cert.Kernel2Ideal.Value.run_blocks m ρ), ?_⟩
  refine (θ_run _ _ _).mono (fun _ h c => ⟨(h c).1.trans ?_, (h c).2⟩) (Cert.Reference2Ideal.Value.run m' ρ')
  obtain ⟨h0, h1, h2, h3, h4⟩ := hag c
  rw [Cert.Reference2Ideal.Read.val_main_v26_eq, h0, h1, h2, h3, h4]
  funext i
  exact Cert.InprojRef.result_at _ _ _ _ _ i

/-- The mixing's reference runs and leaves its arguments unchanged. -/
theorem frame_reference3 : Cert.quiescent_Reference3Ideal := fun m ρ _ =>
  (θ_run _ _ _).mono (fun r h => ⟨fun c => (h c).2.2.2, sem_eq_zero_of_no_sems (by decide) r.2⟩)
    (Cert.Reference3Ideal.Value.run m ρ)

set_option maxHeartbeats 2000000 in
/-- The kernel's mixing is the reference's, in all three results. -/
theorem mixing : Cert.algebraic_Kernel3Ideal_Reference3Ideal := by
  intro m ρ m' ρ' _ hag
  refine ⟨_, _, _, (θ_run _ _ _).mono (fun _ h c => ⟨(h c).1.trans (Cert.Mix.result_rows m c),
    (h c).2.1.trans (Cert.Mix.result_nexts m c), (h c).2.2.1.trans (Cert.Mix.result_scores m c), (h c).2.2.2⟩)
    (Cert.Kernel3Ideal.Value.run_blocks m ρ), ?_⟩
  refine (θ_run _ _ _).mono (fun _ h c => ⟨(h c).1.trans ?_, (h c).2.1.trans ?_, (h c).2.2.1.trans ?_, (h c).2.2.2⟩)
    (Cert.Reference3Ideal.Value.run m' ρ')
  all_goals obtain ⟨h0, h1, h2, h3, h4, h5, h6, h7, h8, h9, h10, h11, h12, h13⟩ := hag c
  · rw [Cert.Reference3Ideal.Read.val_main_v72_eq, h0, h1, h2, h3, h4, h5, h6, h7, h8]
    exact Cert.MixRef.result_rows _ _ _ _ _ _ _ _ _
  · rw [Cert.Reference3Ideal.Read.val_main_v73_eq, h0, h1, h2, h3, h4, h5, h6, h7, h8, h9, h10, h11]
    exact Cert.MixRef.result_nexts _ _ _ _ _ _ _ _ _ _ _ _
  · rw [Cert.Reference3Ideal.Read.val_main_v71_eq, h0, h1, h2, h3, h4, h5, h6, h7, h8, h9, h10, h11, h12, h13]
    exact Cert.MixRef.result_scores _ _ _ _ _ _ _ _ _ _ _ _ _ _

theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Finite.facts, Cert.Routed.facts, Cert.RoutedUp.facts, Cert.RowsUsed.facts, Cert.RowsUsedUp.facts,
    fun m ρ _ => Cert.Kernel.Gen.frame m ρ, fun m ρ _ => Cert.KernelIdeal.Gen.frame m ρ,
    fun m ρ _ => Cert.KernelIdeal.Gen.frame m ρ, frame_reference, fun m ρ _ => frame_reference m ρ trivial,
    fun m ρ _ => Cert.Kernel2.Gen.frame m ρ, fun m ρ _ => Cert.Kernel2Ideal.Gen.frame m ρ, frame_reference2,
    fun m ρ _ => Cert.Kernel3.Gen.frame m ρ, fun m ρ _ => Cert.Kernel3Ideal.Gen.frame m ρ, frame_reference3,
    Cert.DownClose.frame_kernel, Cert.DownClose.frame_ideal, Cert.DownClose.frame_reference,
    Cert.UpClose.frame_kernel, Cert.UpClose.frame_ideal, Cert.UpClose.frame_reference,
    fun m ρ _ => Cert.Kernel6.Gen.frame m ρ, fun m ρ _ => Cert.Kernel6Ideal.Gen.frame m ρ, Cert.AdaClose.frame_reference,
    fun m ρ _ => Cert.Kernel7.Gen.frame m ρ, fun m ρ _ => Cert.Kernel7Ideal.Gen.frame m ρ, Cert.ConvClose.frame_reference,
    trivial, attention, trivial, projection, trivial, mixing, trivial, Cert.DownClose.down,
    trivial, Cert.UpClose.gate_up,
    trivial, Cert.AdaClose.modulation, trivial, Cert.ConvClose.convolution⟩

end Cert.Proof

end
